-- ==== Defs.lean ====
def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_rms_finite [hPre_rms_finite : Cert.Pre_rms_finite.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).1 = (fun _ => 1#1)
    ∧ (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.1 = (fun _ => 1#1)
    ∧ (Cert.Pre_rms_finite.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))).2.2 = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_rms_finite [hPre_rms_finite : Cert.Pre_rms_finite.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_rms_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))).1 = (fun _ => 1#1)
    ∧ (Cert.Pre_rms_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))).2.1 = (fun _ => 1#1)
    ∧ (Cert.Pre_rms_finite.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))).2.2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepBwdRefIdeal (m : (ℓ : Loc Cert.PrepBwdRefIdeal.nD Cert.PrepBwdRefIdeal.τ Cert.PrepBwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_swiglu_finite [hPre_swiglu_finite : Cert.Pre_swiglu_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3)) (m ((c.tc : Thread Cert.SwigluBwdIdeal.nD Cert.SwigluBwdIdeal.τ).loc Cert.SwigluBwdIdeal.main_arg4))).1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3)) (m ((c.tc : Thread Cert.SwigluBwdIdeal.nD Cert.SwigluBwdIdeal.τ).loc Cert.SwigluBwdIdeal.main_arg4))).2.1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3)) (m ((c.tc : Thread Cert.SwigluBwdIdeal.nD Cert.SwigluBwdIdeal.τ).loc Cert.SwigluBwdIdeal.main_arg4))).2.2.1 = (fun _ => 1#1)
    ∧ (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3)) (m ((c.tc : Thread Cert.SwigluBwdIdeal.nD Cert.SwigluBwdIdeal.τ).loc Cert.SwigluBwdIdeal.main_arg4))).2.2.2 = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_swiglu_finite [hPre_swiglu_finite : Cert.Pre_swiglu_finite.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_swiglu_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3)) (m ((c.tc : Thread Cert.SwigluBwdRefIdeal.nD Cert.SwigluBwdRefIdeal.τ).loc Cert.SwigluBwdRefIdeal.main_arg4))).1 = (fun _ => 1#1)
    ∧ (Cert.Pre_swiglu_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3)) (m ((c.tc : Thread Cert.SwigluBwdRefIdeal.nD Cert.SwigluBwdRefIdeal.τ).loc Cert.SwigluBwdRefIdeal.main_arg4))).2.1 = (fun _ => 1#1)
    ∧ (Cert.Pre_swiglu_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3)) (m ((c.tc : Thread Cert.SwigluBwdRefIdeal.nD Cert.SwigluBwdRefIdeal.τ).loc Cert.SwigluBwdRefIdeal.main_arg4))).2.2.1 = (fun _ => 1#1)
    ∧ (Cert.Pre_swiglu_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3)) (m ((c.tc : Thread Cert.SwigluBwdRefIdeal.nD Cert.SwigluBwdRefIdeal.τ).loc Cert.SwigluBwdRefIdeal.main_arg4))).2.2.2 = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_finite [hPre_sgu_finite : Cert.Pre_sgu_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.2.2.1 = (fun _ => 1#1)
    ∧ (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5)) (m ((c.tc : Thread Cert.SguBwdIdeal.nD Cert.SguBwdIdeal.τ).loc Cert.SguBwdIdeal.main_arg6))).2.2.2.2.2 = (fun _ => 1#1)

def Pre_SguBwdRefIdeal (m : (ℓ : Loc Cert.SguBwdRefIdeal.nD Cert.SguBwdRefIdeal.τ Cert.SguBwdRefIdeal.sig) → Buf (Elt Ideal) ℓ) : Prop :=
  True

def Pre_SguBwdRefIdeal_sgu_finite [hPre_sgu_finite : Cert.Pre_sgu_finite.Facts] (m : (ℓ : Loc Cert.SguBwdRefIdeal.nD Cert.SguBwdRefIdeal.τ Cert.SguBwdRefIdeal.sig) → Buf (Elt Ideal) ℓ) : Prop :=
  ∀ c : Dev Cert.SguBwdRefIdeal.nD,
    (Cert.Pre_sgu_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6))).1 = (fun _ => 1#1)
    ∧ (Cert.Pre_sgu_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6))).2.1 = (fun _ => 1#1)
    ∧ (Cert.Pre_sgu_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6))).2.2.1 = (fun _ => 1#1)
    ∧ (Cert.Pre_sgu_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6))).2.2.2.1 = (fun _ => 1#1)
    ∧ (Cert.Pre_sgu_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6))).2.2.2.2.1 = (fun _ => 1#1)
    ∧ (Cert.Pre_sgu_finite.fn (F := Ideal) (m ((c.tc : Thread Cert.SguBwdRefIdeal.nD Cert.SguBwdRefIdeal.τ).loc Cert.SguBwdRefIdeal.main_arg0)) (m ((c.tc : Thread Cert.SguBwdRefIdeal.nD Cert.SguBwdRefIdeal.τ).loc Cert.SguBwdRefIdeal.main_arg1)) (m ((c.tc : Thread Cert.SguBwdRefIdeal.nD Cert.SguBwdRefIdeal.τ).loc Cert.SguBwdRefIdeal.main_arg2)) (m ((c.tc : Thread Cert.SguBwdRefIdeal.nD Cert.SguBwdRefIdeal.τ).loc Cert.SguBwdRefIdeal.main_arg3)) (m ((c.tc : Thread Cert.SguBwdRefIdeal.nD Cert.SguBwdRefIdeal.τ).loc Cert.SguBwdRefIdeal.main_arg4)) (m ((c.tc : Thread Cert.SguBwdRefIdeal.nD Cert.SguBwdRefIdeal.τ).loc Cert.SguBwdRefIdeal.main_arg5)) (m ((c.tc : Thread Cert.SguBwdRefIdeal.nD Cert.SguBwdRefIdeal.τ).loc Cert.SguBwdRefIdeal.main_arg6))).2.2.2.2.2 = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_Powers (m : (ℓ : Loc Cert.Powers.nD Cert.Powers.τ Cert.Powers.sig) → Buf (Elt Bits) ℓ) : Prop :=
  True

def Pre_PowersIdeal (m : (ℓ : Loc Cert.PowersIdeal.nD Cert.PowersIdeal.τ Cert.PowersIdeal.sig) → Buf (Elt Ideal) ℓ) : Prop :=
  True

def Pre_PowersIdeal_powers_finite [hPre_powers_finite : Cert.Pre_powers_finite.Facts] (m : (ℓ : Loc Cert.PowersIdeal.nD Cert.PowersIdeal.τ Cert.PowersIdeal.sig) → Buf (Elt Ideal) ℓ) : Prop :=
  ∀ c : Dev Cert.PowersIdeal.nD,
    (Cert.Pre_powers_finite.fn (F := Ideal) (m ((c.tc : Thread Cert.PowersIdeal.nD Cert.PowersIdeal.τ).loc Cert.PowersIdeal.main_arg0)) (m ((c.tc : Thread Cert.PowersIdeal.nD Cert.PowersIdeal.τ).loc Cert.PowersIdeal.main_arg1)) (m ((c.tc : Thread Cert.PowersIdeal.nD Cert.PowersIdeal.τ).loc Cert.PowersIdeal.main_arg2)) (m ((c.tc : Thread Cert.PowersIdeal.nD Cert.PowersIdeal.τ).loc Cert.PowersIdeal.main_arg3)) (m ((c.tc : Thread Cert.PowersIdeal.nD Cert.PowersIdeal.τ).loc Cert.PowersIdeal.main_arg4))).1 = (fun _ => 1#1)
    ∧ (Cert.Pre_powers_finite.fn (F := Ideal) (m ((c.tc : Thread Cert.PowersIdeal.nD Cert.PowersIdeal.τ).loc Cert.PowersIdeal.main_arg0)) (m ((c.tc : Thread Cert.PowersIdeal.nD Cert.PowersIdeal.τ).loc Cert.PowersIdeal.main_arg1)) (m ((c.tc : Thread Cert.PowersIdeal.nD Cert.PowersIdeal.τ).loc Cert.PowersIdeal.main_arg2)) (m ((c.tc : Thread Cert.PowersIdeal.nD Cert.PowersIdeal.τ).loc Cert.PowersIdeal.main_arg3)) (m ((c.tc : Thread Cert.PowersIdeal.nD Cert.PowersIdeal.τ).loc Cert.PowersIdeal.main_arg4))).2.1 = (fun _ => 1#1)
    ∧ (Cert.Pre_powers_finite.fn (F := Ideal) (m ((c.tc : Thread Cert.PowersIdeal.nD Cert.PowersIdeal.τ).loc Cert.PowersIdeal.main_arg0)) (m ((c.tc : Thread Cert.PowersIdeal.nD Cert.PowersIdeal.τ).loc Cert.PowersIdeal.main_arg1)) (m ((c.tc : Thread Cert.PowersIdeal.nD Cert.PowersIdeal.τ).loc Cert.PowersIdeal.main_arg2)) (m ((c.tc : Thread Cert.PowersIdeal.nD Cert.PowersIdeal.τ).loc Cert.PowersIdeal.main_arg3)) (m ((c.tc : Thread Cert.PowersIdeal.nD Cert.PowersIdeal.τ).loc Cert.PowersIdeal.main_arg4))).2.2 = (fun _ => 1#1)

def Pre_PowersRefIdeal (m : (ℓ : Loc Cert.PowersRefIdeal.nD Cert.PowersRefIdeal.τ Cert.PowersRefIdeal.sig) → Buf (Elt Ideal) ℓ) : Prop :=
  True

def Pre_PowersRefIdeal_powers_finite [hPre_powers_finite : Cert.Pre_powers_finite.Facts] (m : (ℓ : Loc Cert.PowersRefIdeal.nD Cert.PowersRefIdeal.τ Cert.PowersRefIdeal.sig) → Buf (Elt Ideal) ℓ) : Prop :=
  ∀ c : Dev Cert.PowersRefIdeal.nD,
    (Cert.Pre_powers_finite.fn (F := Ideal) (m ((c.tc : Thread Cert.PowersRefIdeal.nD Cert.PowersRefIdeal.τ).loc Cert.PowersRefIdeal.main_arg0)) (m ((c.tc : Thread Cert.PowersRefIdeal.nD Cert.PowersRefIdeal.τ).loc Cert.PowersRefIdeal.main_arg1)) (m ((c.tc : Thread Cert.PowersRefIdeal.nD Cert.PowersRefIdeal.τ).loc Cert.PowersRefIdeal.main_arg2)) (m ((c.tc : Thread Cert.PowersRefIdeal.nD Cert.PowersRefIdeal.τ).loc Cert.PowersRefIdeal.main_arg3)) (m ((c.tc : Thread Cert.PowersRefIdeal.nD Cert.PowersRefIdeal.τ).loc Cert.PowersRefIdeal.main_arg4))).1 = (fun _ => 1#1)
    ∧ (Cert.Pre_powers_finite.fn (F := Ideal) (m ((c.tc : Thread Cert.PowersRefIdeal.nD Cert.PowersRefIdeal.τ).loc Cert.PowersRefIdeal.main_arg0)) (m ((c.tc : Thread Cert.PowersRefIdeal.nD Cert.PowersRefIdeal.τ).loc Cert.PowersRefIdeal.main_arg1)) (m ((c.tc : Thread Cert.PowersRefIdeal.nD Cert.PowersRefIdeal.τ).loc Cert.PowersRefIdeal.main_arg2)) (m ((c.tc : Thread Cert.PowersRefIdeal.nD Cert.PowersRefIdeal.τ).loc Cert.PowersRefIdeal.main_arg3)) (m ((c.tc : Thread Cert.PowersRefIdeal.nD Cert.PowersRefIdeal.τ).loc Cert.PowersRefIdeal.main_arg4))).2.1 = (fun _ => 1#1)
    ∧ (Cert.Pre_powers_finite.fn (F := Ideal) (m ((c.tc : Thread Cert.PowersRefIdeal.nD Cert.PowersRefIdeal.τ).loc Cert.PowersRefIdeal.main_arg0)) (m ((c.tc : Thread Cert.PowersRefIdeal.nD Cert.PowersRefIdeal.τ).loc Cert.PowersRefIdeal.main_arg1)) (m ((c.tc : Thread Cert.PowersRefIdeal.nD Cert.PowersRefIdeal.τ).loc Cert.PowersRefIdeal.main_arg2)) (m ((c.tc : Thread Cert.PowersRefIdeal.nD Cert.PowersRefIdeal.τ).loc Cert.PowersRefIdeal.main_arg3)) (m ((c.tc : Thread Cert.PowersRefIdeal.nD Cert.PowersRefIdeal.τ).loc Cert.PowersRefIdeal.main_arg4))).2.2 = (fun _ => 1#1)

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdRefIdeal (m : (ℓ : Loc Cert.SguFwdRefIdeal.nD Cert.SguFwdRefIdeal.τ Cert.SguFwdRefIdeal.sig) → Buf (Elt Ideal) ℓ) : Prop :=
  True

def Pre_OutBwdW (m : (ℓ : Loc Cert.OutBwdW.nD Cert.OutBwdW.τ Cert.OutBwdW.sig) → Buf (Elt Bits) ℓ) : Prop :=
  True

def Pre_OutBwdWIdeal (m : (ℓ : Loc Cert.OutBwdWIdeal.nD Cert.OutBwdWIdeal.τ Cert.OutBwdWIdeal.sig) → Buf (Elt Ideal) ℓ) : Prop :=
  True

def Pre_OutBwdWRefIdeal (m : (ℓ : Loc Cert.OutBwdWRefIdeal.nD Cert.OutBwdWRefIdeal.τ Cert.OutBwdWRefIdeal.sig) → Buf (Elt Ideal) ℓ) : Prop :=
  True

def Pre_OutBwdA (m : (ℓ : Loc Cert.OutBwdA.nD Cert.OutBwdA.τ Cert.OutBwdA.sig) → Buf (Elt Bits) ℓ) : Prop :=
  True

def Pre_OutBwdAIdeal (m : (ℓ : Loc Cert.OutBwdAIdeal.nD Cert.OutBwdAIdeal.τ Cert.OutBwdAIdeal.sig) → Buf (Elt Ideal) ℓ) : Prop :=
  True

def Pre_OutBwdARefIdeal (m : (ℓ : Loc Cert.OutBwdARefIdeal.nD Cert.OutBwdARefIdeal.τ Cert.OutBwdARefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InBwdA (m : (ℓ : Loc Cert.InBwdA.nD Cert.InBwdA.τ Cert.InBwdA.sig) → Buf (Elt Bits) ℓ) : Prop :=
  True

def Pre_InBwdAIdeal (m : (ℓ : Loc Cert.InBwdAIdeal.nD Cert.InBwdAIdeal.τ Cert.InBwdAIdeal.sig) → Buf (Elt Ideal) ℓ) : Prop :=
  True

def Pre_InBwdARefIdeal (m : (ℓ : Loc Cert.InBwdARefIdeal.nD Cert.InBwdARefIdeal.τ Cert.InBwdARefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_InBwdW (m : (ℓ : Loc Cert.InBwdW.nD Cert.InBwdW.τ Cert.InBwdW.sig) → Buf (Elt Bits) ℓ) : Prop :=
  True

def Pre_InBwdWIdeal (m : (ℓ : Loc Cert.InBwdWIdeal.nD Cert.InBwdWIdeal.τ Cert.InBwdWIdeal.sig) → Buf (Elt Ideal) ℓ) : Prop :=
  True

def Pre_InBwdWRefIdeal (m : (ℓ : Loc Cert.InBwdWRefIdeal.nD Cert.InBwdWRefIdeal.τ Cert.InBwdWRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_AdamShard (m : (ℓ : Loc Cert.AdamShard.nD Cert.AdamShard.τ Cert.AdamShard.sig) → Buf (Elt Bits) ℓ) : Prop :=
  True

def Pre_AdamShardIdeal (m : (ℓ : Loc Cert.AdamShardIdeal.nD Cert.AdamShardIdeal.τ Cert.AdamShardIdeal.sig) → Buf (Elt Ideal) ℓ) : Prop :=
  True

def Pre_AdamShardRefIdeal (m : (ℓ : Loc Cert.AdamShardRefIdeal.nD Cert.AdamShardRefIdeal.τ Cert.AdamShardRefIdeal.sig) → Buf (Elt Ideal) ℓ) : Prop :=
  True

def Pre_GateBwdA (m : (ℓ : Loc Cert.GateBwdA.nD Cert.GateBwdA.τ Cert.GateBwdA.sig) → Buf (Elt Bits) ℓ) : Prop :=
  True

def Pre_GateBwdAIdeal (m : (ℓ : Loc Cert.GateBwdAIdeal.nD Cert.GateBwdAIdeal.τ Cert.GateBwdAIdeal.sig) → Buf (Elt Ideal) ℓ) : Prop :=
  True

def Pre_GateBwdARefIdeal (m : (ℓ : Loc Cert.GateBwdARefIdeal.nD Cert.GateBwdARefIdeal.τ Cert.GateBwdARefIdeal.sig) → Buf (Elt Ideal) ℓ) : Prop :=
  True

def Pre_BranchFwd (m : (ℓ : Loc Cert.BranchFwd.nD Cert.BranchFwd.τ Cert.BranchFwd.sig) → Buf (Elt Bits) ℓ) : Prop :=
  True

def Pre_BranchFwdIdeal (m : (ℓ : Loc Cert.BranchFwdIdeal.nD Cert.BranchFwdIdeal.τ Cert.BranchFwdIdeal.sig) → Buf (Elt Ideal) ℓ) : Prop :=
  True

def Pre_BranchFwdRefIdeal (m : (ℓ : Loc Cert.BranchFwdRefIdeal.nD Cert.BranchFwdRefIdeal.τ Cert.BranchFwdRefIdeal.sig) → Buf (Elt Ideal) ℓ) : Prop :=
  True

def Pre_BranchBwdA (m : (ℓ : Loc Cert.BranchBwdA.nD Cert.BranchBwdA.τ Cert.BranchBwdA.sig) → Buf (Elt Bits) ℓ) : Prop :=
  True

def Pre_BranchBwdAIdeal (m : (ℓ : Loc Cert.BranchBwdAIdeal.nD Cert.BranchBwdAIdeal.τ Cert.BranchBwdAIdeal.sig) → Buf (Elt Ideal) ℓ) : Prop :=
  True

def Pre_BranchBwdARefIdeal (m : (ℓ : Loc Cert.BranchBwdARefIdeal.nD Cert.BranchBwdARefIdeal.τ Cert.BranchBwdARefIdeal.sig) → Buf (Elt Ideal) ℓ) : Prop :=
  True

def Pre_GateBwdW (m : (ℓ : Loc Cert.GateBwdW.nD Cert.GateBwdW.τ Cert.GateBwdW.sig) → Buf (Elt Bits) ℓ) : Prop :=
  True

def Pre_GateBwdWIdeal (m : (ℓ : Loc Cert.GateBwdWIdeal.nD Cert.GateBwdWIdeal.τ Cert.GateBwdWIdeal.sig) → Buf (Elt Ideal) ℓ) : Prop :=
  True

def Pre_GateBwdWRefIdeal (m : (ℓ : Loc Cert.GateBwdWRefIdeal.nD Cert.GateBwdWRefIdeal.τ Cert.GateBwdWRefIdeal.sig) → Buf (Elt Ideal) ℓ) : Prop :=
  True

def Pre_UpBwdW (m : (ℓ : Loc Cert.UpBwdW.nD Cert.UpBwdW.τ Cert.UpBwdW.sig) → Buf (Elt Bits) ℓ) : Prop :=
  True

def Pre_UpBwdWIdeal (m : (ℓ : Loc Cert.UpBwdWIdeal.nD Cert.UpBwdWIdeal.τ Cert.UpBwdWIdeal.sig) → Buf (Elt Ideal) ℓ) : Prop :=
  True

def Pre_UpBwdWRefIdeal (m : (ℓ : Loc Cert.UpBwdWRefIdeal.nD Cert.UpBwdWRefIdeal.τ Cert.UpBwdWRefIdeal.sig) → Buf (Elt Ideal) ℓ) : Prop :=
  True

def Pre_UpBwdH (m : (ℓ : Loc Cert.UpBwdH.nD Cert.UpBwdH.τ Cert.UpBwdH.sig) → Buf (Elt Bits) ℓ) : Prop :=
  True

def Pre_UpBwdHIdeal (m : (ℓ : Loc Cert.UpBwdHIdeal.nD Cert.UpBwdHIdeal.τ Cert.UpBwdHIdeal.sig) → Buf (Elt Ideal) ℓ) : Prop :=
  True

def Pre_UpBwdHRefIdeal (m : (ℓ : Loc Cert.UpBwdHRefIdeal.nD Cert.UpBwdHRefIdeal.τ Cert.UpBwdHRefIdeal.sig) → Buf (Elt Ideal) ℓ) : Prop :=
  True

def Pre_DownBwdW (m : (ℓ : Loc Cert.DownBwdW.nD Cert.DownBwdW.τ Cert.DownBwdW.sig) → Buf (Elt Bits) ℓ) : Prop :=
  True

def Pre_DownBwdWIdeal (m : (ℓ : Loc Cert.DownBwdWIdeal.nD Cert.DownBwdWIdeal.τ Cert.DownBwdWIdeal.sig) → Buf (Elt Ideal) ℓ) : Prop :=
  True

def Pre_DownBwdWRefIdeal (m : (ℓ : Loc Cert.DownBwdWRefIdeal.nD Cert.DownBwdWRefIdeal.τ Cert.DownBwdWRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_rms_finite [hRmsBwdIdeal : Cert.RmsBwdIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_rms_finite m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_rms_finite [hRmsBwdRefIdeal : Cert.RmsBwdRefIdeal.Facts] [hPre_rms_finite : Cert.Pre_rms_finite.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_rms_finite m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2)
      ∧ r.2.mem ((c.tc : Thread Cert.PrepBwd.nD Cert.PrepBwd.τ).loc Cert.PrepBwd.main_arg3) = m ((c.tc : Thread Cert.PrepBwd.nD Cert.PrepBwd.τ).loc Cert.PrepBwd.main_arg3)
      ∧ r.2.mem ((c.tc : Thread Cert.PrepBwd.nD Cert.PrepBwd.τ).loc Cert.PrepBwd.main_arg4) = m ((c.tc : Thread Cert.PrepBwd.nD Cert.PrepBwd.τ).loc Cert.PrepBwd.main_arg4)
      ∧ r.2.mem ((c.tc : Thread Cert.PrepBwd.nD Cert.PrepBwd.τ).loc Cert.PrepBwd.main_arg5) = m ((c.tc : Thread Cert.PrepBwd.nD Cert.PrepBwd.τ).loc Cert.PrepBwd.main_arg5)
      ∧ r.2.mem ((c.tc : Thread Cert.PrepBwd.nD Cert.PrepBwd.τ).loc Cert.PrepBwd.main_arg6) = m ((c.tc : Thread Cert.PrepBwd.nD Cert.PrepBwd.τ).loc Cert.PrepBwd.main_arg6)
      ∧ r.2.mem ((c.tc : Thread Cert.PrepBwd.nD Cert.PrepBwd.τ).loc Cert.PrepBwd.main_arg7) = m ((c.tc : Thread Cert.PrepBwd.nD Cert.PrepBwd.τ).loc Cert.PrepBwd.main_arg7)
      ∧ r.2.mem ((c.tc : Thread Cert.PrepBwd.nD Cert.PrepBwd.τ).loc Cert.PrepBwd.main_arg8) = m ((c.tc : Thread Cert.PrepBwd.nD Cert.PrepBwd.τ).loc Cert.PrepBwd.main_arg8))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
      ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8))
      ∧ r.2.sem = fun _ => 0)

def quiescent_PrepBwdRefIdeal [hPrepBwdRefIdeal : Cert.PrepBwdRefIdeal.Facts] : Prop :=
  ∀ (m : (ℓ : Loc Cert.PrepBwdRefIdeal.nD Cert.PrepBwdRefIdeal.τ Cert.PrepBwdRefIdeal.sig) → Buf (Elt Ideal) ℓ) (g : Dev Cert.PrepBwdRefIdeal.nD → PrngReg), Pre_PrepBwdRefIdeal m →
    θ_run (Cert.PrepBwdRefIdeal.defs (F := Ideal)) (onTc (τ := Cert.PrepBwdRefIdeal.τ) (Cert.PrepBwdRefIdeal.main (F := Ideal))) ⟨m, fun _ => 0, g⟩ (fun r => (∀ c : Dev Cert.PrepBwdRefIdeal.nD,
      r.2.mem ((c.tc : Thread Cert.PrepBwdRefIdeal.nD Cert.PrepBwdRefIdeal.τ).loc Cert.PrepBwdRefIdeal.main_arg0) = m ((c.tc : Thread Cert.PrepBwdRefIdeal.nD Cert.PrepBwdRefIdeal.τ).loc Cert.PrepBwdRefIdeal.main_arg0)
      ∧ r.2.mem ((c.tc : Thread Cert.PrepBwdRefIdeal.nD Cert.PrepBwdRefIdeal.τ).loc Cert.PrepBwdRefIdeal.main_arg1) = m ((c.tc : Thread Cert.PrepBwdRefIdeal.nD Cert.PrepBwdRefIdeal.τ).loc Cert.PrepBwdRefIdeal.main_arg1)
      ∧ r.2.mem ((c.tc : Thread Cert.PrepBwdRefIdeal.nD Cert.PrepBwdRefIdeal.τ).loc Cert.PrepBwdRefIdeal.main_arg2) = m ((c.tc : Thread Cert.PrepBwdRefIdeal.nD Cert.PrepBwdRefIdeal.τ).loc Cert.PrepBwdRefIdeal.main_arg2)
      ∧ r.2.mem ((c.tc : Thread Cert.PrepBwdRefIdeal.nD Cert.PrepBwdRefIdeal.τ).loc Cert.PrepBwdRefIdeal.main_arg3) = m ((c.tc : Thread Cert.PrepBwdRefIdeal.nD Cert.PrepBwdRefIdeal.τ).loc Cert.PrepBwdRefIdeal.main_arg3)
      ∧ r.2.mem ((c.tc : Thread Cert.PrepBwdRefIdeal.nD Cert.PrepBwdRefIdeal.τ).loc Cert.PrepBwdRefIdeal.main_arg4) = m ((c.tc : Thread Cert.PrepBwdRefIdeal.nD Cert.PrepBwdRefIdeal.τ).loc Cert.PrepBwdRefIdeal.main_arg4)
      ∧ r.2.mem ((c.tc : Thread Cert.PrepBwdRefIdeal.nD Cert.PrepBwdRefIdeal.τ).loc Cert.PrepBwdRefIdeal.main_arg5) = m ((c.tc : Thread Cert.PrepBwdRefIdeal.nD Cert.PrepBwdRefIdeal.τ).loc Cert.PrepBwdRefIdeal.main_arg5)
      ∧ r.2.mem ((c.tc : Thread Cert.PrepBwdRefIdeal.nD Cert.PrepBwdRefIdeal.τ).loc Cert.PrepBwdRefIdeal.main_arg6) = m ((c.tc : Thread Cert.PrepBwdRefIdeal.nD Cert.PrepBwdRefIdeal.τ).loc Cert.PrepBwdRefIdeal.main_arg6)
      ∧ r.2.mem ((c.tc : Thread Cert.PrepBwdRefIdeal.nD Cert.PrepBwdRefIdeal.τ).loc Cert.PrepBwdRefIdeal.main_arg7) = m ((c.tc : Thread Cert.PrepBwdRefIdeal.nD Cert.PrepBwdRefIdeal.τ).loc Cert.PrepBwdRefIdeal.main_arg7)
      ∧ r.2.mem ((c.tc : Thread Cert.PrepBwdRefIdeal.nD Cert.PrepBwdRefIdeal.τ).loc Cert.PrepBwdRefIdeal.main_arg8) = m ((c.tc : Thread Cert.PrepBwdRefIdeal.nD Cert.PrepBwdRefIdeal.τ).loc Cert.PrepBwdRefIdeal.main_arg8))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3)
      ∧ r.2.mem ((c.tc : Thread Cert.SwigluBwd.nD Cert.SwigluBwd.τ).loc Cert.SwigluBwd.main_arg4) = m ((c.tc : Thread Cert.SwigluBwd.nD Cert.SwigluBwd.τ).loc Cert.SwigluBwd.main_arg4))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3)
      ∧ r.2.mem ((c.tc : Thread Cert.SwigluBwdIdeal.nD Cert.SwigluBwdIdeal.τ).loc Cert.SwigluBwdIdeal.main_arg4) = m ((c.tc : Thread Cert.SwigluBwdIdeal.nD Cert.SwigluBwdIdeal.τ).loc Cert.SwigluBwdIdeal.main_arg4))
      ∧ r.2.sem = fun _ => 0)

def quiescent_SwigluBwdIdeal_pre_swiglu_finite [hSwigluBwdIdeal : Cert.SwigluBwdIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_swiglu_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3)
      ∧ r.2.mem ((c.tc : Thread Cert.SwigluBwdIdeal.nD Cert.SwigluBwdIdeal.τ).loc Cert.SwigluBwdIdeal.main_arg4) = m ((c.tc : Thread Cert.SwigluBwdIdeal.nD Cert.SwigluBwdIdeal.τ).loc Cert.SwigluBwdIdeal.main_arg4))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3)
      ∧ r.2.mem ((c.tc : Thread Cert.SwigluBwdRefIdeal.nD Cert.SwigluBwdRefIdeal.τ).loc Cert.SwigluBwdRefIdeal.main_arg4) = m ((c.tc : Thread Cert.SwigluBwdRefIdeal.nD Cert.SwigluBwdRefIdeal.τ).loc Cert.SwigluBwdRefIdeal.main_arg4))
      ∧ r.2.sem = fun _ => 0)

def quiescent_SwigluBwdRefIdeal_pre_swiglu_finite [hSwigluBwdRefIdeal : Cert.SwigluBwdRefIdeal.Facts] [hPre_swiglu_finite : Cert.Pre_swiglu_finite.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_swiglu_finite m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3)
      ∧ r.2.mem ((c.tc : Thread Cert.SwigluBwdRefIdeal.nD Cert.SwigluBwdRefIdeal.τ).loc Cert.SwigluBwdRefIdeal.main_arg4) = m ((c.tc : Thread Cert.SwigluBwdRefIdeal.nD Cert.SwigluBwdRefIdeal.τ).loc Cert.SwigluBwdRefIdeal.main_arg4))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5)
      ∧ r.2.mem ((c.tc : Thread Cert.SguBwd.nD Cert.SguBwd.τ).loc Cert.SguBwd.main_arg6) = m ((c.tc : Thread Cert.SguBwd.nD Cert.SguBwd.τ).loc Cert.SguBwd.main_arg6))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguBwdIdeal_pre_sgu_finite [hSguBwdIdeal : Cert.SguBwdIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
      ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ r.2.sem = fun _ => 0)

def quiescent_SguBwdRefIdeal [hSguBwdRefIdeal : Cert.SguBwdRefIdeal.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6))
      ∧ r.2.sem = fun _ => 0)

def quiescent_SguBwdRefIdeal_pre_sgu_finite [hSguBwdRefIdeal : Cert.SguBwdRefIdeal.Facts] [hPre_sgu_finite : Cert.Pre_sgu_finite.Facts] : Prop :=
  ∀ (m : (ℓ : Loc Cert.SguBwdRefIdeal.nD Cert.SguBwdRefIdeal.τ Cert.SguBwdRefIdeal.sig) → Buf (Elt Ideal) ℓ) (g : Dev Cert.SguBwdRefIdeal.nD → PrngReg), Pre_SguBwdRefIdeal_sgu_finite m →
    θ_run (Cert.SguBwdRefIdeal.defs (F := Ideal)) (onTc (τ := Cert.SguBwdRefIdeal.τ) (Cert.SguBwdRefIdeal.main (F := Ideal))) ⟨m, fun _ => 0, g⟩ (fun r => (∀ c : Dev Cert.SguBwdRefIdeal.nD,
      r.2.mem ((c.tc : Thread Cert.SguBwdRefIdeal.nD Cert.SguBwdRefIdeal.τ).loc Cert.SguBwdRefIdeal.main_arg0) = m ((c.tc : Thread Cert.SguBwdRefIdeal.nD Cert.SguBwdRefIdeal.τ).loc Cert.SguBwdRefIdeal.main_arg0)
      ∧ r.2.mem ((c.tc : Thread Cert.SguBwdRefIdeal.nD Cert.SguBwdRefIdeal.τ).loc Cert.SguBwdRefIdeal.main_arg1) = m ((c.tc : Thread Cert.SguBwdRefIdeal.nD Cert.SguBwdRefIdeal.τ).loc Cert.SguBwdRefIdeal.main_arg1)
      ∧ r.2.mem ((c.tc : Thread Cert.SguBwdRefIdeal.nD Cert.SguBwdRefIdeal.τ).loc Cert.SguBwdRefIdeal.main_arg2) = m ((c.tc : Thread Cert.SguBwdRefIdeal.nD Cert.SguBwdRefIdeal.τ).loc Cert.SguBwdRefIdeal.main_arg2)
      ∧ r.2.mem ((c.tc : Thread Cert.SguBwdRefIdeal.nD Cert.SguBwdRefIdeal.τ).loc Cert.SguBwdRefIdeal.main_arg3) = m ((c.tc : Thread Cert.SguBwdRefIdeal.nD Cert.SguBwdRefIdeal.τ).loc Cert.SguBwdRefIdeal.main_arg3)
      ∧ r.2.mem ((c.tc : Thread Cert.SguBwdRefIdeal.nD Cert.SguBwdRefIdeal.τ).loc Cert.SguBwdRefIdeal.main_arg4) = m ((c.tc : Thread Cert.SguBwdRefIdeal.nD Cert.SguBwdRefIdeal.τ).loc Cert.SguBwdRefIdeal.main_arg4)
      ∧ r.2.mem ((c.tc : Thread Cert.SguBwdRefIdeal.nD Cert.SguBwdRefIdeal.τ).loc Cert.SguBwdRefIdeal.main_arg5) = m ((c.tc : Thread Cert.SguBwdRefIdeal.nD Cert.SguBwdRefIdeal.τ).loc Cert.SguBwdRefIdeal.main_arg5)
      ∧ r.2.mem ((c.tc : Thread Cert.SguBwdRefIdeal.nD Cert.SguBwdRefIdeal.τ).loc Cert.SguBwdRefIdeal.main_arg6) = m ((c.tc : Thread Cert.SguBwdRefIdeal.nD Cert.SguBwdRefIdeal.τ).loc Cert.SguBwdRefIdeal.main_arg6))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4))
      ∧ r.2.sem = fun _ => 0)

def quiescent_Powers [hPowers : Cert.Powers.Facts] : Prop :=
  ∀ (m : (ℓ : Loc Cert.Powers.nD Cert.Powers.τ Cert.Powers.sig) → Buf (Elt Bits) ℓ) (g : Dev Cert.Powers.nD → PrngReg), Pre_Powers m →
    θ_run (Cert.Powers.defs (F := Bits)) (onTc (τ := Cert.Powers.τ) (Cert.Powers.main (F := Bits))) ⟨m, fun _ => 0, g⟩ (fun r => (∀ c : Dev Cert.Powers.nD,
      r.2.mem ((c.tc : Thread Cert.Powers.nD Cert.Powers.τ).loc Cert.Powers.main_arg0) = m ((c.tc : Thread Cert.Powers.nD Cert.Powers.τ).loc Cert.Powers.main_arg0)
      ∧ r.2.mem ((c.tc : Thread Cert.Powers.nD Cert.Powers.τ).loc Cert.Powers.main_arg1) = m ((c.tc : Thread Cert.Powers.nD Cert.Powers.τ).loc Cert.Powers.main_arg1)
      ∧ r.2.mem ((c.tc : Thread Cert.Powers.nD Cert.Powers.τ).loc Cert.Powers.main_arg2) = m ((c.tc : Thread Cert.Powers.nD Cert.Powers.τ).loc Cert.Powers.main_arg2)
      ∧ r.2.mem ((c.tc : Thread Cert.Powers.nD Cert.Powers.τ).loc Cert.Powers.main_arg3) = m ((c.tc : Thread Cert.Powers.nD Cert.Powers.τ).loc Cert.Powers.main_arg3)
      ∧ r.2.mem ((c.tc : Thread Cert.Powers.nD Cert.Powers.τ).loc Cert.Powers.main_arg4) = m ((c.tc : Thread Cert.Powers.nD Cert.Powers.τ).loc Cert.Powers.main_arg4))
      ∧ r.2.sem = fun _ => 0)

def quiescent_PowersIdeal [hPowersIdeal : Cert.PowersIdeal.Facts] : Prop :=
  ∀ (m : (ℓ : Loc Cert.PowersIdeal.nD Cert.PowersIdeal.τ Cert.PowersIdeal.sig) → Buf (Elt Ideal) ℓ) (g : Dev Cert.PowersIdeal.nD → PrngReg), Pre_PowersIdeal m →
    θ_run (Cert.PowersIdeal.defs (F := Ideal)) (onTc (τ := Cert.PowersIdeal.τ) (Cert.PowersIdeal.main (F := Ideal))) ⟨m, fun _ => 0, g⟩ (fun r => (∀ c : Dev Cert.PowersIdeal.nD,
      r.2.mem ((c.tc : Thread Cert.PowersIdeal.nD Cert.PowersIdeal.τ).loc Cert.PowersIdeal.main_arg0) = m ((c.tc : Thread Cert.PowersIdeal.nD Cert.PowersIdeal.τ).loc Cert.PowersIdeal.main_arg0)
      ∧ r.2.mem ((c.tc : Thread Cert.PowersIdeal.nD Cert.PowersIdeal.τ).loc Cert.PowersIdeal.main_arg1) = m ((c.tc : Thread Cert.PowersIdeal.nD Cert.PowersIdeal.τ).loc Cert.PowersIdeal.main_arg1)
      ∧ r.2.mem ((c.tc : Thread Cert.PowersIdeal.nD Cert.PowersIdeal.τ).loc Cert.PowersIdeal.main_arg2) = m ((c.tc : Thread Cert.PowersIdeal.nD Cert.PowersIdeal.τ).loc Cert.PowersIdeal.main_arg2)
      ∧ r.2.mem ((c.tc : Thread Cert.PowersIdeal.nD Cert.PowersIdeal.τ).loc Cert.PowersIdeal.main_arg3) = m ((c.tc : Thread Cert.PowersIdeal.nD Cert.PowersIdeal.τ).loc Cert.PowersIdeal.main_arg3)
      ∧ r.2.mem ((c.tc : Thread Cert.PowersIdeal.nD Cert.PowersIdeal.τ).loc Cert.PowersIdeal.main_arg4) = m ((c.tc : Thread Cert.PowersIdeal.nD Cert.PowersIdeal.τ).loc Cert.PowersIdeal.main_arg4))
      ∧ r.2.sem = fun _ => 0)

def quiescent_PowersIdeal_pre_powers_finite [hPowersIdeal : Cert.PowersIdeal.Facts] [hPre_powers_finite : Cert.Pre_powers_finite.Facts] : Prop :=
  ∀ (m : (ℓ : Loc Cert.PowersIdeal.nD Cert.PowersIdeal.τ Cert.PowersIdeal.sig) → Buf (Elt Ideal) ℓ) (g : Dev Cert.PowersIdeal.nD → PrngReg), Pre_PowersIdeal_powers_finite m →
    θ_run (Cert.PowersIdeal.defs (F := Ideal)) (onTc (τ := Cert.PowersIdeal.τ) (Cert.PowersIdeal.main (F := Ideal))) ⟨m, fun _ => 0, g⟩ (fun r => (∀ c : Dev Cert.PowersIdeal.nD,
      r.2.mem ((c.tc : Thread Cert.PowersIdeal.nD Cert.PowersIdeal.τ).loc Cert.PowersIdeal.main_arg0) = m ((c.tc : Thread Cert.PowersIdeal.nD Cert.PowersIdeal.τ).loc Cert.PowersIdeal.main_arg0)
      ∧ r.2.mem ((c.tc : Thread Cert.PowersIdeal.nD Cert.PowersIdeal.τ).loc Cert.PowersIdeal.main_arg1) = m ((c.tc : Thread Cert.PowersIdeal.nD Cert.PowersIdeal.τ).loc Cert.PowersIdeal.main_arg1)
      ∧ r.2.mem ((c.tc : Thread Cert.PowersIdeal.nD Cert.PowersIdeal.τ).loc Cert.PowersIdeal.main_arg2) = m ((c.tc : Thread Cert.PowersIdeal.nD Cert.PowersIdeal.τ).loc Cert.PowersIdeal.main_arg2)
      ∧ r.2.mem ((c.tc : Thread Cert.PowersIdeal.nD Cert.PowersIdeal.τ).loc Cert.PowersIdeal.main_arg3) = m ((c.tc : Thread Cert.PowersIdeal.nD Cert.PowersIdeal.τ).loc Cert.PowersIdeal.main_arg3)
      ∧ r.2.mem ((c.tc : Thread Cert.PowersIdeal.nD Cert.PowersIdeal.τ).loc Cert.PowersIdeal.main_arg4) = m ((c.tc : Thread Cert.PowersIdeal.nD Cert.PowersIdeal.τ).loc Cert.PowersIdeal.main_arg4))
      ∧ r.2.sem = fun _ => 0)

def quiescent_PowersRefIdeal [hPowersRefIdeal : Cert.PowersRefIdeal.Facts] : Prop :=
  ∀ (m : (ℓ : Loc Cert.PowersRefIdeal.nD Cert.PowersRefIdeal.τ Cert.PowersRefIdeal.sig) → Buf (Elt Ideal) ℓ) (g : Dev Cert.PowersRefIdeal.nD → PrngReg), Pre_PowersRefIdeal m →
    θ_run (Cert.PowersRefIdeal.defs (F := Ideal)) (onTc (τ := Cert.PowersRefIdeal.τ) (Cert.PowersRefIdeal.main (F := Ideal))) ⟨m, fun _ => 0, g⟩ (fun r => (∀ c : Dev Cert.PowersRefIdeal.nD,
      r.2.mem ((c.tc : Thread Cert.PowersRefIdeal.nD Cert.PowersRefIdeal.τ).loc Cert.PowersRefIdeal.main_arg0) = m ((c.tc : Thread Cert.PowersRefIdeal.nD Cert.PowersRefIdeal.τ).loc Cert.PowersRefIdeal.main_arg0)
      ∧ r.2.mem ((c.tc : Thread Cert.PowersRefIdeal.nD Cert.PowersRefIdeal.τ).loc Cert.PowersRefIdeal.main_arg1) = m ((c.tc : Thread Cert.PowersRefIdeal.nD Cert.PowersRefIdeal.τ).loc Cert.PowersRefIdeal.main_arg1)
      ∧ r.2.mem ((c.tc : Thread Cert.PowersRefIdeal.nD Cert.PowersRefIdeal.τ).loc Cert.PowersRefIdeal.main_arg2) = m ((c.tc : Thread Cert.PowersRefIdeal.nD Cert.PowersRefIdeal.τ).loc Cert.PowersRefIdeal.main_arg2)
      ∧ r.2.mem ((c.tc : Thread Cert.PowersRefIdeal.nD Cert.PowersRefIdeal.τ).loc Cert.PowersRefIdeal.main_arg3) = m ((c.tc : Thread Cert.PowersRefIdeal.nD Cert.PowersRefIdeal.τ).loc Cert.PowersRefIdeal.main_arg3)
      ∧ r.2.mem ((c.tc : Thread Cert.PowersRefIdeal.nD Cert.PowersRefIdeal.τ).loc Cert.PowersRefIdeal.main_arg4) = m ((c.tc : Thread Cert.PowersRefIdeal.nD Cert.PowersRefIdeal.τ).loc Cert.PowersRefIdeal.main_arg4))
      ∧ r.2.sem = fun _ => 0)

def quiescent_PowersRefIdeal_pre_powers_finite [hPowersRefIdeal : Cert.PowersRefIdeal.Facts] [hPre_powers_finite : Cert.Pre_powers_finite.Facts] : Prop :=
  ∀ (m : (ℓ : Loc Cert.PowersRefIdeal.nD Cert.PowersRefIdeal.τ Cert.PowersRefIdeal.sig) → Buf (Elt Ideal) ℓ) (g : Dev Cert.PowersRefIdeal.nD → PrngReg), Pre_PowersRefIdeal_powers_finite m →
    θ_run (Cert.PowersRefIdeal.defs (F := Ideal)) (onTc (τ := Cert.PowersRefIdeal.τ) (Cert.PowersRefIdeal.main (F := Ideal))) ⟨m, fun _ => 0, g⟩ (fun r => (∀ c : Dev Cert.PowersRefIdeal.nD,
      r.2.mem ((c.tc : Thread Cert.PowersRefIdeal.nD Cert.PowersRefIdeal.τ).loc Cert.PowersRefIdeal.main_arg0) = m ((c.tc : Thread Cert.PowersRefIdeal.nD Cert.PowersRefIdeal.τ).loc Cert.PowersRefIdeal.main_arg0)
      ∧ r.2.mem ((c.tc : Thread Cert.PowersRefIdeal.nD Cert.PowersRefIdeal.τ).loc Cert.PowersRefIdeal.main_arg1) = m ((c.tc : Thread Cert.PowersRefIdeal.nD Cert.PowersRefIdeal.τ).loc Cert.PowersRefIdeal.main_arg1)
      ∧ r.2.mem ((c.tc : Thread Cert.PowersRefIdeal.nD Cert.PowersRefIdeal.τ).loc Cert.PowersRefIdeal.main_arg2) = m ((c.tc : Thread Cert.PowersRefIdeal.nD Cert.PowersRefIdeal.τ).loc Cert.PowersRefIdeal.main_arg2)
      ∧ r.2.mem ((c.tc : Thread Cert.PowersRefIdeal.nD Cert.PowersRefIdeal.τ).loc Cert.PowersRefIdeal.main_arg3) = m ((c.tc : Thread Cert.PowersRefIdeal.nD Cert.PowersRefIdeal.τ).loc Cert.PowersRefIdeal.main_arg3)
      ∧ r.2.mem ((c.tc : Thread Cert.PowersRefIdeal.nD Cert.PowersRefIdeal.τ).loc Cert.PowersRefIdeal.main_arg4) = m ((c.tc : Thread Cert.PowersRefIdeal.nD Cert.PowersRefIdeal.τ).loc Cert.PowersRefIdeal.main_arg4))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1)
      ∧ r.2.mem ((c.tc : Thread Cert.SwigluFwd.nD Cert.SwigluFwd.τ).loc Cert.SwigluFwd.main_arg2) = m ((c.tc : Thread Cert.SwigluFwd.nD Cert.SwigluFwd.τ).loc Cert.SwigluFwd.main_arg2))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1)
      ∧ r.2.mem ((c.tc : Thread Cert.SwigluFwdIdeal.nD Cert.SwigluFwdIdeal.τ).loc Cert.SwigluFwdIdeal.main_arg2) = m ((c.tc : Thread Cert.SwigluFwdIdeal.nD Cert.SwigluFwdIdeal.τ).loc Cert.SwigluFwdIdeal.main_arg2))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1)
      ∧ r.2.mem ((c.tc : Thread Cert.SwigluFwdRefIdeal.nD Cert.SwigluFwdRefIdeal.τ).loc Cert.SwigluFwdRefIdeal.main_arg2) = m ((c.tc : Thread Cert.SwigluFwdRefIdeal.nD Cert.SwigluFwdRefIdeal.τ).loc Cert.SwigluFwdRefIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_OutBwdW [hOutBwdW : Cert.OutBwdW.Facts] : Prop :=
  ∀ (m : (ℓ : Loc Cert.OutBwdW.nD Cert.OutBwdW.τ Cert.OutBwdW.sig) → Buf (Elt Bits) ℓ) (g : Dev Cert.OutBwdW.nD → PrngReg), Pre_OutBwdW m →
    θ_run (Cert.OutBwdW.defs (F := Bits)) (onTc (τ := Cert.OutBwdW.τ) (Cert.OutBwdW.main (F := Bits))) ⟨m, fun _ => 0, g⟩ (fun r => (∀ c : Dev Cert.OutBwdW.nD,
      r.2.mem ((c.tc : Thread Cert.OutBwdW.nD Cert.OutBwdW.τ).loc Cert.OutBwdW.main_arg0) = m ((c.tc : Thread Cert.OutBwdW.nD Cert.OutBwdW.τ).loc Cert.OutBwdW.main_arg0)
      ∧ r.2.mem ((c.tc : Thread Cert.OutBwdW.nD Cert.OutBwdW.τ).loc Cert.OutBwdW.main_arg1) = m ((c.tc : Thread Cert.OutBwdW.nD Cert.OutBwdW.τ).loc Cert.OutBwdW.main_arg1))
      ∧ r.2.sem = fun _ => 0)

def quiescent_OutBwdWIdeal [hOutBwdWIdeal : Cert.OutBwdWIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg), Pre_OutBwdWIdeal m →
    θ_run (Cert.OutBwdWIdeal.defs (F := Ideal)) (onTc (τ := Cert.OutBwdWIdeal.τ) (Cert.OutBwdWIdeal.main (F := Ideal))) ⟨m, fun _ => 0, g⟩ (fun r => (∀ c : Dev Cert.OutBwdWIdeal.nD,
      r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
      ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ r.2.sem = fun _ => 0)

def quiescent_OutBwdWRefIdeal [hOutBwdWRefIdeal : Cert.OutBwdWRefIdeal.Facts] : Prop :=
  ∀ (m : (ℓ : Loc Cert.OutBwdWRefIdeal.nD Cert.OutBwdWRefIdeal.τ Cert.OutBwdWRefIdeal.sig) → Buf (Elt Ideal) ℓ) (g : Dev Cert.OutBwdWRefIdeal.nD → PrngReg), Pre_OutBwdWRefIdeal m →
    θ_run (Cert.OutBwdWRefIdeal.defs (F := Ideal)) (onTc (τ := Cert.OutBwdWRefIdeal.τ) (Cert.OutBwdWRefIdeal.main (F := Ideal))) ⟨m, fun _ => 0, g⟩ (fun r => (∀ c : Dev Cert.OutBwdWRefIdeal.nD,
      r.2.mem ((c.tc : Thread Cert.OutBwdWRefIdeal.nD Cert.OutBwdWRefIdeal.τ).loc Cert.OutBwdWRefIdeal.main_arg0) = m ((c.tc : Thread Cert.OutBwdWRefIdeal.nD Cert.OutBwdWRefIdeal.τ).loc Cert.OutBwdWRefIdeal.main_arg0)
      ∧ r.2.mem ((c.tc : Thread Cert.OutBwdWRefIdeal.nD Cert.OutBwdWRefIdeal.τ).loc Cert.OutBwdWRefIdeal.main_arg1) = m ((c.tc : Thread Cert.OutBwdWRefIdeal.nD Cert.OutBwdWRefIdeal.τ).loc Cert.OutBwdWRefIdeal.main_arg1))
      ∧ r.2.sem = fun _ => 0)

def quiescent_OutBwdA [hOutBwdA : Cert.OutBwdA.Facts] : Prop :=
  ∀ (m : (ℓ : Loc Cert.OutBwdA.nD Cert.OutBwdA.τ Cert.OutBwdA.sig) → Buf (Elt Bits) ℓ) (g : Dev Cert.OutBwdA.nD → PrngReg), Pre_OutBwdA m →
    θ_run (Cert.OutBwdA.defs (F := Bits)) (onTc (τ := Cert.OutBwdA.τ) (Cert.OutBwdA.main (F := Bits))) ⟨m, fun _ => 0, g⟩ (fun r => (∀ c : Dev Cert.OutBwdA.nD,
      r.2.mem ((c.tc : Thread Cert.OutBwdA.nD Cert.OutBwdA.τ).loc Cert.OutBwdA.main_arg0) = m ((c.tc : Thread Cert.OutBwdA.nD Cert.OutBwdA.τ).loc Cert.OutBwdA.main_arg0)
      ∧ r.2.mem ((c.tc : Thread Cert.OutBwdA.nD Cert.OutBwdA.τ).loc Cert.OutBwdA.main_arg1) = m ((c.tc : Thread Cert.OutBwdA.nD Cert.OutBwdA.τ).loc Cert.OutBwdA.main_arg1))
      ∧ r.2.sem = fun _ => 0)

def quiescent_OutBwdAIdeal [hOutBwdAIdeal : Cert.OutBwdAIdeal.Facts] : Prop :=
  ∀ (m : (ℓ : Loc Cert.OutBwdAIdeal.nD Cert.OutBwdAIdeal.τ Cert.OutBwdAIdeal.sig) → Buf (Elt Ideal) ℓ) (g : Dev Cert.OutBwdAIdeal.nD → PrngReg), Pre_OutBwdAIdeal m →
    θ_run (Cert.OutBwdAIdeal.defs (F := Ideal)) (onTc (τ := Cert.OutBwdAIdeal.τ) (Cert.OutBwdAIdeal.main (F := Ideal))) ⟨m, fun _ => 0, g⟩ (fun r => (∀ c : Dev Cert.OutBwdAIdeal.nD,
      r.2.mem ((c.tc : Thread Cert.OutBwdAIdeal.nD Cert.OutBwdAIdeal.τ).loc Cert.OutBwdAIdeal.main_arg0) = m ((c.tc : Thread Cert.OutBwdAIdeal.nD Cert.OutBwdAIdeal.τ).loc Cert.OutBwdAIdeal.main_arg0)
      ∧ r.2.mem ((c.tc : Thread Cert.OutBwdAIdeal.nD Cert.OutBwdAIdeal.τ).loc Cert.OutBwdAIdeal.main_arg1) = m ((c.tc : Thread Cert.OutBwdAIdeal.nD Cert.OutBwdAIdeal.τ).loc Cert.OutBwdAIdeal.main_arg1))
      ∧ r.2.sem = fun _ => 0)

def quiescent_OutBwdARefIdeal [hOutBwdARefIdeal : Cert.OutBwdARefIdeal.Facts] : Prop :=
  ∀ (m : (ℓ : Loc Cert.OutBwdARefIdeal.nD Cert.OutBwdARefIdeal.τ Cert.OutBwdARefIdeal.sig) → Buf (Elt Ideal) ℓ) (g : Dev Cert.OutBwdARefIdeal.nD → PrngReg), Pre_OutBwdARefIdeal m →
    θ_run (Cert.OutBwdARefIdeal.defs (F := Ideal)) (onTc (τ := Cert.OutBwdARefIdeal.τ) (Cert.OutBwdARefIdeal.main (F := Ideal))) ⟨m, fun _ => 0, g⟩ (fun r => (∀ c : Dev Cert.OutBwdARefIdeal.nD,
      r.2.mem ((c.tc : Thread Cert.OutBwdARefIdeal.nD Cert.OutBwdARefIdeal.τ).loc Cert.OutBwdARefIdeal.main_arg0) = m ((c.tc : Thread Cert.OutBwdARefIdeal.nD Cert.OutBwdARefIdeal.τ).loc Cert.OutBwdARefIdeal.main_arg0)
      ∧ r.2.mem ((c.tc : Thread Cert.OutBwdARefIdeal.nD Cert.OutBwdARefIdeal.τ).loc Cert.OutBwdARefIdeal.main_arg1) = m ((c.tc : Thread Cert.OutBwdARefIdeal.nD Cert.OutBwdARefIdeal.τ).loc Cert.OutBwdARefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_InBwdA [hInBwdA : Cert.InBwdA.Facts] : Prop :=
  ∀ (m : (ℓ : Loc Cert.InBwdA.nD Cert.InBwdA.τ Cert.InBwdA.sig) → Buf (Elt Bits) ℓ) (g : Dev Cert.InBwdA.nD → PrngReg), Pre_InBwdA m →
    θ_run (Cert.InBwdA.defs (F := Bits)) (onTc (τ := Cert.InBwdA.τ) (Cert.InBwdA.main (F := Bits))) ⟨m, fun _ => 0, g⟩ (fun r => (∀ c : Dev Cert.InBwdA.nD,
      r.2.mem ((c.tc : Thread Cert.InBwdA.nD Cert.InBwdA.τ).loc Cert.InBwdA.main_arg0) = m ((c.tc : Thread Cert.InBwdA.nD Cert.InBwdA.τ).loc Cert.InBwdA.main_arg0)
      ∧ r.2.mem ((c.tc : Thread Cert.InBwdA.nD Cert.InBwdA.τ).loc Cert.InBwdA.main_arg1) = m ((c.tc : Thread Cert.InBwdA.nD Cert.InBwdA.τ).loc Cert.InBwdA.main_arg1)
      ∧ r.2.mem ((c.tc : Thread Cert.InBwdA.nD Cert.InBwdA.τ).loc Cert.InBwdA.main_arg2) = m ((c.tc : Thread Cert.InBwdA.nD Cert.InBwdA.τ).loc Cert.InBwdA.main_arg2))
      ∧ r.2.sem = fun _ => 0)

def quiescent_InBwdAIdeal [hInBwdAIdeal : Cert.InBwdAIdeal.Facts] : Prop :=
  ∀ (m : (ℓ : Loc Cert.InBwdAIdeal.nD Cert.InBwdAIdeal.τ Cert.InBwdAIdeal.sig) → Buf (Elt Ideal) ℓ) (g : Dev Cert.InBwdAIdeal.nD → PrngReg), Pre_InBwdAIdeal m →
    θ_run (Cert.InBwdAIdeal.defs (F := Ideal)) (onTc (τ := Cert.InBwdAIdeal.τ) (Cert.InBwdAIdeal.main (F := Ideal))) ⟨m, fun _ => 0, g⟩ (fun r => (∀ c : Dev Cert.InBwdAIdeal.nD,
      r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
      ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
      ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2))
      ∧ r.2.sem = fun _ => 0)

def quiescent_InBwdARefIdeal [hInBwdARefIdeal : Cert.InBwdARefIdeal.Facts] : Prop :=
  ∀ (m : (ℓ : Loc Cert.InBwdARefIdeal.nD Cert.InBwdARefIdeal.τ Cert.InBwdARefIdeal.sig) → Buf (Elt Ideal) ℓ) (g : Dev Cert.InBwdARefIdeal.nD → PrngReg), Pre_InBwdARefIdeal m →
    θ_run (Cert.InBwdARefIdeal.defs (F := Ideal)) (onTc (τ := Cert.InBwdARefIdeal.τ) (Cert.InBwdARefIdeal.main (F := Ideal))) ⟨m, fun _ => 0, g⟩ (fun r => (∀ c : Dev Cert.InBwdARefIdeal.nD,
      r.2.mem ((c.tc : Thread Cert.InBwdARefIdeal.nD Cert.InBwdARefIdeal.τ).loc Cert.InBwdARefIdeal.main_arg0) = m ((c.tc : Thread Cert.InBwdARefIdeal.nD Cert.InBwdARefIdeal.τ).loc Cert.InBwdARefIdeal.main_arg0)
      ∧ r.2.mem ((c.tc : Thread Cert.InBwdARefIdeal.nD Cert.InBwdARefIdeal.τ).loc Cert.InBwdARefIdeal.main_arg1) = m ((c.tc : Thread Cert.InBwdARefIdeal.nD Cert.InBwdARefIdeal.τ).loc Cert.InBwdARefIdeal.main_arg1)
      ∧ r.2.mem ((c.tc : Thread Cert.InBwdARefIdeal.nD Cert.InBwdARefIdeal.τ).loc Cert.InBwdARefIdeal.main_arg2) = m ((c.tc : Thread Cert.InBwdARefIdeal.nD Cert.InBwdARefIdeal.τ).loc Cert.InBwdARefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_InBwdW [hInBwdW : Cert.InBwdW.Facts] : Prop :=
  ∀ (m : (ℓ : Loc Cert.InBwdW.nD Cert.InBwdW.τ Cert.InBwdW.sig) → Buf (Elt Bits) ℓ) (g : Dev Cert.InBwdW.nD → PrngReg), Pre_InBwdW m →
    θ_run (Cert.InBwdW.defs (F := Bits)) (onTc (τ := Cert.InBwdW.τ) (Cert.InBwdW.main (F := Bits))) ⟨m, fun _ => 0, g⟩ (fun r => (∀ c : Dev Cert.InBwdW.nD,
      r.2.mem ((c.tc : Thread Cert.InBwdW.nD Cert.InBwdW.τ).loc Cert.InBwdW.main_arg0) = m ((c.tc : Thread Cert.InBwdW.nD Cert.InBwdW.τ).loc Cert.InBwdW.main_arg0)
      ∧ r.2.mem ((c.tc : Thread Cert.InBwdW.nD Cert.InBwdW.τ).loc Cert.InBwdW.main_arg1) = m ((c.tc : Thread Cert.InBwdW.nD Cert.InBwdW.τ).loc Cert.InBwdW.main_arg1))
      ∧ r.2.sem = fun _ => 0)

def quiescent_InBwdWIdeal [hInBwdWIdeal : Cert.InBwdWIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg), Pre_InBwdWIdeal m →
    θ_run (Cert.InBwdWIdeal.defs (F := Ideal)) (onTc (τ := Cert.InBwdWIdeal.τ) (Cert.InBwdWIdeal.main (F := Ideal))) ⟨m, fun _ => 0, g⟩ (fun r => (∀ c : Dev Cert.InBwdWIdeal.nD,
      r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
      ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1))
      ∧ r.2.sem = fun _ => 0)

def quiescent_InBwdWRefIdeal [hInBwdWRefIdeal : Cert.InBwdWRefIdeal.Facts] : Prop :=
  ∀ (m : (ℓ : Loc Cert.InBwdWRefIdeal.nD Cert.InBwdWRefIdeal.τ Cert.InBwdWRefIdeal.sig) → Buf (Elt Ideal) ℓ) (g : Dev Cert.InBwdWRefIdeal.nD → PrngReg), Pre_InBwdWRefIdeal m →
    θ_run (Cert.InBwdWRefIdeal.defs (F := Ideal)) (onTc (τ := Cert.InBwdWRefIdeal.τ) (Cert.InBwdWRefIdeal.main (F := Ideal))) ⟨m, fun _ => 0, g⟩ (fun r => (∀ c : Dev Cert.InBwdWRefIdeal.nD,
      r.2.mem ((c.tc : Thread Cert.InBwdWRefIdeal.nD Cert.InBwdWRefIdeal.τ).loc Cert.InBwdWRefIdeal.main_arg0) = m ((c.tc : Thread Cert.InBwdWRefIdeal.nD Cert.InBwdWRefIdeal.τ).loc Cert.InBwdWRefIdeal.main_arg0)
      ∧ r.2.mem ((c.tc : Thread Cert.InBwdWRefIdeal.nD Cert.InBwdWRefIdeal.τ).loc Cert.InBwdWRefIdeal.main_arg1) = m ((c.tc : Thread Cert.InBwdWRefIdeal.nD Cert.InBwdWRefIdeal.τ).loc Cert.InBwdWRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2))
      ∧ r.2.sem = fun _ => 0)

def quiescent_AdamShard [hAdamShard : Cert.AdamShard.Facts] : Prop :=
  ∀ (m : (ℓ : Loc Cert.AdamShard.nD Cert.AdamShard.τ Cert.AdamShard.sig) → Buf (Elt Bits) ℓ) (g : Dev Cert.AdamShard.nD → PrngReg), Pre_AdamShard m →
    θ_run (Cert.AdamShard.defs (F := Bits)) (onTc (τ := Cert.AdamShard.τ) (Cert.AdamShard.main (F := Bits))) ⟨m, fun _ => 0, g⟩ (fun r => (∀ c : Dev Cert.AdamShard.nD,
      r.2.mem ((c.tc : Thread Cert.AdamShard.nD Cert.AdamShard.τ).loc Cert.AdamShard.main_arg0) = m ((c.tc : Thread Cert.AdamShard.nD Cert.AdamShard.τ).loc Cert.AdamShard.main_arg0)
      ∧ r.2.mem ((c.tc : Thread Cert.AdamShard.nD Cert.AdamShard.τ).loc Cert.AdamShard.main_arg1) = m ((c.tc : Thread Cert.AdamShard.nD Cert.AdamShard.τ).loc Cert.AdamShard.main_arg1)
      ∧ r.2.mem ((c.tc : Thread Cert.AdamShard.nD Cert.AdamShard.τ).loc Cert.AdamShard.main_arg2) = m ((c.tc : Thread Cert.AdamShard.nD Cert.AdamShard.τ).loc Cert.AdamShard.main_arg2)
      ∧ r.2.mem ((c.tc : Thread Cert.AdamShard.nD Cert.AdamShard.τ).loc Cert.AdamShard.main_arg3) = m ((c.tc : Thread Cert.AdamShard.nD Cert.AdamShard.τ).loc Cert.AdamShard.main_arg3))
      ∧ r.2.sem = fun _ => 0)

def quiescent_AdamShardIdeal [hAdamShardIdeal : Cert.AdamShardIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg), Pre_AdamShardIdeal m →
    θ_run (Cert.AdamShardIdeal.defs (F := Ideal)) (onTc (τ := Cert.AdamShardIdeal.τ) (Cert.AdamShardIdeal.main (F := Ideal))) ⟨m, fun _ => 0, g⟩ (fun r => (∀ c : Dev Cert.AdamShardIdeal.nD,
      r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
      ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
      ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
      ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3))
      ∧ r.2.sem = fun _ => 0)

def quiescent_AdamShardRefIdeal [hAdamShardRefIdeal : Cert.AdamShardRefIdeal.Facts] : Prop :=
  ∀ (m : (ℓ : Loc Cert.AdamShardRefIdeal.nD Cert.AdamShardRefIdeal.τ Cert.AdamShardRefIdeal.sig) → Buf (Elt Ideal) ℓ) (g : Dev Cert.AdamShardRefIdeal.nD → PrngReg), Pre_AdamShardRefIdeal m →
    θ_run (Cert.AdamShardRefIdeal.defs (F := Ideal)) (onTc (τ := Cert.AdamShardRefIdeal.τ) (Cert.AdamShardRefIdeal.main (F := Ideal))) ⟨m, fun _ => 0, g⟩ (fun r => (∀ c : Dev Cert.AdamShardRefIdeal.nD,
      r.2.mem ((c.tc : Thread Cert.AdamShardRefIdeal.nD Cert.AdamShardRefIdeal.τ).loc Cert.AdamShardRefIdeal.main_arg0) = m ((c.tc : Thread Cert.AdamShardRefIdeal.nD Cert.AdamShardRefIdeal.τ).loc Cert.AdamShardRefIdeal.main_arg0)
      ∧ r.2.mem ((c.tc : Thread Cert.AdamShardRefIdeal.nD Cert.AdamShardRefIdeal.τ).loc Cert.AdamShardRefIdeal.main_arg1) = m ((c.tc : Thread Cert.AdamShardRefIdeal.nD Cert.AdamShardRefIdeal.τ).loc Cert.AdamShardRefIdeal.main_arg1)
      ∧ r.2.mem ((c.tc : Thread Cert.AdamShardRefIdeal.nD Cert.AdamShardRefIdeal.τ).loc Cert.AdamShardRefIdeal.main_arg2) = m ((c.tc : Thread Cert.AdamShardRefIdeal.nD Cert.AdamShardRefIdeal.τ).loc Cert.AdamShardRefIdeal.main_arg2)
      ∧ r.2.mem ((c.tc : Thread Cert.AdamShardRefIdeal.nD Cert.AdamShardRefIdeal.τ).loc Cert.AdamShardRefIdeal.main_arg3) = m ((c.tc : Thread Cert.AdamShardRefIdeal.nD Cert.AdamShardRefIdeal.τ).loc Cert.AdamShardRefIdeal.main_arg3))
      ∧ r.2.sem = fun _ => 0)

def quiescent_GateBwdA [hGateBwdA : Cert.GateBwdA.Facts] : Prop :=
  ∀ (m : (ℓ : Loc Cert.GateBwdA.nD Cert.GateBwdA.τ Cert.GateBwdA.sig) → Buf (Elt Bits) ℓ) (g : Dev Cert.GateBwdA.nD → PrngReg), Pre_GateBwdA m →
    θ_run (Cert.GateBwdA.defs (F := Bits)) (onTc (τ := Cert.GateBwdA.τ) (Cert.GateBwdA.main (F := Bits))) ⟨m, fun _ => 0, g⟩ (fun r => (∀ c : Dev Cert.GateBwdA.nD,
      r.2.mem ((c.tc : Thread Cert.GateBwdA.nD Cert.GateBwdA.τ).loc Cert.GateBwdA.main_arg0) = m ((c.tc : Thread Cert.GateBwdA.nD Cert.GateBwdA.τ).loc Cert.GateBwdA.main_arg0)
      ∧ r.2.mem ((c.tc : Thread Cert.GateBwdA.nD Cert.GateBwdA.τ).loc Cert.GateBwdA.main_arg1) = m ((c.tc : Thread Cert.GateBwdA.nD Cert.GateBwdA.τ).loc Cert.GateBwdA.main_arg1))
      ∧ r.2.sem = fun _ => 0)

def quiescent_GateBwdAIdeal [hGateBwdAIdeal : Cert.GateBwdAIdeal.Facts] : Prop :=
  ∀ (m : (ℓ : Loc Cert.GateBwdAIdeal.nD Cert.GateBwdAIdeal.τ Cert.GateBwdAIdeal.sig) → Buf (Elt Ideal) ℓ) (g : Dev Cert.GateBwdAIdeal.nD → PrngReg), Pre_GateBwdAIdeal m →
    θ_run (Cert.GateBwdAIdeal.defs (F := Ideal)) (onTc (τ := Cert.GateBwdAIdeal.τ) (Cert.GateBwdAIdeal.main (F := Ideal))) ⟨m, fun _ => 0, g⟩ (fun r => (∀ c : Dev Cert.GateBwdAIdeal.nD,
      r.2.mem ((c.tc : Thread Cert.GateBwdAIdeal.nD Cert.GateBwdAIdeal.τ).loc Cert.GateBwdAIdeal.main_arg0) = m ((c.tc : Thread Cert.GateBwdAIdeal.nD Cert.GateBwdAIdeal.τ).loc Cert.GateBwdAIdeal.main_arg0)
      ∧ r.2.mem ((c.tc : Thread Cert.GateBwdAIdeal.nD Cert.GateBwdAIdeal.τ).loc Cert.GateBwdAIdeal.main_arg1) = m ((c.tc : Thread Cert.GateBwdAIdeal.nD Cert.GateBwdAIdeal.τ).loc Cert.GateBwdAIdeal.main_arg1))
      ∧ r.2.sem = fun _ => 0)

def quiescent_GateBwdARefIdeal [hGateBwdARefIdeal : Cert.GateBwdARefIdeal.Facts] : Prop :=
  ∀ (m : (ℓ : Loc Cert.GateBwdARefIdeal.nD Cert.GateBwdARefIdeal.τ Cert.GateBwdARefIdeal.sig) → Buf (Elt Ideal) ℓ) (g : Dev Cert.GateBwdARefIdeal.nD → PrngReg), Pre_GateBwdARefIdeal m →
    θ_run (Cert.GateBwdARefIdeal.defs (F := Ideal)) (onTc (τ := Cert.GateBwdARefIdeal.τ) (Cert.GateBwdARefIdeal.main (F := Ideal))) ⟨m, fun _ => 0, g⟩ (fun r => (∀ c : Dev Cert.GateBwdARefIdeal.nD,
      r.2.mem ((c.tc : Thread Cert.GateBwdARefIdeal.nD Cert.GateBwdARefIdeal.τ).loc Cert.GateBwdARefIdeal.main_arg0) = m ((c.tc : Thread Cert.GateBwdARefIdeal.nD Cert.GateBwdARefIdeal.τ).loc Cert.GateBwdARefIdeal.main_arg0)
      ∧ r.2.mem ((c.tc : Thread Cert.GateBwdARefIdeal.nD Cert.GateBwdARefIdeal.τ).loc Cert.GateBwdARefIdeal.main_arg1) = m ((c.tc : Thread Cert.GateBwdARefIdeal.nD Cert.GateBwdARefIdeal.τ).loc Cert.GateBwdARefIdeal.main_arg1))
      ∧ r.2.sem = fun _ => 0)

def quiescent_BranchFwd [hBranchFwd : Cert.BranchFwd.Facts] : Prop :=
  ∀ (m : (ℓ : Loc Cert.BranchFwd.nD Cert.BranchFwd.τ Cert.BranchFwd.sig) → Buf (Elt Bits) ℓ) (g : Dev Cert.BranchFwd.nD → PrngReg), Pre_BranchFwd m →
    θ_run (Cert.BranchFwd.defs (F := Bits)) (onTc (τ := Cert.BranchFwd.τ) (Cert.BranchFwd.main (F := Bits))) ⟨m, fun _ => 0, g⟩ (fun r => (∀ c : Dev Cert.BranchFwd.nD,
      r.2.mem ((c.tc : Thread Cert.BranchFwd.nD Cert.BranchFwd.τ).loc Cert.BranchFwd.main_arg0) = m ((c.tc : Thread Cert.BranchFwd.nD Cert.BranchFwd.τ).loc Cert.BranchFwd.main_arg0)
      ∧ r.2.mem ((c.tc : Thread Cert.BranchFwd.nD Cert.BranchFwd.τ).loc Cert.BranchFwd.main_arg1) = m ((c.tc : Thread Cert.BranchFwd.nD Cert.BranchFwd.τ).loc Cert.BranchFwd.main_arg1))
      ∧ r.2.sem = fun _ => 0)

def quiescent_BranchFwdIdeal [hBranchFwdIdeal : Cert.BranchFwdIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg), Pre_BranchFwdIdeal m →
    θ_run (Cert.BranchFwdIdeal.defs (F := Ideal)) (onTc (τ := Cert.BranchFwdIdeal.τ) (Cert.BranchFwdIdeal.main (F := Ideal))) ⟨m, fun _ => 0, g⟩ (fun r => (∀ c : Dev Cert.BranchFwdIdeal.nD,
      r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
      ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ r.2.sem = fun _ => 0)

def quiescent_BranchFwdRefIdeal [hBranchFwdRefIdeal : Cert.BranchFwdRefIdeal.Facts] : Prop :=
  ∀ (m : (ℓ : Loc Cert.BranchFwdRefIdeal.nD Cert.BranchFwdRefIdeal.τ Cert.BranchFwdRefIdeal.sig) → Buf (Elt Ideal) ℓ) (g : Dev Cert.BranchFwdRefIdeal.nD → PrngReg), Pre_BranchFwdRefIdeal m →
    θ_run (Cert.BranchFwdRefIdeal.defs (F := Ideal)) (onTc (τ := Cert.BranchFwdRefIdeal.τ) (Cert.BranchFwdRefIdeal.main (F := Ideal))) ⟨m, fun _ => 0, g⟩ (fun r => (∀ c : Dev Cert.BranchFwdRefIdeal.nD,
      r.2.mem ((c.tc : Thread Cert.BranchFwdRefIdeal.nD Cert.BranchFwdRefIdeal.τ).loc Cert.BranchFwdRefIdeal.main_arg0) = m ((c.tc : Thread Cert.BranchFwdRefIdeal.nD Cert.BranchFwdRefIdeal.τ).loc Cert.BranchFwdRefIdeal.main_arg0)
      ∧ r.2.mem ((c.tc : Thread Cert.BranchFwdRefIdeal.nD Cert.BranchFwdRefIdeal.τ).loc Cert.BranchFwdRefIdeal.main_arg1) = m ((c.tc : Thread Cert.BranchFwdRefIdeal.nD Cert.BranchFwdRefIdeal.τ).loc Cert.BranchFwdRefIdeal.main_arg1))
      ∧ r.2.sem = fun _ => 0)

def quiescent_BranchBwdA [hBranchBwdA : Cert.BranchBwdA.Facts] : Prop :=
  ∀ (m : (ℓ : Loc Cert.BranchBwdA.nD Cert.BranchBwdA.τ Cert.BranchBwdA.sig) → Buf (Elt Bits) ℓ) (g : Dev Cert.BranchBwdA.nD → PrngReg), Pre_BranchBwdA m →
    θ_run (Cert.BranchBwdA.defs (F := Bits)) (onTc (τ := Cert.BranchBwdA.τ) (Cert.BranchBwdA.main (F := Bits))) ⟨m, fun _ => 0, g⟩ (fun r => (∀ c : Dev Cert.BranchBwdA.nD,
      r.2.mem ((c.tc : Thread Cert.BranchBwdA.nD Cert.BranchBwdA.τ).loc Cert.BranchBwdA.main_arg0) = m ((c.tc : Thread Cert.BranchBwdA.nD Cert.BranchBwdA.τ).loc Cert.BranchBwdA.main_arg0)
      ∧ r.2.mem ((c.tc : Thread Cert.BranchBwdA.nD Cert.BranchBwdA.τ).loc Cert.BranchBwdA.main_arg1) = m ((c.tc : Thread Cert.BranchBwdA.nD Cert.BranchBwdA.τ).loc Cert.BranchBwdA.main_arg1))
      ∧ r.2.sem = fun _ => 0)

def quiescent_BranchBwdAIdeal [hBranchBwdAIdeal : Cert.BranchBwdAIdeal.Facts] : Prop :=
  ∀ (m : (ℓ : Loc Cert.BranchBwdAIdeal.nD Cert.BranchBwdAIdeal.τ Cert.BranchBwdAIdeal.sig) → Buf (Elt Ideal) ℓ) (g : Dev Cert.BranchBwdAIdeal.nD → PrngReg), Pre_BranchBwdAIdeal m →
    θ_run (Cert.BranchBwdAIdeal.defs (F := Ideal)) (onTc (τ := Cert.BranchBwdAIdeal.τ) (Cert.BranchBwdAIdeal.main (F := Ideal))) ⟨m, fun _ => 0, g⟩ (fun r => (∀ c : Dev Cert.BranchBwdAIdeal.nD,
      r.2.mem ((c.tc : Thread Cert.BranchBwdAIdeal.nD Cert.BranchBwdAIdeal.τ).loc Cert.BranchBwdAIdeal.main_arg0) = m ((c.tc : Thread Cert.BranchBwdAIdeal.nD Cert.BranchBwdAIdeal.τ).loc Cert.BranchBwdAIdeal.main_arg0)
      ∧ r.2.mem ((c.tc : Thread Cert.BranchBwdAIdeal.nD Cert.BranchBwdAIdeal.τ).loc Cert.BranchBwdAIdeal.main_arg1) = m ((c.tc : Thread Cert.BranchBwdAIdeal.nD Cert.BranchBwdAIdeal.τ).loc Cert.BranchBwdAIdeal.main_arg1))
      ∧ r.2.sem = fun _ => 0)

def quiescent_BranchBwdARefIdeal [hBranchBwdARefIdeal : Cert.BranchBwdARefIdeal.Facts] : Prop :=
  ∀ (m : (ℓ : Loc Cert.BranchBwdARefIdeal.nD Cert.BranchBwdARefIdeal.τ Cert.BranchBwdARefIdeal.sig) → Buf (Elt Ideal) ℓ) (g : Dev Cert.BranchBwdARefIdeal.nD → PrngReg), Pre_BranchBwdARefIdeal m →
    θ_run (Cert.BranchBwdARefIdeal.defs (F := Ideal)) (onTc (τ := Cert.BranchBwdARefIdeal.τ) (Cert.BranchBwdARefIdeal.main (F := Ideal))) ⟨m, fun _ => 0, g⟩ (fun r => (∀ c : Dev Cert.BranchBwdARefIdeal.nD,
      r.2.mem ((c.tc : Thread Cert.BranchBwdARefIdeal.nD Cert.BranchBwdARefIdeal.τ).loc Cert.BranchBwdARefIdeal.main_arg0) = m ((c.tc : Thread Cert.BranchBwdARefIdeal.nD Cert.BranchBwdARefIdeal.τ).loc Cert.BranchBwdARefIdeal.main_arg0)
      ∧ r.2.mem ((c.tc : Thread Cert.BranchBwdARefIdeal.nD Cert.BranchBwdARefIdeal.τ).loc Cert.BranchBwdARefIdeal.main_arg1) = m ((c.tc : Thread Cert.BranchBwdARefIdeal.nD Cert.BranchBwdARefIdeal.τ).loc Cert.BranchBwdARefIdeal.main_arg1))
      ∧ r.2.sem = fun _ => 0)

def quiescent_GateBwdW [hGateBwdW : Cert.GateBwdW.Facts] : Prop :=
  ∀ (m : (ℓ : Loc Cert.GateBwdW.nD Cert.GateBwdW.τ Cert.GateBwdW.sig) → Buf (Elt Bits) ℓ) (g : Dev Cert.GateBwdW.nD → PrngReg), Pre_GateBwdW m →
    θ_run (Cert.GateBwdW.defs (F := Bits)) (onTc (τ := Cert.GateBwdW.τ) (Cert.GateBwdW.main (F := Bits))) ⟨m, fun _ => 0, g⟩ (fun r => (∀ c : Dev Cert.GateBwdW.nD,
      r.2.mem ((c.tc : Thread Cert.GateBwdW.nD Cert.GateBwdW.τ).loc Cert.GateBwdW.main_arg0) = m ((c.tc : Thread Cert.GateBwdW.nD Cert.GateBwdW.τ).loc Cert.GateBwdW.main_arg0)
      ∧ r.2.mem ((c.tc : Thread Cert.GateBwdW.nD Cert.GateBwdW.τ).loc Cert.GateBwdW.main_arg1) = m ((c.tc : Thread Cert.GateBwdW.nD Cert.GateBwdW.τ).loc Cert.GateBwdW.main_arg1))
      ∧ r.2.sem = fun _ => 0)

def quiescent_GateBwdWIdeal [hGateBwdWIdeal : Cert.GateBwdWIdeal.Facts] : Prop :=
  ∀ (m : (ℓ : Loc Cert.GateBwdWIdeal.nD Cert.GateBwdWIdeal.τ Cert.GateBwdWIdeal.sig) → Buf (Elt Ideal) ℓ) (g : Dev Cert.GateBwdWIdeal.nD → PrngReg), Pre_GateBwdWIdeal m →
    θ_run (Cert.GateBwdWIdeal.defs (F := Ideal)) (onTc (τ := Cert.GateBwdWIdeal.τ) (Cert.GateBwdWIdeal.main (F := Ideal))) ⟨m, fun _ => 0, g⟩ (fun r => (∀ c : Dev Cert.GateBwdWIdeal.nD,
      r.2.mem ((c.tc : Thread Cert.GateBwdWIdeal.nD Cert.GateBwdWIdeal.τ).loc Cert.GateBwdWIdeal.main_arg0) = m ((c.tc : Thread Cert.GateBwdWIdeal.nD Cert.GateBwdWIdeal.τ).loc Cert.GateBwdWIdeal.main_arg0)
      ∧ r.2.mem ((c.tc : Thread Cert.GateBwdWIdeal.nD Cert.GateBwdWIdeal.τ).loc Cert.GateBwdWIdeal.main_arg1) = m ((c.tc : Thread Cert.GateBwdWIdeal.nD Cert.GateBwdWIdeal.τ).loc Cert.GateBwdWIdeal.main_arg1))
      ∧ r.2.sem = fun _ => 0)

def quiescent_GateBwdWRefIdeal [hGateBwdWRefIdeal : Cert.GateBwdWRefIdeal.Facts] : Prop :=
  ∀ (m : (ℓ : Loc Cert.GateBwdWRefIdeal.nD Cert.GateBwdWRefIdeal.τ Cert.GateBwdWRefIdeal.sig) → Buf (Elt Ideal) ℓ) (g : Dev Cert.GateBwdWRefIdeal.nD → PrngReg), Pre_GateBwdWRefIdeal m →
    θ_run (Cert.GateBwdWRefIdeal.defs (F := Ideal)) (onTc (τ := Cert.GateBwdWRefIdeal.τ) (Cert.GateBwdWRefIdeal.main (F := Ideal))) ⟨m, fun _ => 0, g⟩ (fun r => (∀ c : Dev Cert.GateBwdWRefIdeal.nD,
      r.2.mem ((c.tc : Thread Cert.GateBwdWRefIdeal.nD Cert.GateBwdWRefIdeal.τ).loc Cert.GateBwdWRefIdeal.main_arg0) = m ((c.tc : Thread Cert.GateBwdWRefIdeal.nD Cert.GateBwdWRefIdeal.τ).loc Cert.GateBwdWRefIdeal.main_arg0)
      ∧ r.2.mem ((c.tc : Thread Cert.GateBwdWRefIdeal.nD Cert.GateBwdWRefIdeal.τ).loc Cert.GateBwdWRefIdeal.main_arg1) = m ((c.tc : Thread Cert.GateBwdWRefIdeal.nD Cert.GateBwdWRefIdeal.τ).loc Cert.GateBwdWRefIdeal.main_arg1))
      ∧ r.2.sem = fun _ => 0)

def quiescent_UpBwdW [hUpBwdW : Cert.UpBwdW.Facts] : Prop :=
  ∀ (m : (ℓ : Loc Cert.UpBwdW.nD Cert.UpBwdW.τ Cert.UpBwdW.sig) → Buf (Elt Bits) ℓ) (g : Dev Cert.UpBwdW.nD → PrngReg), Pre_UpBwdW m →
    θ_run (Cert.UpBwdW.defs (F := Bits)) (onTc (τ := Cert.UpBwdW.τ) (Cert.UpBwdW.main (F := Bits))) ⟨m, fun _ => 0, g⟩ (fun r => (∀ c : Dev Cert.UpBwdW.nD,
      r.2.mem ((c.tc : Thread Cert.UpBwdW.nD Cert.UpBwdW.τ).loc Cert.UpBwdW.main_arg0) = m ((c.tc : Thread Cert.UpBwdW.nD Cert.UpBwdW.τ).loc Cert.UpBwdW.main_arg0)
      ∧ r.2.mem ((c.tc : Thread Cert.UpBwdW.nD Cert.UpBwdW.τ).loc Cert.UpBwdW.main_arg1) = m ((c.tc : Thread Cert.UpBwdW.nD Cert.UpBwdW.τ).loc Cert.UpBwdW.main_arg1)
      ∧ r.2.mem ((c.tc : Thread Cert.UpBwdW.nD Cert.UpBwdW.τ).loc Cert.UpBwdW.main_arg2) = m ((c.tc : Thread Cert.UpBwdW.nD Cert.UpBwdW.τ).loc Cert.UpBwdW.main_arg2))
      ∧ r.2.sem = fun _ => 0)

def quiescent_UpBwdWIdeal [hUpBwdWIdeal : Cert.UpBwdWIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg), Pre_UpBwdWIdeal m →
    θ_run (Cert.UpBwdWIdeal.defs (F := Ideal)) (onTc (τ := Cert.UpBwdWIdeal.τ) (Cert.UpBwdWIdeal.main (F := Ideal))) ⟨m, fun _ => 0, g⟩ (fun r => (∀ c : Dev Cert.UpBwdWIdeal.nD,
      r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
      ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1)
      ∧ r.2.mem ((c.tc : Thread Cert.UpBwdWIdeal.nD Cert.UpBwdWIdeal.τ).loc Cert.UpBwdWIdeal.main_arg2) = m ((c.tc : Thread Cert.UpBwdWIdeal.nD Cert.UpBwdWIdeal.τ).loc Cert.UpBwdWIdeal.main_arg2))
      ∧ r.2.sem = fun _ => 0)

def quiescent_UpBwdWRefIdeal [hUpBwdWRefIdeal : Cert.UpBwdWRefIdeal.Facts] : Prop :=
  ∀ (m : (ℓ : Loc Cert.UpBwdWRefIdeal.nD Cert.UpBwdWRefIdeal.τ Cert.UpBwdWRefIdeal.sig) → Buf (Elt Ideal) ℓ) (g : Dev Cert.UpBwdWRefIdeal.nD → PrngReg), Pre_UpBwdWRefIdeal m →
    θ_run (Cert.UpBwdWRefIdeal.defs (F := Ideal)) (onTc (τ := Cert.UpBwdWRefIdeal.τ) (Cert.UpBwdWRefIdeal.main (F := Ideal))) ⟨m, fun _ => 0, g⟩ (fun r => (∀ c : Dev Cert.UpBwdWRefIdeal.nD,
      r.2.mem ((c.tc : Thread Cert.UpBwdWRefIdeal.nD Cert.UpBwdWRefIdeal.τ).loc Cert.UpBwdWRefIdeal.main_arg0) = m ((c.tc : Thread Cert.UpBwdWRefIdeal.nD Cert.UpBwdWRefIdeal.τ).loc Cert.UpBwdWRefIdeal.main_arg0)
      ∧ r.2.mem ((c.tc : Thread Cert.UpBwdWRefIdeal.nD Cert.UpBwdWRefIdeal.τ).loc Cert.UpBwdWRefIdeal.main_arg1) = m ((c.tc : Thread Cert.UpBwdWRefIdeal.nD Cert.UpBwdWRefIdeal.τ).loc Cert.UpBwdWRefIdeal.main_arg1)
      ∧ r.2.mem ((c.tc : Thread Cert.UpBwdWRefIdeal.nD Cert.UpBwdWRefIdeal.τ).loc Cert.UpBwdWRefIdeal.main_arg2) = m ((c.tc : Thread Cert.UpBwdWRefIdeal.nD Cert.UpBwdWRefIdeal.τ).loc Cert.UpBwdWRefIdeal.main_arg2))
      ∧ r.2.sem = fun _ => 0)

def quiescent_UpBwdH [hUpBwdH : Cert.UpBwdH.Facts] : Prop :=
  ∀ (m : (ℓ : Loc Cert.UpBwdH.nD Cert.UpBwdH.τ Cert.UpBwdH.sig) → Buf (Elt Bits) ℓ) (g : Dev Cert.UpBwdH.nD → PrngReg), Pre_UpBwdH m →
    θ_run (Cert.UpBwdH.defs (F := Bits)) (onTc (τ := Cert.UpBwdH.τ) (Cert.UpBwdH.main (F := Bits))) ⟨m, fun _ => 0, g⟩ (fun r => (∀ c : Dev Cert.UpBwdH.nD,
      r.2.mem ((c.tc : Thread Cert.UpBwdH.nD Cert.UpBwdH.τ).loc Cert.UpBwdH.main_arg0) = m ((c.tc : Thread Cert.UpBwdH.nD Cert.UpBwdH.τ).loc Cert.UpBwdH.main_arg0)
      ∧ r.2.mem ((c.tc : Thread Cert.UpBwdH.nD Cert.UpBwdH.τ).loc Cert.UpBwdH.main_arg1) = m ((c.tc : Thread Cert.UpBwdH.nD Cert.UpBwdH.τ).loc Cert.UpBwdH.main_arg1)
      ∧ r.2.mem ((c.tc : Thread Cert.UpBwdH.nD Cert.UpBwdH.τ).loc Cert.UpBwdH.main_arg2) = m ((c.tc : Thread Cert.UpBwdH.nD Cert.UpBwdH.τ).loc Cert.UpBwdH.main_arg2)
      ∧ r.2.mem ((c.tc : Thread Cert.UpBwdH.nD Cert.UpBwdH.τ).loc Cert.UpBwdH.main_arg3) = m ((c.tc : Thread Cert.UpBwdH.nD Cert.UpBwdH.τ).loc Cert.UpBwdH.main_arg3))
      ∧ r.2.sem = fun _ => 0)

def quiescent_UpBwdHIdeal [hUpBwdHIdeal : Cert.UpBwdHIdeal.Facts] : Prop :=
  ∀ (m : (ℓ : Loc Cert.UpBwdHIdeal.nD Cert.UpBwdHIdeal.τ Cert.UpBwdHIdeal.sig) → Buf (Elt Ideal) ℓ) (g : Dev Cert.UpBwdHIdeal.nD → PrngReg), Pre_UpBwdHIdeal m →
    θ_run (Cert.UpBwdHIdeal.defs (F := Ideal)) (onTc (τ := Cert.UpBwdHIdeal.τ) (Cert.UpBwdHIdeal.main (F := Ideal))) ⟨m, fun _ => 0, g⟩ (fun r => (∀ c : Dev Cert.UpBwdHIdeal.nD,
      r.2.mem ((c.tc : Thread Cert.UpBwdHIdeal.nD Cert.UpBwdHIdeal.τ).loc Cert.UpBwdHIdeal.main_arg0) = m ((c.tc : Thread Cert.UpBwdHIdeal.nD Cert.UpBwdHIdeal.τ).loc Cert.UpBwdHIdeal.main_arg0)
      ∧ r.2.mem ((c.tc : Thread Cert.UpBwdHIdeal.nD Cert.UpBwdHIdeal.τ).loc Cert.UpBwdHIdeal.main_arg1) = m ((c.tc : Thread Cert.UpBwdHIdeal.nD Cert.UpBwdHIdeal.τ).loc Cert.UpBwdHIdeal.main_arg1)
      ∧ r.2.mem ((c.tc : Thread Cert.UpBwdHIdeal.nD Cert.UpBwdHIdeal.τ).loc Cert.UpBwdHIdeal.main_arg2) = m ((c.tc : Thread Cert.UpBwdHIdeal.nD Cert.UpBwdHIdeal.τ).loc Cert.UpBwdHIdeal.main_arg2)
      ∧ r.2.mem ((c.tc : Thread Cert.UpBwdHIdeal.nD Cert.UpBwdHIdeal.τ).loc Cert.UpBwdHIdeal.main_arg3) = m ((c.tc : Thread Cert.UpBwdHIdeal.nD Cert.UpBwdHIdeal.τ).loc Cert.UpBwdHIdeal.main_arg3))
      ∧ r.2.sem = fun _ => 0)

def quiescent_UpBwdHRefIdeal [hUpBwdHRefIdeal : Cert.UpBwdHRefIdeal.Facts] : Prop :=
  ∀ (m : (ℓ : Loc Cert.UpBwdHRefIdeal.nD Cert.UpBwdHRefIdeal.τ Cert.UpBwdHRefIdeal.sig) → Buf (Elt Ideal) ℓ) (g : Dev Cert.UpBwdHRefIdeal.nD → PrngReg), Pre_UpBwdHRefIdeal m →
    θ_run (Cert.UpBwdHRefIdeal.defs (F := Ideal)) (onTc (τ := Cert.UpBwdHRefIdeal.τ) (Cert.UpBwdHRefIdeal.main (F := Ideal))) ⟨m, fun _ => 0, g⟩ (fun r => (∀ c : Dev Cert.UpBwdHRefIdeal.nD,
      r.2.mem ((c.tc : Thread Cert.UpBwdHRefIdeal.nD Cert.UpBwdHRefIdeal.τ).loc Cert.UpBwdHRefIdeal.main_arg0) = m ((c.tc : Thread Cert.UpBwdHRefIdeal.nD Cert.UpBwdHRefIdeal.τ).loc Cert.UpBwdHRefIdeal.main_arg0)
      ∧ r.2.mem ((c.tc : Thread Cert.UpBwdHRefIdeal.nD Cert.UpBwdHRefIdeal.τ).loc Cert.UpBwdHRefIdeal.main_arg1) = m ((c.tc : Thread Cert.UpBwdHRefIdeal.nD Cert.UpBwdHRefIdeal.τ).loc Cert.UpBwdHRefIdeal.main_arg1)
      ∧ r.2.mem ((c.tc : Thread Cert.UpBwdHRefIdeal.nD Cert.UpBwdHRefIdeal.τ).loc Cert.UpBwdHRefIdeal.main_arg2) = m ((c.tc : Thread Cert.UpBwdHRefIdeal.nD Cert.UpBwdHRefIdeal.τ).loc Cert.UpBwdHRefIdeal.main_arg2)
      ∧ r.2.mem ((c.tc : Thread Cert.UpBwdHRefIdeal.nD Cert.UpBwdHRefIdeal.τ).loc Cert.UpBwdHRefIdeal.main_arg3) = m ((c.tc : Thread Cert.UpBwdHRefIdeal.nD Cert.UpBwdHRefIdeal.τ).loc Cert.UpBwdHRefIdeal.main_arg3))
      ∧ r.2.sem = fun _ => 0)

def quiescent_DownBwdW [hDownBwdW : Cert.DownBwdW.Facts] : Prop :=
  ∀ (m : (ℓ : Loc Cert.DownBwdW.nD Cert.DownBwdW.τ Cert.DownBwdW.sig) → Buf (Elt Bits) ℓ) (g : Dev Cert.DownBwdW.nD → PrngReg), Pre_DownBwdW m →
    θ_run (Cert.DownBwdW.defs (F := Bits)) (onTc (τ := Cert.DownBwdW.τ) (Cert.DownBwdW.main (F := Bits))) ⟨m, fun _ => 0, g⟩ (fun r => (∀ c : Dev Cert.DownBwdW.nD,
      r.2.mem ((c.tc : Thread Cert.DownBwdW.nD Cert.DownBwdW.τ).loc Cert.DownBwdW.main_arg0) = m ((c.tc : Thread Cert.DownBwdW.nD Cert.DownBwdW.τ).loc Cert.DownBwdW.main_arg0)
      ∧ r.2.mem ((c.tc : Thread Cert.DownBwdW.nD Cert.DownBwdW.τ).loc Cert.DownBwdW.main_arg1) = m ((c.tc : Thread Cert.DownBwdW.nD Cert.DownBwdW.τ).loc Cert.DownBwdW.main_arg1))
      ∧ r.2.sem = fun _ => 0)

def quiescent_DownBwdWIdeal [hDownBwdWIdeal : Cert.DownBwdWIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg), Pre_DownBwdWIdeal m →
    θ_run (Cert.DownBwdWIdeal.defs (F := Ideal)) (onTc (τ := Cert.DownBwdWIdeal.τ) (Cert.DownBwdWIdeal.main (F := Ideal))) ⟨m, fun _ => 0, g⟩ (fun r => (∀ c : Dev Cert.DownBwdWIdeal.nD,
      r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
      ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ r.2.sem = fun _ => 0)

def quiescent_DownBwdWRefIdeal [hDownBwdWRefIdeal : Cert.DownBwdWRefIdeal.Facts] : Prop :=
  ∀ (m : (ℓ : Loc Cert.DownBwdWRefIdeal.nD Cert.DownBwdWRefIdeal.τ Cert.DownBwdWRefIdeal.sig) → Buf (Elt Ideal) ℓ) (g : Dev Cert.DownBwdWRefIdeal.nD → PrngReg), Pre_DownBwdWRefIdeal m →
    θ_run (Cert.DownBwdWRefIdeal.defs (F := Ideal)) (onTc (τ := Cert.DownBwdWRefIdeal.τ) (Cert.DownBwdWRefIdeal.main (F := Ideal))) ⟨m, fun _ => 0, g⟩ (fun r => (∀ c : Dev Cert.DownBwdWRefIdeal.nD,
      r.2.mem ((c.tc : Thread Cert.DownBwdWRefIdeal.nD Cert.DownBwdWRefIdeal.τ).loc Cert.DownBwdWRefIdeal.main_arg0) = m ((c.tc : Thread Cert.DownBwdWRefIdeal.nD Cert.DownBwdWRefIdeal.τ).loc Cert.DownBwdWRefIdeal.main_arg0)
      ∧ r.2.mem ((c.tc : Thread Cert.DownBwdWRefIdeal.nD Cert.DownBwdWRefIdeal.τ).loc Cert.DownBwdWRefIdeal.main_arg1) = m ((c.tc : Thread Cert.DownBwdWRefIdeal.nD Cert.DownBwdWRefIdeal.τ).loc Cert.DownBwdWRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_RmsBwd_RmsBwdIdeal : Prop :=
  True

def algebraic_RmsBwdIdeal_RmsBwdRefIdeal_pre_rms_finite [hRmsBwdIdeal : Cert.RmsBwdIdeal.Facts] [hRmsBwdRefIdeal : Cert.RmsBwdRefIdeal.Facts] [hPre_rms_finite : Cert.Pre_rms_finite.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_rms_finite m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v19) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v52) = v1 c
          ∧ r.2.mem ((c.tc : Thread Cert.LossHeadRefIdeal.nD Cert.LossHeadRefIdeal.τ).loc Cert.LossHeadRefIdeal.main_v53) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v5_0)) (v1 : (c : Dev Cert.MergeBwdIdeal.nD) → Buf (Elt Ideal) ((c.tc : Thread Cert.MergeBwdIdeal.nD Cert.MergeBwdIdeal.τ).loc Cert.MergeBwdIdeal.main_v5_1)) (v2 : (c : Dev Cert.MergeBwdIdeal.nD) → Buf (Elt Ideal) ((c.tc : Thread Cert.MergeBwdIdeal.nD Cert.MergeBwdIdeal.τ).loc Cert.MergeBwdIdeal.main_v5_2)) (v3 : (c : Dev Cert.MergeBwdIdeal.nD) → Buf (Elt Ideal) ((c.tc : Thread Cert.MergeBwdIdeal.nD Cert.MergeBwdIdeal.τ).loc Cert.MergeBwdIdeal.main_v5_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v5_0) = v0 c
          ∧ r.2.mem ((c.tc : Thread Cert.MergeBwdIdeal.nD Cert.MergeBwdIdeal.τ).loc Cert.MergeBwdIdeal.main_v5_1) = v1 c
          ∧ r.2.mem ((c.tc : Thread Cert.MergeBwdIdeal.nD Cert.MergeBwdIdeal.τ).loc Cert.MergeBwdIdeal.main_v5_2) = v2 c
          ∧ r.2.mem ((c.tc : Thread Cert.MergeBwdIdeal.nD Cert.MergeBwdIdeal.τ).loc Cert.MergeBwdIdeal.main_v5_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v27) = v0 c
          ∧ r.2.mem ((c.tc : Thread Cert.MergeBwdRefIdeal.nD Cert.MergeBwdRefIdeal.τ).loc Cert.MergeBwdRefIdeal.main_v28) = v1 c
          ∧ r.2.mem ((c.tc : Thread Cert.MergeBwdRefIdeal.nD Cert.MergeBwdRefIdeal.τ).loc Cert.MergeBwdRefIdeal.main_v31) = v2 c
          ∧ r.2.mem ((c.tc : Thread Cert.MergeBwdRefIdeal.nD Cert.MergeBwdRefIdeal.τ).loc Cert.MergeBwdRefIdeal.main_v33) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_PrepBwd_PrepBwdIdeal : Prop :=
  True

def algebraic_PrepBwdIdeal_PrepBwdRefIdeal [hPrepBwdIdeal : Cert.PrepBwdIdeal.Facts] [hPrepBwdRefIdeal : Cert.PrepBwdRefIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepBwdRefIdeal.nD Cert.PrepBwdRefIdeal.τ Cert.PrepBwdRefIdeal.sig) → Buf (Elt Ideal) ℓ) (g' : Dev Cert.PrepBwdRefIdeal.nD → PrngReg), Pre_PrepBwdIdeal m →
    (∀ c : Dev Cert.PrepBwdIdeal.nD,
      m' ((c.tc : Thread Cert.PrepBwdRefIdeal.nD Cert.PrepBwdRefIdeal.τ).loc Cert.PrepBwdRefIdeal.main_arg0) = m ((c.tc : Thread Cert.PrepBwdIdeal.nD Cert.PrepBwdIdeal.τ).loc Cert.PrepBwdIdeal.main_arg0)
      ∧ m' ((c.tc : Thread Cert.PrepBwdRefIdeal.nD Cert.PrepBwdRefIdeal.τ).loc Cert.PrepBwdRefIdeal.main_arg1) = m ((c.tc : Thread Cert.PrepBwdIdeal.nD Cert.PrepBwdIdeal.τ).loc Cert.PrepBwdIdeal.main_arg1)
      ∧ m' ((c.tc : Thread Cert.PrepBwdRefIdeal.nD Cert.PrepBwdRefIdeal.τ).loc Cert.PrepBwdRefIdeal.main_arg2) = m ((c.tc : Thread Cert.PrepBwdIdeal.nD Cert.PrepBwdIdeal.τ).loc Cert.PrepBwdIdeal.main_arg2)
      ∧ m' ((c.tc : Thread Cert.PrepBwdRefIdeal.nD Cert.PrepBwdRefIdeal.τ).loc Cert.PrepBwdRefIdeal.main_arg3) = m ((c.tc : Thread Cert.PrepBwdIdeal.nD Cert.PrepBwdIdeal.τ).loc Cert.PrepBwdIdeal.main_arg3)
      ∧ m' ((c.tc : Thread Cert.PrepBwdRefIdeal.nD Cert.PrepBwdRefIdeal.τ).loc Cert.PrepBwdRefIdeal.main_arg4) = m ((c.tc : Thread Cert.PrepBwdIdeal.nD Cert.PrepBwdIdeal.τ).loc Cert.PrepBwdIdeal.main_arg4)
      ∧ m' ((c.tc : Thread Cert.PrepBwdRefIdeal.nD Cert.PrepBwdRefIdeal.τ).loc Cert.PrepBwdRefIdeal.main_arg5) = m ((c.tc : Thread Cert.PrepBwdIdeal.nD Cert.PrepBwdIdeal.τ).loc Cert.PrepBwdIdeal.main_arg5)
      ∧ m' ((c.tc : Thread Cert.PrepBwdRefIdeal.nD Cert.PrepBwdRefIdeal.τ).loc Cert.PrepBwdRefIdeal.main_arg6) = m ((c.tc : Thread Cert.PrepBwdIdeal.nD Cert.PrepBwdIdeal.τ).loc Cert.PrepBwdIdeal.main_arg6)
      ∧ m' ((c.tc : Thread Cert.PrepBwdRefIdeal.nD Cert.PrepBwdRefIdeal.τ).loc Cert.PrepBwdRefIdeal.main_arg7) = m ((c.tc : Thread Cert.PrepBwdIdeal.nD Cert.PrepBwdIdeal.τ).loc Cert.PrepBwdIdeal.main_arg7)
      ∧ m' ((c.tc : Thread Cert.PrepBwdRefIdeal.nD Cert.PrepBwdRefIdeal.τ).loc Cert.PrepBwdRefIdeal.main_arg8) = m ((c.tc : Thread Cert.PrepBwdIdeal.nD Cert.PrepBwdIdeal.τ).loc Cert.PrepBwdIdeal.main_arg8)) →
    ∃ (v0 : (c : Dev Cert.PrepBwdIdeal.nD) → Buf (Elt Ideal) ((c.tc : Thread Cert.PrepBwdIdeal.nD Cert.PrepBwdIdeal.τ).loc Cert.PrepBwdIdeal.main_v5_0)) (v1 : (c : Dev Cert.PrepBwdIdeal.nD) → Buf (Elt Ideal) ((c.tc : Thread Cert.PrepBwdIdeal.nD Cert.PrepBwdIdeal.τ).loc Cert.PrepBwdIdeal.main_v5_1)) (v2 : (c : Dev Cert.PrepBwdIdeal.nD) → Buf (Elt Ideal) ((c.tc : Thread Cert.PrepBwdIdeal.nD Cert.PrepBwdIdeal.τ).loc Cert.PrepBwdIdeal.main_v5_2)) (v3 : (c : Dev Cert.PrepBwdIdeal.nD) → Buf (Elt Ideal) ((c.tc : Thread Cert.PrepBwdIdeal.nD Cert.PrepBwdIdeal.τ).loc Cert.PrepBwdIdeal.main_v5_3)) (v4 : (c : Dev Cert.PrepBwdIdeal.nD) → Buf (Elt Ideal) ((c.tc : Thread Cert.PrepBwdIdeal.nD Cert.PrepBwdIdeal.τ).loc Cert.PrepBwdIdeal.main_v5_4)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v5_0) = v0 c
          ∧ r.2.mem ((c.tc : Thread Cert.PrepBwdIdeal.nD Cert.PrepBwdIdeal.τ).loc Cert.PrepBwdIdeal.main_v5_1) = v1 c
          ∧ r.2.mem ((c.tc : Thread Cert.PrepBwdIdeal.nD Cert.PrepBwdIdeal.τ).loc Cert.PrepBwdIdeal.main_v5_2) = v2 c
          ∧ r.2.mem ((c.tc : Thread Cert.PrepBwdIdeal.nD Cert.PrepBwdIdeal.τ).loc Cert.PrepBwdIdeal.main_v5_3) = v3 c
          ∧ r.2.mem ((c.tc : Thread Cert.PrepBwdIdeal.nD Cert.PrepBwdIdeal.τ).loc Cert.PrepBwdIdeal.main_v5_4) = v4 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
          ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
          ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
          ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
          ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
          ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7)
          ∧ r.2.mem ((c.tc : Thread Cert.PrepBwdIdeal.nD Cert.PrepBwdIdeal.τ).loc Cert.PrepBwdIdeal.main_arg8) = m ((c.tc : Thread Cert.PrepBwdIdeal.nD Cert.PrepBwdIdeal.τ).loc Cert.PrepBwdIdeal.main_arg8))
      ∧ θ_run (Cert.PrepBwdRefIdeal.defs (F := Ideal)) (onTc (τ := Cert.PrepBwdRefIdeal.τ) (Cert.PrepBwdRefIdeal.main (F := Ideal))) ⟨m', fun _ => 0, g'⟩ (fun r => ∀ c : Dev Cert.PrepBwdRefIdeal.nD,
          r.2.mem ((c.tc : Thread Cert.PrepBwdRefIdeal.nD Cert.PrepBwdRefIdeal.τ).loc Cert.PrepBwdRefIdeal.main_v140) = v0 c
          ∧ r.2.mem ((c.tc : Thread Cert.PrepBwdRefIdeal.nD Cert.PrepBwdRefIdeal.τ).loc Cert.PrepBwdRefIdeal.main_v132) = v1 c
          ∧ r.2.mem ((c.tc : Thread Cert.PrepBwdRefIdeal.nD Cert.PrepBwdRefIdeal.τ).loc Cert.PrepBwdRefIdeal.main_v143) = v2 c
          ∧ r.2.mem ((c.tc : Thread Cert.PrepBwdRefIdeal.nD Cert.PrepBwdRefIdeal.τ).loc Cert.PrepBwdRefIdeal.main_v144) = v3 c
          ∧ r.2.mem ((c.tc : Thread Cert.PrepBwdRefIdeal.nD Cert.PrepBwdRefIdeal.τ).loc Cert.PrepBwdRefIdeal.main_v145) = v4 c
          ∧ r.2.mem ((c.tc : Thread Cert.PrepBwdRefIdeal.nD Cert.PrepBwdRefIdeal.τ).loc Cert.PrepBwdRefIdeal.main_arg0) = m' ((c.tc : Thread Cert.PrepBwdRefIdeal.nD Cert.PrepBwdRefIdeal.τ).loc Cert.PrepBwdRefIdeal.main_arg0)
          ∧ r.2.mem ((c.tc : Thread Cert.PrepBwdRefIdeal.nD Cert.PrepBwdRefIdeal.τ).loc Cert.PrepBwdRefIdeal.main_arg1) = m' ((c.tc : Thread Cert.PrepBwdRefIdeal.nD Cert.PrepBwdRefIdeal.τ).loc Cert.PrepBwdRefIdeal.main_arg1)
          ∧ r.2.mem ((c.tc : Thread Cert.PrepBwdRefIdeal.nD Cert.PrepBwdRefIdeal.τ).loc Cert.PrepBwdRefIdeal.main_arg2) = m' ((c.tc : Thread Cert.PrepBwdRefIdeal.nD Cert.PrepBwdRefIdeal.τ).loc Cert.PrepBwdRefIdeal.main_arg2)
          ∧ r.2.mem ((c.tc : Thread Cert.PrepBwdRefIdeal.nD Cert.PrepBwdRefIdeal.τ).loc Cert.PrepBwdRefIdeal.main_arg3) = m' ((c.tc : Thread Cert.PrepBwdRefIdeal.nD Cert.PrepBwdRefIdeal.τ).loc Cert.PrepBwdRefIdeal.main_arg3)
          ∧ r.2.mem ((c.tc : Thread Cert.PrepBwdRefIdeal.nD Cert.PrepBwdRefIdeal.τ).loc Cert.PrepBwdRefIdeal.main_arg4) = m' ((c.tc : Thread Cert.PrepBwdRefIdeal.nD Cert.PrepBwdRefIdeal.τ).loc Cert.PrepBwdRefIdeal.main_arg4)
          ∧ r.2.mem ((c.tc : Thread Cert.PrepBwdRefIdeal.nD Cert.PrepBwdRefIdeal.τ).loc Cert.PrepBwdRefIdeal.main_arg5) = m' ((c.tc : Thread Cert.PrepBwdRefIdeal.nD Cert.PrepBwdRefIdeal.τ).loc Cert.PrepBwdRefIdeal.main_arg5)
          ∧ r.2.mem ((c.tc : Thread Cert.PrepBwdRefIdeal.nD Cert.PrepBwdRefIdeal.τ).loc Cert.PrepBwdRefIdeal.main_arg6) = m' ((c.tc : Thread Cert.PrepBwdRefIdeal.nD Cert.PrepBwdRefIdeal.τ).loc Cert.PrepBwdRefIdeal.main_arg6)
          ∧ r.2.mem ((c.tc : Thread Cert.PrepBwdRefIdeal.nD Cert.PrepBwdRefIdeal.τ).loc Cert.PrepBwdRefIdeal.main_arg7) = m' ((c.tc : Thread Cert.PrepBwdRefIdeal.nD Cert.PrepBwdRefIdeal.τ).loc Cert.PrepBwdRefIdeal.main_arg7)
          ∧ r.2.mem ((c.tc : Thread Cert.PrepBwdRefIdeal.nD Cert.PrepBwdRefIdeal.τ).loc Cert.PrepBwdRefIdeal.main_arg8) = m' ((c.tc : Thread Cert.PrepBwdRefIdeal.nD Cert.PrepBwdRefIdeal.τ).loc Cert.PrepBwdRefIdeal.main_arg8))

def preserves_SwigluBwd_SwigluBwdIdeal : Prop :=
  True

def algebraic_SwigluBwdIdeal_SwigluBwdRefIdeal_pre_swiglu_finite [hSwigluBwdIdeal : Cert.SwigluBwdIdeal.Facts] [hSwigluBwdRefIdeal : Cert.SwigluBwdRefIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_swiglu_finite m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)
      ∧ m' ((c.tc : Thread Cert.SwigluBwdRefIdeal.nD Cert.SwigluBwdRefIdeal.τ).loc Cert.SwigluBwdRefIdeal.main_arg3) = m ((c.tc : Thread Cert.SwigluBwdIdeal.nD Cert.SwigluBwdIdeal.τ).loc Cert.SwigluBwdIdeal.main_arg3)
      ∧ m' ((c.tc : Thread Cert.SwigluBwdRefIdeal.nD Cert.SwigluBwdRefIdeal.τ).loc Cert.SwigluBwdRefIdeal.main_arg4) = m ((c.tc : Thread Cert.SwigluBwdIdeal.nD Cert.SwigluBwdIdeal.τ).loc Cert.SwigluBwdIdeal.main_arg4)) →
    ∃ (v0 : (c : Dev Cert.SwigluBwdIdeal.nD) → Buf (Elt Ideal) ((c.tc : Thread Cert.SwigluBwdIdeal.nD Cert.SwigluBwdIdeal.τ).loc Cert.SwigluBwdIdeal.main_v15)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v15) = v0 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3)
          ∧ r.2.mem ((c.tc : Thread Cert.SwigluBwdIdeal.nD Cert.SwigluBwdIdeal.τ).loc Cert.SwigluBwdIdeal.main_arg4) = m ((c.tc : Thread Cert.SwigluBwdIdeal.nD Cert.SwigluBwdIdeal.τ).loc Cert.SwigluBwdIdeal.main_arg4))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v22) = v0 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2)
          ∧ r.2.mem ((c.tc : Thread Cert.SwigluBwdRefIdeal.nD Cert.SwigluBwdRefIdeal.τ).loc Cert.SwigluBwdRefIdeal.main_arg3) = m' ((c.tc : Thread Cert.SwigluBwdRefIdeal.nD Cert.SwigluBwdRefIdeal.τ).loc Cert.SwigluBwdRefIdeal.main_arg3)
          ∧ r.2.mem ((c.tc : Thread Cert.SwigluBwdRefIdeal.nD Cert.SwigluBwdRefIdeal.τ).loc Cert.SwigluBwdRefIdeal.main_arg4) = m' ((c.tc : Thread Cert.SwigluBwdRefIdeal.nD Cert.SwigluBwdRefIdeal.τ).loc Cert.SwigluBwdRefIdeal.main_arg4))

def preserves_SguBwd_SguBwdIdeal : Prop :=
  IdealRules.named_const.Statement Cert.SguBwdIdeal.κ "cubic" .f32 0x3D372713#32 ((8943 / 200000 : ℝ) : EReal)
  ∧ IdealRules.named_const.Statement Cert.SguBwdIdeal.κ "cubic3" .f32 0x3E095D4F#32 ((26829 / 200000 : ℝ) : EReal)

def algebraic_SguBwdIdeal_SguBwdRefIdeal_pre_sgu_finite [hSguBwdIdeal : Cert.SguBwdIdeal.Facts] [hSguBwdRefIdeal : Cert.SguBwdRefIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguBwdRefIdeal.nD Cert.SguBwdRefIdeal.τ Cert.SguBwdRefIdeal.sig) → Buf (Elt Ideal) ℓ) (g' : Dev Cert.SguBwdRefIdeal.nD → PrngReg), Pre_SguBwdIdeal_sgu_finite m →
    (∀ c : Dev Cert.SguBwdIdeal.nD,
      m' ((c.tc : Thread Cert.SguBwdRefIdeal.nD Cert.SguBwdRefIdeal.τ).loc Cert.SguBwdRefIdeal.main_arg0) = m ((c.tc : Thread Cert.SguBwdIdeal.nD Cert.SguBwdIdeal.τ).loc Cert.SguBwdIdeal.main_arg0)
      ∧ m' ((c.tc : Thread Cert.SguBwdRefIdeal.nD Cert.SguBwdRefIdeal.τ).loc Cert.SguBwdRefIdeal.main_arg1) = m ((c.tc : Thread Cert.SguBwdIdeal.nD Cert.SguBwdIdeal.τ).loc Cert.SguBwdIdeal.main_arg1)
      ∧ m' ((c.tc : Thread Cert.SguBwdRefIdeal.nD Cert.SguBwdRefIdeal.τ).loc Cert.SguBwdRefIdeal.main_arg2) = m ((c.tc : Thread Cert.SguBwdIdeal.nD Cert.SguBwdIdeal.τ).loc Cert.SguBwdIdeal.main_arg2)
      ∧ m' ((c.tc : Thread Cert.SguBwdRefIdeal.nD Cert.SguBwdRefIdeal.τ).loc Cert.SguBwdRefIdeal.main_arg3) = m ((c.tc : Thread Cert.SguBwdIdeal.nD Cert.SguBwdIdeal.τ).loc Cert.SguBwdIdeal.main_arg3)
      ∧ m' ((c.tc : Thread Cert.SguBwdRefIdeal.nD Cert.SguBwdRefIdeal.τ).loc Cert.SguBwdRefIdeal.main_arg4) = m ((c.tc : Thread Cert.SguBwdIdeal.nD Cert.SguBwdIdeal.τ).loc Cert.SguBwdIdeal.main_arg4)
      ∧ m' ((c.tc : Thread Cert.SguBwdRefIdeal.nD Cert.SguBwdRefIdeal.τ).loc Cert.SguBwdRefIdeal.main_arg5) = m ((c.tc : Thread Cert.SguBwdIdeal.nD Cert.SguBwdIdeal.τ).loc Cert.SguBwdIdeal.main_arg5)
      ∧ m' ((c.tc : Thread Cert.SguBwdRefIdeal.nD Cert.SguBwdRefIdeal.τ).loc Cert.SguBwdRefIdeal.main_arg6) = m ((c.tc : Thread Cert.SguBwdIdeal.nD Cert.SguBwdIdeal.τ).loc Cert.SguBwdIdeal.main_arg6)) →
    ∃ (v0 : (c : Dev Cert.SguBwdIdeal.nD) → Buf (Elt Ideal) ((c.tc : Thread Cert.SguBwdIdeal.nD Cert.SguBwdIdeal.τ).loc Cert.SguBwdIdeal.main_v14_0)) (v1 : (c : Dev Cert.SguBwdIdeal.nD) → Buf (Elt Ideal) ((c.tc : Thread Cert.SguBwdIdeal.nD Cert.SguBwdIdeal.τ).loc Cert.SguBwdIdeal.main_v16)) (v2 : (c : Dev Cert.SguBwdIdeal.nD) → Buf (Elt Ideal) ((c.tc : Thread Cert.SguBwdIdeal.nD Cert.SguBwdIdeal.τ).loc Cert.SguBwdIdeal.main_v18)) (v3 : (c : Dev Cert.SguBwdIdeal.nD) → Buf (Elt Ideal) ((c.tc : Thread Cert.SguBwdIdeal.nD Cert.SguBwdIdeal.τ).loc Cert.SguBwdIdeal.main_v14_3)) (v4 : (c : Dev Cert.SguBwdIdeal.nD) → Buf (Elt Ideal) ((c.tc : Thread Cert.SguBwdIdeal.nD Cert.SguBwdIdeal.τ).loc Cert.SguBwdIdeal.main_v14_4)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v14_0) = v0 c
          ∧ r.2.mem ((c.tc : Thread Cert.SguBwdIdeal.nD Cert.SguBwdIdeal.τ).loc Cert.SguBwdIdeal.main_v16) = v1 c
          ∧ r.2.mem ((c.tc : Thread Cert.SguBwdIdeal.nD Cert.SguBwdIdeal.τ).loc Cert.SguBwdIdeal.main_v18) = v2 c
          ∧ r.2.mem ((c.tc : Thread Cert.SguBwdIdeal.nD Cert.SguBwdIdeal.τ).loc Cert.SguBwdIdeal.main_v14_3) = v3 c
          ∧ r.2.mem ((c.tc : Thread Cert.SguBwdIdeal.nD Cert.SguBwdIdeal.τ).loc Cert.SguBwdIdeal.main_v14_4) = v4 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5)
          ∧ r.2.mem ((c.tc : Thread Cert.SguBwdIdeal.nD Cert.SguBwdIdeal.τ).loc Cert.SguBwdIdeal.main_arg6) = m ((c.tc : Thread Cert.SguBwdIdeal.nD Cert.SguBwdIdeal.τ).loc Cert.SguBwdIdeal.main_arg6))
      ∧ θ_run (Cert.SguBwdRefIdeal.defs (F := Ideal)) (onTc (τ := Cert.SguBwdRefIdeal.τ) (Cert.SguBwdRefIdeal.main (F := Ideal))) ⟨m', fun _ => 0, g'⟩ (fun r => ∀ c : Dev Cert.SguBwdRefIdeal.nD,
          r.2.mem ((c.tc : Thread Cert.SguBwdRefIdeal.nD Cert.SguBwdRefIdeal.τ).loc Cert.SguBwdRefIdeal.main_v138) = v0 c
          ∧ r.2.mem ((c.tc : Thread Cert.SguBwdRefIdeal.nD Cert.SguBwdRefIdeal.τ).loc Cert.SguBwdRefIdeal.main_v89) = v1 c
          ∧ r.2.mem ((c.tc : Thread Cert.SguBwdRefIdeal.nD Cert.SguBwdRefIdeal.τ).loc Cert.SguBwdRefIdeal.main_v84) = v2 c
          ∧ r.2.mem ((c.tc : Thread Cert.SguBwdRefIdeal.nD Cert.SguBwdRefIdeal.τ).loc Cert.SguBwdRefIdeal.main_v95) = v3 c
          ∧ r.2.mem ((c.tc : Thread Cert.SguBwdRefIdeal.nD Cert.SguBwdRefIdeal.τ).loc Cert.SguBwdRefIdeal.main_v92) = v4 c
          ∧ r.2.mem ((c.tc : Thread Cert.SguBwdRefIdeal.nD Cert.SguBwdRefIdeal.τ).loc Cert.SguBwdRefIdeal.main_arg0) = m' ((c.tc : Thread Cert.SguBwdRefIdeal.nD Cert.SguBwdRefIdeal.τ).loc Cert.SguBwdRefIdeal.main_arg0)
          ∧ r.2.mem ((c.tc : Thread Cert.SguBwdRefIdeal.nD Cert.SguBwdRefIdeal.τ).loc Cert.SguBwdRefIdeal.main_arg1) = m' ((c.tc : Thread Cert.SguBwdRefIdeal.nD Cert.SguBwdRefIdeal.τ).loc Cert.SguBwdRefIdeal.main_arg1)
          ∧ r.2.mem ((c.tc : Thread Cert.SguBwdRefIdeal.nD Cert.SguBwdRefIdeal.τ).loc Cert.SguBwdRefIdeal.main_arg2) = m' ((c.tc : Thread Cert.SguBwdRefIdeal.nD Cert.SguBwdRefIdeal.τ).loc Cert.SguBwdRefIdeal.main_arg2)
          ∧ r.2.mem ((c.tc : Thread Cert.SguBwdRefIdeal.nD Cert.SguBwdRefIdeal.τ).loc Cert.SguBwdRefIdeal.main_arg3) = m' ((c.tc : Thread Cert.SguBwdRefIdeal.nD Cert.SguBwdRefIdeal.τ).loc Cert.SguBwdRefIdeal.main_arg3)
          ∧ r.2.mem ((c.tc : Thread Cert.SguBwdRefIdeal.nD Cert.SguBwdRefIdeal.τ).loc Cert.SguBwdRefIdeal.main_arg4) = m' ((c.tc : Thread Cert.SguBwdRefIdeal.nD Cert.SguBwdRefIdeal.τ).loc Cert.SguBwdRefIdeal.main_arg4)
          ∧ r.2.mem ((c.tc : Thread Cert.SguBwdRefIdeal.nD Cert.SguBwdRefIdeal.τ).loc Cert.SguBwdRefIdeal.main_arg5) = m' ((c.tc : Thread Cert.SguBwdRefIdeal.nD Cert.SguBwdRefIdeal.τ).loc Cert.SguBwdRefIdeal.main_arg5)
          ∧ r.2.mem ((c.tc : Thread Cert.SguBwdRefIdeal.nD Cert.SguBwdRefIdeal.τ).loc Cert.SguBwdRefIdeal.main_arg6) = m' ((c.tc : Thread Cert.SguBwdRefIdeal.nD Cert.SguBwdRefIdeal.τ).loc Cert.SguBwdRefIdeal.main_arg6))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)) →
    ∃ (v0 : (c : Dev Cert.MergeFwdIdeal.nD) → Buf (Elt Ideal) ((c.tc : Thread Cert.MergeFwdIdeal.nD Cert.MergeFwdIdeal.τ).loc Cert.MergeFwdIdeal.main_v5)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v5) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v15) = v0 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v3_0)) (v1 : (c : Dev Cert.PrepFwdIdeal.nD) → Buf (Elt Ideal) ((c.tc : Thread Cert.PrepFwdIdeal.nD Cert.PrepFwdIdeal.τ).loc Cert.PrepFwdIdeal.main_v3_1)) (v2 : (c : Dev Cert.PrepFwdIdeal.nD) → Buf (Elt Ideal) ((c.tc : Thread Cert.PrepFwdIdeal.nD Cert.PrepFwdIdeal.τ).loc Cert.PrepFwdIdeal.main_v3_4)) (v3 : (c : Dev Cert.PrepFwdIdeal.nD) → Buf (Elt Ideal) ((c.tc : Thread Cert.PrepFwdIdeal.nD Cert.PrepFwdIdeal.τ).loc Cert.PrepFwdIdeal.main_v3_5)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v3_0) = v0 c
          ∧ r.2.mem ((c.tc : Thread Cert.PrepFwdIdeal.nD Cert.PrepFwdIdeal.τ).loc Cert.PrepFwdIdeal.main_v3_1) = v1 c
          ∧ r.2.mem ((c.tc : Thread Cert.PrepFwdIdeal.nD Cert.PrepFwdIdeal.τ).loc Cert.PrepFwdIdeal.main_v3_4) = v2 c
          ∧ r.2.mem ((c.tc : Thread Cert.PrepFwdIdeal.nD Cert.PrepFwdIdeal.τ).loc Cert.PrepFwdIdeal.main_v3_5) = v3 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v8) = v0 c
          ∧ r.2.mem ((c.tc : Thread Cert.PrepFwdRefIdeal.nD Cert.PrepFwdRefIdeal.τ).loc Cert.PrepFwdRefIdeal.main_v12) = v1 c
          ∧ r.2.mem ((c.tc : Thread Cert.PrepFwdRefIdeal.nD Cert.PrepFwdRefIdeal.τ).loc Cert.PrepFwdRefIdeal.main_v40) = v2 c
          ∧ r.2.mem ((c.tc : Thread Cert.PrepFwdRefIdeal.nD Cert.PrepFwdRefIdeal.τ).loc Cert.PrepFwdRefIdeal.main_v41) = v3 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4))

def preserves_Powers_PowersIdeal : Prop :=
  True

def algebraic_PowersIdeal_PowersRefIdeal_pre_powers_finite [hPowersIdeal : Cert.PowersIdeal.Facts] [hPowersRefIdeal : Cert.PowersRefIdeal.Facts] [hPre_powers_finite : Cert.Pre_powers_finite.Facts] : Prop :=
  ∀ (m : (ℓ : Loc Cert.PowersIdeal.nD Cert.PowersIdeal.τ Cert.PowersIdeal.sig) → Buf (Elt Ideal) ℓ) (g : Dev Cert.PowersIdeal.nD → PrngReg)
    (m' : (ℓ : Loc Cert.PowersRefIdeal.nD Cert.PowersRefIdeal.τ Cert.PowersRefIdeal.sig) → Buf (Elt Ideal) ℓ) (g' : Dev Cert.PowersRefIdeal.nD → PrngReg), Pre_PowersIdeal_powers_finite m →
    (∀ c : Dev Cert.PowersIdeal.nD,
      m' ((c.tc : Thread Cert.PowersRefIdeal.nD Cert.PowersRefIdeal.τ).loc Cert.PowersRefIdeal.main_arg0) = m ((c.tc : Thread Cert.PowersIdeal.nD Cert.PowersIdeal.τ).loc Cert.PowersIdeal.main_arg0)
      ∧ m' ((c.tc : Thread Cert.PowersRefIdeal.nD Cert.PowersRefIdeal.τ).loc Cert.PowersRefIdeal.main_arg1) = m ((c.tc : Thread Cert.PowersIdeal.nD Cert.PowersIdeal.τ).loc Cert.PowersIdeal.main_arg1)
      ∧ m' ((c.tc : Thread Cert.PowersRefIdeal.nD Cert.PowersRefIdeal.τ).loc Cert.PowersRefIdeal.main_arg2) = m ((c.tc : Thread Cert.PowersIdeal.nD Cert.PowersIdeal.τ).loc Cert.PowersIdeal.main_arg2)
      ∧ m' ((c.tc : Thread Cert.PowersRefIdeal.nD Cert.PowersRefIdeal.τ).loc Cert.PowersRefIdeal.main_arg3) = m ((c.tc : Thread Cert.PowersIdeal.nD Cert.PowersIdeal.τ).loc Cert.PowersIdeal.main_arg3)
      ∧ m' ((c.tc : Thread Cert.PowersRefIdeal.nD Cert.PowersRefIdeal.τ).loc Cert.PowersRefIdeal.main_arg4) = m ((c.tc : Thread Cert.PowersIdeal.nD Cert.PowersIdeal.τ).loc Cert.PowersIdeal.main_arg4)) →
    ∃ (v0 : (c : Dev Cert.PowersIdeal.nD) → Buf (Elt Ideal) ((c.tc : Thread Cert.PowersIdeal.nD Cert.PowersIdeal.τ).loc Cert.PowersIdeal.main_v3_2)) (v1 : (c : Dev Cert.PowersIdeal.nD) → Buf (Elt Ideal) ((c.tc : Thread Cert.PowersIdeal.nD Cert.PowersIdeal.τ).loc Cert.PowersIdeal.main_v3_3)),
      θ_run (Cert.PowersIdeal.defs (F := Ideal)) (onTc (τ := Cert.PowersIdeal.τ) (Cert.PowersIdeal.main (F := Ideal))) ⟨m, fun _ => 0, g⟩ (fun r => ∀ c : Dev Cert.PowersIdeal.nD,
          r.2.mem ((c.tc : Thread Cert.PowersIdeal.nD Cert.PowersIdeal.τ).loc Cert.PowersIdeal.main_v3_2) = v0 c
          ∧ r.2.mem ((c.tc : Thread Cert.PowersIdeal.nD Cert.PowersIdeal.τ).loc Cert.PowersIdeal.main_v3_3) = v1 c
          ∧ r.2.mem ((c.tc : Thread Cert.PowersIdeal.nD Cert.PowersIdeal.τ).loc Cert.PowersIdeal.main_arg0) = m ((c.tc : Thread Cert.PowersIdeal.nD Cert.PowersIdeal.τ).loc Cert.PowersIdeal.main_arg0)
          ∧ r.2.mem ((c.tc : Thread Cert.PowersIdeal.nD Cert.PowersIdeal.τ).loc Cert.PowersIdeal.main_arg1) = m ((c.tc : Thread Cert.PowersIdeal.nD Cert.PowersIdeal.τ).loc Cert.PowersIdeal.main_arg1)
          ∧ r.2.mem ((c.tc : Thread Cert.PowersIdeal.nD Cert.PowersIdeal.τ).loc Cert.PowersIdeal.main_arg2) = m ((c.tc : Thread Cert.PowersIdeal.nD Cert.PowersIdeal.τ).loc Cert.PowersIdeal.main_arg2)
          ∧ r.2.mem ((c.tc : Thread Cert.PowersIdeal.nD Cert.PowersIdeal.τ).loc Cert.PowersIdeal.main_arg3) = m ((c.tc : Thread Cert.PowersIdeal.nD Cert.PowersIdeal.τ).loc Cert.PowersIdeal.main_arg3)
          ∧ r.2.mem ((c.tc : Thread Cert.PowersIdeal.nD Cert.PowersIdeal.τ).loc Cert.PowersIdeal.main_arg4) = m ((c.tc : Thread Cert.PowersIdeal.nD Cert.PowersIdeal.τ).loc Cert.PowersIdeal.main_arg4))
      ∧ θ_run (Cert.PowersRefIdeal.defs (F := Ideal)) (onTc (τ := Cert.PowersRefIdeal.τ) (Cert.PowersRefIdeal.main (F := Ideal))) ⟨m', fun _ => 0, g'⟩ (fun r => ∀ c : Dev Cert.PowersRefIdeal.nD,
          r.2.mem ((c.tc : Thread Cert.PowersRefIdeal.nD Cert.PowersRefIdeal.τ).loc Cert.PowersRefIdeal.main_v44_5) = v0 c
          ∧ r.2.mem ((c.tc : Thread Cert.PowersRefIdeal.nD Cert.PowersRefIdeal.τ).loc Cert.PowersRefIdeal.main_v44_6) = v1 c
          ∧ r.2.mem ((c.tc : Thread Cert.PowersRefIdeal.nD Cert.PowersRefIdeal.τ).loc Cert.PowersRefIdeal.main_arg0) = m' ((c.tc : Thread Cert.PowersRefIdeal.nD Cert.PowersRefIdeal.τ).loc Cert.PowersRefIdeal.main_arg0)
          ∧ r.2.mem ((c.tc : Thread Cert.PowersRefIdeal.nD Cert.PowersRefIdeal.τ).loc Cert.PowersRefIdeal.main_arg1) = m' ((c.tc : Thread Cert.PowersRefIdeal.nD Cert.PowersRefIdeal.τ).loc Cert.PowersRefIdeal.main_arg1)
          ∧ r.2.mem ((c.tc : Thread Cert.PowersRefIdeal.nD Cert.PowersRefIdeal.τ).loc Cert.PowersRefIdeal.main_arg2) = m' ((c.tc : Thread Cert.PowersRefIdeal.nD Cert.PowersRefIdeal.τ).loc Cert.PowersRefIdeal.main_arg2)
          ∧ r.2.mem ((c.tc : Thread Cert.PowersRefIdeal.nD Cert.PowersRefIdeal.τ).loc Cert.PowersRefIdeal.main_arg3) = m' ((c.tc : Thread Cert.PowersRefIdeal.nD Cert.PowersRefIdeal.τ).loc Cert.PowersRefIdeal.main_arg3)
          ∧ r.2.mem ((c.tc : Thread Cert.PowersRefIdeal.nD Cert.PowersRefIdeal.τ).loc Cert.PowersRefIdeal.main_arg4) = m' ((c.tc : Thread Cert.PowersRefIdeal.nD Cert.PowersRefIdeal.τ).loc Cert.PowersRefIdeal.main_arg4))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)
      ∧ m' ((c.tc : Thread Cert.SwigluFwdRefIdeal.nD Cert.SwigluFwdRefIdeal.τ).loc Cert.SwigluFwdRefIdeal.main_arg2) = m ((c.tc : Thread Cert.SwigluFwdIdeal.nD Cert.SwigluFwdIdeal.τ).loc Cert.SwigluFwdIdeal.main_arg2)) →
    ∃ (v0 : (c : Dev Cert.SwigluFwdIdeal.nD) → Buf (Elt Ideal) ((c.tc : Thread Cert.SwigluFwdIdeal.nD Cert.SwigluFwdIdeal.τ).loc Cert.SwigluFwdIdeal.main_v9_0)) (v1 : (c : Dev Cert.SwigluFwdIdeal.nD) → Buf (Elt Ideal) ((c.tc : Thread Cert.SwigluFwdIdeal.nD Cert.SwigluFwdIdeal.τ).loc Cert.SwigluFwdIdeal.main_v9_1)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v9_0) = v0 c
          ∧ r.2.mem ((c.tc : Thread Cert.SwigluFwdIdeal.nD Cert.SwigluFwdIdeal.τ).loc Cert.SwigluFwdIdeal.main_v9_1) = v1 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1)
          ∧ r.2.mem ((c.tc : Thread Cert.SwigluFwdIdeal.nD Cert.SwigluFwdIdeal.τ).loc Cert.SwigluFwdIdeal.main_arg2) = m ((c.tc : Thread Cert.SwigluFwdIdeal.nD Cert.SwigluFwdIdeal.τ).loc Cert.SwigluFwdIdeal.main_arg2))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v10) = v0 c
          ∧ r.2.mem ((c.tc : Thread Cert.SwigluFwdRefIdeal.nD Cert.SwigluFwdRefIdeal.τ).loc Cert.SwigluFwdRefIdeal.main_v15) = v1 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1)
          ∧ r.2.mem ((c.tc : Thread Cert.SwigluFwdRefIdeal.nD Cert.SwigluFwdRefIdeal.τ).loc Cert.SwigluFwdRefIdeal.main_arg2) = m' ((c.tc : Thread Cert.SwigluFwdRefIdeal.nD Cert.SwigluFwdRefIdeal.τ).loc Cert.SwigluFwdRefIdeal.main_arg2))

def preserves_SguFwd_SguFwdIdeal : Prop :=
  IdealRules.named_const.Statement Cert.SguFwdIdeal.κ "cubic" .f32 0x3D372713#32 ((8943 / 200000 : ℝ) : EReal)

def algebraic_SguFwdIdeal_SguFwdRefIdeal [hSguFwdIdeal : Cert.SguFwdIdeal.Facts] [hSguFwdRefIdeal : Cert.SguFwdRefIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v12)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v12) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v60) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_OutBwdW_OutBwdWIdeal : Prop :=
  True

def algebraic_OutBwdWIdeal_OutBwdWRefIdeal [hOutBwdWIdeal : Cert.OutBwdWIdeal.Facts] [hOutBwdWRefIdeal : Cert.OutBwdWRefIdeal.Facts] : Prop :=
  ∀ (m : (ℓ : Loc Cert.OutBwdWIdeal.nD Cert.OutBwdWIdeal.τ Cert.OutBwdWIdeal.sig) → Buf (Elt Ideal) ℓ) (g : Dev Cert.OutBwdWIdeal.nD → PrngReg)
    (m' : (ℓ : Loc Cert.OutBwdWRefIdeal.nD Cert.OutBwdWRefIdeal.τ Cert.OutBwdWRefIdeal.sig) → Buf (Elt Ideal) ℓ) (g' : Dev Cert.OutBwdWRefIdeal.nD → PrngReg), Pre_OutBwdWIdeal m →
    (∀ c : Dev Cert.OutBwdWIdeal.nD,
      m' ((c.tc : Thread Cert.OutBwdWRefIdeal.nD Cert.OutBwdWRefIdeal.τ).loc Cert.OutBwdWRefIdeal.main_arg0) = m ((c.tc : Thread Cert.OutBwdWIdeal.nD Cert.OutBwdWIdeal.τ).loc Cert.OutBwdWIdeal.main_arg0)
      ∧ m' ((c.tc : Thread Cert.OutBwdWRefIdeal.nD Cert.OutBwdWRefIdeal.τ).loc Cert.OutBwdWRefIdeal.main_arg1) = m ((c.tc : Thread Cert.OutBwdWIdeal.nD Cert.OutBwdWIdeal.τ).loc Cert.OutBwdWIdeal.main_arg1)) →
    ∃ (v0 : (c : Dev Cert.OutBwdWIdeal.nD) → Buf (Elt Ideal) ((c.tc : Thread Cert.OutBwdWIdeal.nD Cert.OutBwdWIdeal.τ).loc Cert.OutBwdWIdeal.main_v0)),
      θ_run (Cert.OutBwdWIdeal.defs (F := Ideal)) (onTc (τ := Cert.OutBwdWIdeal.τ) (Cert.OutBwdWIdeal.main (F := Ideal))) ⟨m, fun _ => 0, g⟩ (fun r => ∀ c : Dev Cert.OutBwdWIdeal.nD,
          r.2.mem ((c.tc : Thread Cert.OutBwdWIdeal.nD Cert.OutBwdWIdeal.τ).loc Cert.OutBwdWIdeal.main_v0) = v0 c
          ∧ r.2.mem ((c.tc : Thread Cert.OutBwdWIdeal.nD Cert.OutBwdWIdeal.τ).loc Cert.OutBwdWIdeal.main_arg0) = m ((c.tc : Thread Cert.OutBwdWIdeal.nD Cert.OutBwdWIdeal.τ).loc Cert.OutBwdWIdeal.main_arg0)
          ∧ r.2.mem ((c.tc : Thread Cert.OutBwdWIdeal.nD Cert.OutBwdWIdeal.τ).loc Cert.OutBwdWIdeal.main_arg1) = m ((c.tc : Thread Cert.OutBwdWIdeal.nD Cert.OutBwdWIdeal.τ).loc Cert.OutBwdWIdeal.main_arg1))
      ∧ θ_run (Cert.OutBwdWRefIdeal.defs (F := Ideal)) (onTc (τ := Cert.OutBwdWRefIdeal.τ) (Cert.OutBwdWRefIdeal.main (F := Ideal))) ⟨m', fun _ => 0, g'⟩ (fun r => ∀ c : Dev Cert.OutBwdWRefIdeal.nD,
          r.2.mem ((c.tc : Thread Cert.OutBwdWRefIdeal.nD Cert.OutBwdWRefIdeal.τ).loc Cert.OutBwdWRefIdeal.main_v6) = v0 c
          ∧ r.2.mem ((c.tc : Thread Cert.OutBwdWRefIdeal.nD Cert.OutBwdWRefIdeal.τ).loc Cert.OutBwdWRefIdeal.main_arg0) = m' ((c.tc : Thread Cert.OutBwdWRefIdeal.nD Cert.OutBwdWRefIdeal.τ).loc Cert.OutBwdWRefIdeal.main_arg0)
          ∧ r.2.mem ((c.tc : Thread Cert.OutBwdWRefIdeal.nD Cert.OutBwdWRefIdeal.τ).loc Cert.OutBwdWRefIdeal.main_arg1) = m' ((c.tc : Thread Cert.OutBwdWRefIdeal.nD Cert.OutBwdWRefIdeal.τ).loc Cert.OutBwdWRefIdeal.main_arg1))

def preserves_OutBwdA_OutBwdAIdeal : Prop :=
  True

def algebraic_OutBwdAIdeal_OutBwdARefIdeal [hOutBwdAIdeal : Cert.OutBwdAIdeal.Facts] [hOutBwdARefIdeal : Cert.OutBwdARefIdeal.Facts] : Prop :=
  ∀ (m : (ℓ : Loc Cert.OutBwdAIdeal.nD Cert.OutBwdAIdeal.τ Cert.OutBwdAIdeal.sig) → Buf (Elt Ideal) ℓ) (g : Dev Cert.OutBwdAIdeal.nD → PrngReg)
    (m' : (ℓ : Loc Cert.OutBwdARefIdeal.nD Cert.OutBwdARefIdeal.τ Cert.OutBwdARefIdeal.sig) → Buf (Elt Ideal) ℓ) (g' : Dev Cert.OutBwdARefIdeal.nD → PrngReg), Pre_OutBwdAIdeal m →
    (∀ c : Dev Cert.OutBwdAIdeal.nD,
      m' ((c.tc : Thread Cert.OutBwdARefIdeal.nD Cert.OutBwdARefIdeal.τ).loc Cert.OutBwdARefIdeal.main_arg0) = m ((c.tc : Thread Cert.OutBwdAIdeal.nD Cert.OutBwdAIdeal.τ).loc Cert.OutBwdAIdeal.main_arg0)
      ∧ m' ((c.tc : Thread Cert.OutBwdARefIdeal.nD Cert.OutBwdARefIdeal.τ).loc Cert.OutBwdARefIdeal.main_arg1) = m ((c.tc : Thread Cert.OutBwdAIdeal.nD Cert.OutBwdAIdeal.τ).loc Cert.OutBwdAIdeal.main_arg1)) →
    ∃ (v0 : (c : Dev Cert.OutBwdAIdeal.nD) → Buf (Elt Ideal) ((c.tc : Thread Cert.OutBwdAIdeal.nD Cert.OutBwdAIdeal.τ).loc Cert.OutBwdAIdeal.main_v1)),
      θ_run (Cert.OutBwdAIdeal.defs (F := Ideal)) (onTc (τ := Cert.OutBwdAIdeal.τ) (Cert.OutBwdAIdeal.main (F := Ideal))) ⟨m, fun _ => 0, g⟩ (fun r => ∀ c : Dev Cert.OutBwdAIdeal.nD,
          r.2.mem ((c.tc : Thread Cert.OutBwdAIdeal.nD Cert.OutBwdAIdeal.τ).loc Cert.OutBwdAIdeal.main_v1) = v0 c
          ∧ r.2.mem ((c.tc : Thread Cert.OutBwdAIdeal.nD Cert.OutBwdAIdeal.τ).loc Cert.OutBwdAIdeal.main_arg0) = m ((c.tc : Thread Cert.OutBwdAIdeal.nD Cert.OutBwdAIdeal.τ).loc Cert.OutBwdAIdeal.main_arg0)
          ∧ r.2.mem ((c.tc : Thread Cert.OutBwdAIdeal.nD Cert.OutBwdAIdeal.τ).loc Cert.OutBwdAIdeal.main_arg1) = m ((c.tc : Thread Cert.OutBwdAIdeal.nD Cert.OutBwdAIdeal.τ).loc Cert.OutBwdAIdeal.main_arg1))
      ∧ θ_run (Cert.OutBwdARefIdeal.defs (F := Ideal)) (onTc (τ := Cert.OutBwdARefIdeal.τ) (Cert.OutBwdARefIdeal.main (F := Ideal))) ⟨m', fun _ => 0, g'⟩ (fun r => ∀ c : Dev Cert.OutBwdARefIdeal.nD,
          r.2.mem ((c.tc : Thread Cert.OutBwdARefIdeal.nD Cert.OutBwdARefIdeal.τ).loc Cert.OutBwdARefIdeal.main_v4) = v0 c
          ∧ r.2.mem ((c.tc : Thread Cert.OutBwdARefIdeal.nD Cert.OutBwdARefIdeal.τ).loc Cert.OutBwdARefIdeal.main_arg0) = m' ((c.tc : Thread Cert.OutBwdARefIdeal.nD Cert.OutBwdARefIdeal.τ).loc Cert.OutBwdARefIdeal.main_arg0)
          ∧ r.2.mem ((c.tc : Thread Cert.OutBwdARefIdeal.nD Cert.OutBwdARefIdeal.τ).loc Cert.OutBwdARefIdeal.main_arg1) = m' ((c.tc : Thread Cert.OutBwdARefIdeal.nD Cert.OutBwdARefIdeal.τ).loc Cert.OutBwdARefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)) →
    ∃ (v0 : (c : Dev Cert.OutFwdIdeal.nD) → Buf (Elt Ideal) ((c.tc : Thread Cert.OutFwdIdeal.nD Cert.OutFwdIdeal.τ).loc Cert.OutFwdIdeal.main_v1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v1) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v2)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v2) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_InBwdA_InBwdAIdeal : Prop :=
  True

def algebraic_InBwdAIdeal_InBwdARefIdeal [hInBwdAIdeal : Cert.InBwdAIdeal.Facts] [hInBwdARefIdeal : Cert.InBwdARefIdeal.Facts] : Prop :=
  ∀ (m : (ℓ : Loc Cert.InBwdAIdeal.nD Cert.InBwdAIdeal.τ Cert.InBwdAIdeal.sig) → Buf (Elt Ideal) ℓ) (g : Dev Cert.InBwdAIdeal.nD → PrngReg)
    (m' : (ℓ : Loc Cert.InBwdARefIdeal.nD Cert.InBwdARefIdeal.τ Cert.InBwdARefIdeal.sig) → Buf (Elt Ideal) ℓ) (g' : Dev Cert.InBwdARefIdeal.nD → PrngReg), Pre_InBwdAIdeal m →
    (∀ c : Dev Cert.InBwdAIdeal.nD,
      m' ((c.tc : Thread Cert.InBwdARefIdeal.nD Cert.InBwdARefIdeal.τ).loc Cert.InBwdARefIdeal.main_arg0) = m ((c.tc : Thread Cert.InBwdAIdeal.nD Cert.InBwdAIdeal.τ).loc Cert.InBwdAIdeal.main_arg0)
      ∧ m' ((c.tc : Thread Cert.InBwdARefIdeal.nD Cert.InBwdARefIdeal.τ).loc Cert.InBwdARefIdeal.main_arg1) = m ((c.tc : Thread Cert.InBwdAIdeal.nD Cert.InBwdAIdeal.τ).loc Cert.InBwdAIdeal.main_arg1)
      ∧ m' ((c.tc : Thread Cert.InBwdARefIdeal.nD Cert.InBwdARefIdeal.τ).loc Cert.InBwdARefIdeal.main_arg2) = m ((c.tc : Thread Cert.InBwdAIdeal.nD Cert.InBwdAIdeal.τ).loc Cert.InBwdAIdeal.main_arg2)) →
    ∃ (v0 : (c : Dev Cert.InBwdAIdeal.nD) → Buf (Elt Ideal) ((c.tc : Thread Cert.InBwdAIdeal.nD Cert.InBwdAIdeal.τ).loc Cert.InBwdAIdeal.main_v2)),
      θ_run (Cert.InBwdAIdeal.defs (F := Ideal)) (onTc (τ := Cert.InBwdAIdeal.τ) (Cert.InBwdAIdeal.main (F := Ideal))) ⟨m, fun _ => 0, g⟩ (fun r => ∀ c : Dev Cert.InBwdAIdeal.nD,
          r.2.mem ((c.tc : Thread Cert.InBwdAIdeal.nD Cert.InBwdAIdeal.τ).loc Cert.InBwdAIdeal.main_v2) = v0 c
          ∧ r.2.mem ((c.tc : Thread Cert.InBwdAIdeal.nD Cert.InBwdAIdeal.τ).loc Cert.InBwdAIdeal.main_arg0) = m ((c.tc : Thread Cert.InBwdAIdeal.nD Cert.InBwdAIdeal.τ).loc Cert.InBwdAIdeal.main_arg0)
          ∧ r.2.mem ((c.tc : Thread Cert.InBwdAIdeal.nD Cert.InBwdAIdeal.τ).loc Cert.InBwdAIdeal.main_arg1) = m ((c.tc : Thread Cert.InBwdAIdeal.nD Cert.InBwdAIdeal.τ).loc Cert.InBwdAIdeal.main_arg1)
          ∧ r.2.mem ((c.tc : Thread Cert.InBwdAIdeal.nD Cert.InBwdAIdeal.τ).loc Cert.InBwdAIdeal.main_arg2) = m ((c.tc : Thread Cert.InBwdAIdeal.nD Cert.InBwdAIdeal.τ).loc Cert.InBwdAIdeal.main_arg2))
      ∧ θ_run (Cert.InBwdARefIdeal.defs (F := Ideal)) (onTc (τ := Cert.InBwdARefIdeal.τ) (Cert.InBwdARefIdeal.main (F := Ideal))) ⟨m', fun _ => 0, g'⟩ (fun r => ∀ c : Dev Cert.InBwdARefIdeal.nD,
          r.2.mem ((c.tc : Thread Cert.InBwdARefIdeal.nD Cert.InBwdARefIdeal.τ).loc Cert.InBwdARefIdeal.main_v6) = v0 c
          ∧ r.2.mem ((c.tc : Thread Cert.InBwdARefIdeal.nD Cert.InBwdARefIdeal.τ).loc Cert.InBwdARefIdeal.main_arg0) = m' ((c.tc : Thread Cert.InBwdARefIdeal.nD Cert.InBwdARefIdeal.τ).loc Cert.InBwdARefIdeal.main_arg0)
          ∧ r.2.mem ((c.tc : Thread Cert.InBwdARefIdeal.nD Cert.InBwdARefIdeal.τ).loc Cert.InBwdARefIdeal.main_arg1) = m' ((c.tc : Thread Cert.InBwdARefIdeal.nD Cert.InBwdARefIdeal.τ).loc Cert.InBwdARefIdeal.main_arg1)
          ∧ r.2.mem ((c.tc : Thread Cert.InBwdARefIdeal.nD Cert.InBwdARefIdeal.τ).loc Cert.InBwdARefIdeal.main_arg2) = m' ((c.tc : Thread Cert.InBwdARefIdeal.nD Cert.InBwdARefIdeal.τ).loc Cert.InBwdARefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v6)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v6) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v4) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_InBwdW_InBwdWIdeal : Prop :=
  True

def algebraic_InBwdWIdeal_InBwdWRefIdeal [hInBwdWIdeal : Cert.InBwdWIdeal.Facts] [hInBwdWRefIdeal : Cert.InBwdWRefIdeal.Facts] : Prop :=
  ∀ (m : (ℓ : Loc Cert.InBwdWIdeal.nD Cert.InBwdWIdeal.τ Cert.InBwdWIdeal.sig) → Buf (Elt Ideal) ℓ) (g : Dev Cert.InBwdWIdeal.nD → PrngReg)
    (m' : (ℓ : Loc Cert.InBwdWRefIdeal.nD Cert.InBwdWRefIdeal.τ Cert.InBwdWRefIdeal.sig) → Buf (Elt Ideal) ℓ) (g' : Dev Cert.InBwdWRefIdeal.nD → PrngReg), Pre_InBwdWIdeal m →
    (∀ c : Dev Cert.InBwdWIdeal.nD,
      m' ((c.tc : Thread Cert.InBwdWRefIdeal.nD Cert.InBwdWRefIdeal.τ).loc Cert.InBwdWRefIdeal.main_arg0) = m ((c.tc : Thread Cert.InBwdWIdeal.nD Cert.InBwdWIdeal.τ).loc Cert.InBwdWIdeal.main_arg0)
      ∧ m' ((c.tc : Thread Cert.InBwdWRefIdeal.nD Cert.InBwdWRefIdeal.τ).loc Cert.InBwdWRefIdeal.main_arg1) = m ((c.tc : Thread Cert.InBwdWIdeal.nD Cert.InBwdWIdeal.τ).loc Cert.InBwdWIdeal.main_arg1)) →
    ∃ (v0 : (c : Dev Cert.InBwdWIdeal.nD) → Buf (Elt Ideal) ((c.tc : Thread Cert.InBwdWIdeal.nD Cert.InBwdWIdeal.τ).loc Cert.InBwdWIdeal.main_v0)),
      θ_run (Cert.InBwdWIdeal.defs (F := Ideal)) (onTc (τ := Cert.InBwdWIdeal.τ) (Cert.InBwdWIdeal.main (F := Ideal))) ⟨m, fun _ => 0, g⟩ (fun r => ∀ c : Dev Cert.InBwdWIdeal.nD,
          r.2.mem ((c.tc : Thread Cert.InBwdWIdeal.nD Cert.InBwdWIdeal.τ).loc Cert.InBwdWIdeal.main_v0) = v0 c
          ∧ r.2.mem ((c.tc : Thread Cert.InBwdWIdeal.nD Cert.InBwdWIdeal.τ).loc Cert.InBwdWIdeal.main_arg0) = m ((c.tc : Thread Cert.InBwdWIdeal.nD Cert.InBwdWIdeal.τ).loc Cert.InBwdWIdeal.main_arg0)
          ∧ r.2.mem ((c.tc : Thread Cert.InBwdWIdeal.nD Cert.InBwdWIdeal.τ).loc Cert.InBwdWIdeal.main_arg1) = m ((c.tc : Thread Cert.InBwdWIdeal.nD Cert.InBwdWIdeal.τ).loc Cert.InBwdWIdeal.main_arg1))
      ∧ θ_run (Cert.InBwdWRefIdeal.defs (F := Ideal)) (onTc (τ := Cert.InBwdWRefIdeal.τ) (Cert.InBwdWRefIdeal.main (F := Ideal))) ⟨m', fun _ => 0, g'⟩ (fun r => ∀ c : Dev Cert.InBwdWRefIdeal.nD,
          r.2.mem ((c.tc : Thread Cert.InBwdWRefIdeal.nD Cert.InBwdWRefIdeal.τ).loc Cert.InBwdWRefIdeal.main_v8) = v0 c
          ∧ r.2.mem ((c.tc : Thread Cert.InBwdWRefIdeal.nD Cert.InBwdWRefIdeal.τ).loc Cert.InBwdWRefIdeal.main_arg0) = m' ((c.tc : Thread Cert.InBwdWRefIdeal.nD Cert.InBwdWRefIdeal.τ).loc Cert.InBwdWRefIdeal.main_arg0)
          ∧ r.2.mem ((c.tc : Thread Cert.InBwdWRefIdeal.nD Cert.InBwdWRefIdeal.τ).loc Cert.InBwdWRefIdeal.main_arg1) = m' ((c.tc : Thread Cert.InBwdWRefIdeal.nD Cert.InBwdWRefIdeal.τ).loc Cert.InBwdWRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)) →
    ∃ (v0 : (c : Dev Cert.GateFwdIdeal.nD) → Buf (Elt Ideal) ((c.tc : Thread Cert.GateFwdIdeal.nD Cert.GateFwdIdeal.τ).loc Cert.GateFwdIdeal.main_v4)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v4) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v9) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2))

def preserves_AdamShard_AdamShardIdeal : Prop :=
  True

def algebraic_AdamShardIdeal_AdamShardRefIdeal [hAdamShardIdeal : Cert.AdamShardIdeal.Facts] [hAdamShardRefIdeal : Cert.AdamShardRefIdeal.Facts] : Prop :=
  ∀ (m : (ℓ : Loc Cert.AdamShardIdeal.nD Cert.AdamShardIdeal.τ Cert.AdamShardIdeal.sig) → Buf (Elt Ideal) ℓ) (g : Dev Cert.AdamShardIdeal.nD → PrngReg)
    (m' : (ℓ : Loc Cert.AdamShardRefIdeal.nD Cert.AdamShardRefIdeal.τ Cert.AdamShardRefIdeal.sig) → Buf (Elt Ideal) ℓ) (g' : Dev Cert.AdamShardRefIdeal.nD → PrngReg), Pre_AdamShardIdeal m →
    (∀ c : Dev Cert.AdamShardIdeal.nD,
      m' ((c.tc : Thread Cert.AdamShardRefIdeal.nD Cert.AdamShardRefIdeal.τ).loc Cert.AdamShardRefIdeal.main_arg0) = m ((c.tc : Thread Cert.AdamShardIdeal.nD Cert.AdamShardIdeal.τ).loc Cert.AdamShardIdeal.main_arg0)
      ∧ m' ((c.tc : Thread Cert.AdamShardRefIdeal.nD Cert.AdamShardRefIdeal.τ).loc Cert.AdamShardRefIdeal.main_arg1) = m ((c.tc : Thread Cert.AdamShardIdeal.nD Cert.AdamShardIdeal.τ).loc Cert.AdamShardIdeal.main_arg1)
      ∧ m' ((c.tc : Thread Cert.AdamShardRefIdeal.nD Cert.AdamShardRefIdeal.τ).loc Cert.AdamShardRefIdeal.main_arg2) = m ((c.tc : Thread Cert.AdamShardIdeal.nD Cert.AdamShardIdeal.τ).loc Cert.AdamShardIdeal.main_arg2)
      ∧ m' ((c.tc : Thread Cert.AdamShardRefIdeal.nD Cert.AdamShardRefIdeal.τ).loc Cert.AdamShardRefIdeal.main_arg3) = m ((c.tc : Thread Cert.AdamShardIdeal.nD Cert.AdamShardIdeal.τ).loc Cert.AdamShardIdeal.main_arg3)) →
    ∃ (v0 : (c : Dev Cert.AdamShardIdeal.nD) → Buf (Elt Ideal) ((c.tc : Thread Cert.AdamShardIdeal.nD Cert.AdamShardIdeal.τ).loc Cert.AdamShardIdeal.main_v0_0)) (v1 : (c : Dev Cert.AdamShardIdeal.nD) → Buf (Elt Ideal) ((c.tc : Thread Cert.AdamShardIdeal.nD Cert.AdamShardIdeal.τ).loc Cert.AdamShardIdeal.main_v0_1)) (v2 : (c : Dev Cert.AdamShardIdeal.nD) → Buf (Elt Ideal) ((c.tc : Thread Cert.AdamShardIdeal.nD Cert.AdamShardIdeal.τ).loc Cert.AdamShardIdeal.main_v0_2)) (v3 : (c : Dev Cert.AdamShardIdeal.nD) → Buf (Elt Ideal) ((c.tc : Thread Cert.AdamShardIdeal.nD Cert.AdamShardIdeal.τ).loc Cert.AdamShardIdeal.main_v0_3)),
      θ_run (Cert.AdamShardIdeal.defs (F := Ideal)) (onTc (τ := Cert.AdamShardIdeal.τ) (Cert.AdamShardIdeal.main (F := Ideal))) ⟨m, fun _ => 0, g⟩ (fun r => ∀ c : Dev Cert.AdamShardIdeal.nD,
          r.2.mem ((c.tc : Thread Cert.AdamShardIdeal.nD Cert.AdamShardIdeal.τ).loc Cert.AdamShardIdeal.main_v0_0) = v0 c
          ∧ r.2.mem ((c.tc : Thread Cert.AdamShardIdeal.nD Cert.AdamShardIdeal.τ).loc Cert.AdamShardIdeal.main_v0_1) = v1 c
          ∧ r.2.mem ((c.tc : Thread Cert.AdamShardIdeal.nD Cert.AdamShardIdeal.τ).loc Cert.AdamShardIdeal.main_v0_2) = v2 c
          ∧ r.2.mem ((c.tc : Thread Cert.AdamShardIdeal.nD Cert.AdamShardIdeal.τ).loc Cert.AdamShardIdeal.main_v0_3) = v3 c
          ∧ r.2.mem ((c.tc : Thread Cert.AdamShardIdeal.nD Cert.AdamShardIdeal.τ).loc Cert.AdamShardIdeal.main_arg0) = m ((c.tc : Thread Cert.AdamShardIdeal.nD Cert.AdamShardIdeal.τ).loc Cert.AdamShardIdeal.main_arg0)
          ∧ r.2.mem ((c.tc : Thread Cert.AdamShardIdeal.nD Cert.AdamShardIdeal.τ).loc Cert.AdamShardIdeal.main_arg1) = m ((c.tc : Thread Cert.AdamShardIdeal.nD Cert.AdamShardIdeal.τ).loc Cert.AdamShardIdeal.main_arg1)
          ∧ r.2.mem ((c.tc : Thread Cert.AdamShardIdeal.nD Cert.AdamShardIdeal.τ).loc Cert.AdamShardIdeal.main_arg2) = m ((c.tc : Thread Cert.AdamShardIdeal.nD Cert.AdamShardIdeal.τ).loc Cert.AdamShardIdeal.main_arg2)
          ∧ r.2.mem ((c.tc : Thread Cert.AdamShardIdeal.nD Cert.AdamShardIdeal.τ).loc Cert.AdamShardIdeal.main_arg3) = m ((c.tc : Thread Cert.AdamShardIdeal.nD Cert.AdamShardIdeal.τ).loc Cert.AdamShardIdeal.main_arg3))
      ∧ θ_run (Cert.AdamShardRefIdeal.defs (F := Ideal)) (onTc (τ := Cert.AdamShardRefIdeal.τ) (Cert.AdamShardRefIdeal.main (F := Ideal))) ⟨m', fun _ => 0, g'⟩ (fun r => ∀ c : Dev Cert.AdamShardRefIdeal.nD,
          r.2.mem ((c.tc : Thread Cert.AdamShardRefIdeal.nD Cert.AdamShardRefIdeal.τ).loc Cert.AdamShardRefIdeal.main_v1) = v0 c
          ∧ r.2.mem ((c.tc : Thread Cert.AdamShardRefIdeal.nD Cert.AdamShardRefIdeal.τ).loc Cert.AdamShardRefIdeal.main_v25) = v1 c
          ∧ r.2.mem ((c.tc : Thread Cert.AdamShardRefIdeal.nD Cert.AdamShardRefIdeal.τ).loc Cert.AdamShardRefIdeal.main_v6) = v2 c
          ∧ r.2.mem ((c.tc : Thread Cert.AdamShardRefIdeal.nD Cert.AdamShardRefIdeal.τ).loc Cert.AdamShardRefIdeal.main_v12) = v3 c
          ∧ r.2.mem ((c.tc : Thread Cert.AdamShardRefIdeal.nD Cert.AdamShardRefIdeal.τ).loc Cert.AdamShardRefIdeal.main_arg0) = m' ((c.tc : Thread Cert.AdamShardRefIdeal.nD Cert.AdamShardRefIdeal.τ).loc Cert.AdamShardRefIdeal.main_arg0)
          ∧ r.2.mem ((c.tc : Thread Cert.AdamShardRefIdeal.nD Cert.AdamShardRefIdeal.τ).loc Cert.AdamShardRefIdeal.main_arg1) = m' ((c.tc : Thread Cert.AdamShardRefIdeal.nD Cert.AdamShardRefIdeal.τ).loc Cert.AdamShardRefIdeal.main_arg1)
          ∧ r.2.mem ((c.tc : Thread Cert.AdamShardRefIdeal.nD Cert.AdamShardRefIdeal.τ).loc Cert.AdamShardRefIdeal.main_arg2) = m' ((c.tc : Thread Cert.AdamShardRefIdeal.nD Cert.AdamShardRefIdeal.τ).loc Cert.AdamShardRefIdeal.main_arg2)
          ∧ r.2.mem ((c.tc : Thread Cert.AdamShardRefIdeal.nD Cert.AdamShardRefIdeal.τ).loc Cert.AdamShardRefIdeal.main_arg3) = m' ((c.tc : Thread Cert.AdamShardRefIdeal.nD Cert.AdamShardRefIdeal.τ).loc Cert.AdamShardRefIdeal.main_arg3))

def preserves_GateBwdA_GateBwdAIdeal : Prop :=
  True

def algebraic_GateBwdAIdeal_GateBwdARefIdeal [hGateBwdAIdeal : Cert.GateBwdAIdeal.Facts] [hGateBwdARefIdeal : Cert.GateBwdARefIdeal.Facts] : Prop :=
  ∀ (m : (ℓ : Loc Cert.GateBwdAIdeal.nD Cert.GateBwdAIdeal.τ Cert.GateBwdAIdeal.sig) → Buf (Elt Ideal) ℓ) (g : Dev Cert.GateBwdAIdeal.nD → PrngReg)
    (m' : (ℓ : Loc Cert.GateBwdARefIdeal.nD Cert.GateBwdARefIdeal.τ Cert.GateBwdARefIdeal.sig) → Buf (Elt Ideal) ℓ) (g' : Dev Cert.GateBwdARefIdeal.nD → PrngReg), Pre_GateBwdAIdeal m →
    (∀ c : Dev Cert.GateBwdAIdeal.nD,
      m' ((c.tc : Thread Cert.GateBwdARefIdeal.nD Cert.GateBwdARefIdeal.τ).loc Cert.GateBwdARefIdeal.main_arg0) = m ((c.tc : Thread Cert.GateBwdAIdeal.nD Cert.GateBwdAIdeal.τ).loc Cert.GateBwdAIdeal.main_arg0)
      ∧ m' ((c.tc : Thread Cert.GateBwdARefIdeal.nD Cert.GateBwdARefIdeal.τ).loc Cert.GateBwdARefIdeal.main_arg1) = m ((c.tc : Thread Cert.GateBwdAIdeal.nD Cert.GateBwdAIdeal.τ).loc Cert.GateBwdAIdeal.main_arg1)) →
    ∃ (v0 : (c : Dev Cert.GateBwdAIdeal.nD) → Buf (Elt Ideal) ((c.tc : Thread Cert.GateBwdAIdeal.nD Cert.GateBwdAIdeal.τ).loc Cert.GateBwdAIdeal.main_v8)),
      θ_run (Cert.GateBwdAIdeal.defs (F := Ideal)) (onTc (τ := Cert.GateBwdAIdeal.τ) (Cert.GateBwdAIdeal.main (F := Ideal))) ⟨m, fun _ => 0, g⟩ (fun r => ∀ c : Dev Cert.GateBwdAIdeal.nD,
          r.2.mem ((c.tc : Thread Cert.GateBwdAIdeal.nD Cert.GateBwdAIdeal.τ).loc Cert.GateBwdAIdeal.main_v8) = v0 c
          ∧ r.2.mem ((c.tc : Thread Cert.GateBwdAIdeal.nD Cert.GateBwdAIdeal.τ).loc Cert.GateBwdAIdeal.main_arg0) = m ((c.tc : Thread Cert.GateBwdAIdeal.nD Cert.GateBwdAIdeal.τ).loc Cert.GateBwdAIdeal.main_arg0)
          ∧ r.2.mem ((c.tc : Thread Cert.GateBwdAIdeal.nD Cert.GateBwdAIdeal.τ).loc Cert.GateBwdAIdeal.main_arg1) = m ((c.tc : Thread Cert.GateBwdAIdeal.nD Cert.GateBwdAIdeal.τ).loc Cert.GateBwdAIdeal.main_arg1))
      ∧ θ_run (Cert.GateBwdARefIdeal.defs (F := Ideal)) (onTc (τ := Cert.GateBwdARefIdeal.τ) (Cert.GateBwdARefIdeal.main (F := Ideal))) ⟨m', fun _ => 0, g'⟩ (fun r => ∀ c : Dev Cert.GateBwdARefIdeal.nD,
          r.2.mem ((c.tc : Thread Cert.GateBwdARefIdeal.nD Cert.GateBwdARefIdeal.τ).loc Cert.GateBwdARefIdeal.main_v4) = v0 c
          ∧ r.2.mem ((c.tc : Thread Cert.GateBwdARefIdeal.nD Cert.GateBwdARefIdeal.τ).loc Cert.GateBwdARefIdeal.main_arg0) = m' ((c.tc : Thread Cert.GateBwdARefIdeal.nD Cert.GateBwdARefIdeal.τ).loc Cert.GateBwdARefIdeal.main_arg0)
          ∧ r.2.mem ((c.tc : Thread Cert.GateBwdARefIdeal.nD Cert.GateBwdARefIdeal.τ).loc Cert.GateBwdARefIdeal.main_arg1) = m' ((c.tc : Thread Cert.GateBwdARefIdeal.nD Cert.GateBwdARefIdeal.τ).loc Cert.GateBwdARefIdeal.main_arg1))

def preserves_BranchFwd_BranchFwdIdeal : Prop :=
  True

def algebraic_BranchFwdIdeal_BranchFwdRefIdeal [hBranchFwdIdeal : Cert.BranchFwdIdeal.Facts] [hBranchFwdRefIdeal : Cert.BranchFwdRefIdeal.Facts] : Prop :=
  ∀ (m : (ℓ : Loc Cert.BranchFwdIdeal.nD Cert.BranchFwdIdeal.τ Cert.BranchFwdIdeal.sig) → Buf (Elt Ideal) ℓ) (g : Dev Cert.BranchFwdIdeal.nD → PrngReg)
    (m' : (ℓ : Loc Cert.BranchFwdRefIdeal.nD Cert.BranchFwdRefIdeal.τ Cert.BranchFwdRefIdeal.sig) → Buf (Elt Ideal) ℓ) (g' : Dev Cert.BranchFwdRefIdeal.nD → PrngReg), Pre_BranchFwdIdeal m →
    (∀ c : Dev Cert.BranchFwdIdeal.nD,
      m' ((c.tc : Thread Cert.BranchFwdRefIdeal.nD Cert.BranchFwdRefIdeal.τ).loc Cert.BranchFwdRefIdeal.main_arg0) = m ((c.tc : Thread Cert.BranchFwdIdeal.nD Cert.BranchFwdIdeal.τ).loc Cert.BranchFwdIdeal.main_arg0)
      ∧ m' ((c.tc : Thread Cert.BranchFwdRefIdeal.nD Cert.BranchFwdRefIdeal.τ).loc Cert.BranchFwdRefIdeal.main_arg1) = m ((c.tc : Thread Cert.BranchFwdIdeal.nD Cert.BranchFwdIdeal.τ).loc Cert.BranchFwdIdeal.main_arg1)) →
    ∃ (v0 : (c : Dev Cert.BranchFwdIdeal.nD) → Buf (Elt Ideal) ((c.tc : Thread Cert.BranchFwdIdeal.nD Cert.BranchFwdIdeal.τ).loc Cert.BranchFwdIdeal.main_v3)),
      θ_run (Cert.BranchFwdIdeal.defs (F := Ideal)) (onTc (τ := Cert.BranchFwdIdeal.τ) (Cert.BranchFwdIdeal.main (F := Ideal))) ⟨m, fun _ => 0, g⟩ (fun r => ∀ c : Dev Cert.BranchFwdIdeal.nD,
          r.2.mem ((c.tc : Thread Cert.BranchFwdIdeal.nD Cert.BranchFwdIdeal.τ).loc Cert.BranchFwdIdeal.main_v3) = v0 c
          ∧ r.2.mem ((c.tc : Thread Cert.BranchFwdIdeal.nD Cert.BranchFwdIdeal.τ).loc Cert.BranchFwdIdeal.main_arg0) = m ((c.tc : Thread Cert.BranchFwdIdeal.nD Cert.BranchFwdIdeal.τ).loc Cert.BranchFwdIdeal.main_arg0)
          ∧ r.2.mem ((c.tc : Thread Cert.BranchFwdIdeal.nD Cert.BranchFwdIdeal.τ).loc Cert.BranchFwdIdeal.main_arg1) = m ((c.tc : Thread Cert.BranchFwdIdeal.nD Cert.BranchFwdIdeal.τ).loc Cert.BranchFwdIdeal.main_arg1))
      ∧ θ_run (Cert.BranchFwdRefIdeal.defs (F := Ideal)) (onTc (τ := Cert.BranchFwdRefIdeal.τ) (Cert.BranchFwdRefIdeal.main (F := Ideal))) ⟨m', fun _ => 0, g'⟩ (fun r => ∀ c : Dev Cert.BranchFwdRefIdeal.nD,
          r.2.mem ((c.tc : Thread Cert.BranchFwdRefIdeal.nD Cert.BranchFwdRefIdeal.τ).loc Cert.BranchFwdRefIdeal.main_v2) = v0 c
          ∧ r.2.mem ((c.tc : Thread Cert.BranchFwdRefIdeal.nD Cert.BranchFwdRefIdeal.τ).loc Cert.BranchFwdRefIdeal.main_arg0) = m' ((c.tc : Thread Cert.BranchFwdRefIdeal.nD Cert.BranchFwdRefIdeal.τ).loc Cert.BranchFwdRefIdeal.main_arg0)
          ∧ r.2.mem ((c.tc : Thread Cert.BranchFwdRefIdeal.nD Cert.BranchFwdRefIdeal.τ).loc Cert.BranchFwdRefIdeal.main_arg1) = m' ((c.tc : Thread Cert.BranchFwdRefIdeal.nD Cert.BranchFwdRefIdeal.τ).loc Cert.BranchFwdRefIdeal.main_arg1))

def preserves_BranchBwdA_BranchBwdAIdeal : Prop :=
  True

def algebraic_BranchBwdAIdeal_BranchBwdARefIdeal [hBranchBwdAIdeal : Cert.BranchBwdAIdeal.Facts] [hBranchBwdARefIdeal : Cert.BranchBwdARefIdeal.Facts] : Prop :=
  ∀ (m : (ℓ : Loc Cert.BranchBwdAIdeal.nD Cert.BranchBwdAIdeal.τ Cert.BranchBwdAIdeal.sig) → Buf (Elt Ideal) ℓ) (g : Dev Cert.BranchBwdAIdeal.nD → PrngReg)
    (m' : (ℓ : Loc Cert.BranchBwdARefIdeal.nD Cert.BranchBwdARefIdeal.τ Cert.BranchBwdARefIdeal.sig) → Buf (Elt Ideal) ℓ) (g' : Dev Cert.BranchBwdARefIdeal.nD → PrngReg), Pre_BranchBwdAIdeal m →
    (∀ c : Dev Cert.BranchBwdAIdeal.nD,
      m' ((c.tc : Thread Cert.BranchBwdARefIdeal.nD Cert.BranchBwdARefIdeal.τ).loc Cert.BranchBwdARefIdeal.main_arg0) = m ((c.tc : Thread Cert.BranchBwdAIdeal.nD Cert.BranchBwdAIdeal.τ).loc Cert.BranchBwdAIdeal.main_arg0)
      ∧ m' ((c.tc : Thread Cert.BranchBwdARefIdeal.nD Cert.BranchBwdARefIdeal.τ).loc Cert.BranchBwdARefIdeal.main_arg1) = m ((c.tc : Thread Cert.BranchBwdAIdeal.nD Cert.BranchBwdAIdeal.τ).loc Cert.BranchBwdAIdeal.main_arg1)) →
    ∃ (v0 : (c : Dev Cert.BranchBwdAIdeal.nD) → Buf (Elt Ideal) ((c.tc : Thread Cert.BranchBwdAIdeal.nD Cert.BranchBwdAIdeal.τ).loc Cert.BranchBwdAIdeal.main_v3)),
      θ_run (Cert.BranchBwdAIdeal.defs (F := Ideal)) (onTc (τ := Cert.BranchBwdAIdeal.τ) (Cert.BranchBwdAIdeal.main (F := Ideal))) ⟨m, fun _ => 0, g⟩ (fun r => ∀ c : Dev Cert.BranchBwdAIdeal.nD,
          r.2.mem ((c.tc : Thread Cert.BranchBwdAIdeal.nD Cert.BranchBwdAIdeal.τ).loc Cert.BranchBwdAIdeal.main_v3) = v0 c
          ∧ r.2.mem ((c.tc : Thread Cert.BranchBwdAIdeal.nD Cert.BranchBwdAIdeal.τ).loc Cert.BranchBwdAIdeal.main_arg0) = m ((c.tc : Thread Cert.BranchBwdAIdeal.nD Cert.BranchBwdAIdeal.τ).loc Cert.BranchBwdAIdeal.main_arg0)
          ∧ r.2.mem ((c.tc : Thread Cert.BranchBwdAIdeal.nD Cert.BranchBwdAIdeal.τ).loc Cert.BranchBwdAIdeal.main_arg1) = m ((c.tc : Thread Cert.BranchBwdAIdeal.nD Cert.BranchBwdAIdeal.τ).loc Cert.BranchBwdAIdeal.main_arg1))
      ∧ θ_run (Cert.BranchBwdARefIdeal.defs (F := Ideal)) (onTc (τ := Cert.BranchBwdARefIdeal.τ) (Cert.BranchBwdARefIdeal.main (F := Ideal))) ⟨m', fun _ => 0, g'⟩ (fun r => ∀ c : Dev Cert.BranchBwdARefIdeal.nD,
          r.2.mem ((c.tc : Thread Cert.BranchBwdARefIdeal.nD Cert.BranchBwdARefIdeal.τ).loc Cert.BranchBwdARefIdeal.main_v4) = v0 c
          ∧ r.2.mem ((c.tc : Thread Cert.BranchBwdARefIdeal.nD Cert.BranchBwdARefIdeal.τ).loc Cert.BranchBwdARefIdeal.main_arg0) = m' ((c.tc : Thread Cert.BranchBwdARefIdeal.nD Cert.BranchBwdARefIdeal.τ).loc Cert.BranchBwdARefIdeal.main_arg0)
          ∧ r.2.mem ((c.tc : Thread Cert.BranchBwdARefIdeal.nD Cert.BranchBwdARefIdeal.τ).loc Cert.BranchBwdARefIdeal.main_arg1) = m' ((c.tc : Thread Cert.BranchBwdARefIdeal.nD Cert.BranchBwdARefIdeal.τ).loc Cert.BranchBwdARefIdeal.main_arg1))

def preserves_GateBwdW_GateBwdWIdeal : Prop :=
  True

def algebraic_GateBwdWIdeal_GateBwdWRefIdeal [hGateBwdWIdeal : Cert.GateBwdWIdeal.Facts] [hGateBwdWRefIdeal : Cert.GateBwdWRefIdeal.Facts] : Prop :=
  ∀ (m : (ℓ : Loc Cert.GateBwdWIdeal.nD Cert.GateBwdWIdeal.τ Cert.GateBwdWIdeal.sig) → Buf (Elt Ideal) ℓ) (g : Dev Cert.GateBwdWIdeal.nD → PrngReg)
    (m' : (ℓ : Loc Cert.GateBwdWRefIdeal.nD Cert.GateBwdWRefIdeal.τ Cert.GateBwdWRefIdeal.sig) → Buf (Elt Ideal) ℓ) (g' : Dev Cert.GateBwdWRefIdeal.nD → PrngReg), Pre_GateBwdWIdeal m →
    (∀ c : Dev Cert.GateBwdWIdeal.nD,
      m' ((c.tc : Thread Cert.GateBwdWRefIdeal.nD Cert.GateBwdWRefIdeal.τ).loc Cert.GateBwdWRefIdeal.main_arg0) = m ((c.tc : Thread Cert.GateBwdWIdeal.nD Cert.GateBwdWIdeal.τ).loc Cert.GateBwdWIdeal.main_arg0)
      ∧ m' ((c.tc : Thread Cert.GateBwdWRefIdeal.nD Cert.GateBwdWRefIdeal.τ).loc Cert.GateBwdWRefIdeal.main_arg1) = m ((c.tc : Thread Cert.GateBwdWIdeal.nD Cert.GateBwdWIdeal.τ).loc Cert.GateBwdWIdeal.main_arg1)) →
    ∃ (v0 : (c : Dev Cert.GateBwdWIdeal.nD) → Buf (Elt Ideal) ((c.tc : Thread Cert.GateBwdWIdeal.nD Cert.GateBwdWIdeal.τ).loc Cert.GateBwdWIdeal.main_v5)),
      θ_run (Cert.GateBwdWIdeal.defs (F := Ideal)) (onTc (τ := Cert.GateBwdWIdeal.τ) (Cert.GateBwdWIdeal.main (F := Ideal))) ⟨m, fun _ => 0, g⟩ (fun r => ∀ c : Dev Cert.GateBwdWIdeal.nD,
          r.2.mem ((c.tc : Thread Cert.GateBwdWIdeal.nD Cert.GateBwdWIdeal.τ).loc Cert.GateBwdWIdeal.main_v5) = v0 c
          ∧ r.2.mem ((c.tc : Thread Cert.GateBwdWIdeal.nD Cert.GateBwdWIdeal.τ).loc Cert.GateBwdWIdeal.main_arg0) = m ((c.tc : Thread Cert.GateBwdWIdeal.nD Cert.GateBwdWIdeal.τ).loc Cert.GateBwdWIdeal.main_arg0)
          ∧ r.2.mem ((c.tc : Thread Cert.GateBwdWIdeal.nD Cert.GateBwdWIdeal.τ).loc Cert.GateBwdWIdeal.main_arg1) = m ((c.tc : Thread Cert.GateBwdWIdeal.nD Cert.GateBwdWIdeal.τ).loc Cert.GateBwdWIdeal.main_arg1))
      ∧ θ_run (Cert.GateBwdWRefIdeal.defs (F := Ideal)) (onTc (τ := Cert.GateBwdWRefIdeal.τ) (Cert.GateBwdWRefIdeal.main (F := Ideal))) ⟨m', fun _ => 0, g'⟩ (fun r => ∀ c : Dev Cert.GateBwdWRefIdeal.nD,
          r.2.mem ((c.tc : Thread Cert.GateBwdWRefIdeal.nD Cert.GateBwdWRefIdeal.τ).loc Cert.GateBwdWRefIdeal.main_v8) = v0 c
          ∧ r.2.mem ((c.tc : Thread Cert.GateBwdWRefIdeal.nD Cert.GateBwdWRefIdeal.τ).loc Cert.GateBwdWRefIdeal.main_arg0) = m' ((c.tc : Thread Cert.GateBwdWRefIdeal.nD Cert.GateBwdWRefIdeal.τ).loc Cert.GateBwdWRefIdeal.main_arg0)
          ∧ r.2.mem ((c.tc : Thread Cert.GateBwdWRefIdeal.nD Cert.GateBwdWRefIdeal.τ).loc Cert.GateBwdWRefIdeal.main_arg1) = m' ((c.tc : Thread Cert.GateBwdWRefIdeal.nD Cert.GateBwdWRefIdeal.τ).loc Cert.GateBwdWRefIdeal.main_arg1))

def preserves_UpBwdW_UpBwdWIdeal : Prop :=
  True

def algebraic_UpBwdWIdeal_UpBwdWRefIdeal [hUpBwdWIdeal : Cert.UpBwdWIdeal.Facts] [hUpBwdWRefIdeal : Cert.UpBwdWRefIdeal.Facts] : Prop :=
  ∀ (m : (ℓ : Loc Cert.UpBwdWIdeal.nD Cert.UpBwdWIdeal.τ Cert.UpBwdWIdeal.sig) → Buf (Elt Ideal) ℓ) (g : Dev Cert.UpBwdWIdeal.nD → PrngReg)
    (m' : (ℓ : Loc Cert.UpBwdWRefIdeal.nD Cert.UpBwdWRefIdeal.τ Cert.UpBwdWRefIdeal.sig) → Buf (Elt Ideal) ℓ) (g' : Dev Cert.UpBwdWRefIdeal.nD → PrngReg), Pre_UpBwdWIdeal m →
    (∀ c : Dev Cert.UpBwdWIdeal.nD,
      m' ((c.tc : Thread Cert.UpBwdWRefIdeal.nD Cert.UpBwdWRefIdeal.τ).loc Cert.UpBwdWRefIdeal.main_arg0) = m ((c.tc : Thread Cert.UpBwdWIdeal.nD Cert.UpBwdWIdeal.τ).loc Cert.UpBwdWIdeal.main_arg0)
      ∧ m' ((c.tc : Thread Cert.UpBwdWRefIdeal.nD Cert.UpBwdWRefIdeal.τ).loc Cert.UpBwdWRefIdeal.main_arg1) = m ((c.tc : Thread Cert.UpBwdWIdeal.nD Cert.UpBwdWIdeal.τ).loc Cert.UpBwdWIdeal.main_arg1)
      ∧ m' ((c.tc : Thread Cert.UpBwdWRefIdeal.nD Cert.UpBwdWRefIdeal.τ).loc Cert.UpBwdWRefIdeal.main_arg2) = m ((c.tc : Thread Cert.UpBwdWIdeal.nD Cert.UpBwdWIdeal.τ).loc Cert.UpBwdWIdeal.main_arg2)) →
    ∃ (v0 : (c : Dev Cert.UpBwdWIdeal.nD) → Buf (Elt Ideal) ((c.tc : Thread Cert.UpBwdWIdeal.nD Cert.UpBwdWIdeal.τ).loc Cert.UpBwdWIdeal.main_v7)),
      θ_run (Cert.UpBwdWIdeal.defs (F := Ideal)) (onTc (τ := Cert.UpBwdWIdeal.τ) (Cert.UpBwdWIdeal.main (F := Ideal))) ⟨m, fun _ => 0, g⟩ (fun r => ∀ c : Dev Cert.UpBwdWIdeal.nD,
          r.2.mem ((c.tc : Thread Cert.UpBwdWIdeal.nD Cert.UpBwdWIdeal.τ).loc Cert.UpBwdWIdeal.main_v7) = v0 c
          ∧ r.2.mem ((c.tc : Thread Cert.UpBwdWIdeal.nD Cert.UpBwdWIdeal.τ).loc Cert.UpBwdWIdeal.main_arg0) = m ((c.tc : Thread Cert.UpBwdWIdeal.nD Cert.UpBwdWIdeal.τ).loc Cert.UpBwdWIdeal.main_arg0)
          ∧ r.2.mem ((c.tc : Thread Cert.UpBwdWIdeal.nD Cert.UpBwdWIdeal.τ).loc Cert.UpBwdWIdeal.main_arg1) = m ((c.tc : Thread Cert.UpBwdWIdeal.nD Cert.UpBwdWIdeal.τ).loc Cert.UpBwdWIdeal.main_arg1)
          ∧ r.2.mem ((c.tc : Thread Cert.UpBwdWIdeal.nD Cert.UpBwdWIdeal.τ).loc Cert.UpBwdWIdeal.main_arg2) = m ((c.tc : Thread Cert.UpBwdWIdeal.nD Cert.UpBwdWIdeal.τ).loc Cert.UpBwdWIdeal.main_arg2))
      ∧ θ_run (Cert.UpBwdWRefIdeal.defs (F := Ideal)) (onTc (τ := Cert.UpBwdWRefIdeal.τ) (Cert.UpBwdWRefIdeal.main (F := Ideal))) ⟨m', fun _ => 0, g'⟩ (fun r => ∀ c : Dev Cert.UpBwdWRefIdeal.nD,
          r.2.mem ((c.tc : Thread Cert.UpBwdWRefIdeal.nD Cert.UpBwdWRefIdeal.τ).loc Cert.UpBwdWRefIdeal.main_v18) = v0 c
          ∧ r.2.mem ((c.tc : Thread Cert.UpBwdWRefIdeal.nD Cert.UpBwdWRefIdeal.τ).loc Cert.UpBwdWRefIdeal.main_arg0) = m' ((c.tc : Thread Cert.UpBwdWRefIdeal.nD Cert.UpBwdWRefIdeal.τ).loc Cert.UpBwdWRefIdeal.main_arg0)
          ∧ r.2.mem ((c.tc : Thread Cert.UpBwdWRefIdeal.nD Cert.UpBwdWRefIdeal.τ).loc Cert.UpBwdWRefIdeal.main_arg1) = m' ((c.tc : Thread Cert.UpBwdWRefIdeal.nD Cert.UpBwdWRefIdeal.τ).loc Cert.UpBwdWRefIdeal.main_arg1)
          ∧ r.2.mem ((c.tc : Thread Cert.UpBwdWRefIdeal.nD Cert.UpBwdWRefIdeal.τ).loc Cert.UpBwdWRefIdeal.main_arg2) = m' ((c.tc : Thread Cert.UpBwdWRefIdeal.nD Cert.UpBwdWRefIdeal.τ).loc Cert.UpBwdWRefIdeal.main_arg2))

def preserves_UpBwdH_UpBwdHIdeal : Prop :=
  True

def algebraic_UpBwdHIdeal_UpBwdHRefIdeal [hUpBwdHIdeal : Cert.UpBwdHIdeal.Facts] [hUpBwdHRefIdeal : Cert.UpBwdHRefIdeal.Facts] : Prop :=
  ∀ (m : (ℓ : Loc Cert.UpBwdHIdeal.nD Cert.UpBwdHIdeal.τ Cert.UpBwdHIdeal.sig) → Buf (Elt Ideal) ℓ) (g : Dev Cert.UpBwdHIdeal.nD → PrngReg)
    (m' : (ℓ : Loc Cert.UpBwdHRefIdeal.nD Cert.UpBwdHRefIdeal.τ Cert.UpBwdHRefIdeal.sig) → Buf (Elt Ideal) ℓ) (g' : Dev Cert.UpBwdHRefIdeal.nD → PrngReg), Pre_UpBwdHIdeal m →
    (∀ c : Dev Cert.UpBwdHIdeal.nD,
      m' ((c.tc : Thread Cert.UpBwdHRefIdeal.nD Cert.UpBwdHRefIdeal.τ).loc Cert.UpBwdHRefIdeal.main_arg0) = m ((c.tc : Thread Cert.UpBwdHIdeal.nD Cert.UpBwdHIdeal.τ).loc Cert.UpBwdHIdeal.main_arg0)
      ∧ m' ((c.tc : Thread Cert.UpBwdHRefIdeal.nD Cert.UpBwdHRefIdeal.τ).loc Cert.UpBwdHRefIdeal.main_arg1) = m ((c.tc : Thread Cert.UpBwdHIdeal.nD Cert.UpBwdHIdeal.τ).loc Cert.UpBwdHIdeal.main_arg1)
      ∧ m' ((c.tc : Thread Cert.UpBwdHRefIdeal.nD Cert.UpBwdHRefIdeal.τ).loc Cert.UpBwdHRefIdeal.main_arg2) = m ((c.tc : Thread Cert.UpBwdHIdeal.nD Cert.UpBwdHIdeal.τ).loc Cert.UpBwdHIdeal.main_arg2)
      ∧ m' ((c.tc : Thread Cert.UpBwdHRefIdeal.nD Cert.UpBwdHRefIdeal.τ).loc Cert.UpBwdHRefIdeal.main_arg3) = m ((c.tc : Thread Cert.UpBwdHIdeal.nD Cert.UpBwdHIdeal.τ).loc Cert.UpBwdHIdeal.main_arg3)) →
    ∃ (v0 : (c : Dev Cert.UpBwdHIdeal.nD) → Buf (Elt Ideal) ((c.tc : Thread Cert.UpBwdHIdeal.nD Cert.UpBwdHIdeal.τ).loc Cert.UpBwdHIdeal.main_v18)),
      θ_run (Cert.UpBwdHIdeal.defs (F := Ideal)) (onTc (τ := Cert.UpBwdHIdeal.τ) (Cert.UpBwdHIdeal.main (F := Ideal))) ⟨m, fun _ => 0, g⟩ (fun r => ∀ c : Dev Cert.UpBwdHIdeal.nD,
          r.2.mem ((c.tc : Thread Cert.UpBwdHIdeal.nD Cert.UpBwdHIdeal.τ).loc Cert.UpBwdHIdeal.main_v18) = v0 c
          ∧ r.2.mem ((c.tc : Thread Cert.UpBwdHIdeal.nD Cert.UpBwdHIdeal.τ).loc Cert.UpBwdHIdeal.main_arg0) = m ((c.tc : Thread Cert.UpBwdHIdeal.nD Cert.UpBwdHIdeal.τ).loc Cert.UpBwdHIdeal.main_arg0)
          ∧ r.2.mem ((c.tc : Thread Cert.UpBwdHIdeal.nD Cert.UpBwdHIdeal.τ).loc Cert.UpBwdHIdeal.main_arg1) = m ((c.tc : Thread Cert.UpBwdHIdeal.nD Cert.UpBwdHIdeal.τ).loc Cert.UpBwdHIdeal.main_arg1)
          ∧ r.2.mem ((c.tc : Thread Cert.UpBwdHIdeal.nD Cert.UpBwdHIdeal.τ).loc Cert.UpBwdHIdeal.main_arg2) = m ((c.tc : Thread Cert.UpBwdHIdeal.nD Cert.UpBwdHIdeal.τ).loc Cert.UpBwdHIdeal.main_arg2)
          ∧ r.2.mem ((c.tc : Thread Cert.UpBwdHIdeal.nD Cert.UpBwdHIdeal.τ).loc Cert.UpBwdHIdeal.main_arg3) = m ((c.tc : Thread Cert.UpBwdHIdeal.nD Cert.UpBwdHIdeal.τ).loc Cert.UpBwdHIdeal.main_arg3))
      ∧ θ_run (Cert.UpBwdHRefIdeal.defs (F := Ideal)) (onTc (τ := Cert.UpBwdHRefIdeal.τ) (Cert.UpBwdHRefIdeal.main (F := Ideal))) ⟨m', fun _ => 0, g'⟩ (fun r => ∀ c : Dev Cert.UpBwdHRefIdeal.nD,
          r.2.mem ((c.tc : Thread Cert.UpBwdHRefIdeal.nD Cert.UpBwdHRefIdeal.τ).loc Cert.UpBwdHRefIdeal.main_v8) = v0 c
          ∧ r.2.mem ((c.tc : Thread Cert.UpBwdHRefIdeal.nD Cert.UpBwdHRefIdeal.τ).loc Cert.UpBwdHRefIdeal.main_arg0) = m' ((c.tc : Thread Cert.UpBwdHRefIdeal.nD Cert.UpBwdHRefIdeal.τ).loc Cert.UpBwdHRefIdeal.main_arg0)
          ∧ r.2.mem ((c.tc : Thread Cert.UpBwdHRefIdeal.nD Cert.UpBwdHRefIdeal.τ).loc Cert.UpBwdHRefIdeal.main_arg1) = m' ((c.tc : Thread Cert.UpBwdHRefIdeal.nD Cert.UpBwdHRefIdeal.τ).loc Cert.UpBwdHRefIdeal.main_arg1)
          ∧ r.2.mem ((c.tc : Thread Cert.UpBwdHRefIdeal.nD Cert.UpBwdHRefIdeal.τ).loc Cert.UpBwdHRefIdeal.main_arg2) = m' ((c.tc : Thread Cert.UpBwdHRefIdeal.nD Cert.UpBwdHRefIdeal.τ).loc Cert.UpBwdHRefIdeal.main_arg2)
          ∧ r.2.mem ((c.tc : Thread Cert.UpBwdHRefIdeal.nD Cert.UpBwdHRefIdeal.τ).loc Cert.UpBwdHRefIdeal.main_arg3) = m' ((c.tc : Thread Cert.UpBwdHRefIdeal.nD Cert.UpBwdHRefIdeal.τ).loc Cert.UpBwdHRefIdeal.main_arg3))

def preserves_DownBwdW_DownBwdWIdeal : Prop :=
  True

def algebraic_DownBwdWIdeal_DownBwdWRefIdeal [hDownBwdWIdeal : Cert.DownBwdWIdeal.Facts] [hDownBwdWRefIdeal : Cert.DownBwdWRefIdeal.Facts] : Prop :=
  ∀ (m : (ℓ : Loc Cert.DownBwdWIdeal.nD Cert.DownBwdWIdeal.τ Cert.DownBwdWIdeal.sig) → Buf (Elt Ideal) ℓ) (g : Dev Cert.DownBwdWIdeal.nD → PrngReg)
    (m' : (ℓ : Loc Cert.DownBwdWRefIdeal.nD Cert.DownBwdWRefIdeal.τ Cert.DownBwdWRefIdeal.sig) → Buf (Elt Ideal) ℓ) (g' : Dev Cert.DownBwdWRefIdeal.nD → PrngReg), Pre_DownBwdWIdeal m →
    (∀ c : Dev Cert.DownBwdWIdeal.nD,
      m' ((c.tc : Thread Cert.DownBwdWRefIdeal.nD Cert.DownBwdWRefIdeal.τ).loc Cert.DownBwdWRefIdeal.main_arg0) = m ((c.tc : Thread Cert.DownBwdWIdeal.nD Cert.DownBwdWIdeal.τ).loc Cert.DownBwdWIdeal.main_arg0)
      ∧ m' ((c.tc : Thread Cert.DownBwdWRefIdeal.nD Cert.DownBwdWRefIdeal.τ).loc Cert.DownBwdWRefIdeal.main_arg1) = m ((c.tc : Thread Cert.DownBwdWIdeal.nD Cert.DownBwdWIdeal.τ).loc Cert.DownBwdWIdeal.main_arg1)) →
    ∃ (v0 : (c : Dev Cert.DownBwdWIdeal.nD) → Buf (Elt Ideal) ((c.tc : Thread Cert.DownBwdWIdeal.nD Cert.DownBwdWIdeal.τ).loc Cert.DownBwdWIdeal.main_v3)),
      θ_run (Cert.DownBwdWIdeal.defs (F := Ideal)) (onTc (τ := Cert.DownBwdWIdeal.τ) (Cert.DownBwdWIdeal.main (F := Ideal))) ⟨m, fun _ => 0, g⟩ (fun r => ∀ c : Dev Cert.DownBwdWIdeal.nD,
          r.2.mem ((c.tc : Thread Cert.DownBwdWIdeal.nD Cert.DownBwdWIdeal.τ).loc Cert.DownBwdWIdeal.main_v3) = v0 c
          ∧ r.2.mem ((c.tc : Thread Cert.DownBwdWIdeal.nD Cert.DownBwdWIdeal.τ).loc Cert.DownBwdWIdeal.main_arg0) = m ((c.tc : Thread Cert.DownBwdWIdeal.nD Cert.DownBwdWIdeal.τ).loc Cert.DownBwdWIdeal.main_arg0)
          ∧ r.2.mem ((c.tc : Thread Cert.DownBwdWIdeal.nD Cert.DownBwdWIdeal.τ).loc Cert.DownBwdWIdeal.main_arg1) = m ((c.tc : Thread Cert.DownBwdWIdeal.nD Cert.DownBwdWIdeal.τ).loc Cert.DownBwdWIdeal.main_arg1))
      ∧ θ_run (Cert.DownBwdWRefIdeal.defs (F := Ideal)) (onTc (τ := Cert.DownBwdWRefIdeal.τ) (Cert.DownBwdWRefIdeal.main (F := Ideal))) ⟨m', fun _ => 0, g'⟩ (fun r => ∀ c : Dev Cert.DownBwdWRefIdeal.nD,
          r.2.mem ((c.tc : Thread Cert.DownBwdWRefIdeal.nD Cert.DownBwdWRefIdeal.τ).loc Cert.DownBwdWRefIdeal.main_v10) = v0 c
          ∧ r.2.mem ((c.tc : Thread Cert.DownBwdWRefIdeal.nD Cert.DownBwdWRefIdeal.τ).loc Cert.DownBwdWRefIdeal.main_arg0) = m' ((c.tc : Thread Cert.DownBwdWRefIdeal.nD Cert.DownBwdWRefIdeal.τ).loc Cert.DownBwdWRefIdeal.main_arg0)
          ∧ r.2.mem ((c.tc : Thread Cert.DownBwdWRefIdeal.nD Cert.DownBwdWRefIdeal.τ).loc Cert.DownBwdWRefIdeal.main_arg1) = m' ((c.tc : Thread Cert.DownBwdWRefIdeal.nD Cert.DownBwdWRefIdeal.τ).loc Cert.DownBwdWRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v24) = v1 c
          ∧ r.2.mem ((c.tc : Thread Cert.AdamSmallRefIdeal.nD Cert.AdamSmallRefIdeal.τ).loc Cert.AdamSmallRefIdeal.main_v5) = v2 c
          ∧ r.2.mem ((c.tc : Thread Cert.AdamSmallRefIdeal.nD Cert.AdamSmallRefIdeal.τ).loc Cert.AdamSmallRefIdeal.main_v11) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hRmsBwd : Cert.RmsBwd.Facts) (hRmsBwdIdeal : Cert.RmsBwdIdeal.Facts) (hRmsBwdRefIdeal : Cert.RmsBwdRefIdeal.Facts) (hLossHead : Cert.LossHead.Facts) (hLossHeadIdeal : Cert.LossHeadIdeal.Facts) (hLossHeadRefIdeal : Cert.LossHeadRefIdeal.Facts) (hMergeBwd : Cert.MergeBwd.Facts) (hMergeBwdIdeal : Cert.MergeBwdIdeal.Facts) (hMergeBwdRefIdeal : Cert.MergeBwdRefIdeal.Facts) (hPrepBwd : Cert.PrepBwd.Facts) (hPrepBwdIdeal : Cert.PrepBwdIdeal.Facts) (hPrepBwdRefIdeal : Cert.PrepBwdRefIdeal.Facts) (hSwigluBwd : Cert.SwigluBwd.Facts) (hSwigluBwdIdeal : Cert.SwigluBwdIdeal.Facts) (hSwigluBwdRefIdeal : Cert.SwigluBwdRefIdeal.Facts) (hSguBwd : Cert.SguBwd.Facts) (hSguBwdIdeal : Cert.SguBwdIdeal.Facts) (hSguBwdRefIdeal : Cert.SguBwdRefIdeal.Facts) (hRmsFwd : Cert.RmsFwd.Facts) (hRmsFwdIdeal : Cert.RmsFwdIdeal.Facts) (hRmsFwdRefIdeal : Cert.RmsFwdRefIdeal.Facts) (hMergeFwd : Cert.MergeFwd.Facts) (hMergeFwdIdeal : Cert.MergeFwdIdeal.Facts) (hMergeFwdRefIdeal : Cert.MergeFwdRefIdeal.Facts) (hPrepFwd : Cert.PrepFwd.Facts) (hPrepFwdIdeal : Cert.PrepFwdIdeal.Facts) (hPrepFwdRefIdeal : Cert.PrepFwdRefIdeal.Facts) (hPowers : Cert.Powers.Facts) (hPowersIdeal : Cert.PowersIdeal.Facts) (hPowersRefIdeal : Cert.PowersRefIdeal.Facts) (hSwigluFwd : Cert.SwigluFwd.Facts) (hSwigluFwdIdeal : Cert.SwigluFwdIdeal.Facts) (hSwigluFwdRefIdeal : Cert.SwigluFwdRefIdeal.Facts) (hSguFwd : Cert.SguFwd.Facts) (hSguFwdIdeal : Cert.SguFwdIdeal.Facts) (hSguFwdRefIdeal : Cert.SguFwdRefIdeal.Facts) (hOutBwdW : Cert.OutBwdW.Facts) (hOutBwdWIdeal : Cert.OutBwdWIdeal.Facts) (hOutBwdWRefIdeal : Cert.OutBwdWRefIdeal.Facts) (hOutBwdA : Cert.OutBwdA.Facts) (hOutBwdAIdeal : Cert.OutBwdAIdeal.Facts) (hOutBwdARefIdeal : Cert.OutBwdARefIdeal.Facts) (hOutFwd : Cert.OutFwd.Facts) (hOutFwdIdeal : Cert.OutFwdIdeal.Facts) (hOutFwdRefIdeal : Cert.OutFwdRefIdeal.Facts) (hInFwd : Cert.InFwd.Facts) (hInFwdIdeal : Cert.InFwdIdeal.Facts) (hInFwdRefIdeal : Cert.InFwdRefIdeal.Facts) (hInBwdA : Cert.InBwdA.Facts) (hInBwdAIdeal : Cert.InBwdAIdeal.Facts) (hInBwdARefIdeal : Cert.InBwdARefIdeal.Facts) (hDownFwd : Cert.DownFwd.Facts) (hDownFwdIdeal : Cert.DownFwdIdeal.Facts) (hDownFwdRefIdeal : Cert.DownFwdRefIdeal.Facts) (hInBwdW : Cert.InBwdW.Facts) (hInBwdWIdeal : Cert.InBwdWIdeal.Facts) (hInBwdWRefIdeal : Cert.InBwdWRefIdeal.Facts) (hGateFwd : Cert.GateFwd.Facts) (hGateFwdIdeal : Cert.GateFwdIdeal.Facts) (hGateFwdRefIdeal : Cert.GateFwdRefIdeal.Facts) (hAdamShard : Cert.AdamShard.Facts) (hAdamShardIdeal : Cert.AdamShardIdeal.Facts) (hAdamShardRefIdeal : Cert.AdamShardRefIdeal.Facts) (hGateBwdA : Cert.GateBwdA.Facts) (hGateBwdAIdeal : Cert.GateBwdAIdeal.Facts) (hGateBwdARefIdeal : Cert.GateBwdARefIdeal.Facts) (hBranchFwd : Cert.BranchFwd.Facts) (hBranchFwdIdeal : Cert.BranchFwdIdeal.Facts) (hBranchFwdRefIdeal : Cert.BranchFwdRefIdeal.Facts) (hBranchBwdA : Cert.BranchBwdA.Facts) (hBranchBwdAIdeal : Cert.BranchBwdAIdeal.Facts) (hBranchBwdARefIdeal : Cert.BranchBwdARefIdeal.Facts) (hGateBwdW : Cert.GateBwdW.Facts) (hGateBwdWIdeal : Cert.GateBwdWIdeal.Facts) (hGateBwdWRefIdeal : Cert.GateBwdWRefIdeal.Facts) (hUpBwdW : Cert.UpBwdW.Facts) (hUpBwdWIdeal : Cert.UpBwdWIdeal.Facts) (hUpBwdWRefIdeal : Cert.UpBwdWRefIdeal.Facts) (hUpBwdH : Cert.UpBwdH.Facts) (hUpBwdHIdeal : Cert.UpBwdHIdeal.Facts) (hUpBwdHRefIdeal : Cert.UpBwdHRefIdeal.Facts) (hDownBwdW : Cert.DownBwdW.Facts) (hDownBwdWIdeal : Cert.DownBwdWIdeal.Facts) (hDownBwdWRefIdeal : Cert.DownBwdWRefIdeal.Facts) (hAdamSmall : Cert.AdamSmall.Facts) (hAdamSmallIdeal : Cert.AdamSmallIdeal.Facts) (hAdamSmallRefIdeal : Cert.AdamSmallRefIdeal.Facts) (hPre_rms_finite : Cert.Pre_rms_finite.Facts) (hPre_loss_finite : Cert.Pre_loss_finite.Facts) (hPre_swiglu_finite : Cert.Pre_swiglu_finite.Facts) (hPre_sgu_finite : Cert.Pre_sgu_finite.Facts) (hPre_powers_finite : Cert.Pre_powers_finite.Facts),
    quiescent_RmsBwd (hRmsBwd := hRmsBwd)
    ∧ quiescent_RmsBwdIdeal (hRmsBwdIdeal := hRmsBwdIdeal)
    ∧ quiescent_RmsBwdIdeal_pre_rms_finite (hRmsBwdIdeal := hRmsBwdIdeal) (hPre_rms_finite := hPre_rms_finite)
    ∧ quiescent_RmsBwdRefIdeal (hRmsBwdRefIdeal := hRmsBwdRefIdeal)
    ∧ quiescent_RmsBwdRefIdeal_pre_rms_finite (hRmsBwdRefIdeal := hRmsBwdRefIdeal) (hPre_rms_finite := hPre_rms_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_PrepBwd (hPrepBwd := hPrepBwd)
    ∧ quiescent_PrepBwdIdeal (hPrepBwdIdeal := hPrepBwdIdeal)
    ∧ quiescent_PrepBwdRefIdeal (hPrepBwdRefIdeal := hPrepBwdRefIdeal)
    ∧ quiescent_SwigluBwd (hSwigluBwd := hSwigluBwd)
    ∧ quiescent_SwigluBwdIdeal (hSwigluBwdIdeal := hSwigluBwdIdeal)
    ∧ quiescent_SwigluBwdIdeal_pre_swiglu_finite (hSwigluBwdIdeal := hSwigluBwdIdeal) (hPre_swiglu_finite := hPre_swiglu_finite)
    ∧ quiescent_SwigluBwdRefIdeal (hSwigluBwdRefIdeal := hSwigluBwdRefIdeal)
    ∧ quiescent_SwigluBwdRefIdeal_pre_swiglu_finite (hSwigluBwdRefIdeal := hSwigluBwdRefIdeal) (hPre_swiglu_finite := hPre_swiglu_finite)
    ∧ quiescent_SguBwd (hSguBwd := hSguBwd)
    ∧ quiescent_SguBwdIdeal (hSguBwdIdeal := hSguBwdIdeal)
    ∧ quiescent_SguBwdIdeal_pre_sgu_finite (hSguBwdIdeal := hSguBwdIdeal) (hPre_sgu_finite := hPre_sgu_finite)
    ∧ quiescent_SguBwdRefIdeal (hSguBwdRefIdeal := hSguBwdRefIdeal)
    ∧ quiescent_SguBwdRefIdeal_pre_sgu_finite (hSguBwdRefIdeal := hSguBwdRefIdeal) (hPre_sgu_finite := hPre_sgu_finite)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_Powers (hPowers := hPowers)
    ∧ quiescent_PowersIdeal (hPowersIdeal := hPowersIdeal)
    ∧ quiescent_PowersIdeal_pre_powers_finite (hPowersIdeal := hPowersIdeal) (hPre_powers_finite := hPre_powers_finite)
    ∧ quiescent_PowersRefIdeal (hPowersRefIdeal := hPowersRefIdeal)
    ∧ quiescent_PowersRefIdeal_pre_powers_finite (hPowersRefIdeal := hPowersRefIdeal) (hPre_powers_finite := hPre_powers_finite)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_SguFwd (hSguFwd := hSguFwd)
    ∧ quiescent_SguFwdIdeal (hSguFwdIdeal := hSguFwdIdeal)
    ∧ quiescent_SguFwdRefIdeal (hSguFwdRefIdeal := hSguFwdRefIdeal)
    ∧ quiescent_OutBwdW (hOutBwdW := hOutBwdW)
    ∧ quiescent_OutBwdWIdeal (hOutBwdWIdeal := hOutBwdWIdeal)
    ∧ quiescent_OutBwdWRefIdeal (hOutBwdWRefIdeal := hOutBwdWRefIdeal)
    ∧ quiescent_OutBwdA (hOutBwdA := hOutBwdA)
    ∧ quiescent_OutBwdAIdeal (hOutBwdAIdeal := hOutBwdAIdeal)
    ∧ quiescent_OutBwdARefIdeal (hOutBwdARefIdeal := hOutBwdARefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InBwdA (hInBwdA := hInBwdA)
    ∧ quiescent_InBwdAIdeal (hInBwdAIdeal := hInBwdAIdeal)
    ∧ quiescent_InBwdARefIdeal (hInBwdARefIdeal := hInBwdARefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_InBwdW (hInBwdW := hInBwdW)
    ∧ quiescent_InBwdWIdeal (hInBwdWIdeal := hInBwdWIdeal)
    ∧ quiescent_InBwdWRefIdeal (hInBwdWRefIdeal := hInBwdWRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_AdamShard (hAdamShard := hAdamShard)
    ∧ quiescent_AdamShardIdeal (hAdamShardIdeal := hAdamShardIdeal)
    ∧ quiescent_AdamShardRefIdeal (hAdamShardRefIdeal := hAdamShardRefIdeal)
    ∧ quiescent_GateBwdA (hGateBwdA := hGateBwdA)
    ∧ quiescent_GateBwdAIdeal (hGateBwdAIdeal := hGateBwdAIdeal)
    ∧ quiescent_GateBwdARefIdeal (hGateBwdARefIdeal := hGateBwdARefIdeal)
    ∧ quiescent_BranchFwd (hBranchFwd := hBranchFwd)
    ∧ quiescent_BranchFwdIdeal (hBranchFwdIdeal := hBranchFwdIdeal)
    ∧ quiescent_BranchFwdRefIdeal (hBranchFwdRefIdeal := hBranchFwdRefIdeal)
    ∧ quiescent_BranchBwdA (hBranchBwdA := hBranchBwdA)
    ∧ quiescent_BranchBwdAIdeal (hBranchBwdAIdeal := hBranchBwdAIdeal)
    ∧ quiescent_BranchBwdARefIdeal (hBranchBwdARefIdeal := hBranchBwdARefIdeal)
    ∧ quiescent_GateBwdW (hGateBwdW := hGateBwdW)
    ∧ quiescent_GateBwdWIdeal (hGateBwdWIdeal := hGateBwdWIdeal)
    ∧ quiescent_GateBwdWRefIdeal (hGateBwdWRefIdeal := hGateBwdWRefIdeal)
    ∧ quiescent_UpBwdW (hUpBwdW := hUpBwdW)
    ∧ quiescent_UpBwdWIdeal (hUpBwdWIdeal := hUpBwdWIdeal)
    ∧ quiescent_UpBwdWRefIdeal (hUpBwdWRefIdeal := hUpBwdWRefIdeal)
    ∧ quiescent_UpBwdH (hUpBwdH := hUpBwdH)
    ∧ quiescent_UpBwdHIdeal (hUpBwdHIdeal := hUpBwdHIdeal)
    ∧ quiescent_UpBwdHRefIdeal (hUpBwdHRefIdeal := hUpBwdHRefIdeal)
    ∧ quiescent_DownBwdW (hDownBwdW := hDownBwdW)
    ∧ quiescent_DownBwdWIdeal (hDownBwdWIdeal := hDownBwdWIdeal)
    ∧ quiescent_DownBwdWRefIdeal (hDownBwdWRefIdeal := hDownBwdWRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_RmsBwd_RmsBwdIdeal
    ∧ algebraic_RmsBwdIdeal_RmsBwdRefIdeal_pre_rms_finite (hRmsBwdIdeal := hRmsBwdIdeal) (hRmsBwdRefIdeal := hRmsBwdRefIdeal) (hPre_rms_finite := hPre_rms_finite)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_PrepBwd_PrepBwdIdeal
    ∧ algebraic_PrepBwdIdeal_PrepBwdRefIdeal (hPrepBwdIdeal := hPrepBwdIdeal) (hPrepBwdRefIdeal := hPrepBwdRefIdeal)
    ∧ preserves_SwigluBwd_SwigluBwdIdeal
    ∧ algebraic_SwigluBwdIdeal_SwigluBwdRefIdeal_pre_swiglu_finite (hSwigluBwdIdeal := hSwigluBwdIdeal) (hSwigluBwdRefIdeal := hSwigluBwdRefIdeal) (hPre_swiglu_finite := hPre_swiglu_finite)
    ∧ preserves_SguBwd_SguBwdIdeal
    ∧ algebraic_SguBwdIdeal_SguBwdRefIdeal_pre_sgu_finite (hSguBwdIdeal := hSguBwdIdeal) (hSguBwdRefIdeal := hSguBwdRefIdeal) (hPre_sgu_finite := hPre_sgu_finite)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_Powers_PowersIdeal
    ∧ algebraic_PowersIdeal_PowersRefIdeal_pre_powers_finite (hPowersIdeal := hPowersIdeal) (hPowersRefIdeal := hPowersRefIdeal) (hPre_powers_finite := hPre_powers_finite)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_SguFwd_SguFwdIdeal
    ∧ algebraic_SguFwdIdeal_SguFwdRefIdeal (hSguFwdIdeal := hSguFwdIdeal) (hSguFwdRefIdeal := hSguFwdRefIdeal)
    ∧ preserves_OutBwdW_OutBwdWIdeal
    ∧ algebraic_OutBwdWIdeal_OutBwdWRefIdeal (hOutBwdWIdeal := hOutBwdWIdeal) (hOutBwdWRefIdeal := hOutBwdWRefIdeal)
    ∧ preserves_OutBwdA_OutBwdAIdeal
    ∧ algebraic_OutBwdAIdeal_OutBwdARefIdeal (hOutBwdAIdeal := hOutBwdAIdeal) (hOutBwdARefIdeal := hOutBwdARefIdeal)
    ∧ preserves_OutFwd_OutFwdIdeal
    ∧ algebraic_OutFwdIdeal_OutFwdRefIdeal (hOutFwdIdeal := hOutFwdIdeal) (hOutFwdRefIdeal := hOutFwdRefIdeal)
    ∧ preserves_InFwd_InFwdIdeal
    ∧ algebraic_InFwdIdeal_InFwdRefIdeal (hInFwdIdeal := hInFwdIdeal) (hInFwdRefIdeal := hInFwdRefIdeal)
    ∧ preserves_InBwdA_InBwdAIdeal
    ∧ algebraic_InBwdAIdeal_InBwdARefIdeal (hInBwdAIdeal := hInBwdAIdeal) (hInBwdARefIdeal := hInBwdARefIdeal)
    ∧ preserves_DownFwd_DownFwdIdeal
    ∧ algebraic_DownFwdIdeal_DownFwdRefIdeal (hDownFwdIdeal := hDownFwdIdeal) (hDownFwdRefIdeal := hDownFwdRefIdeal)
    ∧ preserves_InBwdW_InBwdWIdeal
    ∧ algebraic_InBwdWIdeal_InBwdWRefIdeal (hInBwdWIdeal := hInBwdWIdeal) (hInBwdWRefIdeal := hInBwdWRefIdeal)
    ∧ preserves_GateFwd_GateFwdIdeal
    ∧ algebraic_GateFwdIdeal_GateFwdRefIdeal (hGateFwdIdeal := hGateFwdIdeal) (hGateFwdRefIdeal := hGateFwdRefIdeal)
    ∧ preserves_AdamShard_AdamShardIdeal
    ∧ algebraic_AdamShardIdeal_AdamShardRefIdeal (hAdamShardIdeal := hAdamShardIdeal) (hAdamShardRefIdeal := hAdamShardRefIdeal)
    ∧ preserves_GateBwdA_GateBwdAIdeal
    ∧ algebraic_GateBwdAIdeal_GateBwdARefIdeal (hGateBwdAIdeal := hGateBwdAIdeal) (hGateBwdARefIdeal := hGateBwdARefIdeal)
    ∧ preserves_BranchFwd_BranchFwdIdeal
    ∧ algebraic_BranchFwdIdeal_BranchFwdRefIdeal (hBranchFwdIdeal := hBranchFwdIdeal) (hBranchFwdRefIdeal := hBranchFwdRefIdeal)
    ∧ preserves_BranchBwdA_BranchBwdAIdeal
    ∧ algebraic_BranchBwdAIdeal_BranchBwdARefIdeal (hBranchBwdAIdeal := hBranchBwdAIdeal) (hBranchBwdARefIdeal := hBranchBwdARefIdeal)
    ∧ preserves_GateBwdW_GateBwdWIdeal
    ∧ algebraic_GateBwdWIdeal_GateBwdWRefIdeal (hGateBwdWIdeal := hGateBwdWIdeal) (hGateBwdWRefIdeal := hGateBwdWRefIdeal)
    ∧ preserves_UpBwdW_UpBwdWIdeal
    ∧ algebraic_UpBwdWIdeal_UpBwdWRefIdeal (hUpBwdWIdeal := hUpBwdWIdeal) (hUpBwdWRefIdeal := hUpBwdWRefIdeal)
    ∧ preserves_UpBwdH_UpBwdHIdeal
    ∧ algebraic_UpBwdHIdeal_UpBwdHRefIdeal (hUpBwdHIdeal := hUpBwdHIdeal) (hUpBwdHRefIdeal := hUpBwdHRefIdeal)
    ∧ preserves_DownBwdW_DownBwdWIdeal
    ∧ algebraic_DownBwdWIdeal_DownBwdWRefIdeal (hDownBwdWIdeal := hDownBwdWIdeal) (hDownBwdWRefIdeal := hDownBwdWRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_loss_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S8192x2048 .f32) : IVec S8192x2048 1 × IVec S2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_powers_finite.lean ====
abbrev S64x64 : Shape := ⟨2, ![64, 64]⟩
abbrev S64 : Shape := ⟨1, ![64]⟩
abbrev S64x64x16 : Shape := ⟨3, ![64, 64, 16]⟩
abbrev S_ : Shape := ⟨0, ![]⟩

class Facts : Prop where
  bcast_S_S64x64 : S_.BroadcastsInDim S64x64 (![] : Fin 0 → Fin S64x64.rank)
  bcast_S_S64 : S_.BroadcastsInDim S64 (![] : Fin 0 → Fin S64.rank)

variable [Facts]

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) : IVec S64x64 1 × IVec S64x64 1 × IVec S64 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  (main_v2, main_v5, main_v8)
-- ==== Pre_rms_finite.lean ====
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S1x2048 : S_.BroadcastsInDim S1x2048 (![] : Fin 0 → Fin S1x2048.rank)

variable [Facts]

def fn {F : FTy → Type} [FloatOps F] (main_arg0 : FVec F S8192x2048 .bf16) (main_arg1 : FVec F S8192x2048 .f32) (main_arg2 : FVec F S1x2048 .f32) (main_arg3 : FVec F S8192x2048 .bf16) : IVec S8192x2048 1 × IVec S8192x2048 1 × IVec S1x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  (main_v3, main_v6, main_v9)
-- ==== Pre_sgu_finite.lean ====
abbrev S8192x1024 : Shape := ⟨2, ![8192, 1024]⟩
abbrev S8192x3072 : Shape := ⟨2, ![8192, 3072]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x3072 : S_.BroadcastsInDim S8192x3072 (![] : Fin 0 → Fin S8192x3072.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v3 : IVec S8192x1024 1) (main_v7 : IVec S8192x3072 1) (main_v10 : IVec S1x1024 1) (main_v13 : IVec S1x1024 1) (main_v16 : IVec S8x128x128 1) (main_v17 : FVec F S8x128 .f32) (main_cst_4 : FVec F S_ .f32) : IVec S8192x1024 1 × IVec S8192x3072 1 × IVec S1x1024 1 × IVec S1x1024 1 × IVec S8x128x128 1 × IVec S8x128 1 :=
  let main_v18 : FVec F S8x128 .f32 := broadcastInDim S8x128 ![] bcast_S_S8x128 main_cst_4
  let main_v19 : IVec S8x128 1 := cmpf .olt main_v17 main_v18
  (main_v3, main_v7, main_v10, main_v13, main_v16, main_v19)

def fn {F : FTy → Type} [FloatOps F] (main_arg0 : FVec F S8192x1024 .bf16) (main_arg1 : FVec F S8192x1024 .bf16) (main_arg2 : FVec F S8192x3072 .bf16) (main_arg3 : FVec F S1x1024 .f32) (main_arg4 : FVec F S1x1024 .f32) (main_arg5 : FVec F S8x128x128 .f32) (main_arg6 : FVec F S8x128 .f32) : IVec S8192x1024 1 × IVec S8192x3072 1 × IVec S1x1024 1 × IVec S1x1024 1 × IVec S8x128x128 1 × IVec S8x128 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x3072 .f32 := (extf .f32 · bitsLt_bf16_f32) main_arg2
  let main_v5 : FVec F S8192x3072 .f32 := Host.absf main_v4
  let main_cst_0 : FVec F S_ .f32 := constant S_ .f32 0x7F800000#32
  let main_v6 : FVec F S8192x3072 .f32 := broadcastInDim S8192x3072 ![] bcast_S_S8192x3072 main_cst_0
  let main_v7 : IVec S8192x3072 1 := cmpf .olt main_v5 main_v6
  let main_v8 : FVec F S1x1024 .f32 := Host.absf main_arg3
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8x128x128 .f32 := Host.absf main_arg5
  let main_cst_3 : FVec F S_ .f32 := constant S_ .f32 0x7F800000#32
  let main_v15 : FVec F S8x128x128 .f32 := broadcastInDim S8x128x128 ![] bcast_S_S8x128x128 main_cst_3
  let main_v16 : IVec S8x128x128 1 := cmpf .olt main_v14 main_v15
  let main_v17 : FVec F S8x128 .f32 := Host.absf main_arg6
  let main_cst_4 : FVec F S_ .f32 := constant S_ .f32 0x7F800000#32
  fn_part1 (F := F) main_v3 main_v7 main_v10 main_v13 main_v16 main_v17 main_cst_4
-- ==== Pre_swiglu_finite.lean ====
abbrev S8192x2048 : Shape := ⟨2, ![8192, 2048]⟩
abbrev S2048x5632 : Shape := ⟨2, ![2048, 5632]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S8192x2048 .bf16) (main_arg1 : FVec F S2048x5632 .f32) (main_arg2 : FVec F S2048x5632 .f32) (main_arg3 : FVec F S5632x2048 .f32) (main_arg4 : FVec F S8192x2048 .bf16) : IVec S8192x2048 1 × IVec S2048x5632 1 × IVec S5632x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2048x5632 .f32 := Host.absf main_arg2
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  let main_v7 : FVec F S5632x2048 .f32 := Host.absf main_arg3
  let main_cst_1 : FVec F S_ .f32 := constant S_ .f32 0x7F800000#32
  let main_v8 : FVec F S5632x2048 .f32 := broadcastInDim S5632x2048 ![] bcast_S_S5632x2048 main_cst_1
  let main_v9 : IVec S5632x2048 1 := cmpf .olt main_v7 main_v8
  let main_v10 : FVec F S8192x2048 .f32 := (extf .f32 · bitsLt_bf16_f32) main_arg4
  let main_v11 : FVec F S8192x2048 .f32 := Host.absf main_v10
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  (main_v3, main_v6, main_v9, main_v13)
-- ==== RmsBwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k0_cond2 (i : grid0.Coords) : BitVec 1 :=
  let arg0 : BitVec 32 := BitVec.ofNat 32 (i 0).val
  let c0_i32_15 : BitVec 32 := 0#32
  let v36 : BitVec 1 := Scalar.cmpi .sgt arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== LossHead.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S1x128, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_17 : BitVec 32 := 0#32
  let v49 : BitVec 1 := Scalar.cmpi .ne v48 c0_i32_17
  v49

def k0_cond2 (i : grid0.Coords) : BitVec 1 :=
  let arg0 : BitVec 32 := BitVec.ofNat 32 (i 0).val
  let c0_i32_18 : BitVec 32 := 0#32
  let v50 : BitVec 1 := Scalar.cmpi .sgt arg0 c0_i32_18
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x128, .f32⟩
  | .hbm, ⟨72, _⟩ => ⟨S8192x2048, .bf16⟩
  | .hbm, ⟨73, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== MergeBwd.lean ====
abbrev S8192x2048 : Shape := ⟨2, ![8192, 2048]⟩
abbrev S8192x4096 : Shape := ⟨2, ![8192, 4096]⟩
abbrev S1x4096 : Shape := ⟨2, ![1, 4096]⟩
abbrev S8192x2x2048 : Shape := ⟨3, ![8192, 2, 2048]⟩
abbrev S2x8192x2048 : Shape := ⟨3, ![2, 8192, 2048]⟩
abbrev S2x1x2048 : Shape := ⟨3, ![2, 1, 2048]⟩
abbrev S512x2048 : Shape := ⟨2, ![512, 2048]⟩
abbrev S2x512x2048 : Shape := ⟨3, ![2, 512, 2048]⟩
abbrev S1x512x2048 : Shape := ⟨3, ![1, 512, 2048]⟩
abbrev S2048 : Shape := ⟨1, ![2048]⟩
abbrev S1x2048 : Shape := ⟨2, ![1, 2048]⟩
abbrev S1x1x2048 : Shape := ⟨3, ![1, 1, 2048]⟩

abbrev nBuf : Space → Nat
  | .hbm => 14
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x2x2048, .f32⟩
  | .hbm, ⟨8, _⟩ => ⟨S2x8192x2048, .f32⟩
  | .hbm, ⟨9, _⟩ => ⟨S2x8192x2048, .bf16⟩
  | .hbm, ⟨10, _⟩ => ⟨S8192x2048, .bf16⟩
  | .hbm, ⟨11, _⟩ => ⟨S8192x2048, .bf16⟩
  | .hbm, ⟨12, _⟩ => ⟨S2x8192x2048, .bf16⟩
  | .hbm, ⟨13, _⟩ => ⟨S2x1x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2x512x2048, .bf16⟩
  | .local _ .vmem, ⟨7, _⟩ => ⟨S2x512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S2x512x2048, .bf16⟩
  | .local _ .vmem, ⟨13, _⟩ => ⟨S2x512x2048, .bf16⟩
  | .local _ .vmem, ⟨14, _⟩ => ⟨S2x1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_29 : BitVec 32 := 0#32
  let v56 : BitVec 1 := Scalar.cmpi .ne v55 c0_i32_29
  v56

def k0_cond2 (i : grid0.Coords) : BitVec 1 :=
  let arg0 : BitVec 32 := BitVec.ofNat 32 (i 0).val
  let c0_i32_30 : BitVec 32 := 0#32
  let v57 : BitVec 1 := Scalar.cmpi .sgt arg0 c0_i32_30
  let v58 : BitVec 32 := Scalar.extui v57
  let c0_i32_31 : BitVec 32 := 0#32
  let v59 : BitVec 1 := Scalar.cmpi .ne v58 c0_i32_31
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MergeBwdRefIdeal.lean ====
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩
abbrev S4096 : Shape := ⟨1, ![4096]⟩
abbrev S8192x2x2048 : Shape := ⟨3, ![8192, 2, 2048]⟩
abbrev S2x8192x2048 : Shape := ⟨3, ![2, 8192, 2048]⟩
abbrev S1x2x2048 : Shape := ⟨3, ![1, 2, 2048]⟩
abbrev S2x1x2048 : Shape := ⟨3, ![2, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x4096, .f32⟩
  | .hbm, ⟨4, _⟩ => ⟨S1x4096, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S4096, .f32⟩
  | .hbm, ⟨35, _⟩ => ⟨S1x4096, .f32⟩
  | .hbm, ⟨36, _⟩ => ⟨S8192x2048, .bf16⟩
  | .hbm, ⟨37, _⟩ => ⟨S8192x2048, .bf16⟩
  | .hbm, ⟨38, _⟩ => ⟨S8192x2x2048, .f32⟩
  | .hbm, ⟨39, _⟩ => ⟨S2x8192x2048, .f32⟩
  | .hbm, ⟨40, _⟩ => ⟨S2x8192x2048, .bf16⟩
  | .hbm, ⟨41, _⟩ => ⟨S1x2x2048, .f32⟩
  | .hbm, ⟨42, _⟩ => ⟨S2x1x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== PrepBwd.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S16x64x64 : Shape := ⟨3, ![16, 64, 64]⟩
abbrev S1x64x64 : Shape := ⟨3, ![1, 64, 64]⟩

abbrev nBuf : Space → Nat
  | .hbm => 19
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1, .f32⟩
  | .hbm, ⟨10, _⟩ => ⟨S16x64x64, .f32⟩
  | .hbm, ⟨11, _⟩ => ⟨S16x64x64, .f32⟩
  | .hbm, ⟨12, _⟩ => ⟨S16x64x64, .f32⟩
  | .hbm, ⟨13, _⟩ => ⟨S16x64x64, .f32⟩
  | .hbm, ⟨14, _⟩ => ⟨S64x64, .f32⟩
  | .hbm, ⟨15, _⟩ => ⟨S64x64, .f32⟩
  | .hbm, ⟨16, _⟩ => ⟨S64x1, .f32⟩
  | .hbm, ⟨17, _⟩ => ⟨S16x64x64, .f32⟩
  | .hbm, ⟨18, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S16x64x64, .f32⟩
  | .local _ .vmem, ⟨8, _⟩ => ⟨S16x64x64, .f32⟩
  | .local _ .vmem, ⟨9, _⟩ => ⟨S64x64, .f32⟩
  | .local _ .vmem, ⟨10, _⟩ => ⟨S64x64, .f32⟩
  | .local _ .vmem, ⟨11, _⟩ => ⟨S64x1, .f32⟩
  | .local _ .vmem, ⟨12, _⟩ => ⟨S16x64x64, .f32⟩
  | .local _ .vmem, ⟨13, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== PrepBwdRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩

abbrev nBuf : Space → Nat
  | .hbm => 170
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S64x64x1, .f32⟩
  | 47 => ⟨S64x64x16, .f32⟩
  | 48 => ⟨S64x64x16, .f32⟩
  | 49 => ⟨S64x64x1, .f32⟩
  | 50 => ⟨S64x64x16, .f32⟩
  | 51 => ⟨S64x64x16, .f32⟩
  | 52 => ⟨S64x64x16, .f32⟩
  | 53 => ⟨S64x64x1, .f32⟩
  | 54 => ⟨S64x64x16, .f32⟩
  | 55 => ⟨S64x64x16, .f32⟩
  | 56 => ⟨S64x64x1, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S_, .f32⟩
  | 66 => ⟨S64x64, .f32⟩
  | 67 => ⟨S64x64x1, .f32⟩
  | 68 => ⟨S_, .f32⟩
  | 69 => ⟨S64x64, .f32⟩
  | 70 => ⟨S64x64x16, .f32⟩
  | 71 => ⟨S64x64x16, .f32⟩
  | 72 => ⟨S64x64x16, .f32⟩
  | 73 => ⟨S_, .f32⟩
  | 74 => ⟨S64x64, .f32⟩
  | 75 => ⟨S64x64x1, .f32⟩
  | 76 => ⟨S_, .f32⟩
  | 77 => ⟨S64x64, .f32⟩
  | 78 => ⟨S64x64x16, .f32⟩
  | 79 => ⟨S64x64x16, .f32⟩
  | 80 => ⟨S64x64x16, .f32⟩
  | 81 => ⟨S64x64x16, .f32⟩
  | 82 => ⟨S64x64x16, .f32⟩
  | 83 => ⟨S64x64x16, .f32⟩
  | 84 => ⟨S_, .f32⟩
  | 85 => ⟨S64x64, .f32⟩
  | 86 => ⟨S64x64x1, .f32⟩
  | 87 => ⟨S_, .f32⟩
  | 88 => ⟨S64x64, .f32⟩
  | 89 => ⟨S64x64, .f32⟩
  | 90 => ⟨S64x64x16, .f32⟩
  | 91 => ⟨S64x64x16, .f32⟩
  | 92 => ⟨S64x64x16, .f32⟩
  | 93 => ⟨S64x64x16, .f32⟩
  | 94 => ⟨S_, .f32⟩
  | 95 => ⟨S64x64, .f32⟩
  | 96 => ⟨S64x64x1, .f32⟩
  | 97 => ⟨S_, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S_, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S_, .f32⟩
  | 21 => ⟨S64, .f32⟩
  | 22 => ⟨S64x1, .f32⟩
  | 23 => ⟨S64x1, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S_, .f32⟩
  | 30 => ⟨S64, .f32⟩
  | 31 => ⟨S64x1, .f32⟩
  | 32 => ⟨S64x1, .f32⟩
  | 33 => ⟨S64x64, .f32⟩
  | 34 => ⟨S64x64, .f32⟩
  | 35 => ⟨S64x64, .f32⟩
  | 36 => ⟨S_, .f32⟩
  | 37 => ⟨S64, .f32⟩
  | 38 => ⟨S64, .f32⟩
  | 39 => ⟨S64x1, .f32⟩
  | 40 => ⟨S16x64x64, .f32⟩
  | 41 => ⟨S16x64x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_2 : Ref sig .tc := ⟨.hbm, 65, rfl⟩
abbrev main_v53 : Ref sig .tc := ⟨.hbm, 66, rfl⟩
abbrev main_v54 : Ref sig .tc := ⟨.hbm, 67, rfl⟩
abbrev main_cst_3 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_4 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_8 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_cst_10 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_cst_11 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_cst_12 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_cst_13 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩

abbrev nD : Nat := 1
abbrev τ : Topo := Topo.v7x

variable {F : FTy → Type} [FloatOps F]
-- ==== SwigluBwd.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S5632x8192 : Shape := ⟨2, ![5632, 8192]⟩
abbrev S8x704x8192 : Shape := ⟨3, ![8, 704, 8192]⟩
abbrev S8x1x704x8192 : Shape := ⟨4, ![8, 1, 704, 8192]⟩
abbrev S8x2x704x8192 : Shape := ⟨4, ![8, 2, 704, 8192]⟩
abbrev S8x704x2048 : Shape := ⟨3, ![8, 704, 2048]⟩
abbrev S704x2048 : Shape := ⟨2, ![704, 2048]⟩
abbrev S2048x2048 : Shape := ⟨2, ![2048, 2048]⟩
abbrev S1x2x704x2048 : Shape := ⟨4, ![1, 2, 704, 2048]⟩
abbrev S1x1x704x2048 : Shape := ⟨4, ![1, 1, 704, 2048]⟩

abbrev nBuf : Space → Nat
  | .hbm => 21
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S8192x2048, .f32⟩
  | .hbm, ⟨6, _⟩ => ⟨S8192x5632, .f32⟩
  | .hbm, ⟨7, _⟩ => ⟨S5632x8192, .f32⟩
  | .hbm, ⟨8, _⟩ => ⟨S8x704x8192, .f32⟩
  | .hbm, ⟨9, _⟩ => ⟨S8x704x8192, .bf16⟩
  | .hbm, ⟨10, _⟩ => ⟨S8192x5632, .f32⟩
  | .hbm, ⟨11, _⟩ => ⟨S5632x8192, .f32⟩
  | .hbm, ⟨12, _⟩ => ⟨S8x704x8192, .f32⟩
  | .hbm, ⟨13, _⟩ => ⟨S8x704x8192, .bf16⟩
  | .hbm, ⟨14, _⟩ => ⟨S8x1x704x8192, .bf16⟩
  | .hbm, ⟨15, _⟩ => ⟨S8x1x704x8192, .bf16⟩
  | .hbm, ⟨16, _⟩ => ⟨S8x2x704x8192, .bf16⟩
  | .hbm, ⟨17, _⟩ => ⟨S5632x2048, .bf16⟩
  | .hbm, ⟨18, _⟩ => ⟨S8x704x2048, .bf16⟩
  | .hbm, ⟨19, _⟩ => ⟨S5632x2048, .bf16⟩
  | .hbm, ⟨20, _⟩ => ⟨S8x2x704x8192, .bf16⟩
  | .local _ .vmem, ⟨0, _⟩ => ⟨S704x2048, .bf16⟩
  | .local _ .vmem, ⟨1, _⟩ => ⟨S704x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2x704x2048, .bf16⟩
  | .local _ .vmem, ⟨5, _⟩ => ⟨S1x2x704x2048, .bf16⟩
  | .local _ .vmem, ⟨6, _⟩ => ⟨S1x2x704x2048, .bf16⟩
  | .local _ .vmem, ⟨7, _⟩ => ⟨S1x2x704x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SwigluBwdRefIdeal.lean ====
abbrev S8192x2048 : Shape := ⟨2, ![8192, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S5632x8192 : Shape := ⟨2, ![5632, 8192]⟩
abbrev S8x704x8192 : Shape := ⟨3, ![8, 704, 8192]⟩
abbrev S8x1x704x8192 : Shape := ⟨4, ![8, 1, 704, 8192]⟩
abbrev S8x2x704x8192 : Shape := ⟨4, ![8, 2, 704, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S8192x2048, .bf16⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S5632x8192, .f32⟩
  | .hbm, ⟨38, _⟩ => ⟨S8x704x8192, .f32⟩
  | .hbm, ⟨39, _⟩ => ⟨S5632x8192, .f32⟩
  | .hbm, ⟨40, _⟩ => ⟨S8x704x8192, .f32⟩
  | .hbm, ⟨41, _⟩ => ⟨S8x1x704x8192, .f32⟩
  | .hbm, ⟨42, _⟩ => ⟨S8x1x704x8192, .f32⟩
  | .hbm, ⟨43, _⟩ => ⟨S8x2x704x8192, .f32⟩
  | .hbm, ⟨44, _⟩ => ⟨S8x2x704x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== SguBwd.lean ====
abbrev S8192x1024 : Shape := ⟨2, ![8192, 1024]⟩
abbrev S8192x3072 : Shape := ⟨2, ![8192, 3072]⟩
abbrev S1x1024 : Shape := ⟨2, ![1, 1024]⟩
abbrev S8x128x128 : Shape := ⟨3, ![8, 128, 128]⟩
abbrev S8x128 : Shape := ⟨2, ![8, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x1 : Shape := ⟨3, ![8, 128, 1]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S128x1024 : Shape := ⟨2, ![128, 1024]⟩
abbrev S1024 : Shape := ⟨1, ![1024]⟩

abbrev nBuf : Space → Nat
  | .hbm => 55
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x3072, .bf16⟩
  | .hbm, ⟨3, _⟩ => ⟨S1x1024, .f32⟩
  | .hbm, ⟨4, _⟩ => ⟨S1x1024, .f32⟩
  | .hbm, ⟨5, _⟩ => ⟨S8x128x128, .f32⟩
  | .hbm, ⟨6, _⟩ => ⟨S8x128, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S1x128, .i32⟩
  | .hbm, ⟨28, _⟩ => ⟨S128x128, .i32⟩
  | .hbm, ⟨29, _⟩ => ⟨S128x128, .i32⟩
  | .hbm, ⟨30, _⟩ => ⟨S128x128, .i1⟩
  | .hbm, ⟨31, _⟩ => ⟨S1x128x128, .i1⟩
  | .hbm, ⟨32, _⟩ => ⟨S_, .f32⟩
  | .hbm, ⟨33, _⟩ => ⟨S_, .f32⟩
  | .hbm, ⟨34, _⟩ => ⟨S8x128x128, .i1⟩
  | .hbm, ⟨35, _⟩ => ⟨S8x128x128, .f32⟩
  | .hbm, ⟨36, _⟩ => ⟨S8x128x128, .f32⟩
  | .hbm, ⟨37, _⟩ => ⟨S8x128x128, .bf16⟩
  | .hbm, ⟨38, _⟩ => ⟨S8x128x128, .f32⟩
  | .hbm, ⟨39, _⟩ => ⟨S8x128x128, .bf16⟩
  | .hbm, ⟨40, _⟩ => ⟨S8x128x1, .f32⟩
  | .hbm, ⟨41, _⟩ => ⟨S8x128x128, .f32⟩
  | .hbm, ⟨42, _⟩ => ⟨S8192x3072, .bf16⟩
  | .hbm, ⟨43, _⟩ => ⟨S8x128x128, .f32⟩
  | .hbm, ⟨44, _⟩ => ⟨S8x128x128, .f32⟩
  | .hbm, ⟨45, _⟩ => ⟨S1x1024, .f32⟩
  | .hbm, ⟨46, _⟩ => ⟨S1x1024, .f32⟩
  | .hbm, ⟨47, _⟩ => ⟨S1x128x128, .i1⟩
  | .hbm, ⟨48, _⟩ => ⟨S_, .f32⟩
  | .hbm, ⟨49, _⟩ => ⟨S_, .f32⟩
  | .hbm, ⟨50, _⟩ => ⟨S8x128x128, .i1⟩
  | .hbm, ⟨51, _⟩ => ⟨S8x128x128, .f32⟩
  | .hbm, ⟨52, _⟩ => ⟨S8x128x128, .f32⟩
  | .hbm, ⟨53, _⟩ => ⟨S8x128x1, .f32⟩
  | .hbm, ⟨54, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .bf16⟩
  | .local _ .vmem, ⟨12, _⟩ => ⟨S8x128x128, .f32⟩
  | .local _ .vmem, ⟨13, _⟩ => ⟨S512x3072, .bf16⟩
  | .local _ .vmem, ⟨14, _⟩ => ⟨S512x3072, .bf16⟩
  | .local _ .vmem, ⟨15, _⟩ => ⟨S8x128x128, .f32⟩
  | .local _ .vmem, ⟨16, _⟩ => ⟨S8x128x128, .f32⟩
  | .local _ .vmem, ⟨17, _⟩ => ⟨S1x1024, .f32⟩
  | .local _ .vmem, ⟨18, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14_0 : Ref sig .tc := ⟨.hbm, 42, rfl⟩
abbrev main_v14_1 : Ref sig .tc := ⟨.hbm, 43, rfl⟩
abbrev main_v14_2 : Ref sig .tc := ⟨.hbm, 44, rfl⟩
abbrev main_v14_3 : Ref sig .tc := ⟨.hbm, 45, rfl⟩
abbrev main_v14_4 : Ref sig .tc := ⟨.hbm, 46, rfl⟩
abbrev main_v15 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v793 : BitVec 1 := Scalar.cmpi .eq arg0 c0_i32
  let v794 : BitVec 32 := Scalar.extui v793
  let c0_i32_476 : BitVec 32 := 0#32
  let v795 : BitVec 1 := Scalar.cmpi .ne v794 c0_i32_476
  v795

def k0_cond2 (i : grid0.Coords) : BitVec 1 :=
  let arg0 : BitVec 32 := BitVec.ofNat 32 (i 0).val
  let c0_i32_477 : BitVec 32 := 0#32
  let v796 : BitVec 1 := Scalar.cmpi .sgt arg0 c0_i32_477
  let v797 : BitVec 32 := Scalar.extui v796
  let c0_i32_478 : BitVec 32 := 0#32
  let v798 : BitVec 1 := Scalar.cmpi .ne v797 c0_i32_478
  v798

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== SguBwdIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== SguBwdRefIdeal.lean ====
abbrev S8192x1024 : Shape := ⟨2, ![8192, 1024]⟩
abbrev S8192x3072 : Shape := ⟨2, ![8192, 3072]⟩
abbrev S1x1024 : Shape := ⟨2, ![1, 1024]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩
abbrev S1024 : Shape := ⟨1, ![1024]⟩

abbrev nBuf : Space → Nat
  | .hbm => 201
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x3072, .bf16⟩
  | 3 => ⟨S1x1024, .f32⟩
  | 4 => ⟨S1x1024, .f32⟩
  | 5 => ⟨S8x128x128, .f32⟩
  | 6 => ⟨S8x128, .f32⟩
  | 7 => ⟨S8192x3072, .f32⟩
  | 8 => ⟨S8192x1024, .f32⟩
  | 9 => ⟨S8192x2048, .f32⟩
  | 10 => ⟨S_, .f32⟩
  | 11 => ⟨S_, .f32⟩
  | 12 => ⟨S_, .f32⟩
  | 13 => ⟨S8192x2048, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S8192x2048, .f32⟩
  | 23 => ⟨S_, .f32⟩
  | 24 => ⟨S8192x2048, .f32⟩
  | 25 => ⟨S8192x2048, .f32⟩
  | 26 => ⟨S8192x2048, .f32⟩
  | 27 => ⟨S_, .f32⟩
  | 28 => ⟨S8192x2048, .f32⟩
  | 29 => ⟨S8192x2048, .f32⟩
  | 30 => ⟨S_, .f32⟩
  | 31 => ⟨S8192x2048, .f32⟩
  | 32 => ⟨S8192x2048, .f32⟩
  | 33 => ⟨S8192x2048, .f32⟩
  | 34 => ⟨S_, .f32⟩
  | 35 => ⟨S8192x2048, .f32⟩
  | 36 => ⟨S8192x2048, .f32⟩
  | 37 => ⟨S_, .f32⟩
  | 38 => ⟨S8192x2048, .f32⟩
  | 39 => ⟨S8192x2048, .f32⟩
  | 40 => ⟨S8192x2048, .f32⟩
  | 41 => ⟨S8192x1024, .f32⟩
  | 42 => ⟨S8192x1024, .f32⟩
  | 43 => ⟨S_, .f32⟩
  | 44 => ⟨S8192, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S_, .f32⟩
  | 64 => ⟨S8192x1, .f32⟩
  | 65 => ⟨S8192x1, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S64x128x8x128, .f32⟩
  | 78 => ⟨S128, .i32⟩
  | 79 => ⟨S_, .i32⟩
  | 80 => ⟨S_, .i32⟩
  | 81 => ⟨S128, .i32⟩
  | 82 => ⟨S128, .i32⟩
  | 83 => ⟨S128, .i32⟩
  | 84 => ⟨S_, .i32⟩
  | 85 => ⟨S128, .i32⟩
  | 86 => ⟨S128, .i1⟩
  | 87 => ⟨S128, .i32⟩
  | 88 => ⟨S128, .i32⟩
  | 89 => ⟨S_, .i32⟩
  | 90 => ⟨S128, .i32⟩
  | 91 => ⟨S128, .i1⟩
  | 92 => ⟨S128, .i1⟩
  | 93 => ⟨S_, .i32⟩
  | 94 => ⟨S128, .i32⟩
  | 95 => ⟨S128, .i32⟩
  | 96 => ⟨S128, .i32⟩
  | 97 => ⟨S128x1, .i32⟩
  | 98 => ⟨S1x128, .i32⟩
  | 99 => ⟨S128x128, .i32⟩
  | 100 => ⟨S128x128, .i32⟩
  | 101 => ⟨S128x128, .i1⟩
  | 102 => ⟨S1x128x128, .i1⟩
  | 103 => ⟨S_, .f32⟩
  | 104 => ⟨S8x128x128, .i1⟩
  | 105 => ⟨S8x128x128, .f32⟩
  | 106 => ⟨S8x128x128, .f32⟩
  | 107 => ⟨S_, .f32⟩
  | 108 => ⟨S8x128x128, .f32⟩
  | 109 => ⟨S8x64x128x128, .f32⟩
  | 110 => ⟨S64x128x8x128, .f32⟩
  | 111 => ⟨S128x8, .f32⟩
  | 112 => ⟨S128x8x1, .f32⟩
  | 113 => ⟨S1x128x8x1, .f32⟩
  | 114 => ⟨S64x128x8x128, .f32⟩
  | 115 => ⟨S64x128x8x128, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S64x128x8x128, .f32⟩
  | 123 => ⟨S_, .f32⟩
  | 124 => ⟨S128x8, .f32⟩
  | 125 => ⟨S1x128x8x1, .f32⟩
  | 126 => ⟨S_, .f32⟩
  | 127 => ⟨S128x8, .f32⟩
  | _ => ⟨S8192x1024, .bf16⟩

abbrev hbmTy0_1 (i : Nat) : BufTy := match i % 128 with
  | 0 => ⟨S128x8x1, .f32⟩
  | 1 => ⟨S_, .f32⟩
  | 2 => ⟨S128x8, .f32⟩
  | 3 => ⟨S8x128, .f32⟩
  | 4 => ⟨S8x64x128x128, .f32⟩
  | 5 => ⟨S8x128x128, .f32⟩
  | 6 => ⟨S8x64x128x128, .f32⟩
  | 7 => ⟨S64x128x8x128, .f32⟩
  | 8 => ⟨S_, .f32⟩
  | 9 => ⟨S8x128x128, .f32⟩
  | 10 => ⟨S8x128x128, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S8192x1024, .f32⟩
  | 26 => ⟨S8192x1024, .f32⟩
  | 27 => ⟨S8192x1, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S_, .f32⟩
  | 36 => ⟨S8192, .f32⟩
  | 37 => ⟨S8192x1024, .f32⟩
  | 38 => ⟨S8192x1024, .f32⟩
  | 39 => ⟨S8192x1024, .f32⟩
  | 40 => ⟨S_, .f32⟩
  | 41 => ⟨S8192, .f32⟩
  | 42 => ⟨S8192x1, .f32⟩
  | 43 => ⟨S8192x1024, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192, .f32⟩
  | 50 => ⟨S8192x1024, .f32⟩
  | 51 => ⟨S8192x1024, .f32⟩
  | 52 => ⟨S8192x2048, .f32⟩
  | 53 => ⟨S8192x2048, .f32⟩
  | 54 => ⟨S8192x2048, .f32⟩
  | 55 => ⟨S_, .f32⟩
  | 56 => ⟨S8192x2048, .f32⟩
  | 57 => ⟨S8192x2048, .f32⟩
  | 58 => ⟨S8192x2048, .f32⟩
  | 59 => ⟨S_, .f32⟩
  | 60 => ⟨S8192x2048, .f32⟩
  | 61 => ⟨S8192x2048, .f32⟩
  | 62 => ⟨S8192x2048, .f32⟩
  | 63 => ⟨S8192x2048, .f32⟩
  | 64 => ⟨S8192x2048, .f32⟩
  | 65 => ⟨S8192x2048, .f32⟩
  | 66 => ⟨S8192x2048, .f32⟩
  | 67 => ⟨S_, .f32⟩
  | 68 => ⟨S8192x3072, .f32⟩
  | 69 => ⟨S_, .f32⟩
  | 70 => ⟨S8192x3072, .f32⟩
  | 71 => ⟨S8192x3072, .f32⟩
  | 72 => ⟨S8192x3072, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_c : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_c_0 : Ref sig .tc := ⟨.hbm, 93, rfl⟩
abbrev main_call0_v12 : Ref sig .tc := ⟨.hbm, 94, rfl⟩
abbrev main_call0_v13 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_14 : Ref sig .tc := ⟨.hbm, 103, rfl⟩
abbrev main_v64_1 : Ref sig .tc := ⟨.hbm, 104, rfl⟩
abbrev main_call1_v1 : Ref sig .tc := ⟨.hbm, 105, rfl⟩
abbrev main_v64_0 : Ref sig .tc := ⟨.hbm, 106, rfl⟩
abbrev main_call1_cst : Ref sig .tc := ⟨.hbm, 107, rfl⟩
abbrev main_v64_2 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_15 : Ref sig .tc := ⟨.hbm, 123, rfl⟩
abbrev main_v79 : Ref sig .tc := ⟨.hbm, 124, rfl⟩
abbrev main_v80 : Ref sig .tc := ⟨.hbm, 125, rfl⟩
abbrev main_cst_16 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_call2_cst : Ref sig .tc := ⟨.hbm, 136, rfl⟩
abbrev main_call2_v0 : Ref sig .tc := ⟨.hbm, 137, rfl⟩
abbrev main_v89 : Ref sig .tc := ⟨.hbm, 138, rfl⟩
abbrev main_v90 : Ref sig .tc := ⟨.hbm, 139, rfl⟩
abbrev main_cst_18 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_19 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_cst_20 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_21 : Ref sig .tc := ⟨.hbm, 157, rfl⟩
abbrev main_v105 : Ref sig .tc := ⟨.hbm, 158, rfl⟩
abbrev main_v106 : Ref sig .tc := ⟨.hbm, 159, rfl⟩
abbrev main_cst_22 : Ref sig .tc := ⟨.hbm, 160, rfl⟩
abbrev main_v107 : Ref sig .tc := ⟨.hbm, 161, rfl⟩
abbrev main_v108 : Ref sig .tc := ⟨.hbm, 162, rfl⟩
abbrev main_cst_23 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_cst_24 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_25 : Ref sig .tc := ⟨.hbm, 173, rfl⟩
abbrev main_v117 : Ref sig .tc := ⟨.hbm, 174, rfl⟩
abbrev main_v118 : Ref sig .tc := ⟨.hbm, 175, rfl⟩
abbrev main_cst_26 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_cst_27 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_cst_28 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_29 : Ref sig .tc := ⟨.hbm, 195, rfl⟩
abbrev main_v135 : Ref sig .tc := ⟨.hbm, 196, rfl⟩
abbrev main_cst_30 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩

abbrev nD : Nat := 1
abbrev τ : Topo := Topo.v7x

variable {F : FTy → Type} [FloatOps F]
-- ==== RmsFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MergeFwd.lean ====
abbrev S8192x2048 : Shape := ⟨2, ![8192, 2048]⟩
abbrev S8192x4096 : Shape := ⟨2, ![8192, 4096]⟩
abbrev S1x4096 : Shape := ⟨2, ![1, 4096]⟩
abbrev S8192x2x2048 : Shape := ⟨3, ![8192, 2, 2048]⟩
abbrev S2x8192x2048 : Shape := ⟨3, ![2, 8192, 2048]⟩
abbrev S512x2048 : Shape := ⟨2, ![512, 2048]⟩
abbrev S2x512x2048 : Shape := ⟨3, ![2, 512, 2048]⟩
abbrev S1x512x2048 : Shape := ⟨3, ![1, 512, 2048]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S1x4096, .f32⟩
  | .hbm, ⟨4, _⟩ => ⟨S8192x4096, .f32⟩
  | .hbm, ⟨5, _⟩ => ⟨S8192x4096, .f32⟩
  | .hbm, ⟨6, _⟩ => ⟨S8192x2x2048, .f32⟩
  | .hbm, ⟨7, _⟩ => ⟨S2x8192x2048, .f32⟩
  | .hbm, ⟨8, _⟩ => ⟨S2x8192x2048, .bf16⟩
  | .hbm, ⟨9, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2x512x2048, .bf16⟩
  | .local _ .vmem, ⟨5, _⟩ => ⟨S2x512x2048, .bf16⟩
  | .local _ .vmem, ⟨6, _⟩ => ⟨S512x2048, .bf16⟩
  | .local _ .vmem, ⟨7, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MergeFwdRefIdeal.lean ====
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S1x4096, .f32⟩
  | .hbm, ⟨4, _⟩ => ⟨S8192x2048, .f32⟩
  | .hbm, ⟨5, _⟩ => ⟨S8192x2048, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== PrepFwd.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S16x64x64 : Shape := ⟨3, ![16, 64, 64]⟩
abbrev S32x64x64 : Shape := ⟨3, ![32, 64, 64]⟩
abbrev S1x64x64 : Shape := ⟨3, ![1, 64, 64]⟩

abbrev nBuf : Space → Nat
  | .hbm => 14
  | .vmem => 11
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S16x64x64, .f32⟩
  | .hbm, ⟨7, _⟩ => ⟨S16x64x64, .f32⟩
  | .hbm, ⟨8, _⟩ => ⟨S64x64, .f32⟩
  | .hbm, ⟨9, _⟩ => ⟨S64x64, .f32⟩
  | .hbm, ⟨10, _⟩ => ⟨S32x64x64, .f32⟩
  | .hbm, ⟨11, _⟩ => ⟨S32x64x64, .f32⟩
  | .hbm, ⟨12, _⟩ => ⟨S16x64x64, .f32⟩
  | .hbm, ⟨13, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S32x64x64, .f32⟩
  | .local _ .vmem, ⟨8, _⟩ => ⟨S32x64x64, .f32⟩
  | .local _ .vmem, ⟨9, _⟩ => ⟨S16x64x64, .f32⟩
  | .local _ .vmem, ⟨10, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== PrepFwdRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩

abbrev nBuf : Space → Nat
  | .hbm => 48
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64x1, .f32⟩
  | .hbm, ⟨33, _⟩ => ⟨S64x64x16, .f32⟩
  | .hbm, ⟨34, _⟩ => ⟨S64x64x16, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S16x64x64, .f32⟩
  | .hbm, ⟨47, _⟩ => ⟨S16x64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== Powers.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S16x64x64 : Shape := ⟨3, ![16, 64, 64]⟩
abbrev S32x64x64 : Shape := ⟨3, ![32, 64, 64]⟩
abbrev S1x64x64 : Shape := ⟨3, ![1, 64, 64]⟩

abbrev nBuf : Space → Nat
  | .hbm => 14
  | .vmem => 11
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S16x64x64, .f32⟩
  | .hbm, ⟨7, _⟩ => ⟨S16x64x64, .f32⟩
  | .hbm, ⟨8, _⟩ => ⟨S64x64, .f32⟩
  | .hbm, ⟨9, _⟩ => ⟨S64x64, .f32⟩
  | .hbm, ⟨10, _⟩ => ⟨S32x64x64, .f32⟩
  | .hbm, ⟨11, _⟩ => ⟨S32x64x64, .f32⟩
  | .hbm, ⟨12, _⟩ => ⟨S16x64x64, .f32⟩
  | .hbm, ⟨13, _⟩ => ⟨S16x64x64, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S16x64x64, .f32⟩
  | .local _ .vmem, ⟨4, _⟩ => ⟨S16x64x64, .f32⟩
  | .local _ .vmem, ⟨5, _⟩ => ⟨S64x64, .f32⟩
  | .local _ .vmem, ⟨6, _⟩ => ⟨S64x64, .f32⟩
  | .local _ .vmem, ⟨7, _⟩ => ⟨S32x64x64, .f32⟩
  | .local _ .vmem, ⟨8, _⟩ => ⟨S32x64x64, .f32⟩
  | .local _ .vmem, ⟨9, _⟩ => ⟨S16x64x64, .f32⟩
  | .local _ .vmem, ⟨10, _⟩ => ⟨S16x64x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== PowersRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S32x64x64 : Shape := ⟨3, ![32, 64, 64]⟩
abbrev S1x64x64 : Shape := ⟨3, ![1, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64x1, .f32⟩
  | .hbm, ⟨33, _⟩ => ⟨S64x64x16, .f32⟩
  | .hbm, ⟨34, _⟩ => ⟨S64x64x16, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x16, .f32⟩
  | .hbm, ⟨39, _⟩ => ⟨S64x64x1, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x16, .f32⟩
  | .hbm, ⟨46, _⟩ => ⟨S_, .f32⟩
  | .hbm, ⟨47, _⟩ => ⟨S64x64, .f32⟩
  | .hbm, ⟨48, _⟩ => ⟨S_, .f32⟩
  | .hbm, ⟨49, _⟩ => ⟨S64x64, .f32⟩
  | .hbm, ⟨50, _⟩ => ⟨S_, .f32⟩
  | .hbm, ⟨51, _⟩ => ⟨S32x64x64, .f32⟩
  | .hbm, ⟨52, _⟩ => ⟨S_, .f32⟩
  | .hbm, ⟨53, _⟩ => ⟨S32x64x64, .f32⟩
  | .hbm, ⟨54, _⟩ => ⟨S_, .i32⟩
  | .hbm, ⟨55, _⟩ => ⟨S64x64, .f32⟩
  | .hbm, ⟨56, _⟩ => ⟨S64x64, .f32⟩
  | .hbm, ⟨57, _⟩ => ⟨S_, .i32⟩
  | .hbm, ⟨58, _⟩ => ⟨S64x64, .f32⟩
  | .hbm, ⟨59, _⟩ => ⟨S64x64, .f32⟩
  | .hbm, ⟨60, _⟩ => ⟨S32x64x64, .f32⟩
  | .hbm, ⟨61, _⟩ => ⟨S32x64x64, .f32⟩
  | .hbm, ⟨62, _⟩ => ⟨S_, .i32⟩
  | .hbm, ⟨63, _⟩ => ⟨S_, .i1⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S1x64x64, .f32⟩
  | .hbm, ⟨71, _⟩ => ⟨S_, .i32⟩
  | .hbm, ⟨72, _⟩ => ⟨S_, .i32⟩
  | .hbm, ⟨73, _⟩ => ⟨S32x64x64, .f32⟩
  | .hbm, ⟨74, _⟩ => ⟨S1x64x64, .f32⟩
  | .hbm, ⟨75, _⟩ => ⟨S_, .i32⟩
  | .hbm, ⟨76, _⟩ => ⟨S_, .i32⟩
  | .hbm, ⟨77, _⟩ => ⟨S32x64x64, .f32⟩
  | .hbm, ⟨78, _⟩ => ⟨S_, .i32⟩
  | .hbm, ⟨79, _⟩ => ⟨S_, .i32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_0 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_c : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev main_v44_3 : Ref sig .tc := ⟨.hbm, 58, rfl⟩
abbrev main_v44_4 : Ref sig .tc := ⟨.hbm, 59, rfl⟩
abbrev main_v44_5 : Ref sig .tc := ⟨.hbm, 60, rfl⟩
abbrev main_v44_6 : Ref sig .tc := ⟨.hbm, 61, rfl⟩
abbrev main_while0c_c_10 : Ref sig .tc := ⟨.hbm, 62, rfl⟩
abbrev main_while0c_v45 : Ref sig .tc := ⟨.hbm, 63, rfl⟩
abbrev main_while0b_v45 : Ref sig .tc := ⟨.hbm, 64, rfl⟩
abbrev main_while0b_v46 : Ref sig .tc := ⟨.hbm, 65, rfl⟩
abbrev main_while0b_v47 : Ref sig .tc := ⟨.hbm, 66, rfl⟩
abbrev main_while0b_v48 : Ref sig .tc := ⟨.hbm, 67, rfl⟩
abbrev main_while0b_v49 : Ref sig .tc := ⟨.hbm, 68, rfl⟩
abbrev main_while0b_v50 : Ref sig .tc := ⟨.hbm, 69, rfl⟩
abbrev main_while0b_call0_v0 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_v51 : Ref sig .tc := ⟨.hbm, 73, rfl⟩
abbrev main_while0b_call1_v0 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_v52 : Ref sig .tc := ⟨.hbm, 77, rfl⟩
abbrev main_while0b_c_10 : Ref sig .tc := ⟨.hbm, 78, rfl⟩
abbrev main_while0b_v53 : Ref sig .tc := ⟨.hbm, 79, rfl⟩

abbrev nD : Nat := 1
abbrev τ : Topo := Topo.v7x

variable {F : FTy → Type} [FloatOps F]

abbrev main_while0_count : Scf.Loop 32 := ⟨0#32, 32#32, 1#32⟩
-- ==== SwigluFwd.lean ====
abbrev S8192x2048 : Shape := ⟨2, ![8192, 2048]⟩
abbrev S2048x5632 : Shape := ⟨2, ![2048, 5632]⟩
abbrev S5632x2048 : Shape := ⟨2, ![5632, 2048]⟩
abbrev S8x704x2048 : Shape := ⟨3, ![8, 704, 2048]⟩
abbrev S8x1x704x2048 : Shape := ⟨4, ![8, 1, 704, 2048]⟩
abbrev S8x2x704x2048 : Shape := ⟨4, ![8, 2, 704, 2048]⟩
abbrev S8x2x704x8192 : Shape := ⟨4, ![8, 2, 704, 8192]⟩
abbrev S8x704x8192 : Shape := ⟨3, ![8, 704, 8192]⟩
abbrev S1x2x704x2048 : Shape := ⟨4, ![1, 2, 704, 2048]⟩
abbrev S1024x2048 : Shape := ⟨2, ![1024, 2048]⟩
abbrev S1x2x704x1024 : Shape := ⟨4, ![1, 2, 704, 1024]⟩
abbrev S1x704x1024 : Shape := ⟨3, ![1, 704, 1024]⟩
abbrev S1x1x704x2048 : Shape := ⟨4, ![1, 1, 704, 2048]⟩
abbrev S704x2048 : Shape := ⟨2, ![704, 2048]⟩
abbrev S704x1024 : Shape := ⟨2, ![704, 1024]⟩
abbrev S1x1x704x1024 : Shape := ⟨4, ![1, 1, 704, 1024]⟩

abbrev nBuf : Space → Nat
  | .hbm => 14
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S5632x2048, .bf16⟩
  | .hbm, ⟨5, _⟩ => ⟨S8x704x2048, .bf16⟩
  | .hbm, ⟨6, _⟩ => ⟨S5632x2048, .f32⟩
  | .hbm, ⟨7, _⟩ => ⟨S5632x2048, .bf16⟩
  | .hbm, ⟨8, _⟩ => ⟨S8x704x2048, .bf16⟩
  | .hbm, ⟨9, _⟩ => ⟨S8x1x704x2048, .bf16⟩
  | .hbm, ⟨10, _⟩ => ⟨S8x1x704x2048, .bf16⟩
  | .hbm, ⟨11, _⟩ => ⟨S8x2x704x2048, .bf16⟩
  | .hbm, ⟨12, _⟩ => ⟨S8x2x704x8192, .bf16⟩
  | .hbm, ⟨13, _⟩ => ⟨S8x704x8192, .bf16⟩
  | .local _ .vmem, ⟨0, _⟩ => ⟨S1x2x704x2048, .bf16⟩
  | .local _ .vmem, ⟨1, _⟩ => ⟨S1x2x704x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2x704x1024, .bf16⟩
  | .local _ .vmem, ⟨5, _⟩ => ⟨S1x2x704x1024, .bf16⟩
  | .local _ .vmem, ⟨6, _⟩ => ⟨S1x704x1024, .bf16⟩
  | .local _ .vmem, ⟨7, _⟩ => ⟨S1x704x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2x704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SwigluFwdRefIdeal.lean ====
abbrev S8192x2048 : Shape := ⟨2, ![8192, 2048]⟩
abbrev S2048x5632 : Shape := ⟨2, ![2048, 5632]⟩
abbrev S8192x5632 : Shape := ⟨2, ![8192, 5632]⟩
abbrev S5632x8192 : Shape := ⟨2, ![5632, 8192]⟩
abbrev S8x704x8192 : Shape := ⟨3, ![8, 704, 8192]⟩
abbrev S8x1x704x8192 : Shape := ⟨4, ![8, 1, 704, 8192]⟩
abbrev S8x2x704x8192 : Shape := ⟨4, ![8, 2, 704, 8192]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .f32⟩
  | .hbm, ⟨2, _⟩ => ⟨S2048x5632, .f32⟩
  | .hbm, ⟨3, _⟩ => ⟨S8192x2048, .f32⟩
  | .hbm, ⟨4, _⟩ => ⟨S8192x5632, .f32⟩
  | .hbm, ⟨5, _⟩ => ⟨S8192x5632, .f32⟩
  | .hbm, ⟨6, _⟩ => ⟨S5632x8192, .f32⟩
  | .hbm, ⟨7, _⟩ => ⟨S8x704x8192, .f32⟩
  | .hbm, ⟨8, _⟩ => ⟨S5632x8192, .f32⟩
  | .hbm, ⟨9, _⟩ => ⟨S8x704x8192, .f32⟩
  | .hbm, ⟨10, _⟩ => ⟨S8x1x704x8192, .f32⟩
  | .hbm, ⟨11, _⟩ => ⟨S8x1x704x8192, .f32⟩
  | .hbm, ⟨12, _⟩ => ⟨S8x2x704x8192, .f32⟩
  | .hbm, ⟨13, _⟩ => ⟨S8x2x704x8192, .bf16⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S5632x8192, .f32⟩
  | .hbm, ⟨25, _⟩ => ⟨S8x704x8192, .f32⟩
  | .hbm, ⟨26, _⟩ => ⟨S8x704x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== SguFwd.lean ====
abbrev S8192x3072 : Shape := ⟨2, ![8192, 3072]⟩
abbrev S1x1024 : Shape := ⟨2, ![1, 1024]⟩
abbrev S8x128x128 : Shape := ⟨3, ![8, 128, 128]⟩
abbrev S8x128 : Shape := ⟨2, ![8, 128]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x128x1 : Shape := ⟨3, ![8, 128, 1]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S128x1024 : Shape := ⟨2, ![128, 1024]⟩

abbrev nBuf : Space → Nat
  | .hbm => 39
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S128, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i1⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S128, .i32⟩
  | .hbm, ⟨24, _⟩ => ⟨S128x1, .i32⟩
  | .hbm, ⟨25, _⟩ => ⟨S1x128, .i32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S1x128x128, .i1⟩
  | .hbm, ⟨30, _⟩ => ⟨S_, .f32⟩
  | .hbm, ⟨31, _⟩ => ⟨S_, .f32⟩
  | .hbm, ⟨32, _⟩ => ⟨S8x128x128, .i1⟩
  | .hbm, ⟨33, _⟩ => ⟨S8x128x128, .f32⟩
  | .hbm, ⟨34, _⟩ => ⟨S8x128x128, .f32⟩
  | .hbm, ⟨35, _⟩ => ⟨S8x128x128, .bf16⟩
  | .hbm, ⟨36, _⟩ => ⟨S8x128x1, .f32⟩
  | .hbm, ⟨37, _⟩ => ⟨S8x128x128, .f32⟩
  | .hbm, ⟨38, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S8x128x128, .f32⟩
  | .local _ .vmem, ⟨8, _⟩ => ⟨S512x1024, .bf16⟩
  | .local _ .vmem, ⟨9, _⟩ => ⟨S512x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdIdeal.lean ====
variable {F : FTy → Type} [FloatOps F] [Named F]
def κ : String → Option EReal := fun
  | "cubic" => some ((8943 / 200000 : ℝ) : EReal)
  | _ => none
-- ==== SguFwdRefIdeal.lean ====
abbrev S8192x3072 : Shape := ⟨2, ![8192, 3072]⟩
abbrev S1x1024 : Shape := ⟨2, ![1, 1024]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S64x128x8x128 : Shape := ⟨4, ![64, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 96
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S8192x2048, .bf16⟩
  | .hbm, ⟨6, _⟩ => ⟨S8192x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S64x128x8x128, .f32⟩
  | .hbm, ⟨57, _⟩ => ⟨S128, .i32⟩
  | .hbm, ⟨58, _⟩ => ⟨S_, .i32⟩
  | .hbm, ⟨59, _⟩ => ⟨S_, .i32⟩
  | .hbm, ⟨60, _⟩ => ⟨S128, .i32⟩
  | .hbm, ⟨61, _⟩ => ⟨S128, .i32⟩
  | .hbm, ⟨62, _⟩ => ⟨S128, .i32⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i1⟩
  | .hbm, ⟨71, _⟩ => ⟨S128, .i1⟩
  | .hbm, ⟨72, _⟩ => ⟨S_, .i32⟩
  | .hbm, ⟨73, _⟩ => ⟨S128, .i32⟩
  | .hbm, ⟨74, _⟩ => ⟨S128, .i32⟩
  | .hbm, ⟨75, _⟩ => ⟨S128, .i32⟩
  | .hbm, ⟨76, _⟩ => ⟨S128x1, .i32⟩
  | .hbm, ⟨77, _⟩ => ⟨S1x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S1x128x128, .i1⟩
  | .hbm, ⟨82, _⟩ => ⟨S_, .f32⟩
  | .hbm, ⟨83, _⟩ => ⟨S8x128x128, .i1⟩
  | .hbm, ⟨84, _⟩ => ⟨S8x128x128, .f32⟩
  | .hbm, ⟨85, _⟩ => ⟨S8x128x128, .f32⟩
  | .hbm, ⟨86, _⟩ => ⟨S8x64x128x128, .f32⟩
  | .hbm, ⟨87, _⟩ => ⟨S64x128x8x128, .f32⟩
  | .hbm, ⟨88, _⟩ => ⟨S128x8, .f32⟩
  | .hbm, ⟨89, _⟩ => ⟨S128x8x1, .f32⟩
  | .hbm, ⟨90, _⟩ => ⟨S1x128x8x1, .f32⟩
  | .hbm, ⟨91, _⟩ => ⟨S64x128x8x128, .f32⟩
  | .hbm, ⟨92, _⟩ => ⟨S64x128x8x128, .f32⟩
  | .hbm, ⟨93, _⟩ => ⟨S8192x1024, .f32⟩
  | .hbm, ⟨94, _⟩ => ⟨S8192x1024, .f32⟩
  | .hbm, ⟨95, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_v8 : Ref sig .tc := ⟨.hbm, 67, rfl⟩
abbrev main_call0_c : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_0 : Ref sig .tc := ⟨.hbm, 72, rfl⟩
abbrev main_call0_v12 : Ref sig .tc := ⟨.hbm, 73, rfl⟩
abbrev main_call0_v13 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_call1_v0 : Ref sig .tc := ⟨.hbm, 83, rfl⟩
abbrev main_call1_v1 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩

abbrev nD : Nat := 1
abbrev τ : Topo := Topo.v7x

variable {F : FTy → Type} [FloatOps F]
-- ==== OutBwdW.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdWRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutBwdA.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .bf16⟩
  | .hbm, ⟨2, _⟩ => ⟨S2048x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutBwdARefIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutFwd.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutFwdRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InFwd.lean ====
abbrev S8192x2048 : Shape := ⟨2, ![8192, 2048]⟩
abbrev S2048x3072 : Shape := ⟨2, ![2048, 3072]⟩
abbrev S3072x2048 : Shape := ⟨2, ![3072, 2048]⟩
abbrev S8192x3072 : Shape := ⟨2, ![8192, 3072]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S3072x2048, .f32⟩
  | .hbm, ⟨3, _⟩ => ⟨S3072x2048, .bf16⟩
  | .hbm, ⟨4, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .bf16⟩
  | .local _ .vmem, ⟨5, _⟩ => ⟨S1024x1536, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x3072, .f32⟩
  | .hbm, ⟨2, _⟩ => ⟨S8192x2048, .f32⟩
  | .hbm, ⟨3, _⟩ => ⟨S8192x3072, .f32⟩
  | .hbm, ⟨4, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InBwdA.lean ====
abbrev S2048x3072 : Shape := ⟨2, ![2048, 3072]⟩
abbrev S8192x3072 : Shape := ⟨2, ![8192, 3072]⟩
abbrev S8192x2048 : Shape := ⟨2, ![8192, 2048]⟩
abbrev S3072x2048 : Shape := ⟨2, ![3072, 2048]⟩
abbrev S1024x3072 : Shape := ⟨2, ![1024, 3072]⟩
abbrev S3072x1024 : Shape := ⟨2, ![3072, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x3072, .f32⟩
  | .hbm, ⟨1, _⟩ => ⟨S8192x3072, .bf16⟩
  | .hbm, ⟨2, _⟩ => ⟨S8192x2048, .bf16⟩
  | .hbm, ⟨3, _⟩ => ⟨S3072x2048, .f32⟩
  | .hbm, ⟨4, _⟩ => ⟨S3072x2048, .bf16⟩
  | .hbm, ⟨5, _⟩ => ⟨S8192x2048, .bf16⟩
  | .local _ .vmem, ⟨0, _⟩ => ⟨S1024x3072, .bf16⟩
  | .local _ .vmem, ⟨1, _⟩ => ⟨S1024x3072, .bf16⟩
  | .local _ .vmem, ⟨2, _⟩ => ⟨S3072x1024, .bf16⟩
  | .local _ .vmem, ⟨3, _⟩ => ⟨S3072x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S3072x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InBwdARefIdeal.lean ====
abbrev S2048x3072 : Shape := ⟨2, ![2048, 3072]⟩
abbrev S8192x3072 : Shape := ⟨2, ![8192, 3072]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S8192x3072, .bf16⟩
  | .hbm, ⟨2, _⟩ => ⟨S8192x2048, .bf16⟩
  | .hbm, ⟨3, _⟩ => ⟨S_, .f32⟩
  | .hbm, ⟨4, _⟩ => ⟨S8192x2048, .f32⟩
  | .hbm, ⟨5, _⟩ => ⟨S8192x3072, .f32⟩
  | .hbm, ⟨6, _⟩ => ⟨S8192x3072, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownFwd.lean ====
abbrev S8192x5632 : Shape := ⟨2, ![8192, 5632]⟩
abbrev S5632x2048 : Shape := ⟨2, ![5632, 2048]⟩
abbrev S8192x2048 : Shape := ⟨2, ![8192, 2048]⟩
abbrev S5632x8192 : Shape := ⟨2, ![5632, 8192]⟩
abbrev S8x704x8192 : Shape := ⟨3, ![8, 704, 8192]⟩
abbrev S8x704x2048 : Shape := ⟨3, ![8, 704, 2048]⟩
abbrev S2816x1024 : Shape := ⟨2, ![2816, 1024]⟩
abbrev S1024x1024 : Shape := ⟨2, ![1024, 1024]⟩
abbrev S1x1024x1024 : Shape := ⟨3, ![1, 1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S5632x8192, .bf16⟩
  | .hbm, ⟨4, _⟩ => ⟨S8x704x8192, .bf16⟩
  | .hbm, ⟨5, _⟩ => ⟨S5632x2048, .bf16⟩
  | .hbm, ⟨6, _⟩ => ⟨S8x704x2048, .bf16⟩
  | .hbm, ⟨7, _⟩ => ⟨S5632x8192, .bf16⟩
  | .hbm, ⟨8, _⟩ => ⟨S5632x2048, .bf16⟩
  | .hbm, ⟨9, _⟩ => ⟨S8192x2048, .f32⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownFwdRefIdeal.lean ====
abbrev S8192x5632 : Shape := ⟨2, ![8192, 5632]⟩
abbrev S5632x2048 : Shape := ⟨2, ![5632, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InBwdW.lean ====
abbrev S8192x2048 : Shape := ⟨2, ![8192, 2048]⟩
abbrev S8192x3072 : Shape := ⟨2, ![8192, 3072]⟩
abbrev S8x2048x384 : Shape := ⟨3, ![8, 2048, 384]⟩
abbrev S2048x1024 : Shape := ⟨2, ![2048, 1024]⟩
abbrev S2048x1536 : Shape := ⟨2, ![2048, 1536]⟩
abbrev S4x1024x384 : Shape := ⟨3, ![4, 1024, 384]⟩
abbrev S1x1024x1536 : Shape := ⟨3, ![1, 1024, 1536]⟩
abbrev S1024x1536 : Shape := ⟨2, ![1024, 1536]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S8x2048x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .bf16⟩
  | .local _ .vmem, ⟨5, _⟩ => ⟨S4x1024x384, .bf16⟩
  | .local _ .vmem, ⟨6, _⟩ => ⟨S1x1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S4x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InBwdWRefIdeal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩
abbrev S2048x8x384 : Shape := ⟨3, ![2048, 8, 384]⟩
abbrev S8x2048x384 : Shape := ⟨3, ![8, 2048, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .bf16⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S8192x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | .hbm, ⟨10, _⟩ => ⟨S2048x8x384, .bf16⟩
  | .hbm, ⟨11, _⟩ => ⟨S8x2048x384, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GateFwd.lean ====
abbrev S8192x2048 : Shape := ⟨2, ![8192, 2048]⟩
abbrev S2048x4096 : Shape := ⟨2, ![2048, 4096]⟩
abbrev S1x4096 : Shape := ⟨2, ![1, 4096]⟩
abbrev S2048x8x512 : Shape := ⟨3, ![2048, 8, 512]⟩
abbrev S8x2048x512 : Shape := ⟨3, ![8, 2048, 512]⟩
abbrev S2x1x2048 : Shape := ⟨3, ![2, 1, 2048]⟩
abbrev S2x8192x2048 : Shape := ⟨3, ![2, 8192, 2048]⟩
abbrev S1024x2048 : Shape := ⟨2, ![1024, 2048]⟩
abbrev S2x2048x512 : Shape := ⟨3, ![2, 2048, 512]⟩
abbrev S1x1x1024 : Shape := ⟨3, ![1, 1, 1024]⟩
abbrev S1x1024x1024 : Shape := ⟨3, ![1, 1024, 1024]⟩
abbrev S1x2048x512 : Shape := ⟨3, ![1, 2048, 512]⟩
abbrev S2048x512 : Shape := ⟨2, ![2048, 512]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S1x4096, .f32⟩
  | .hbm, ⟨3, _⟩ => ⟨S2048x8x512, .f32⟩
  | .hbm, ⟨4, _⟩ => ⟨S8x2048x512, .f32⟩
  | .hbm, ⟨5, _⟩ => ⟨S8x2048x512, .bf16⟩
  | .hbm, ⟨6, _⟩ => ⟨S2x1x2048, .f32⟩
  | .hbm, ⟨7, _⟩ => ⟨S2x8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2x2048x512, .bf16⟩
  | .local _ .vmem, ⟨3, _⟩ => ⟨S2x2048x512, .bf16⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .bf16⟩
  | .local _ .vmem, ⟨7, _⟩ => ⟨S1x1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GateFwdRefIdeal.lean ====
abbrev S8192x2048 : Shape := ⟨2, ![8192, 2048]⟩
abbrev S2048x4096 : Shape := ⟨2, ![2048, 4096]⟩
abbrev S1x4096 : Shape := ⟨2, ![1, 4096]⟩
abbrev S8192x4096 : Shape := ⟨2, ![8192, 4096]⟩
abbrev S1x8192x2048 : Shape := ⟨3, ![1, 8192, 2048]⟩
abbrev S2x8192x2048 : Shape := ⟨3, ![2, 8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S1x4096, .f32⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x2048, .bf16⟩
  | .hbm, ⟨9, _⟩ => ⟨S8192x2048, .bf16⟩
  | .hbm, ⟨10, _⟩ => ⟨S1x8192x2048, .bf16⟩
  | .hbm, ⟨11, _⟩ => ⟨S1x8192x2048, .bf16⟩
  | .hbm, ⟨12, _⟩ => ⟨S2x8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AdamShard.lean ====
abbrev S8x256x2048 : Shape := ⟨3, ![8, 256, 2048]⟩
abbrev S256x2048 : Shape := ⟨2, ![256, 2048]⟩
abbrev S1x128x2048 : Shape := ⟨3, ![1, 128, 2048]⟩
abbrev S128x2048 : Shape := ⟨2, ![128, 2048]⟩

abbrev nBuf : Space → Nat
  | .hbm => 8
  | .vmem => 30
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x128x2048, .bf16⟩
  | .local _ .vmem, ⟨9, _⟩ => ⟨S1x128x2048, .bf16⟩
  | .local _ .vmem, ⟨10, _⟩ => ⟨S1x128x2048, .bf16⟩
  | .local _ .vmem, ⟨11, _⟩ => ⟨S1x128x2048, .bf16⟩
  | .local _ .vmem, ⟨12, _⟩ => ⟨S1x128x2048, .bf16⟩
  | .local _ .vmem, ⟨13, _⟩ => ⟨S1x128x2048, .bf16⟩
  | .local _ .vmem, ⟨14, _⟩ => ⟨S1x128x2048, .bf16⟩
  | .local _ .vmem, ⟨15, _⟩ => ⟨S1x128x2048, .bf16⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AdamShardRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== GateBwdA.lean ====
abbrev S2048x4096 : Shape := ⟨2, ![2048, 4096]⟩
abbrev S8192x4096 : Shape := ⟨2, ![8192, 4096]⟩
abbrev S8192x2048 : Shape := ⟨2, ![8192, 2048]⟩
abbrev S1x8192x2048 : Shape := ⟨3, ![1, 8192, 2048]⟩
abbrev S2x8192x2048 : Shape := ⟨3, ![2, 8192, 2048]⟩
abbrev S2048x8x512 : Shape := ⟨3, ![2048, 8, 512]⟩
abbrev S8x2048x512 : Shape := ⟨3, ![8, 2048, 512]⟩
abbrev S2x1024x2048 : Shape := ⟨3, ![2, 1024, 2048]⟩
abbrev S8x1024x512 : Shape := ⟨3, ![8, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 11
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S1x8192x2048, .bf16⟩
  | .hbm, ⟨5, _⟩ => ⟨S1x8192x2048, .bf16⟩
  | .hbm, ⟨6, _⟩ => ⟨S2x8192x2048, .bf16⟩
  | .hbm, ⟨7, _⟩ => ⟨S2048x8x512, .f32⟩
  | .hbm, ⟨8, _⟩ => ⟨S8x2048x512, .f32⟩
  | .hbm, ⟨9, _⟩ => ⟨S8x2048x512, .bf16⟩
  | .hbm, ⟨10, _⟩ => ⟨S8192x2048, .bf16⟩
  | .local _ .vmem, ⟨0, _⟩ => ⟨S2x1024x2048, .bf16⟩
  | .local _ .vmem, ⟨1, _⟩ => ⟨S2x1024x2048, .bf16⟩
  | .local _ .vmem, ⟨2, _⟩ => ⟨S8x1024x512, .bf16⟩
  | .local _ .vmem, ⟨3, _⟩ => ⟨S8x1024x512, .bf16⟩
  | .local _ .vmem, ⟨4, _⟩ => ⟨S1024x1024, .bf16⟩
  | .local _ .vmem, ⟨5, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S8x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateBwdARefIdeal.lean ====
abbrev S2048x4096 : Shape := ⟨2, ![2048, 4096]⟩
abbrev S8192x4096 : Shape := ⟨2, ![8192, 4096]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8192x4096, .bf16⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S8192x2048, .f32⟩
  | .hbm, ⟨7, _⟩ => ⟨S8192x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchFwd.lean ====
abbrev S8192x1024 : Shape := ⟨2, ![8192, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8192x2048 : Shape := ⟨2, ![8192, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S1024x8x256, .f32⟩
  | .hbm, ⟨3, _⟩ => ⟨S8x1024x256, .f32⟩
  | .hbm, ⟨4, _⟩ => ⟨S8x1024x256, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S8x1024x256, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchFwdRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2048, .f32⟩
  | .hbm, ⟨2, _⟩ => ⟨S8192x1024, .f32⟩
  | .hbm, ⟨3, _⟩ => ⟨S8192x2048, .f32⟩
  | .hbm, ⟨4, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== BranchBwdA.lean ====
abbrev S1024x2048 : Shape := ⟨2, ![1024, 2048]⟩
abbrev S8192x2048 : Shape := ⟨2, ![8192, 2048]⟩
abbrev S1024x8x256 : Shape := ⟨3, ![1024, 8, 256]⟩
abbrev S8x1024x256 : Shape := ⟨3, ![8, 1024, 256]⟩
abbrev S8192x1024 : Shape := ⟨2, ![8192, 1024]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S8192x2048, .bf16⟩
  | .hbm, ⟨2, _⟩ => ⟨S1024x8x256, .f32⟩
  | .hbm, ⟨3, _⟩ => ⟨S8x1024x256, .f32⟩
  | .hbm, ⟨4, _⟩ => ⟨S8x1024x256, .bf16⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .bf16⟩
  | .local _ .vmem, ⟨4, _⟩ => ⟨S1024x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchBwdARefIdeal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S8192x2048, .bf16⟩
  | .hbm, ⟨2, _⟩ => ⟨S_, .f32⟩
  | .hbm, ⟨3, _⟩ => ⟨S8192x1024, .f32⟩
  | .hbm, ⟨4, _⟩ => ⟨S8192x2048, .f32⟩
  | .hbm, ⟨5, _⟩ => ⟨S8192x2048, .f32⟩
  | .hbm, ⟨6, _⟩ => ⟨S8192x1024, .f32⟩
  | .hbm, ⟨7, _⟩ => ⟨S8192x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateBwdW.lean ====
abbrev S8192x2048 : Shape := ⟨2, ![8192, 2048]⟩
abbrev S8192x4096 : Shape := ⟨2, ![8192, 4096]⟩
abbrev S1x8192x2048 : Shape := ⟨3, ![1, 8192, 2048]⟩
abbrev S2x8192x2048 : Shape := ⟨3, ![2, 8192, 2048]⟩
abbrev S8x2048x512 : Shape := ⟨3, ![8, 2048, 512]⟩
abbrev S2048x1024 : Shape := ⟨2, ![2048, 1024]⟩
abbrev S1x2048x1024 : Shape := ⟨3, ![1, 2048, 1024]⟩
abbrev S2x1024x512 : Shape := ⟨3, ![2, 1024, 512]⟩
abbrev S1x1024x1024 : Shape := ⟨3, ![1, 1024, 1024]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .bf16⟩
  | .hbm, ⟨3, _⟩ => ⟨S8192x2048, .bf16⟩
  | .hbm, ⟨4, _⟩ => ⟨S1x8192x2048, .bf16⟩
  | .hbm, ⟨5, _⟩ => ⟨S1x8192x2048, .bf16⟩
  | .hbm, ⟨6, _⟩ => ⟨S2x8192x2048, .bf16⟩
  | .hbm, ⟨7, _⟩ => ⟨S8x2048x512, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1x1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateBwdWRefIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | .hbm, ⟨10, _⟩ => ⟨S2048x8x512, .bf16⟩
  | .hbm, ⟨11, _⟩ => ⟨S8x2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpBwdW.lean ====
abbrev S8192x2048 : Shape := ⟨2, ![8192, 2048]⟩
abbrev S8192x5632 : Shape := ⟨2, ![8192, 5632]⟩
abbrev S5632x8192 : Shape := ⟨2, ![5632, 8192]⟩
abbrev S8x704x8192 : Shape := ⟨3, ![8, 704, 8192]⟩
abbrev S8x1x704x8192 : Shape := ⟨4, ![8, 1, 704, 8192]⟩
abbrev S8x2x704x8192 : Shape := ⟨4, ![8, 2, 704, 8192]⟩
abbrev S8x2x704x2048 : Shape := ⟨4, ![8, 2, 704, 2048]⟩
abbrev S1x2x704x4096 : Shape := ⟨4, ![1, 2, 704, 4096]⟩
abbrev S4096x1024 : Shape := ⟨2, ![4096, 1024]⟩
abbrev S1x2x704x1024 : Shape := ⟨4, ![1, 2, 704, 1024]⟩
abbrev S2x704x1024 : Shape := ⟨3, ![2, 704, 1024]⟩
abbrev S1x704x1024 : Shape := ⟨3, ![1, 704, 1024]⟩
abbrev S704x1024 : Shape := ⟨2, ![704, 1024]⟩
abbrev S1x1x704x4096 : Shape := ⟨4, ![1, 1, 704, 4096]⟩
abbrev S704x4096 : Shape := ⟨2, ![704, 4096]⟩
abbrev S1x1x704x1024 : Shape := ⟨4, ![1, 1, 704, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S5632x8192, .bf16⟩
  | .hbm, ⟨4, _⟩ => ⟨S8x704x8192, .bf16⟩
  | .hbm, ⟨5, _⟩ => ⟨S5632x8192, .bf16⟩
  | .hbm, ⟨6, _⟩ => ⟨S8x704x8192, .bf16⟩
  | .hbm, ⟨7, _⟩ => ⟨S8x1x704x8192, .bf16⟩
  | .hbm, ⟨8, _⟩ => ⟨S8x1x704x8192, .bf16⟩
  | .hbm, ⟨9, _⟩ => ⟨S8x2x704x8192, .bf16⟩
  | .hbm, ⟨10, _⟩ => ⟨S8x2x704x2048, .bf16⟩
  | .local _ .vmem, ⟨0, _⟩ => ⟨S1x2x704x4096, .bf16⟩
  | .local _ .vmem, ⟨1, _⟩ => ⟨S1x2x704x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x2x704x1024, .bf16⟩
  | .local _ .vmem, ⟨5, _⟩ => ⟨S1x2x704x1024, .bf16⟩
  | .local _ .vmem, ⟨6, _⟩ => ⟨S2x704x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v23 : BitVec 1 := Scalar.cmpi .eq arg2 c1_i32
  let v24 : BitVec 32 := Scalar.extui v23
  let c0_i32_24 : BitVec 32 := 0#32
  let v25 : BitVec 1 := Scalar.cmpi .ne v24 c0_i32_24
  v25

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x2x704x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpBwdWRefIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩
abbrev S8x1x704x2048 : Shape := ⟨4, ![8, 1, 704, 2048]⟩
abbrev S8x2x704x2048 : Shape := ⟨4, ![8, 2, 704, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S_, .f32⟩
  | .hbm, ⟨4, _⟩ => ⟨S2048x5632, .f32⟩
  | .hbm, ⟨5, _⟩ => ⟨S8192x2048, .f32⟩
  | .hbm, ⟨6, _⟩ => ⟨S8192x5632, .f32⟩
  | .hbm, ⟨7, _⟩ => ⟨S8192x2048, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S5632x2048, .f32⟩
  | .hbm, ⟨12, _⟩ => ⟨S2048x5632, .f32⟩
  | .hbm, ⟨13, _⟩ => ⟨S5632x2048, .f32⟩
  | .hbm, ⟨14, _⟩ => ⟨S2048x5632, .f32⟩
  | .hbm, ⟨15, _⟩ => ⟨S5632x2048, .f32⟩
  | .hbm, ⟨16, _⟩ => ⟨S8x704x2048, .f32⟩
  | .hbm, ⟨17, _⟩ => ⟨S5632x2048, .f32⟩
  | .hbm, ⟨18, _⟩ => ⟨S8x704x2048, .f32⟩
  | .hbm, ⟨19, _⟩ => ⟨S8x1x704x2048, .f32⟩
  | .hbm, ⟨20, _⟩ => ⟨S8x1x704x2048, .f32⟩
  | .hbm, ⟨21, _⟩ => ⟨S8x2x704x2048, .f32⟩
  | .hbm, ⟨22, _⟩ => ⟨S8x2x704x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== UpBwdH.lean ====
abbrev S2048x5632 : Shape := ⟨2, ![2048, 5632]⟩
abbrev S8192x5632 : Shape := ⟨2, ![8192, 5632]⟩
abbrev S5632x8192 : Shape := ⟨2, ![5632, 8192]⟩
abbrev S8x704x8192 : Shape := ⟨3, ![8, 704, 8192]⟩
abbrev S8x1x704x8192 : Shape := ⟨4, ![8, 1, 704, 8192]⟩
abbrev S8x2x704x8192 : Shape := ⟨4, ![8, 2, 704, 8192]⟩
abbrev S5632x2048 : Shape := ⟨2, ![5632, 2048]⟩
abbrev S8x704x2048 : Shape := ⟨3, ![8, 704, 2048]⟩
abbrev S8x1x704x2048 : Shape := ⟨4, ![8, 1, 704, 2048]⟩
abbrev S8x2x704x2048 : Shape := ⟨4, ![8, 2, 704, 2048]⟩
abbrev S_ : Shape := ⟨0, ![]⟩
abbrev S8x128 : Shape := ⟨2, ![8, 128]⟩
abbrev S11264x8192 : Shape := ⟨2, ![11264, 8192]⟩
abbrev S11264x2048 : Shape := ⟨2, ![11264, 2048]⟩
abbrev S8192x2048 : Shape := ⟨2, ![8192, 2048]⟩
abbrev S2816x1024 : Shape := ⟨2, ![2816, 1024]⟩
abbrev S2816x2048 : Shape := ⟨2, ![2816, 2048]⟩
abbrev S1024x2048 : Shape := ⟨2, ![1024, 2048]⟩
abbrev S1x1024x2048 : Shape := ⟨3, ![1, 1024, 2048]⟩

abbrev nBuf : Space → Nat
  | .hbm => 24
  | .vmem => 8
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S8192x5632, .bf16⟩
  | .hbm, ⟨3, _⟩ => ⟨S8192x5632, .bf16⟩
  | .hbm, ⟨4, _⟩ => ⟨S5632x8192, .bf16⟩
  | .hbm, ⟨5, _⟩ => ⟨S8x704x8192, .bf16⟩
  | .hbm, ⟨6, _⟩ => ⟨S5632x8192, .bf16⟩
  | .hbm, ⟨7, _⟩ => ⟨S8x704x8192, .bf16⟩
  | .hbm, ⟨8, _⟩ => ⟨S8x1x704x8192, .bf16⟩
  | .hbm, ⟨9, _⟩ => ⟨S8x1x704x8192, .bf16⟩
  | .hbm, ⟨10, _⟩ => ⟨S8x2x704x8192, .bf16⟩
  | .hbm, ⟨11, _⟩ => ⟨S5632x2048, .f32⟩
  | .hbm, ⟨12, _⟩ => ⟨S8x704x2048, .f32⟩
  | .hbm, ⟨13, _⟩ => ⟨S5632x2048, .f32⟩
  | .hbm, ⟨14, _⟩ => ⟨S8x704x2048, .f32⟩
  | .hbm, ⟨15, _⟩ => ⟨S8x1x704x2048, .f32⟩
  | .hbm, ⟨16, _⟩ => ⟨S8x1x704x2048, .f32⟩
  | .hbm, ⟨17, _⟩ => ⟨S8x2x704x2048, .f32⟩
  | .hbm, ⟨18, _⟩ => ⟨S8x2x704x2048, .bf16⟩
  | .hbm, ⟨19, _⟩ => ⟨S_, .f32⟩
  | .hbm, ⟨20, _⟩ => ⟨S8x128, .f32⟩
  | .hbm, ⟨21, _⟩ => ⟨S11264x8192, .bf16⟩
  | .hbm, ⟨22, _⟩ => ⟨S11264x2048, .bf16⟩
  | .hbm, ⟨23, _⟩ => ⟨S8192x2048, .bf16⟩
  | .local _ .vmem, ⟨0, _⟩ => ⟨S2816x1024, .bf16⟩
  | .local _ .vmem, ⟨1, _⟩ => ⟨S2816x1024, .bf16⟩
  | .local _ .vmem, ⟨2, _⟩ => ⟨S2816x2048, .bf16⟩
  | .local _ .vmem, ⟨3, _⟩ => ⟨S2816x2048, .bf16⟩
  | .local _ .vmem, ⟨4, _⟩ => ⟨S8x128, .f32⟩
  | .local _ .vmem, ⟨5, _⟩ => ⟨S1024x2048, .bf16⟩
  | .local _ .vmem, ⟨6, _⟩ => ⟨S1024x2048, .bf16⟩
  | .local _ .vmem, ⟨7, _⟩ => ⟨S1x1024x2048, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpBwdHRefIdeal.lean ====
abbrev S2048x5632 : Shape := ⟨2, ![2048, 5632]⟩
abbrev S8192x5632 : Shape := ⟨2, ![8192, 5632]⟩
abbrev S_ : Shape := ⟨0, ![]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x5632, .f32⟩
  | .hbm, ⟨2, _⟩ => ⟨S8192x5632, .bf16⟩
  | .hbm, ⟨3, _⟩ => ⟨S8192x5632, .bf16⟩
  | .hbm, ⟨4, _⟩ => ⟨S_, .f32⟩
  | .hbm, ⟨5, _⟩ => ⟨S8192x2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== DownBwdW.lean ====
abbrev S8192x5632 : Shape := ⟨2, ![8192, 5632]⟩
abbrev S8192x2048 : Shape := ⟨2, ![8192, 2048]⟩
abbrev S5632x8192 : Shape := ⟨2, ![5632, 8192]⟩
abbrev S8x704x8192 : Shape := ⟨3, ![8, 704, 8192]⟩
abbrev S5632x2048 : Shape := ⟨2, ![5632, 2048]⟩
abbrev S1408x2048 : Shape := ⟨2, ![1408, 2048]⟩
abbrev S2048x1024 : Shape := ⟨2, ![2048, 1024]⟩
abbrev S1408x1024 : Shape := ⟨2, ![1408, 1024]⟩
abbrev S1x1408x1024 : Shape := ⟨3, ![1, 1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x8192, .bf16⟩
  | .hbm, ⟨3, _⟩ => ⟨S8x704x8192, .bf16⟩
  | .hbm, ⟨4, _⟩ => ⟨S5632x8192, .bf16⟩
  | .hbm, ⟨5, _⟩ => ⟨S5632x2048, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1x1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwdWRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S2048x5632, .f32⟩
  | .hbm, ⟨14, _⟩ => ⟨S5632x2048, .f32⟩
  | .hbm, ⟨15, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== AdamSmall.lean ====
abbrev S8x192x128 : Shape := ⟨3, ![8, 192, 128]⟩
abbrev S192x128 : Shape := ⟨2, ![192, 128]⟩
abbrev S1x192x128 : Shape := ⟨3, ![1, 192, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S192x128, .f32⟩
  | .hbm, ⟨5, _⟩ => ⟨S192x128, .f32⟩
  | .hbm, ⟨6, _⟩ => ⟨S192x128, .f32⟩
  | .hbm, ⟨7, _⟩ => ⟨S192x128, .f32⟩
  | .local _ .vmem, ⟨0, _⟩ => ⟨S8x192x128, .f32⟩
  | .local _ .vmem, ⟨1, _⟩ => ⟨S192x128, .f32⟩
  | .local _ .vmem, ⟨2, _⟩ => ⟨S192x128, .f32⟩
  | .local _ .vmem, ⟨3, _⟩ => ⟨S192x128, .f32⟩
  | .local _ .vmem, ⟨4, _⟩ => ⟨S192x128, .f32⟩
  | .local _ .vmem, ⟨5, _⟩ => ⟨S192x128, .f32⟩
  | .local _ .vmem, ⟨6, _⟩ => ⟨S192x128, .f32⟩
  | .local _ .vmem, ⟨7, _⟩ => ⟨S192x128, .f32⟩
  | _, _ => ⟨S8x192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamSmallRefIdeal.lean ====
abbrev S8x192x128 : Shape := ⟨3, ![8, 192, 128]⟩
abbrev S192x128 : Shape := ⟨2, ![192, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x192x128, .f32⟩
  | .hbm, ⟨1, _⟩ => ⟨S192x128, .f32⟩
  | .hbm, ⟨2, _⟩ => ⟨S192x128, .f32⟩
  | .hbm, ⟨3, _⟩ => ⟨S192x128, .f32⟩
  | .hbm, ⟨4, _⟩ => ⟨S_, .f32⟩
  | .hbm, ⟨5, _⟩ => ⟨S192x128, .f32⟩
  | .hbm, ⟨6, _⟩ => ⟨S_, .f32⟩
  | .hbm, ⟨7, _⟩ => ⟨S192x128, .f32⟩
  | .hbm, ⟨8, _⟩ => ⟨S192x128, .f32⟩
  | .hbm, ⟨9, _⟩ => ⟨S_, .f32⟩
  | .hbm, ⟨10, _⟩ => ⟨S192x128, .f32⟩
  | .hbm, ⟨11, _⟩ => ⟨S192x128, .f32⟩
  | .hbm, ⟨12, _⟩ => ⟨S192x128, .f32⟩
  | .hbm, ⟨13, _⟩ => ⟨S_, .f32⟩
  | .hbm, ⟨14, _⟩ => ⟨S192x128, .f32⟩
  | .hbm, ⟨15, _⟩ => ⟨S192x128, .f32⟩
  | .hbm, ⟨16, _⟩ => ⟨S192x128, .f32⟩
  | .hbm, ⟨17, _⟩ => ⟨S_, .f32⟩
  | .hbm, ⟨18, _⟩ => ⟨S192x128, .f32⟩
  | .hbm, ⟨19, _⟩ => ⟨S192x128, .f32⟩
  | .hbm, ⟨20, _⟩ => ⟨S192x128, .f32⟩
  | .hbm, ⟨21, _⟩ => ⟨S_, .f32⟩
  | .hbm, ⟨22, _⟩ => ⟨S192x128, .f32⟩
  | .hbm, ⟨23, _⟩ => ⟨S192x128, .f32⟩
  | .hbm, ⟨24, _⟩ => ⟨S_, .f32⟩
  | .hbm, ⟨25, _⟩ => ⟨S192x128, .f32⟩
  | .hbm, ⟨26, _⟩ => ⟨S192x128, .f32⟩
  | .hbm, ⟨27, _⟩ => ⟨S192x128, .f32⟩
  | .hbm, ⟨28, _⟩ => ⟨S_, .f32⟩
  | .hbm, ⟨29, _⟩ => ⟨S192x128, .f32⟩
  | .hbm, ⟨30, _⟩ => ⟨S192x128, .f32⟩
  | .hbm, ⟨31, _⟩ => ⟨S192x128, .f32⟩
  | .hbm, ⟨32, _⟩ => ⟨S_, .f32⟩
  | .hbm, ⟨33, _⟩ => ⟨S192x128, .f32⟩
  | .hbm, ⟨34, _⟩ => ⟨S192x128, .f32⟩
  | .hbm, ⟨35, _⟩ => ⟨S192x128, .f32⟩
  | .hbm, ⟨36, _⟩ => ⟨S_, .f32⟩
  | .hbm, ⟨37, _⟩ => ⟨S192x128, .f32⟩
  | .hbm, ⟨38, _⟩ => ⟨S192x128, .f32⟩
  | _, _ => ⟨S8x192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Reals.lean ====
/- Finite extended reals: arrays that a precondition says are finite are arrays of real numbers, and on those the
   operations of the programs are the real ones. -/
module

public import Idealize.ShloMosaic.Lib.Claim
public import Idealize.ShloMosaic.Lib.Pointwise

@[expose] public section

noncomputable section

namespace Cert.Reals

open Idealize.ShloMosaic

/-- A sum of real numbers, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of real numbers with a divisor other than zero. -/
theorem div_coe_coe (a : ℝ) {b : ℝ} (hb : b ≠ 0) : Ideal.div (a : EReal) (b : EReal) = ((a / b : ℝ) : EReal) := by
  rw [Ideal.div_coe hb, ← EReal.coe_mul]; congr 1; ring

/-- The reciprocal square root of a positive real number. -/
theorem rsqrt_coe_pos {v : ℝ} (hv : 0 < v) : Ideal.rsqrt (v : EReal) = (((Real.sqrt v)⁻¹ : ℝ) : EReal) := by
  rw [Ideal.rsqrt_coe, if_neg hv.le.not_gt, if_neg hv.ne']

/-- What a precondition says of one element, `|x| < ∞`, makes it a real number. -/
theorem real_of_test {x : EReal} (h : Ideal.cmp .olt (max x (-x)) (Ideal.ofBits .f32 0x7F800000#32) = 1#1) :
    ∃ r : ℝ, x = (r : EReal) := by
  have top : Ideal.ofBits .f32 0x7F800000#32 = ⊤ := by simp [Ideal.ofBits, Ideal.ieee]
  rw [top] at h
  induction x using EReal.rec with
  | bot => simp [Ideal.cmp] at h
  | coe r => exact ⟨r, rfl⟩
  | top => simp [Ideal.cmp] at h

/-- An array whose every element a precondition tests to be finite is an array of real numbers. -/
theorem reals_of_test {s : Shape} {bc : (⟨0, ![]⟩ : Shape).BroadcastsInDim s (![] : Fin 0 → Fin s.rank)} {v : FVec Ideal s .f32}
    (h : cmpf .olt (Host.absf v) (broadcastInDim s ![] bc (constant (F := Ideal) ⟨0, ![]⟩ .f32 0x7F800000#32)) = fun _ => 1#1) :
    ∃ r : s.Idx → ℝ, v = fun i => (r i : EReal) := by
  have e : ∀ i, ∃ r : ℝ, v i = (r : EReal) := fun i => real_of_test (congrFun h i)
  choose r hr using e
  exact ⟨r, funext hr⟩

/-- The float word of 2048. -/
theorem word_2048 : Ideal.ofBits .f32 0x45000000#32 = ((2048 : ℝ) : EReal) := by
  simp [Ideal.ofBits, Ideal.ieee, -EReal.coe_mul]; norm_num

/-- The float word of minus one half. -/
theorem word_neg_half : Ideal.ofBits .f32 0xBF000000#32 = ((-(1 / 2) : ℝ) : EReal) := by
  simp [Ideal.ofBits, Ideal.ieee, -EReal.coe_mul]; norm_num

/-- The float word of two. -/
theorem word_two : Ideal.ofBits .f32 0x40000000#32 = ((2 : ℝ) : EReal) := by
  simp [Ideal.ofBits, Ideal.ieee, -EReal.coe_mul]; norm_num

/-- The float word of 1/2048. -/
theorem word_2048th : Ideal.ofBits .f32 0x3A000000#32 = ((1 / 2048 : ℝ) : EReal) := by
  simp [Ideal.ofBits, Ideal.ieee, -EReal.coe_mul]; norm_num

/-- The float word of one half. -/
theorem word_half : Ideal.ofBits .f32 0x3F000000#32 = ((1 / 2 : ℝ) : EReal) := by
  simp [Ideal.ofBits, Ideal.ieee, -EReal.coe_mul]; norm_num

/-- The float word of one. -/
theorem word_one : Ideal.ofBits .f32 0x3F800000#32 = ((1 : ℝ) : EReal) := by
  simp [Ideal.ofBits, Ideal.ieee, -EReal.coe_mul]; norm_num

/-- A factor that is a real number and not negative goes into any sum of extended reals. -/
theorem mul_sum_of_nonneg {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih,
      EReal.left_distrib_of_nonneg_of_ne_top (by exact_mod_cast ha) (EReal.coe_ne_top a)]

/-- The norm's epsilon, a positive real number. -/
theorem word_eps : ∃ e : ℝ, 0 < e ∧ Ideal.ofBits .f32 0x358637BD#32 = (e : EReal) := by
  refine ⟨_, ?_, by simp [Ideal.ofBits, Ideal.ieee, -EReal.coe_mul]; rfl⟩
  norm_num

/-- The reciprocal root mean square of a row, as both programs write it. -/
def rstd (x : Fin 2048 → EReal) : EReal :=
  Ideal.rsqrt (Ideal.div (∑ k, x k * x k) (Ideal.ofBits .f32 0x45000000#32) + Ideal.ofBits .f32 0x358637BD#32)

/-- Minus half of the derivative's factor of the reciprocal root mean square, as the reference writes it. -/
def rstdSlope (x : Fin 2048 → EReal) : EReal :=
  Ideal.ofBits .f32 0xBF000000#32
    * Ideal.div (rstd x) (Ideal.div (∑ k, x k * x k) (Ideal.ofBits .f32 0x45000000#32) + Ideal.ofBits .f32 0x358637BD#32)

/-- On a row of real numbers the mean square plus epsilon is a positive real number `v`, and the reciprocal root is its. -/
theorem rstd_real (x : Fin 2048 → ℝ) : ∃ v : ℝ, 0 < v
    ∧ Ideal.div (∑ k, (x k : EReal) * (x k : EReal)) (Ideal.ofBits .f32 0x45000000#32) + Ideal.ofBits .f32 0x358637BD#32 = (v : EReal)
    ∧ rstd (fun k => (x k : EReal)) = (((Real.sqrt v)⁻¹ : ℝ) : EReal)
    ∧ rstdSlope (fun k => (x k : EReal)) = ((-(1 / 2) * ((Real.sqrt v)⁻¹ / v) : ℝ) : EReal) := by
  obtain ⟨e, he, hw⟩ := word_eps
  have hv : 0 < (∑ k, x k * x k) / 2048 + e := by
    have : 0 ≤ ∑ k, x k * x k := Finset.sum_nonneg fun k _ => mul_self_nonneg _
    positivity
  have hs : Ideal.div (∑ k, (x k : EReal) * (x k : EReal)) (Ideal.ofBits .f32 0x45000000#32) + Ideal.ofBits .f32 0x358637BD#32
      = (((∑ k, x k * x k) / 2048 + e : ℝ) : EReal) := by
    simp only [← EReal.coe_mul]
    rw [sum_coe, word_2048, div_coe_coe _ (by norm_num), hw, ← EReal.coe_add]
  have hr : rstd (fun k => (x k : EReal)) = (((Real.sqrt ((∑ k, x k * x k) / 2048 + e))⁻¹ : ℝ) : EReal) := by
    unfold rstd; rw [hs, rsqrt_coe_pos hv]
  refine ⟨_, hv, hs, hr, ?_⟩
  unfold rstdSlope
  rw [hs, hr, word_neg_half, div_coe_coe _ hv.ne', ← EReal.coe_mul]

/-- The gradient of a root-mean-square norm on a row of real numbers: the kernels' form, with the mean of the scaled
    gradient against the normalised row, is the derivative's, with the slope of the reciprocal root twice. -/
theorem norm_grad (x g : Fin 2048 → ℝ) (k : Fin 2048) :
    rstd (fun j => (x j : EReal)) * ((g k : EReal) - (x k : EReal) * rstd (fun j => (x j : EReal))
        * Ideal.div (∑ j, (g j : EReal) * ((x j : EReal) * rstd (fun j => (x j : EReal)))) (Ideal.ofBits .f32 0x45000000#32))
      = (g k : EReal) * rstd (fun j => (x j : EReal))
        + (x k : EReal) * Ideal.div ((∑ j, (x j : EReal) * (g j : EReal)) * rstdSlope (fun j => (x j : EReal))) (Ideal.ofBits .f32 0x45000000#32)
        + Ideal.div ((∑ j, (x j : EReal) * (g j : EReal)) * rstdSlope (fun j => (x j : EReal))) (Ideal.ofBits .f32 0x45000000#32) * (x k : EReal) := by
  obtain ⟨v, hv, -, hr, hs⟩ := rstd_real x
  rw [hr, hs, word_2048]
  simp only [← EReal.coe_mul, sum_coe]
  rw [div_coe_coe _ (by norm_num), div_coe_coe _ (by norm_num)]
  simp only [← EReal.coe_mul, ← EReal.coe_sub, ← EReal.coe_add]
  congr 1
  have e1 : ∑ j, g j * (x j * (Real.sqrt v)⁻¹) = (∑ j, x j * g j) * (Real.sqrt v)⁻¹ := by
    rw [Finset.sum_mul]; exact Finset.sum_congr rfl fun j _ => by ring
  rw [e1]
  have hq : 0 < Real.sqrt v := Real.sqrt_pos.mpr hv
  have h2 : v = Real.sqrt v * Real.sqrt v := (Real.mul_self_sqrt hv.le).symm
  generalize Real.sqrt v = q at *
  subst h2
  field_simp
  ring

end Cert.Reals

end
-- ==== Proof.Rms.lean ====
/- The gradient of a root-mean-square norm on a residual branch: what the kernel leaves in its two result arrays is what
   the derivative of the reference's norm leaves in them, at finite rows, scales and incoming gradients. -/
module

public import proofs.«01_k».proof.Proof.Reals
public import proofs.«01_k».proof.Proof.Gen.RmsBwdIdeal.Frame
public import proofs.«01_k».proof.Proof.Gen.RmsBwdRefIdeal.Run
public import proofs.«01_k».proof.Proof.Gen.RmsBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.RmsBwdRefIdeal.Read

namespace Cert.Rms

open Cert.RmsBwdIdeal Cert.RmsBwdIdeal.Gen Cert.Reals

variable (m : (ℓ : Loc nD τ sig) → Buf (Elt Ideal) ℓ)

/-- Which block each window stages at grid point `t`. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] :=
  (by decide +kernel : ∀ t : Fin grid0.N, _)

/-- The gradient of one row's element `k`: from the residual path `d`, the row `x` and the gradient `gd` of the normalised row. -/
def rowGrad (d : EReal) (x gd : Fin 2048 → EReal) (k : Fin 2048) : EReal :=
  d + rstd x * (gd k - x k * rstd x * Ideal.div (∑ j, gd j * (x j * rstd x)) (Ideal.ofBits .f32 0x45000000#32))

section Reference

variable (dh : FVec Ideal S8192x2048 .bf16) (x : FVec Ideal S8192x2048 .f32) (g : FVec Ideal S1x2048 .f32) (dxin : FVec Ideal S8192x2048 .bf16)

/-- The reference's reciprocal root of a row. -/
theorem ref_rstd (r : Fin 8192) : val_main_v7 (F := Ideal) x (ix2 r 0) = rstd fun k => x (ix2 r k) := by
  pointwise [val_main_v7, val_main_v6, val_main_v5, val_main_v4, val_main_v3, val_main_v2, val_main_v1, val_main_v0,
    val_main_cst, val_main_cst_0, val_main_cst_1]
  simp [rstd]

/-- The reference's slope of the reciprocal root of a row. -/
theorem ref_slope (r : Fin 8192) : val_main_v10 (F := Ideal) x (ix2 r 0) = rstdSlope fun k => x (ix2 r k) := by
  pointwise [val_main_v10, val_main_v9, val_main_v8]
  rw [ref_rstd]
  pointwise [val_main_v6, val_main_v5, val_main_v4, val_main_v3, val_main_v2, val_main_v1, val_main_v0,
    val_main_cst, val_main_cst_0, val_main_cst_1, val_main_cst_2]
  simp [rstdSlope]

/-- The scale's gradient, summed over the rows. -/
theorem ref_scale (d : Fin 2048) : val_main_v19 (F := Ideal) dh x (ix2 0 d)
    = ∑ r : Fin 8192, dh (ix2 r d) * (x (ix2 r d) * rstd fun k => x (ix2 r k)) := by
  pointwise [val_main_v19, val_main_v18, val_main_v17, val_main_v15, val_main_v12, val_main_v11, val_main_cst_3]
  refine Finset.sum_congr rfl fun r _ => ?_
  rw [ref_rstd, mul_comm]

/-- The rows' gradient at finite arguments. -/
theorem ref_rows (hdh : ∃ a : S8192x2048.Idx → ℝ, dh = fun i => (a i : EReal)) (hx : ∃ a : S8192x2048.Idx → ℝ, x = fun i => (a i : EReal))
    (hg : ∃ a : S1x2048.Idx → ℝ, g = fun i => (a i : EReal)) (r : Fin 8192) (d : Fin 2048) :
    val_main_v36 (F := Ideal) dh x g dxin (ix2 r d)
      = rowGrad (dxin (ix2 r d)) (fun k => x (ix2 r k)) (fun k => dh (ix2 r k) * g (ix2 0 k)) d := by
  pointwise [val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v16, val_main_v15, val_main_cst_4, val_main_cst_5, val_main_cst_6]
  simp only [Fin.sum_univ_one, Fin.isValue]
  rw [ref_rstd, ref_slope]
  obtain ⟨a, rfl⟩ := hdh
  obtain ⟨b, rfl⟩ := hx
  obtain ⟨c, rfl⟩ := hg
  have h := norm_grad (fun k => b (ix2 r k)) (fun k => a (ix2 r k) * c (ix2 0 k)) d
  simp only [EReal.coe_mul] at h
  rw [rowGrad, h]
  simp only [add_assoc]

end Reference

/-- What the four input windows hold at grid point `t`. -/
abbrev headBlock (c : Dev nD) (t : Fin cfg0.N) : FVec Ideal S512x2048 .bf16 := iblk m c 0 t
@[inherit_doc headBlock] abbrev rowBlock (c : Dev nD) (t : Fin cfg0.N) : FVec Ideal S512x2048 .f32 := iblk m c 1 t
@[inherit_doc headBlock] abbrev scaleBlock (c : Dev nD) (t : Fin cfg0.N) : FVec Ideal S1x2048 .f32 := iblk m c 2 t
@[inherit_doc headBlock] abbrev pathBlock (c : Dev nD) (t : Fin cfg0.N) : FVec Ideal S512x2048 .bf16 := iblk m c 3 t

/-- The token that row `r` of grid point `t` is. -/
def token (t : Fin cfg0.N) (r : Fin 512) : Fin 8192 :=
  ⟨t.val * 512 + r.val, by have := lt_of_lt_of_eq t.isLt N_0; omega⟩

/-- What a point's windows hold of the arguments. -/
theorem block_head (c : Dev nD) (t : Fin cfg0.N) (r : Fin 512) (d : Fin 2048) :
    headBlock m c t (ix2 r d) = m ((c : Thread nD τ).loc main_arg0) (ix2 (token t r) d) := by
  unfold token; blk_ext [headBlock, iblk, V, idx t]
@[inherit_doc block_head] theorem block_row (c : Dev nD) (t : Fin cfg0.N) (r : Fin 512) (d : Fin 2048) :
    rowBlock m c t (ix2 r d) = m ((c : Thread nD τ).loc main_arg1) (ix2 (token t r) d) := by
  unfold token; blk_ext [rowBlock, iblk, V, idx t]
@[inherit_doc block_head] theorem block_scale (c : Dev nD) (t : Fin cfg0.N) (d : Fin 2048) :
    scaleBlock m c t (ix2 0 d) = m ((c : Thread nD τ).loc main_arg2) (ix2 0 d) := by
  blk_ext [scaleBlock, iblk, V, idx t]
@[inherit_doc block_head] theorem block_path (c : Dev nD) (t : Fin cfg0.N) (r : Fin 512) (d : Fin 2048) :
    pathBlock m c t (ix2 r d) = m ((c : Thread nD τ).loc main_arg3) (ix2 (token t r) d) := by
  unfold token; blk_ext [pathBlock, iblk, V, idx t]

/-- A point other than the first is no multiple of the number of points. -/
theorem not_first (t : Fin cfg0.N) (h1 : 1 ≤ t.val) : ¬ t.val % 16 = 0 := by
  have := lt_of_lt_of_eq t.isLt N_0; omega

/-- A point before the second is the first. -/
theorem first (t : Fin cfg0.N) (h1 : ¬ 1 ≤ t.val) : t.val % 16 = 0 := by omega

/-- What grid point `t` leaves in the block of the rows' gradient. -/
theorem left4 (c : Dev nD) (t : Fin cfg0.N) (r : Fin 512) (d : Fin 2048) : (outsAt0 m c t.val t.isLt).1 (ix2 r d)
    = rowGrad (pathBlock m c t (ix2 r d)) (fun k => rowBlock m c t (ix2 r k))
        (fun k => headBlock m c t (ix2 r k) * scaleBlock m c t (ix2 0 k)) d := by
  by_cases h1 : 1 ≤ t.val
  on_goal 1 => rw [outsAt0_B m c t (not_first t h1) h1]
  on_goal 2 => rw [outsAt0_A m c t (first t h1) h1]
  all_goals
    frame_out
    pointwise [k0_pay5, k0_pay4, k0_pay3, k0_pay2, rowGrad, rstd]

/-- The part of the scale's gradient that grid point `t` adds. -/
def scalePart (c : Dev nD) (t : Fin cfg0.N) (j : S1x2048.Idx) : EReal :=
  ∑ r : Fin 512, headBlock m c t (ix2 r (j 1)) * (rowBlock m c t (ix2 r (j 1)) * rstd fun k => rowBlock m c t (ix2 r k))

/-- The first point stores its part of the scale's gradient. -/
theorem left5_first (c : Dev nD) (t : Fin cfg0.N) (h : ¬ 1 ≤ t.val) (j : S1x2048.Idx) :
    (outsAt0 m c t.val t.isLt).2 j = 0 + scalePart m c t j := by
  idx_vars j
  obtain rfl : j0 = 0 := Subsingleton.elim _ _
  rw [zero_add, outsAt0_A m c t (first t h) h]
  frame_out
  pointwise [k0_pay6, k0_pay4, k0_pay3, k0_pay2, scalePart, rstd]

/-- Every later point adds its part to what the point before left. -/
theorem left5_later (c : Dev nD) (t : Fin cfg0.N) (h : 1 ≤ t.val) (j : S1x2048.Idx) :
    (outsAt0 m c t.val t.isLt).2 j
      = (outsAt0 m c (t.val - 1) (Nat.lt_of_le_of_lt (Nat.sub_le _ _) t.isLt)).2 j + scalePart m c t j := by
  idx_vars j
  obtain rfl : j0 = 0 := Subsingleton.elim _ _
  rw [outsAt0_B m c t (not_first t h) h]
  frame_out
  pointwise [k0_pay1, k0_pay6, k0_pay4, k0_pay3, k0_pay2, scalePart, rstd]

/-- The rows' gradient: the kernel's array is the reference's. -/
theorem final4 (c : Dev nD)
    (hdh : ∃ a : S8192x2048.Idx → ℝ, (m ((c : Thread nD τ).loc main_arg0) : FVec Ideal S8192x2048 .bf16) = fun i => (a i : EReal))
    (hx : ∃ a : S8192x2048.Idx → ℝ, (m ((c : Thread nD τ).loc main_arg1) : FVec Ideal S8192x2048 .f32) = fun i => (a i : EReal))
    (hg : ∃ a : S1x2048.Idx → ℝ, (m ((c : Thread nD τ).loc main_arg2) : FVec Ideal S1x2048 .f32) = fun i => (a i : EReal)) :
    (dats m 0 c).arrAt 4 cfg0.N
      = val_main_v36 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  idx_vars y
  rw [left4]
  simp only [block_head, block_row, block_scale, block_path]
  refine (ref_rows _ _ _ _ hdh hx hg _ _).symm.trans (congrArg _ ?_)
  unfold token
  blk_ext [idx t]

/-- The scale's gradient. -/
theorem final5 (c : Dev nD) : (dats m 0 c).arrAt 5 cfg0.N
    = val_main_v19 (F := Ideal) (m ((c : Thread nD τ).loc main_arg0)) (m ((c : Thread nD τ).loc main_arg1)) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => 0) (scalePart m c)
    (fun t h j => left5_first m c t (by have := lt_of_lt_of_eq t.isLt N_0; omega) j)
    (fun t h j => left5_later m c t (by omega) j) (le_of_eq N_0) t0_15 rfl j, zero_add]
  idx_vars j
  obtain rfl : j0 = 0 := Subsingleton.elim _ _
  refine Eq.trans ?_ (ref_scale _ _ _).symm
  simp only [scalePart, block_row]
  refine Fin.sum_mul_add_congr (n := 512) fun s k hl => ?_
  exact congrArg₂ (fun a b => a * (b * _)) (block_head m c s k j1) (block_row m c s k j1)

end Cert.Rms

end
-- ==== Proof.Loss.lean ====
/- The final norm and the loss, forward and backward: what the kernel leaves in its three result arrays is the
   reference's loss and its derivative. The rows' gradient needs finite arguments; the loss and the scale's gradient do not. -/
module

public import proofs.«01_k».proof.Proof.Reals
public import proofs.«01_k».proof.Proof.Gen.LossHeadIdeal.Frame
public import proofs.«01_k».proof.Proof.Gen.LossHeadRefIdeal.Run
public import proofs.«01_k».proof.Proof.Gen.LossHeadRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.LossHeadRefIdeal.Read

namespace Cert.Loss

open Cert.LossHeadIdeal Cert.LossHeadIdeal.Gen Cert.Reals

variable (m : (ℓ : Loc nD τ sig) → Buf (Elt Ideal) ℓ)

/-- Which block each window stages at grid point `t`. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The error of one row: the scaled normalised row less its target. -/
def err (x g y : Fin 2048 → EReal) (k : Fin 2048) : EReal := x k * rstd x * g k - y k

/-- The loss of one row: half its mean squared error. -/
def rowLoss (x g y : Fin 2048 → EReal) : EReal :=
  Ideal.ofBits .f32 0x3F000000#32 * Ideal.div (∑ k, err x g y k * err x g y k) (Ideal.ofBits .f32 0x45000000#32)

/-- The gradient of the row's output: its error over the number of features. -/
def outGrad (x g y : Fin 2048 → EReal) (k : Fin 2048) : EReal := err x g y k * Ideal.ofBits .f32 0x3A000000#32

/-- The gradient of one row. -/
def rowGrad (x g y : Fin 2048 → EReal) (k : Fin 2048) : EReal :=
  rstd x * (outGrad x g y k * g k
    - x k * rstd x * Ideal.div (∑ j, outGrad x g y j * g j * (x j * rstd x)) (Ideal.ofBits .f32 0x45000000#32))

/-- The gradient of an output as the reference writes it, half of one over the number of features times twice the error. -/
theorem outGrad_eq (e : EReal) : Ideal.div (Ideal.ofBits .f32 0x3F000000#32) (Ideal.ofBits .f32 0x45000000#32)
    * (Ideal.ofBits .f32 0x40000000#32 * e) = e * Ideal.ofBits .f32 0x3A000000#32 := by
  rw [word_half, word_2048, word_two, word_2048th, div_coe_coe _ (by norm_num), ← mul_assoc, ← EReal.coe_mul,
    mul_comm]
  norm_num

section Reference

variable (x : FVec Ideal S8192x2048 .f32) (g : FVec Ideal Cert.LossHeadRefIdeal.S2048 .f32) (y : FVec Ideal S8192x2048 .f32)

/-- The reference's reciprocal root of a row. -/
theorem ref_rstd (r : Fin 8192) : val_main_v7 (F := Ideal) x (ix2 r 0) = rstd fun k => x (ix2 r k) := by
  pointwise [val_main_v7, val_main_v6, val_main_v5, val_main_v4, val_main_v3, val_main_v2, val_main_v1, val_main_v0,
    val_main_cst, val_main_cst_0, val_main_cst_1]
  simp [rstd]

/-- The reference's slope of the reciprocal root of a row. -/
theorem ref_slope (r : Fin 8192) : val_main_v10 (F := Ideal) x (ix2 r 0) = rstdSlope fun k => x (ix2 r k) := by
  pointwise [val_main_v10, val_main_v9, val_main_v8]
  rw [ref_rstd]
  pointwise [val_main_v6, val_main_v5, val_main_v4, val_main_v3, val_main_v2, val_main_v1, val_main_v0,
    val_main_cst, val_main_cst_0, val_main_cst_1, val_main_cst_2]
  simp [rstdSlope]

/-- The reference's error. -/
theorem ref_err (r : Fin 8192) (d : Fin 2048) : val_main_v16 (F := Ideal) x g y (ix2 r d)
    = err (fun k => x (ix2 r k)) (fun k => g (ix1 k)) (fun k => y (ix2 r k)) d := by
  pointwise [val_main_v16, val_main_v15, val_main_v14, val_main_v13, val_main_v12, val_main_v11]
  rw [ref_rstd]
  rfl

/-- The reference's loss. -/
theorem ref_loss (l : Fin 128) : val_main_v51 (F := Ideal) x g y (ix2 0 l)
    = ∑ r : Fin 8192, rowLoss (fun k => x (ix2 r k)) (fun k => g (ix1 k)) (fun k => y (ix2 r k)) := by
  pointwise [val_main_v51, val_main_v24, val_main_v23, val_main_v22, val_main_v21, val_main_v20, val_main_v17, val_main_cst_4,
    val_main_cst_5, val_main_cst_6, val_main_cst_7]
  simp only [ref_err, rowLoss, word_half]
  rw [mul_sum_of_nonneg _ (by norm_num)]

/-- The reference's gradient of an output. -/
theorem ref_out (r : Fin 8192) (d : Fin 2048) : val_main_v30 (F := Ideal) x g y (ix2 r d)
    = outGrad (fun k => x (ix2 r k)) (fun k => g (ix1 k)) (fun k => y (ix2 r k)) d := by
  pointwise [val_main_v30, val_main_v29, val_main_v28, val_main_v27, val_main_v26, val_main_v25, val_main_v19, val_main_v18,
    val_main_cst_3, val_main_cst_8, val_main_cst_9, val_main_cst_10]
  rw [ref_err]
  exact outGrad_eq _

/-- The scale's gradient, summed over the rows. -/
theorem ref_scale (d : Fin 2048) : val_main_v53 (F := Ideal) x g y (ix2 0 d)
    = ∑ r : Fin 8192, outGrad (fun k => x (ix2 r k)) (fun k => g (ix1 k)) (fun k => y (ix2 r k)) d
        * (x (ix2 r d) * rstd fun k => x (ix2 r k)) := by
  pointwise [val_main_v53, val_main_v36, val_main_v33, val_main_v32, val_main_v31, val_main_v12, val_main_v11, val_main_cst_11, val_main_cst_12]
  simp only [Fin.sum_univ_one, Fin.isValue]
  refine Finset.sum_congr rfl fun r _ => ?_
  rw [ref_rstd, ref_out, mul_comm]

/-- The rows' gradient at finite arguments. -/
theorem ref_rows (hx : ∃ a : S8192x2048.Idx → ℝ, x = fun i => (a i : EReal))
    (hg : ∃ a : Cert.LossHeadRefIdeal.S2048.Idx → ℝ, g = fun i => (a i : EReal))
    (hy : ∃ a : S8192x2048.Idx → ℝ, y = fun i => (a i : EReal)) (r : Fin 8192) (d : Fin 2048) :
    val_main_v52 (F := Ideal) x g y (ix2 r d) = rowGrad (fun k => x (ix2 r k)) (fun k => g (ix1 k)) (fun k => y (ix2 r k)) d := by
  pointwise [val_main_v52, val_main_v50, val_main_v49, val_main_v48, val_main_v47, val_main_v46, val_main_v45, val_main_v44, val_main_v43,
    val_main_v42, val_main_v41, val_main_v40, val_main_v39, val_main_v38, val_main_v37, val_main_v35, val_main_v34, val_main_v13,
    val_main_cst_13, val_main_cst_14, val_main_cst_15]
  simp only [Fin.sum_univ_one, Fin.isValue, ref_out]
  rw [ref_rstd, ref_slope]
  obtain ⟨a, rfl⟩ := hx
  obtain ⟨b, rfl⟩ := hg
  obtain ⟨e, rfl⟩ := hy
  have real : ∃ o : Fin 2048 → ℝ, ∀ k, outGrad (fun k => (a (ix2 r k) : EReal)) (fun k => (b (ix1 k) : EReal)) (fun k => (e (ix2 r k) : EReal)) k = (o k : EReal) := by
    obtain ⟨v, -, -, hr, -⟩ := rstd_real fun k => a (ix2 r k)
    refine ⟨fun k => (a (ix2 r k) * (Real.sqrt v)⁻¹ * b (ix1 k) - e (ix2 r k)) * (1 / 2048), fun k => ?_⟩
    simp only [outGrad, err, hr, word_2048th, ← EReal.coe_mul, ← EReal.coe_sub]
  obtain ⟨o, ho⟩ := real
  have h := norm_grad (fun k => a (ix2 r k)) (fun k => o k * b (ix1 k)) d
  simp only [EReal.coe_mul] at h
  simp only [rowGrad, ho]
  rw [h]

end Reference

/-- What the three input windows hold at grid point `t`. -/
abbrev rowBlock (c : Dev nD) (t : Fin cfg0.N) : FVec Ideal S512x2048 .f32 := iblk m c 0 t
@[inherit_doc rowBlock] abbrev scaleBlock (c : Dev nD) (t : Fin cfg0.N) : FVec Ideal S1x2048 .f32 := iblk m c 1 t
@[inherit_doc rowBlock] abbrev goalBlock (c : Dev nD) (t : Fin cfg0.N) : FVec Ideal S512x2048 .f32 := iblk m c 2 t

/-- The token that row `r` of grid point `t` is. -/
def token (t : Fin cfg0.N) (r : Fin 512) : Fin 8192 :=
  ⟨t.val * 512 + r.val, by have := lt_of_lt_of_eq t.isLt N_0; omega⟩

/-- What a point's windows hold of the arguments. -/
theorem block_row (c : Dev nD) (t : Fin cfg0.N) (r : Fin 512) (d : Fin 2048) :
    rowBlock m c t (ix2 r d) = m ((c : Thread nD τ).loc main_arg0) (ix2 (token t r) d) := by
  unfold token; blk_ext [rowBlock, iblk, V, idx t]
@[inherit_doc block_row] theorem block_scale (c : Dev nD) (t : Fin cfg0.N) (d : Fin 2048) :
    scaleBlock m c t (ix2 0 d) = m ((c : Thread nD τ).loc main_arg1) (ix1 d) := by
  blk_simp [scaleBlock, iblk]
  entry_read
  pointwise
  blk_point [idx t]
@[inherit_doc block_row] theorem block_goal (c : Dev nD) (t : Fin cfg0.N) (r : Fin 512) (d : Fin 2048) :
    goalBlock m c t (ix2 r d) = m ((c : Thread nD τ).loc main_arg2) (ix2 (token t r) d) := by
  unfold token; blk_ext [goalBlock, iblk, V, idx t]

/-- A point other than the first is no multiple of the number of points. -/
theorem not_first (t : Fin cfg0.N) (h1 : 1 ≤ t.val) : ¬ t.val % 16 = 0 := by
  have := lt_of_lt_of_eq t.isLt N_0; omega

/-- A point before the second is the first. -/
theorem first (t : Fin cfg0.N) (h1 : ¬ 1 ≤ t.val) : t.val % 16 = 0 := by omega

/-- A function of a row, its scales and its targets, at row `r` of grid point `t`. -/
abbrev atPoint (c : Dev nD) (t : Fin cfg0.N) (r : Fin 512) {α : Type} (f : (Fin 2048 → EReal) → (Fin 2048 → EReal) → (Fin 2048 → EReal) → α) : α :=
  f (fun k => rowBlock m c t (ix2 r k)) (fun k => scaleBlock m c t (ix2 0 k)) (fun k => goalBlock m c t (ix2 r k))

/-- The same over a launch's arguments, at token `r`. -/
abbrev atToken (c : Dev nD) (r : Fin 8192) {α : Type} (f : (Fin 2048 → EReal) → (Fin 2048 → EReal) → (Fin 2048 → EReal) → α) : α :=
  f (fun k => m ((c : Thread nD τ).loc main_arg0) (ix2 r k)) (fun k => m ((c : Thread nD τ).loc main_arg1) (ix1 k))
    (fun k => m ((c : Thread nD τ).loc main_arg2) (ix2 r k))

theorem atPoint_eq (c : Dev nD) (t : Fin cfg0.N) (r : Fin 512) {α : Type}
    (f : (Fin 2048 → EReal) → (Fin 2048 → EReal) → (Fin 2048 → EReal) → α) : atPoint m c t r f = atToken m c (token t r) f := by
  simp only [atPoint, atToken, block_row, block_scale, block_goal]

/-- What grid point `t` leaves in the block of the rows' gradient. -/
theorem left4 (c : Dev nD) (t : Fin cfg0.N) (r : Fin 512) (d : Fin 2048) :
    (outsAt0 m c t.val t.isLt).2.1 (ix2 r d) = atPoint m c t r rowGrad d := by
  by_cases h1 : 1 ≤ t.val
  on_goal 1 => rw [outsAt0_B m c t (not_first t h1) h1]
  on_goal 2 => rw [outsAt0_A m c t (first t h1) h1]
  all_goals
    frame_out
    pointwise [k0_pay11, k0_pay10, k0_pay8, k0_pay7, k0_pay6, k0_pay5, rowGrad, outGrad, err, rstd]

/-- The part of the loss that grid point `t` adds. -/
def lossPart (c : Dev nD) (t : Fin cfg0.N) (j : S1x128.Idx) : EReal := ∑ r : Fin 512, atPoint m c t r rowLoss

/-- The first point stores its part of the loss. -/
theorem left3_first (c : Dev nD) (t : Fin cfg0.N) (h : ¬ 1 ≤ t.val) (j : S1x128.Idx) :
    (outsAt0 m c t.val t.isLt).1 j = 0 + lossPart m c t j := by
  idx_vars j
  obtain rfl : j0 = 0 := Subsingleton.elim _ _
  rw [zero_add, outsAt0_A m c t (first t h) h]
  frame_out
  simp only [lossPart, rowLoss, atPoint]
  rw [word_half, ← mul_sum_of_nonneg _ (by norm_num), ← word_half]
  pointwise [k0_pay2, k0_pay9, k0_pay8, k0_pay7, k0_pay6, k0_pay5, err, rstd]

/-- Every later point adds its part to what the point before left. -/
theorem left3_later (c : Dev nD) (t : Fin cfg0.N) (h : 1 ≤ t.val) (j : S1x128.Idx) :
    (outsAt0 m c t.val t.isLt).1 j
      = (outsAt0 m c (t.val - 1) (Nat.lt_of_le_of_lt (Nat.sub_le _ _) t.isLt)).1 j + lossPart m c t j := by
  idx_vars j
  obtain rfl : j0 = 0 := Subsingleton.elim _ _
  rw [outsAt0_B m c t (not_first t h) h]
  frame_out
  simp only [lossPart, rowLoss, atPoint]
  rw [word_half, ← mul_sum_of_nonneg _ (by norm_num), ← word_half]
  pointwise [k0_pay4, k0_pay2, k0_pay9, k0_pay8, k0_pay7, k0_pay6, k0_pay5, err, rstd]

/-- The part of the scale's gradient that grid point `t` adds. -/
def scalePart (c : Dev nD) (t : Fin cfg0.N) (j : S1x2048.Idx) : EReal :=
  ∑ r : Fin 512, atPoint m c t r outGrad (j 1) * (rowBlock m c t (ix2 r (j 1)) * rstd fun k => rowBlock m c t (ix2 r k))

/-- The first point stores its part of the scale's gradient. -/
theorem left5_first (c : Dev nD) (t : Fin cfg0.N) (h : ¬ 1 ≤ t.val) (j : S1x2048.Idx) :
    (outsAt0 m c t.val t.isLt).2.2 j = 0 + scalePart m c t j := by
  idx_vars j
  obtain rfl : j0 = 0 := Subsingleton.elim _ _
  rw [zero_add, outsAt0_A m c t (first t h) h]
  frame_out
  pointwise [k0_pay1, k0_pay10, k0_pay8, k0_pay7, k0_pay6, k0_pay5, scalePart, outGrad, err, rstd]

/-- Every later point adds its part to what the point before left. -/
theorem left5_later (c : Dev nD) (t : Fin cfg0.N) (h : 1 ≤ t.val) (j : S1x2048.Idx) :
    (outsAt0 m c t.val t.isLt).2.2 j
      = (outsAt0 m c (t.val - 1) (Nat.lt_of_le_of_lt (Nat.sub_le _ _) t.isLt)).2.2 j + scalePart m c t j := by
  idx_vars j
  obtain rfl : j0 = 0 := Subsingleton.elim _ _
  rw [outsAt0_B m c t (not_first t h) h]
  frame_out
  pointwise [k0_pay3, k0_pay1, k0_pay10, k0_pay8, k0_pay7, k0_pay6, k0_pay5, scalePart, outGrad, err, rstd]

/-- The loss: the kernel's array is the reference's. -/
theorem final3 (c : Dev nD) : (dats m 0 c).arrAt 3 cfg0.N
    = val_main_v51 (F := Ideal) (m ((c : Thread nD τ).loc main_arg0)) (m ((c : Thread nD τ).loc main_arg1)) (m ((c : Thread nD τ).loc main_arg2)) := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0) (lossPart m c)
    (fun t h j => left3_first m c t (by have := lt_of_lt_of_eq t.isLt N_0; omega) j)
    (fun t h j => left3_later m c t (by omega) j) (le_of_eq N_0) t0_15 rfl j, zero_add]
  idx_vars j
  obtain rfl : j0 = 0 := Subsingleton.elim _ _
  refine Eq.trans ?_ (ref_loss _ _ _ _).symm
  simp only [lossPart]
  refine Fin.sum_mul_add_congr (n := 512) fun s k hl => ?_
  exact atPoint_eq m c s k rowLoss

/-- The rows' gradient. -/
theorem final4 (c : Dev nD)
    (hx : ∃ a : S8192x2048.Idx → ℝ, (m ((c : Thread nD τ).loc main_arg0) : FVec Ideal S8192x2048 .f32) = fun i => (a i : EReal))
    (hg : ∃ a : Cert.LossHeadRefIdeal.S2048.Idx → ℝ, (m ((c : Thread nD τ).loc main_arg1) : FVec Ideal Cert.LossHeadRefIdeal.S2048 .f32) = fun i => (a i : EReal))
    (hy : ∃ a : S8192x2048.Idx → ℝ, (m ((c : Thread nD τ).loc main_arg2) : FVec Ideal S8192x2048 .f32) = fun i => (a i : EReal)) :
    (dats m 0 c).arrAt 4 cfg0.N
      = val_main_v52 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  rw [left4, atPoint_eq]
  refine (ref_rows _ _ _ hx hg hy _ _).symm.trans (congrArg _ ?_)
  unfold token
  blk_ext [idx t]

/-- The scale's gradient. -/
theorem final5 (c : Dev nD) : (dats m 0 c).arrAt 5 cfg0.N
    = val_main_v53 (F := Ideal) (m ((c : Thread nD τ).loc main_arg0)) (m ((c : Thread nD τ).loc main_arg1)) (m ((c : Thread nD τ).loc main_arg2)) := by
  refine (dats m 0 c).arrAt_eq_of_after_last 5 t0_15 (by decide +kernel) _ fun j => ?_
  blk_simp
  rw [after0_5, Pipeline.eq_sum_fin_of_reset_step_apply_last (fun n h => (outsAt0 m c n h).2.2) 16 (fun _ => 0) (scalePart m c)
    (fun t h j => left5_first m c t (by have := lt_of_lt_of_eq t.isLt N_0; omega) j)
    (fun t h j => left5_later m c t (by omega) j) (le_of_eq N_0) t0_15 rfl j, zero_add]
  idx_vars j
  obtain rfl : j0 = 0 := Subsingleton.elim _ _
  refine Eq.trans ?_ (ref_scale _ _ _ _).symm
  simp only [scalePart, block_row]
  refine Fin.sum_mul_add_congr (n := 512) fun s k hl => ?_
  exact congrArg₂ (fun a b => a * (b * _)) (congrFun (atPoint_eq m c s k outGrad) j1) (block_row m c s k j1)

end Cert.Loss

end
-- ==== Proof.Arith.lean ====
/- Scalar facts over the extended reals that several of the value proofs share. -/
module

public import Idealize.ShloMosaic.Lib.Claim
public import Idealize.ShloMosaic.Lib.Pointwise

@[expose] public section

noncomputable section

namespace Cert.Arith

open Idealize.ShloMosaic

/-- The float word of one half denotes one half. -/
theorem half_word : Ideal.ofBits .f32 0x3F000000#32 = ((1 / 2 : ℝ) : EReal) := by
  simp [Ideal.ofBits, Ideal.ieee, -EReal.coe_mul]; norm_num

/-- The hyperbolic tangent by one exponential. -/
theorem tanh_by_exp (r : ℝ) : Real.tanh r = 2 * (1 + Real.exp (-(2 * r)))⁻¹ - 1 := by
  rw [Real.tanh_eq_sinh_div_cosh, Real.sinh_eq, Real.cosh_eq]
  have hp := Real.exp_pos r
  have hn := Real.exp_pos (-r)
  have h2 : Real.exp (-(2 * r)) = Real.exp (-r) * Real.exp (-r) := by
    rw [← Real.exp_add]; ring_nf
  have h1 : Real.exp r * Real.exp (-r) = 1 := by rw [← Real.exp_add]; simp
  rw [h2]
  have hd : (1 + Real.exp (-r) * Real.exp (-r)) ≠ 0 := by positivity
  field_simp
  nlinarith [h1]

/-- The sigmoid that the kernels write, `½ tanh(½ x) + ½`, is the logistic function at every extended real. -/
theorem half_tanh_half (x : EReal) :
    Ideal.ofBits .f32 0x3F000000#32 * Ideal.tanh (Ideal.ofBits .f32 0x3F000000#32 * x) + Ideal.ofBits .f32 0x3F000000#32
      = Ideal.logistic x := by
  rw [half_word]
  induction x using EReal.rec with
  | bot =>
    rw [EReal.coe_mul_bot_of_pos (by norm_num), Ideal.tanh_bot, Ideal.logistic_bot, mul_neg, mul_one, ← EReal.coe_neg,
      ← EReal.coe_add]
    norm_num
  | coe r =>
    rw [← EReal.coe_mul, Ideal.tanh_coe, ← EReal.coe_mul, ← EReal.coe_add, Ideal.logistic_coe, tanh_by_exp]
    congr 1
    rw [show 2 * (1 / 2 * r) = r by ring]
    ring
  | top =>
    rw [EReal.coe_mul_top_of_pos (by norm_num), Ideal.tanh_top, Ideal.logistic_top, mul_one, ← EReal.coe_add]
    norm_num

end Cert.Arith

end
-- ==== Proof.Merge.lean ====
/- The gradient of the gated merge: what the kernel leaves in its four result arrays is what the derivative of the
   reference's merge leaves in them. -/
module

public import proofs.«01_k».proof.Proof.Arith
public import proofs.«01_k».proof.Proof.Gen.MergeBwdIdeal.Frame
public import proofs.«01_k».proof.Proof.Gen.MergeBwdRefIdeal.Run
public import proofs.«01_k».proof.Proof.Gen.MergeBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.MergeBwdRefIdeal.Read

namespace Cert.Merge

open Cert.MergeBwdIdeal Cert.MergeBwdIdeal.Gen

variable (m : (ℓ : Loc nD τ sig) → Buf (Elt Ideal) ℓ)

/-- Which block each window stages at grid point `t`. -/
theorem idx : ∀ t : Fin cfg0.N, win0_0.index t = ![t.val, 0] ∧ win0_1.index t = ![t.val, 0] ∧ win0_2.index t = ![t.val, 0]
    ∧ win0_3.index t = ![0, t.val, 0] ∧ win0_4.index t = ![t.val, 0] ∧ win0_5.index t = ![t.val, 0]
    ∧ win0_6.index t = ![0, t.val, 0] ∧ win0_7.index t = ![0, 0, 0] :=
  (by decide +kernel : ∀ t : Fin grid0.N, _)

/-- The gradient of one gate's pre-activation `z`: the incoming gradient times the gated path times the derivative of
    the logistic function. -/
def gateGrad (d p z : EReal) : EReal := d * p * Ideal.logistic z * (1 - Ideal.logistic z)

section Reference

variable (dm pa pb : FVec Ideal S8192x2048 .bf16) (z : FVec Ideal S8192x4096 .f32) (b : FVec Ideal S1x4096 .f32)

/-- Gate `k`'s pre-activation at token `r` and feature `d`. -/
def pre (k : Fin 2) (r : Fin 8192) (d : Fin 2048) : EReal :=
  z (ix2 r ⟨k.val * 2048 + d.val, by omega⟩) + b (ix2 0 ⟨k.val * 2048 + d.val, by omega⟩)

/-- The gradient of gate `k`'s pre-activation at token `r` and feature `d`. -/
def preGrad (k : Fin 2) (r : Fin 8192) (d : Fin 2048) : EReal :=
  gateGrad (dm (ix2 r d)) (if k.val = 0 then pa (ix2 r d) else pb (ix2 r d)) (pre z b k r d)

/-- The reference's gate is the logistic function of its pre-activation. -/
theorem ref_gate (r : Fin 8192) (e : Fin 4096) :
    val_main_v9 (F := Ideal) z b (ix2 r e) = Ideal.logistic (z (ix2 r e) + b (ix2 0 e)) := by
  pointwise [val_main_v9, val_main_v8, val_main_v7, val_main_v6, val_main_v5, val_main_v4, val_main_v3, val_main_v2,
    val_main_cst, val_main_cst_0]
  rfl

/-- The gradient of the first path. -/
theorem ref_first (r : Fin 8192) (d : Fin 2048) :
    val_main_v27 (F := Ideal) dm z b (ix2 r d) = dm (ix2 r d) * Ideal.logistic (pre z b 0 r d) := by
  pointwise [val_main_v27, val_main_v21, val_main_v18, val_main_v13]
  rw [mul_comm]
  exact congrArg _ ((ref_gate z b r _).trans (by simp [pre]))

/-- The gradient of the second path. -/
theorem ref_second (r : Fin 8192) (d : Fin 2048) :
    val_main_v28 (F := Ideal) dm z b (ix2 r d) = dm (ix2 r d) * Ideal.logistic (pre z b 1 r d) := by
  pointwise [val_main_v28, val_main_v19, val_main_v18, val_main_v14]
  rw [mul_comm]
  exact congrArg _ ((ref_gate z b r _).trans (by simp [pre]))

/-- The gradient of the gates before it is cut into the two gates. -/
theorem ref_joint (k : Fin 2) (r : Fin 8192) (d : Fin 2048) :
    val_main_v24 (F := Ideal) dm pa pb z b (ix2 r ⟨k.val * 2048 + d.val, by omega⟩) = preGrad dm pa pb z b k r d := by
  pointwise [val_main_v24, val_main_v23, val_main_v22, val_main_v20, val_main_v18, val_main_v1, val_main_v0, val_main_v12,
    val_main_v11, val_main_v10, val_main_cst_1]
  rw [ref_gate z b r ⟨k.val * 2048 + d.val, by omega⟩]
  by_cases hk : k.val = 0
  · rw [dif_pos (by omega)]
    simp [preGrad, gateGrad, pre, hk, mul_assoc]
  · have hk1 : k.val = 1 := by omega
    rw [dif_neg (by omega)]
    simp [preGrad, gateGrad, pre, hk1, mul_assoc]

/-- The gradient of the two gates, as the reference leaves it. -/
theorem ref_gates (k : Fin 2) (r : Fin 8192) (d : Fin 2048) :
    val_main_v31 (F := Ideal) dm pa pb z b (ix3 k r d) = preGrad dm pa pb z b k r d := by
  pointwise [val_main_v31, val_main_v30, val_main_v29]
  exact ref_joint dm pa pb z b k r d

/-- The gradient of the gates' bias: the gates' gradients summed over the tokens. -/
theorem ref_bias (k : Fin 2) (d : Fin 2048) :
    val_main_v33 (F := Ideal) dm pa pb z b (ix3 k 0 d) = ∑ r : Fin 8192, preGrad dm pa pb z b k r d := by
  pointwise [val_main_v33, val_main_v32, val_main_v26, val_main_v25, val_main_cst_2]
  exact Finset.sum_congr rfl fun r _ => ref_joint dm pa pb z b k r d

end Reference

/-- What the four input windows hold at grid point `t`. -/
abbrev rowBlock0 (c : Dev nD) (t : Fin cfg0.N) : FVec Ideal S512x2048 .bf16 := iblk m c 0 t
@[inherit_doc rowBlock0] abbrev rowBlock1 (c : Dev nD) (t : Fin cfg0.N) : FVec Ideal S512x2048 .bf16 := iblk m c 1 t
@[inherit_doc rowBlock0] abbrev rowBlock2 (c : Dev nD) (t : Fin cfg0.N) : FVec Ideal S512x2048 .bf16 := iblk m c 2 t
@[inherit_doc rowBlock0] abbrev gateBlock (c : Dev nD) (t : Fin cfg0.N) : FVec Ideal S2x512x2048 .bf16 := iblk m c 3 t

/-- What the gate window stages: the pre-activations of the point's tokens. -/
theorem gate_block (c : Dev nD) (t : Fin cfg0.N) (k : Fin 2) (r : Fin 512) (d : Fin 2048) (R : Fin 8192) (hR : R.val = t.val * 512 + r.val) :
    gateBlock m c t (ix3 k r d) = pre (m ((c : Thread nD τ).loc main_arg3)) (m ((c : Thread nD τ).loc main_arg4)) k R d := by
  blk_simp [gateBlock, iblk]
  entry_read
  pointwise [pre]
  blk_point [idx t]

/-- The token that row `r` of grid point `t` is. -/
def token (t : Fin cfg0.N) (r : Fin 512) : Fin 8192 :=
  ⟨t.val * 512 + r.val, by have := lt_of_lt_of_eq t.isLt N_0; omega⟩

/-- What a point's windows hold of the incoming gradient and of the two paths. -/
theorem row_block (c : Dev nD) (t : Fin cfg0.N) (r : Fin 512) (d : Fin 2048) :
    rowBlock0 m c t (ix2 r d) = m ((c : Thread nD τ).loc main_arg0) (ix2 (token t r) d)
    ∧ rowBlock1 m c t (ix2 r d) = m ((c : Thread nD τ).loc main_arg1) (ix2 (token t r) d)
    ∧ rowBlock2 m c t (ix2 r d) = m ((c : Thread nD τ).loc main_arg2) (ix2 (token t r) d) := by
  refine ⟨?_, ?_, ?_⟩ <;> · unfold token; blk_ext [rowBlock0, rowBlock1, rowBlock2, iblk, V, idx t]

/-- The gradient of the gates' pre-activations over a launch's arguments. -/
abbrev grad (c : Dev nD) : Fin 2 → Fin 8192 → Fin 2048 → EReal :=
  preGrad (m ((c : Thread nD τ).loc main_arg0)) (m ((c : Thread nD τ).loc main_arg1)) (m ((c : Thread nD τ).loc main_arg2))
    (m ((c : Thread nD τ).loc main_arg3)) (m ((c : Thread nD τ).loc main_arg4))

/-- The gate gradient that grid point `t` computes at its own row `r`, over what its windows hold. -/
def pointGrad (X0 X1 X2 : FVec Ideal S512x2048 .bf16) (X3 : FVec Ideal S2x512x2048 .bf16) (k : Fin 2) (r : Fin 512) (d : Fin 2048) : EReal :=
  gateGrad (X0 (ix2 r d)) (if k.val = 0 then X1 (ix2 r d) else X2 (ix2 r d)) (X3 (ix3 k r d))

theorem pointGrad_eq (c : Dev nD) (t : Fin cfg0.N) (k : Fin 2) (r : Fin 512) (d : Fin 2048) :
    pointGrad (rowBlock0 m c t) (rowBlock1 m c t) (rowBlock2 m c t) (gateBlock m c t) k r d = grad m c k (token t r) d := by
  unfold pointGrad
  obtain ⟨h0, h1, h2⟩ := row_block m c t r d
  rw [gate_block m c t k r d (token t r) rfl]
  exact congrArg₂ (fun a b => gateGrad a b _) h0 (by rw [← h1, ← h2])

/-- A point other than the first is no multiple of the number of points. -/
theorem not_first (t : Fin cfg0.N) (h1 : 1 ≤ t.val) : ¬ t.val % 16 = 0 := by
  have := lt_of_lt_of_eq t.isLt N_0; omega

/-- A point before the second is the first. -/
theorem first (t : Fin cfg0.N) (h1 : ¬ 1 ≤ t.val) : t.val % 16 = 0 := by omega

/-- What grid point `t` leaves in the block of the first path's gradient. -/
theorem left4 (c : Dev nD) (t : Fin cfg0.N) (r : Fin 512) (d : Fin 2048) : (outsAt0 m c t.val t.isLt).1 (ix2 r d)
    = rowBlock0 m c t (ix2 r d) * Ideal.logistic (gateBlock m c t (ix3 0 r d)) := by
  by_cases h1 : 1 ≤ t.val
  · rw [outsAt0_B m c t (not_first t h1) h1]
    frame_out
    pointwise [k0_pay13, k0_pay10, k0_pay11, Cert.Arith.half_tanh_half]
  · rw [outsAt0_A m c t (first t h1) h1]
    frame_out
    pointwise [k0_pay13, k0_pay10, k0_pay11, Cert.Arith.half_tanh_half]

/-- What grid point `t` leaves in the block of the second path's gradient. -/
theorem left5 (c : Dev nD) (t : Fin cfg0.N) (r : Fin 512) (d : Fin 2048) : (outsAt0 m c t.val t.isLt).2.1 (ix2 r d)
    = rowBlock0 m c t (ix2 r d) * Ideal.logistic (gateBlock m c t (ix3 1 r d)) := by
  by_cases h1 : 1 ≤ t.val
  · rw [outsAt0_B m c t (not_first t h1) h1]
    frame_out
    pointwise [k0_pay14, k0_pay10, k0_pay12, Cert.Arith.half_tanh_half]
  · rw [outsAt0_A m c t (first t h1) h1]
    frame_out
    pointwise [k0_pay14, k0_pay10, k0_pay12, Cert.Arith.half_tanh_half]

/-- What grid point `t` leaves in the block of the gates' gradient. -/
theorem left6 (c : Dev nD) (t : Fin cfg0.N) (k : Fin 2) (r : Fin 512) (d : Fin 2048) : (outsAt0 m c t.val t.isLt).2.2.1 (ix3 k r d)
    = grad m c k (token t r) d := by
  rw [← pointGrad_eq]
  by_cases first' : 1 ≤ t.val
  on_goal 1 => rw [outsAt0_B m c t (not_first t first') first']
  on_goal 2 => rw [outsAt0_A m c t (first t first') first']
  all_goals
    frame_out
    canon_tiles x h
    all_goals
      open_payloads
      pointwise [Cert.Arith.half_tanh_half]
      obtain rfl : r = x 1 := Fin.ext h1
      obtain rfl : d = x 2 := Fin.ext h2
      have hk : k.val = _ := h0
      rcases (show k.val = 0 ∨ k.val = 1 by omega) with e | e
      · first | (exfalso; omega) | (obtain rfl : k = 0 := Fin.ext e; simp [pointGrad, gateGrad])
      · first | (exfalso; omega) | (obtain rfl : k = 1 := Fin.ext e; simp [pointGrad, gateGrad])

/-- What grid point `t` has just added to the gates' bias gradient. -/
def biasPart (c : Dev nD) (t : Fin cfg0.N) (j : S2x1x2048.Idx) : EReal :=
  ∑ r : Fin 512, grad m c (j 0) (token t r) (j 2)

theorem biasPart_eq (c : Dev nD) (t : Fin cfg0.N) (k : Fin 2) (d : Fin 2048) :
    biasPart m c t (ix3 k 0 d)
      = ∑ r : Fin 512, pointGrad (rowBlock0 m c t) (rowBlock1 m c t) (rowBlock2 m c t) (gateBlock m c t) k r d :=
  Finset.sum_congr rfl fun r _ => (pointGrad_eq m c t k r d).symm

/-- The first point stores its part of the bias gradient. -/
theorem left7_first (c : Dev nD) (t : Fin cfg0.N) (h : ¬ 1 ≤ t.val) (j : S2x1x2048.Idx) :
    (outsAt0 m c t.val t.isLt).2.2.2 j = 0 + biasPart m c t j := by
  idx_vars j
  obtain rfl : j1 = 0 := Subsingleton.elim _ _
  rw [zero_add, biasPart_eq, outsAt0_A m c t (first t h) h]
  frame_out
  canon_tiles x h
  all_goals
    open_payloads
    pointwise [Cert.Arith.half_tanh_half]
    obtain rfl : j2 = x 2 := Fin.ext h2
    have hk : j0.val = _ := h0
    rcases (show j0.val = 0 ∨ j0.val = 1 by omega) with e | e
    · first | (exfalso; omega) | (obtain rfl : j0 = 0 := Fin.ext e; simp [pointGrad, gateGrad])
    · first | (exfalso; omega) | (obtain rfl : j0 = 1 := Fin.ext e; simp [pointGrad, gateGrad])

/-- Every later point adds its part to what the point before left. -/
theorem left7_later (c : Dev nD) (t : Fin cfg0.N) (h : 1 ≤ t.val) (j : S2x1x2048.Idx) :
    (outsAt0 m c t.val t.isLt).2.2.2 j
      = (outsAt0 m c (t.val - 1) (Nat.lt_of_le_of_lt (Nat.sub_le _ _) t.isLt)).2.2.2 j + biasPart m c t j := by
  idx_vars j
  obtain rfl : j1 = 0 := Subsingleton.elim _ _
  rw [biasPart_eq, outsAt0_B m c t (not_first t h) h]
  frame_out
  canon_tiles x h
  all_goals
    open_payloads
    pointwise [Cert.Arith.half_tanh_half]
    obtain rfl : j2 = x 2 := Fin.ext h2
    have hk : j0.val = _ := h0
    rcases (show j0.val = 0 ∨ j0.val = 1 by omega) with e | e
    · first | (exfalso; omega) | (obtain rfl : j0 = 0 := Fin.ext e; simp [pointGrad, gateGrad])
    · first | (exfalso; omega) | (obtain rfl : j0 = 1 := Fin.ext e; simp [pointGrad, gateGrad])

/-- The first path's gradient: the kernel's array is the reference's. -/
theorem final4 (c : Dev nD) : (dats m 0 c).arrAt 4 cfg0.N
    = val_main_v27 (F := Ideal) (m ((c : Thread nD τ).loc main_arg0)) (m ((c : Thread nD τ).loc main_arg3)) (m ((c : Thread nD τ).loc main_arg4)) := by
  refine (dats m 0 c).arrAt_eq_of_covers 4 _ (by decide +kernel) fun t _ y => ?_
  blk_simp
  rw [after0_4]
  idx_vars y
  rw [left4, (row_block m c t _ _).1, gate_block m c t 0 _ _ (token t _) rfl]
  refine (ref_first _ _ _ _ _).symm.trans (congrArg _ ?_)
  unfold token
  blk_ext [idx t]

/-- The second path's gradient. -/
theorem final5 (c : Dev nD) : (dats m 0 c).arrAt 5 cfg0.N
    = val_main_v28 (F := Ideal) (m ((c : Thread nD τ).loc main_arg0)) (m ((c : Thread nD τ).loc main_arg3)) (m ((c : Thread nD τ).loc main_arg4)) := by
  refine (dats m 0 c).arrAt_eq_of_covers 5 _ (by decide +kernel) fun t _ y => ?_
  blk_simp
  rw [after0_5]
  idx_vars y
  rw [left5, (row_block m c t _ _).1, gate_block m c t 1 _ _ (token t _) rfl]
  refine (ref_second _ _ _ _ _).symm.trans (congrArg _ ?_)
  unfold token
  blk_ext [idx t]

/-- The gates' gradient. -/
theorem final6 (c : Dev nD) : (dats m 0 c).arrAt 6 cfg0.N
    = val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  idx_vars y
  rw [left6]
  refine (ref_gates _ _ _ _ _ _ _ _).symm.trans (congrArg _ ?_)
  unfold token
  blk_ext [idx t]

/-- The gates' bias gradient. -/
theorem final7 (c : Dev nD) : (dats m 0 c).arrAt 7 cfg0.N
    = val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  rw [after0_7, Pipeline.eq_sum_fin_of_reset_step_apply_last (fun n h => (outsAt0 m c n h).2.2.2) 16 (fun _ => 0) (biasPart m c)
    (fun t h j => left7_first m c t (by have := lt_of_lt_of_eq t.isLt N_0; omega) j)
    (fun t h j => left7_later m c t (by omega) j) (le_of_eq N_0) t0_15 rfl j, zero_add]
  idx_vars j
  obtain rfl : j1 = 0 := Subsingleton.elim _ _
  refine Eq.trans ?_ (ref_bias _ _ _ _ _ _ _).symm
  simp only [biasPart, grad]
  refine Fin.sum_mul_add_congr (n := 512) fun s k hl => ?_
  rfl

end Cert.Merge

end
-- ==== Proof.Prep.lean ====
/- The gradient of the state space's discretisation: what the kernel leaves in its five result arrays is what the
   derivative of the reference's lines leaves in them. The kernel lays the channels of the input weights out first. -/
module

public import proofs.«01_k».proof.Proof.Gen.PrepBwdIdeal.Frame
public import proofs.«01_k».proof.Proof.Gen.PrepBwdRefIdeal.Run
public import proofs.«01_k».proof.Proof.Gen.PrepBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.PrepBwdRefIdeal.Read

namespace Cert.Prep

open Cert.PrepBwdIdeal Cert.PrepBwdIdeal.Gen

variable (m : (ℓ : Loc nD τ sig) → Buf (Elt Ideal) ℓ)

/-- A vector over the groups as a column. -/
def col (x : FVec Ideal S64 .f32) : FVec Ideal S64x1 .f32 := fun i => x (ix1 (i 0))

/-- An array by group, state and channel with its channels laid out first. -/
def lead (x : FVec Ideal S64x64x16 .f32) : FVec Ideal S16x64x64 .f32 := fun i => x (ix3 (i 1) (i 2) (i 0))

section Body

variable (re im : FVec Ideal S64x64 .f32) (dt : FVec Ideal S64 .f32) (br bi : FVec Ideal S64x64x16 .f32)
  (da db : FVec Ideal S64x64 .f32) (dr di : FVec Ideal S64x64x16 .f32)

/-- The decay of one state over one step. -/
theorem decay : k0_pay6 (F := Ideal) re (col dt) = val_main_v4 (F := Ideal) re dt := by
  funext i; idx_vars i; pointwise [k0_pay6, k0_pay5, val_main_v4, val_main_v3, val_main_v2, val_main_v1, val_main_v0]; rfl

/-- The turn of one state over one step. -/
theorem turn : k0_pay7 (F := Ideal) im (col dt) = val_main_v6 (F := Ideal) im dt := by
  funext i; idx_vars i; pointwise [k0_pay7, k0_pay5, val_main_v6, val_main_v5, val_main_v1, val_main_v0]; rfl

/-- The same turn, written a second time. -/
theorem turn' : k0_pay10 (F := Ideal) im (col dt) = val_main_v11 (F := Ideal) im dt := by
  funext i; idx_vars i; pointwise [k0_pay10, k0_pay5, val_main_v11, val_main_v10, val_main_v1, val_main_v0]; rfl

/-- The cosine of the turn. -/
theorem turnCos : k0_pay8 (F := Ideal) im (col dt) = val_main_v7 (F := Ideal) im dt := by
  funext i; idx_vars i; pointwise [k0_pay8, val_main_v7]; rw [turn]

/-- The sine of the turn. -/
theorem turnSin : k0_pay9 (F := Ideal) im (col dt) = val_main_v8 (F := Ideal) im dt := by
  funext i; idx_vars i; pointwise [k0_pay9, val_main_v8]; rw [turn]

/-- The sine of the turn, written a second time. -/
theorem turnSin' : k0_pay11 (F := Ideal) im (col dt) = val_main_v12 (F := Ideal) im dt := by
  funext i; idx_vars i; pointwise [k0_pay11, val_main_v12]; rw [turn']

/-- The cosine of the turn, written a second time. -/
theorem turnCos' : k0_pay12 (F := Ideal) im (col dt) = val_main_v13 (F := Ideal) im dt := by
  funext i; idx_vars i; pointwise [k0_pay12, val_main_v13]; rw [turn']

/-- The imaginary part of the discretised decay. -/
theorem sine : k0_pay13 (F := Ideal) re im (col dt) = val_main_v14 (F := Ideal) re im dt := by
  funext i; idx_vars i; pointwise [k0_pay13, val_main_v14]; rw [decay, turnSin']

/-- The squared length of a state's rate. -/
theorem square : k0_pay14 (F := Ideal) re im = val_main_v17 (F := Ideal) re im := by
  funext i; idx_vars i; pointwise [k0_pay14, val_main_v17, val_main_v16, val_main_v15]

/-- The real part of the discretised decay, less one. -/
theorem cosine : k0_pay15 (F := Ideal) re im (col dt) = val_main_v19 (F := Ideal) re im dt := by
  funext i; idx_vars i; pointwise [k0_pay15, val_main_v19, val_main_v18, val_main_v9, val_main_cst]; rw [decay, turnCos]

/-- The numerator of the input factor's real part. -/
theorem numRe : k0_pay16 (F := Ideal) re im (col dt) = val_main_v22 (F := Ideal) re im dt := by
  funext i; idx_vars i; pointwise [k0_pay16, val_main_v22, val_main_v21, val_main_v20]; rw [cosine, sine]

/-- The numerator of the input factor's imaginary part. -/
theorem numIm : k0_pay19 (F := Ideal) re im (col dt) = val_main_v29 (F := Ideal) re im dt := by
  funext i; idx_vars i; pointwise [k0_pay19, val_main_v29, val_main_v28, val_main_v27]; rw [cosine, sine]

/-- The input factor's real part. -/
theorem inputRe : k0_pay17 (F := Ideal) re im (col dt) = val_main_v23 (F := Ideal) re im dt := by
  funext i; idx_vars i; pointwise [k0_pay17, val_main_v23]; rw [numRe, square]

/-- The input factor's imaginary part. -/
theorem inputIm : k0_pay20 (F := Ideal) re im (col dt) = val_main_v30 (F := Ideal) re im dt := by
  funext i; idx_vars i; pointwise [k0_pay20, val_main_v30]; rw [numIm, square]

/-- One over the fourth power of the rate's length. -/
theorem inverse : k0_pay18 (F := Ideal) re im = val_main_v26 (F := Ideal) re im := by
  funext i; idx_vars i; pointwise [k0_pay18, val_main_v26, val_main_v25, val_main_v24, val_main_cst_0]; rw [square]

/-- The same, written a second time. -/
theorem inverse' : k0_pay21 (F := Ideal) re im = val_main_v33 (F := Ideal) re im := by
  funext i; idx_vars i; pointwise [k0_pay21, val_main_v33, val_main_v32, val_main_v31, val_main_cst_1]; rw [square]

/-- The gradient of the input factor's imaginary part: sums over the channels. -/
theorem dIm : k0_pay30 (F := Ideal) (k0_pay3 (F := Ideal) (lead br)) (k0_pay4 (F := Ideal) (lead bi)) (lead dr) (lead di) = val_main_v71 (F := Ideal) br bi dr di := by
  funext i; idx_vars i; pointwise [k0_pay30, k0_pay28, k0_pay27, k0_pay26, k0_pay3, k0_pay4, val_main_v71, val_main_v70, val_main_v69, val_main_v68, val_main_v67, val_main_v63, val_main_v55, val_main_v54, val_main_v53, val_main_v52, val_main_v49, val_main_cst_2, val_main_cst_3, val_main_cst_6, val_main_cst_7]; simp only [Fin.sum_univ_one, lead, zero_sub]; rfl

/-- The gradient of the input factor's real part: sums over the channels. -/
theorem dRe : k0_pay32 (F := Ideal) (k0_pay3 (F := Ideal) (lead br)) (k0_pay4 (F := Ideal) (lead bi)) (lead dr) (lead di) = val_main_v79 (F := Ideal) br bi dr di := by
  funext i; idx_vars i; pointwise [k0_pay32, k0_pay27, k0_pay26, k0_pay3, k0_pay4, val_main_v79, val_main_v78, val_main_v77, val_main_v76, val_main_v75, val_main_v62, val_main_v61, val_main_v60, val_main_v59, val_main_v58, val_main_v48, val_main_cst_4, val_main_cst_5, val_main_cst_8, val_main_cst_9]; simp only [Fin.sum_univ_one, lead, zero_sub]; rfl

/-- What the imaginary part gives to the gradient of the squared length. -/
theorem dSqIm : k0_pay33 (F := Ideal) (k0_pay3 (F := Ideal) (lead br)) (k0_pay4 (F := Ideal) (lead bi)) (val_main_v29 (F := Ideal) re im dt) (val_main_v33 (F := Ideal) re im) (lead dr) (lead di) = val_main_v82 (F := Ideal) re im dt br bi dr di := by
  funext i; idx_vars i; pointwise [k0_pay33, val_main_v82, val_main_v81, val_main_v80]; rw [dIm, zero_sub]

/-- The gradient of the squared length. -/
theorem dSq : k0_pay36 (F := Ideal) (val_main_v22 (F := Ideal) re im dt) (val_main_v26 (F := Ideal) re im) (val_main_v79 (F := Ideal) br bi dr di) (val_main_v82 (F := Ideal) re im dt br bi dr di) = val_main_v94 (F := Ideal) re im dt br bi dr di := by
  funext i; idx_vars i; pointwise [k0_pay36, val_main_v94, val_main_v93, val_main_v92, val_main_v91]; rw [zero_sub]

/-- The gradient of the imaginary part's numerator. -/
theorem dNumIm : k0_pay34 (F := Ideal) (val_main_v17 (F := Ideal) re im) (val_main_v71 (F := Ideal) br bi dr di) = val_main_v83 (F := Ideal) re im br bi dr di := by
  funext i; idx_vars i; pointwise [k0_pay34, val_main_v83]

/-- Its negative. -/
theorem dNumIm' : k0_pay35 (F := Ideal) (val_main_v17 (F := Ideal) re im) (val_main_v71 (F := Ideal) br bi dr di) = val_main_v84 (F := Ideal) re im br bi dr di := by
  funext i; idx_vars i; pointwise [k0_pay35, val_main_v84]; rw [dNumIm, zero_sub]

/-- The gradient of the real part's numerator. -/
theorem dNumRe : k0_pay37 (F := Ideal) (val_main_v17 (F := Ideal) re im) (val_main_v79 (F := Ideal) br bi dr di) = val_main_v95 (F := Ideal) re im br bi dr di := by
  funext i; idx_vars i; pointwise [k0_pay37, val_main_v95]

/-- The gradient of the discretised decay's imaginary part. -/
theorem dSine : k0_pay38 (F := Ideal) re im (val_main_v17 (F := Ideal) re im) db (val_main_v71 (F := Ideal) br bi dr di) (val_main_v79 (F := Ideal) br bi dr di) = val_main_v99 (F := Ideal) re im br bi db dr di := by
  funext i; idx_vars i; pointwise [k0_pay38, val_main_v99, val_main_v98, val_main_v90, val_main_v89]; rw [dNumIm, dNumRe]

/-- The gradient of the discretised decay's real part. -/
theorem dCosine : k0_pay39 (F := Ideal) re im (val_main_v17 (F := Ideal) re im) da (val_main_v71 (F := Ideal) br bi dr di) (val_main_v79 (F := Ideal) br bi dr di) = val_main_v103 (F := Ideal) re im br bi da dr di := by
  funext i; idx_vars i; pointwise [k0_pay39, val_main_v103, val_main_v102, val_main_v87, val_main_v86]; rw [dNumIm', dNumRe]

/-- The gradient of the rate's real part through the input factor. -/
theorem dReOwn : k0_pay40 (F := Ideal) re (val_main_v14 (F := Ideal) re im dt) (val_main_v17 (F := Ideal) re im) (val_main_v19 (F := Ideal) re im dt) (val_main_v22 (F := Ideal) re im dt) (val_main_v26 (F := Ideal) re im) (val_main_v71 (F := Ideal) br bi dr di) (val_main_v79 (F := Ideal) br bi dr di) (val_main_v82 (F := Ideal) re im dt br bi dr di) = val_main_v111 (F := Ideal) re im dt br bi dr di := by
  funext i; idx_vars i; pointwise [k0_pay40, val_main_v111, val_main_v110, val_main_v109, val_main_v108, val_main_v101, val_main_v100, val_main_v88]; rw [dNumIm, dNumRe, dSq]

/-- The gradient of the turn through the sine. -/
theorem dTurnSin : k0_pay41 (F := Ideal) re im (val_main_v4 (F := Ideal) re dt) (val_main_v13 (F := Ideal) im dt) (val_main_v17 (F := Ideal) re im) db (val_main_v71 (F := Ideal) br bi dr di) (val_main_v79 (F := Ideal) br bi dr di) = val_main_v114 (F := Ideal) re im dt br bi db dr di := by
  funext i; idx_vars i; pointwise [k0_pay41, val_main_v114, val_main_v112]; rw [dSine]

/-- The gradient of the turn through the cosine. -/
theorem dTurnCos : k0_pay42 (F := Ideal) re im (val_main_v4 (F := Ideal) re dt) (val_main_v8 (F := Ideal) im dt) (val_main_v17 (F := Ideal) re im) da (val_main_v71 (F := Ideal) br bi dr di) (val_main_v79 (F := Ideal) br bi dr di) = val_main_v125 (F := Ideal) re im dt br bi da dr di := by
  funext i; idx_vars i; pointwise [k0_pay42, val_main_v125, val_main_v124, val_main_v121]; rw [dCosine, zero_sub]

/-- The gradient of the decay's exponent. -/
theorem dDecay : k0_pay45 (F := Ideal) re im (val_main_v4 (F := Ideal) re dt) (val_main_v7 (F := Ideal) im dt) (val_main_v12 (F := Ideal) im dt) (val_main_v17 (F := Ideal) re im) da db (val_main_v71 (F := Ideal) br bi dr di) (val_main_v79 (F := Ideal) br bi dr di) = val_main_v133 (F := Ideal) re im dt br bi da db dr di := by
  funext i; idx_vars i; pointwise [k0_pay45, val_main_v133, val_main_v123, val_main_v122, val_main_v113]; rw [dSine, dCosine]

/-- The gradient of the input weights' real part. -/
theorem left12 (h : Fin 16) (g p : Fin 64) :
    out0_12 (F := Ideal) re im (col dt) (lead br) (lead bi) da db (lead dr) (lead di) (ix3 h g p)
      = val_main_v144 (F := Ideal) re im dt dr di (ix3 h g p) := by
  frame_out
  pointwise [k0_pay31, k0_pay27, k0_pay26, k0_pay25, k0_pay22, val_main_v144, val_main_v74, val_main_v51, val_main_v50, val_main_v44, val_main_v49, val_main_v73, val_main_v72, val_main_v34, val_main_v62]
  rw [inputRe, inputIm]
  rfl

/-- The gradient of the input weights' imaginary part. -/
theorem left13 (h : Fin 16) (g p : Fin 64) :
    out0_13 (F := Ideal) re im (col dt) (lead br) (lead bi) da db (lead dr) (lead di) (ix3 h g p)
      = val_main_v145 (F := Ideal) re im dt dr di (ix3 h g p) := by
  frame_out
  pointwise [k0_pay29, k0_pay28, k0_pay27, k0_pay26, k0_pay24, k0_pay23, val_main_v145, val_main_v66, val_main_v57, val_main_v56, val_main_v41, val_main_v48, val_main_v65, val_main_v64, val_main_v37, val_main_v63]
  rw [inputRe, inputIm, zero_sub]
  rfl

/-- A load of a whole matrix is the matrix. -/
theorem load_mat : View.ld (Val := Elt Ideal) (S := S64x64) (e' := .f32) re r0_0 = re := by
  funext i; idx_vars i; pointwise []

/-- A load of the whole column is the column. -/
theorem load_col : View.ld (Val := Elt Ideal) (S := S64x1) (e' := .f32) (col dt) r0_1 = col dt := by
  funext i; idx_vars i; pointwise []; rw [Subsingleton.elim (α := Fin 1) i1 0]

/-- A load of a whole array with the channels first is the array. -/
theorem load_cube : View.ld (Val := Elt Ideal) (S := S16x64x64) (e' := .f32) (lead br) r0_2 = lead br := by
  funext i; idx_vars i; pointwise []

/-- What the body holds of the value that the reference's line 4 computes. -/
theorem held50 : k0_pay50 (F := Ideal) re im (col dt) (lead br) (lead bi) da db (lead dr) (lead di) = val_main_v4 (F := Ideal) re dt := by
  rw [k0_pay50, load_mat, load_col]; exact decay _ _

/-- What the body holds of the value that the reference's line 7 computes. -/
theorem held51 : k0_pay51 (F := Ideal) re im (col dt) (lead br) (lead bi) da db (lead dr) (lead di) = val_main_v7 (F := Ideal) im dt := by
  rw [k0_pay51, load_mat, load_col]; exact turnCos _ _

/-- What the body holds of the value that the reference's line 8 computes. -/
theorem held52 : k0_pay52 (F := Ideal) re im (col dt) (lead br) (lead bi) da db (lead dr) (lead di) = val_main_v8 (F := Ideal) im dt := by
  rw [k0_pay52, load_mat, load_col]; exact turnSin _ _

/-- What the body holds of the value that the reference's line 12 computes. -/
theorem held53 : k0_pay53 (F := Ideal) re im (col dt) (lead br) (lead bi) da db (lead dr) (lead di) = val_main_v12 (F := Ideal) im dt := by
  rw [k0_pay53, load_mat, load_col]; exact turnSin' _ _

/-- What the body holds of the value that the reference's line 13 computes. -/
theorem held54 : k0_pay54 (F := Ideal) re im (col dt) (lead br) (lead bi) da db (lead dr) (lead di) = val_main_v13 (F := Ideal) im dt := by
  rw [k0_pay54, load_mat, load_col]; exact turnCos' _ _

/-- What the body holds of the value that the reference's line 14 computes. -/
theorem held55 : k0_pay55 (F := Ideal) re im (col dt) (lead br) (lead bi) da db (lead dr) (lead di) = val_main_v14 (F := Ideal) re im dt := by
  rw [k0_pay55, load_mat, load_mat, load_col]; exact sine _ _ _

/-- What the body holds of the value that the reference's line 17 computes. -/
theorem held56 : k0_pay56 (F := Ideal) re im (col dt) (lead br) (lead bi) da db (lead dr) (lead di) = val_main_v17 (F := Ideal) re im := by
  rw [k0_pay56, load_mat, load_mat]; exact square _ _

/-- What the body holds of the value that the reference's line 19 computes. -/
theorem held57 : k0_pay57 (F := Ideal) re im (col dt) (lead br) (lead bi) da db (lead dr) (lead di) = val_main_v19 (F := Ideal) re im dt := by
  rw [k0_pay57, load_mat, load_mat, load_col]; exact cosine _ _ _

/-- What the body holds of the value that the reference's line 22 computes. -/
theorem held58 : k0_pay58 (F := Ideal) re im (col dt) (lead br) (lead bi) da db (lead dr) (lead di) = val_main_v22 (F := Ideal) re im dt := by
  rw [k0_pay58, load_mat, load_mat, load_col]; exact numRe _ _ _

/-- What the body holds of the value that the reference's line 26 computes. -/
theorem held59 : k0_pay59 (F := Ideal) re im (col dt) (lead br) (lead bi) da db (lead dr) (lead di) = val_main_v26 (F := Ideal) re im := by
  rw [k0_pay59, load_mat, load_mat]; exact inverse _ _

/-- What the body holds of the value that the reference's line 71 computes. -/
theorem held60 : k0_pay60 (F := Ideal) re im (col dt) (lead br) (lead bi) da db (lead dr) (lead di) = val_main_v71 (F := Ideal) br bi dr di := by
  rw [k0_pay60, k0_pay47, k0_pay48, load_cube, load_cube, load_cube, load_cube]; exact dIm _ _ _ _

/-- What the body holds of the value that the reference's line 79 computes. -/
theorem held61 : k0_pay61 (F := Ideal) re im (col dt) (lead br) (lead bi) da db (lead dr) (lead di) = val_main_v79 (F := Ideal) br bi dr di := by
  rw [k0_pay61, k0_pay47, k0_pay48, load_cube, load_cube, load_cube, load_cube]; exact dRe _ _ _ _

/-- What the body holds of the value that the reference's line 82 computes. -/
theorem held62 : k0_pay62 (F := Ideal) re im (col dt) (lead br) (lead bi) da db (lead dr) (lead di) = val_main_v82 (F := Ideal) re im dt br bi dr di := by
  rw [k0_pay62, k0_pay47, k0_pay48, load_cube, load_cube, load_cube, load_cube, load_mat, load_mat, load_col, numIm, inverse']; exact dSqIm _ _ _ _ _ _ _

/-- The step's length. -/
theorem held49 (g : Fin 64) : k0_pay49 (F := Ideal) re im (col dt) (lead br) (lead bi) da db (lead dr) (lead di) (ix2 g 0) = Ideal.exp (dt (ix1 g)) := by
  pointwise [k0_pay49, k0_pay5]
  rfl

/-- The gradient of the real part of the states' decay. -/
theorem left9 (g p : Fin 64) :
    out0_9 (F := Ideal) re im (col dt) (lead br) (lead bi) da db (lead dr) (lead di) (ix2 g p)
      = val_main_v140 (F := Ideal) re im dt br bi da db dr di (ix2 g p) := by
  frame_out
  pointwise [k0_pay1, val_main_v140, val_main_v139, val_main_v138, val_main_v1, val_main_v0]
  rw [held49, held50, held51, held53, held55, held56, held57, held58, held59, held60, held61, held62, dReOwn, dDecay]

/-- The gradient of the imaginary part of the states' decay. -/
theorem left10 (g p : Fin 64) :
    out0_10 (F := Ideal) re im (col dt) (lead br) (lead bi) da db (lead dr) (lead di) (ix2 g p)
      = val_main_v132 (F := Ideal) re im dt br bi da db dr di (ix2 g p) := by
  frame_out
  pointwise [k0_pay44, val_main_v132, val_main_v131, val_main_v130, val_main_v120, val_main_v119, val_main_v118, val_main_v107, val_main_v106, val_main_v105, val_main_v104, val_main_v97, val_main_v96, val_main_v85, val_main_v1, val_main_v0]
  rw [held49, held50, held52, held54, held55, held56, held57, held58, held59, held60, held61, held62, dTurnSin, dTurnCos, dSq, dNumRe, dNumIm']

/-- The gradient of the logarithm of the step. -/
theorem left11 (g : Fin 64) :
    out0_11 (F := Ideal) re im (col dt) (lead br) (lead bi) da db (lead dr) (lead di) (ix2 g 0)
      = val_main_v143 (F := Ideal) re im dt br bi da db dr di (ix2 g 0) := by
  frame_out
  pointwise [k0_pay2, k0_pay43, k0_pay46, val_main_v143, val_main_v142, val_main_v141, val_main_v137, val_main_v129, val_main_v128, val_main_v127, val_main_v126, val_main_v117, val_main_v116, val_main_v115, val_main_v136, val_main_v135, val_main_v134, val_main_v0, val_main_cst_10, val_main_cst_11, val_main_cst_12, val_main_cst_13]
  rw [held49, held50, held51, held52, held53, held54, held56, held60, held61, dTurnSin, dTurnCos, dDecay]
  simp only [Fin.sum_univ_one, Fin.isValue]

end Body

/-- The one grid point stages the first block of every array. -/
theorem idx : win0_0.index t0_0 = ![0, 0]
    ∧ win0_1.index t0_0 = ![0, 0]
    ∧ win0_2.index t0_0 = ![0, 0]
    ∧ win0_3.index t0_0 = ![0, 0, 0]
    ∧ win0_4.index t0_0 = ![0, 0, 0]
    ∧ win0_5.index t0_0 = ![0, 0]
    ∧ win0_6.index t0_0 = ![0, 0]
    ∧ win0_7.index t0_0 = ![0, 0, 0]
    ∧ win0_8.index t0_0 = ![0, 0, 0] := by decide +kernel

/-- The block of window 0 at the one grid point: the whole of argument 0. -/
theorem block0 (c : Dev nD) : (iblk m c 0 t0_0 : FVec Ideal S64x64 .f32) = (m ((c : Thread nD τ).loc main_arg0)) := by
  funext i
  idx_vars i
  blk_simp [iblk, V]
  entry_read
  blk_point [idx]

/-- The block of window 1 at the one grid point: the whole of argument 1. -/
theorem block1 (c : Dev nD) : (iblk m c 1 t0_0 : FVec Ideal S64x64 .f32) = (m ((c : Thread nD τ).loc main_arg1)) := by
  funext i
  idx_vars i
  blk_simp [iblk, V]
  entry_read
  blk_point [idx]

/-- The block of window 5 at the one grid point: the whole of argument 5. -/
theorem block5 (c : Dev nD) : (iblk m c 5 t0_0 : FVec Ideal S64x64 .f32) = (m ((c : Thread nD τ).loc main_arg5)) := by
  funext i
  idx_vars i
  blk_simp [iblk, V]
  entry_read
  blk_point [idx]

/-- The block of window 6 at the one grid point: the whole of argument 6. -/
theorem block6 (c : Dev nD) : (iblk m c 6 t0_0 : FVec Ideal S64x64 .f32) = (m ((c : Thread nD τ).loc main_arg6)) := by
  funext i
  idx_vars i
  blk_simp [iblk, V]
  entry_read
  blk_point [idx]

/-- The block of window 2 at the one grid point: the whole of argument 2, as the host lays it out. -/
theorem block2 (c : Dev nD) : (iblk m c 2 t0_0 : FVec Ideal S64x1 .f32) = col (m ((c : Thread nD τ).loc main_arg2)) := by
  funext i
  idx_vars i
  blk_simp [iblk, V]
  entry_read
  pointwise []
  unfold col
  blk_point [idx]

/-- The block of window 3 at the one grid point: the whole of argument 3, as the host lays it out. -/
theorem block3 (c : Dev nD) : (iblk m c 3 t0_0 : FVec Ideal S16x64x64 .f32) = lead (m ((c : Thread nD τ).loc main_arg3)) := by
  funext i
  idx_vars i
  blk_simp [iblk, V]
  entry_read
  pointwise []
  unfold lead
  blk_point [idx]

/-- The block of window 4 at the one grid point: the whole of argument 4, as the host lays it out. -/
theorem block4 (c : Dev nD) : (iblk m c 4 t0_0 : FVec Ideal S16x64x64 .f32) = lead (m ((c : Thread nD τ).loc main_arg4)) := by
  funext i
  idx_vars i
  blk_simp [iblk, V]
  entry_read
  pointwise []
  unfold lead
  blk_point [idx]

/-- The block of window 7 at the one grid point: the whole of argument 7, as the host lays it out. -/
theorem block7 (c : Dev nD) : (iblk m c 7 t0_0 : FVec Ideal S16x64x64 .f32) = lead (m ((c : Thread nD τ).loc main_arg7)) := by
  funext i
  idx_vars i
  blk_simp [iblk, V]
  entry_read
  pointwise []
  unfold lead
  blk_point [idx]

/-- The block of window 8 at the one grid point: the whole of argument 8, as the host lays it out. -/
theorem block8 (c : Dev nD) : (iblk m c 8 t0_0 : FVec Ideal S16x64x64 .f32) = lead (m ((c : Thread nD τ).loc main_arg8)) := by
  funext i
  idx_vars i
  blk_simp [iblk, V]
  entry_read
  pointwise []
  unfold lead
  blk_point [idx]

/-- Result 0: the kernel's array is the reference's. -/
theorem final9 (c : Dev nD) : (dats m 0 c).arrAt 9 cfg0.N
    = val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 9 t0_0 (by decide +kernel) _ fun j => ?_
  blk_simp
  rw [after0_9, block0, block1, block2, block3, block4, block5, block6, block7, block8]
  idx_vars j
  exact left9 _ _ _ _ _ _ _ _ _ _ _

/-- Result 1: the kernel's array is the reference's. -/
theorem final10 (c : Dev nD) : (dats m 0 c).arrAt 10 cfg0.N
    = val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 10 t0_0 (by decide +kernel) _ fun j => ?_
  blk_simp
  rw [after0_10, block0, block1, block2, block3, block4, block5, block6, block7, block8]
  idx_vars j
  exact left10 _ _ _ _ _ _ _ _ _ _ _

/-- Result 2: the kernel's array is the reference's. -/
theorem final11 (c : Dev nD) : (dats m 0 c).arrAt 11 cfg0.N
    = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_after_last 11 t0_0 (by decide +kernel) _ fun j => ?_
  blk_simp
  rw [after0_11, block0, block1, block2, block3, block4, block5, block6, block7, block8]
  idx_vars j
  obtain rfl : j1 = 0 := Subsingleton.elim _ _
  exact left11 _ _ _ _ _ _ _ _ _ _

/-- Result 3: the kernel's array is the reference's. -/
theorem final12 (c : Dev nD) : (dats m 0 c).arrAt 12 cfg0.N
    = val_main_v144 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_after_last 12 t0_0 (by decide +kernel) _ fun j => ?_
  blk_simp
  rw [after0_12, block0, block1, block2, block3, block4, block5, block6, block7, block8]
  idx_vars j
  exact left12 _ _ _ _ _ _ _ _ _ _ _ _

/-- Result 4: the kernel's array is the reference's. -/
theorem final13 (c : Dev nD) : (dats m 0 c).arrAt 13 cfg0.N
    = val_main_v145 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_after_last 13 t0_0 (by decide +kernel) _ fun j => ?_
  blk_simp
  rw [after0_13, block0, block1, block2, block3, block4, block5, block6, block7, block8]
  idx_vars j
  exact left13 _ _ _ _ _ _ _ _ _ _ _ _

end Cert.Prep
-- ==== Proof.Swiglu.lean ====
/- The gradient of a SwiGLU gate fused with that of the projection after it: what the kernel leaves of the gradients of
   the gate's two inputs is what the derivative of the reference's lines leaves of them. -/
module

public import proofs.«01_k».proof.Proof.Arith
public import proofs.«01_k».proof.Proof.Reals
public import proofs.«01_k».proof.Proof.Gen.SwigluBwdIdeal.Frame
public import proofs.«01_k».proof.Proof.Gen.SwigluBwdRefIdeal.Run
public import proofs.«01_k».proof.Proof.Gen.SwigluBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SwigluBwdRefIdeal.Read

namespace Cert.Swiglu

open Cert.SwigluBwdIdeal Cert.SwigluBwdIdeal.Gen Cert.Reals

variable (m : (ℓ : Loc nD τ sig) → Buf (Elt Ideal) ℓ)

/-- Which block each window stages at grid point `t`. -/
theorem idx : ∀ t : Fin cfg0.N, win0_0.index t = ![t.val % 8, 0] ∧ win0_1.index t = ![t.val / 8, 0]
    ∧ win0_2.index t = ![t.val % 8, 0, 0, t.val / 8] ∧ win0_3.index t = ![t.val % 8, 0, 0, t.val / 8] :=
  (by decide +kernel : ∀ t : Fin grid0.N, _)

/-- The short float's words of one half, one and two. -/
theorem short_half : Ideal.ofBits .bf16 0x3F00#16 = ((1 / 2 : ℝ) : EReal) := by
  simp [Ideal.ofBits, Ideal.ieee, -EReal.coe_mul]; norm_num
@[inherit_doc short_half] theorem short_two : Ideal.ofBits .bf16 0x4000#16 = ((2 : ℝ) : EReal) := by
  simp [Ideal.ofBits, Ideal.ieee, -EReal.coe_mul]; norm_num
@[inherit_doc short_half] theorem short_one : Ideal.ofBits .bf16 0x3F80#16 = ((1 : ℝ) : EReal) := by
  simp [Ideal.ofBits, Ideal.ieee, -EReal.coe_mul]; norm_num

/-- The sigmoid written with a hyperbolic tangent and the number one half. -/
theorem sigmoid (x : EReal) :
    ((1 / 2 : ℝ) : EReal) * Ideal.tanh (((1 / 2 : ℝ) : EReal) * x) + ((1 / 2 : ℝ) : EReal) = Ideal.logistic x := by
  rw [← Cert.Arith.half_word]; exact Cert.Arith.half_tanh_half x

/-- The gradients of the gate's two inputs, `a` under the sigmoid and `b` beside it, from the gradient `d` of the gate. -/
def gateGrad (d a b : EReal) (k : Fin 2) : EReal :=
  if k.val = 0 then
    d * b * (((1 / 2 : ℝ) : EReal) * Ideal.logistic a)
      * (((1 : ℝ) : EReal) + a * (((1 : ℝ) : EReal) - ((2 : ℝ) : EReal) * (((1 / 2 : ℝ) : EReal) * Ideal.logistic a)))
  else d * a * (((1 / 2 : ℝ) : EReal) * Ideal.logistic a)

/-- The product rule's two terms for `a · σ(a)` are the kernel's one product, `σ(a) (1 + a (1 - σ(a)))`; `a` may be infinite. -/
theorem gate_rule (p : ℝ) (a : EReal) :
    ((1 / 2 : ℝ) : EReal) * (p : EReal) * Ideal.logistic a
        + a * (((1 / 2 : ℝ) : EReal) * (p : EReal)) * (Ideal.logistic a * (((1 : ℝ) : EReal) - Ideal.logistic a))
      = (p : EReal) * (((1 / 2 : ℝ) : EReal) * Ideal.logistic a)
          * (((1 : ℝ) : EReal) + a * (((1 : ℝ) : EReal) - ((2 : ℝ) : EReal) * (((1 / 2 : ℝ) : EReal) * Ideal.logistic a))) := by
  induction a using EReal.rec with
  | bot => simp [Ideal.logistic_bot]
  | coe r =>
    rw [Ideal.logistic_coe]
    norm_cast
    ring
  | top =>
    have e : ((1 : ℝ) : EReal) - ((2 : ℝ) : EReal) * ((1 / 2 : ℝ) : EReal) = 0 := by norm_cast; norm_num
    have e' : ((1 : ℝ) : EReal) - 1 = 0 := by norm_cast
    rw [Ideal.logistic_top, mul_one, mul_one, e, one_mul, e', mul_zero, mul_zero, add_zero, add_zero, EReal.coe_one, mul_one, mul_comm]

/-- One of the gate's inputs: token `t`'s row of the hidden features times column `f` of a weight. -/
def feature (h : FVec Ideal S8192x2048 .bf16) (w : FVec Ideal S2048x5632 .f32) (t : Fin 8192) (f : Fin 5632) : EReal :=
  ∑ d : Fin 2048, h (ix2 t d) * w (ix2 d f)

/-- The gradient of the gate at token `t` and feature `f`, without the branch's factor one half. -/
def gateOut (wd : FVec Ideal S5632x2048 .f32) (dy : FVec Ideal S8192x2048 .bf16) (t : Fin 8192) (f : Fin 5632) : EReal :=
  ∑ d : Fin 2048, wd (ix2 f d) * dy (ix2 t d)

/-- Feature `r` of shard `n`. -/
def col (n : Fin 8) (r : Fin 704) : Fin 5632 := ⟨n.val * 704 + r.val, by omega⟩

section Reference

variable (h : FVec Ideal S8192x2048 .bf16) (wg wu : FVec Ideal S2048x5632 .f32) (wd : FVec Ideal S5632x2048 .f32)
  (dy : FVec Ideal S8192x2048 .bf16)

/-- The reference's gradient of the gate carries the factor one half. -/
theorem ref_out (t : Fin 8192) (f : Fin 5632) :
    val_main_v11 (F := Ideal) wd dy (ix2 t f) = ((1 / 2 : ℝ) : EReal) * gateOut wd dy t f := by
  rw [gateOut, mul_sum_of_nonneg _ (by norm_num)]
  pointwise [val_main_v11, val_main_v10, val_main_v9, val_main_v8, val_main_cst_0]
  rw [word_half]
  exact Finset.sum_congr rfl fun d _ => by rw [mul_assoc, mul_comm (dy _)]

/-- The reference's two inputs of the gate, and its sigmoid. -/
theorem ref_a (t : Fin 8192) (f : Fin 5632) : val_main_v1 (F := Ideal) h wg (ix2 t f) = feature h wg t f := by
  pointwise [val_main_v1, val_main_v0, feature]
@[inherit_doc ref_a] theorem ref_b (t : Fin 8192) (f : Fin 5632) : val_main_v2 (F := Ideal) h wu (ix2 t f) = feature h wu t f := by
  pointwise [val_main_v2, val_main_v0, feature]
@[inherit_doc ref_a] theorem ref_sigmoid (t : Fin 8192) (f : Fin 5632) :
    val_main_v3_2 (F := Ideal) h wg (ix2 t f) = Ideal.logistic (feature h wg t f) := by
  pointwise [val_main_v3_2, val_main_call0_v4, val_main_call0_cst_0, val_main_call0_v3, val_main_call0_v2, val_main_call0_cst,
    val_main_call0_v1, val_main_call0_v0]
  rw [ref_a]
  rfl

/-- The gradient of the input under the sigmoid, at finite `h`, `w_up`, `w_down` and incoming gradient. -/
theorem ref_da (hh : ∃ x : S8192x2048.Idx → ℝ, h = fun i => (x i : EReal)) (hu : ∃ x : S2048x5632.Idx → ℝ, wu = fun i => (x i : EReal))
    (hd : ∃ x : S5632x2048.Idx → ℝ, wd = fun i => (x i : EReal)) (hy : ∃ x : S8192x2048.Idx → ℝ, dy = fun i => (x i : EReal))
    (t : Fin 8192) (f : Fin 5632) :
    val_main_v14 (F := Ideal) h wg wu wd dy (ix2 t f) = gateGrad (gateOut wd dy t f) (feature h wg t f) (feature h wu t f) 0 := by
  pointwise [val_main_v14, val_main_call1_v2, val_main_call1_v1, val_main_call1_v0, val_main_v13, val_main_v3_1,
    val_main_call0_v7, val_main_call0_v6, val_main_call0_cst_1]
  rw [ref_a, ref_sigmoid, ref_out, ref_b]
  obtain ⟨b, hb⟩ : ∃ b : ℝ, feature h wu t f = (b : EReal) := by
    obtain ⟨x, rfl⟩ := hh
    obtain ⟨y, rfl⟩ := hu
    exact ⟨∑ d, x (ix2 t d) * y (ix2 d f), by simp only [feature, ← EReal.coe_mul, sum_coe]⟩
  obtain ⟨o, ho⟩ : ∃ o : ℝ, gateOut wd dy t f = (o : EReal) := by
    obtain ⟨x, rfl⟩ := hd
    obtain ⟨y, rfl⟩ := hy
    exact ⟨∑ d, x (ix2 f d) * y (ix2 t d), by simp only [gateOut, ← EReal.coe_mul, sum_coe]⟩
  have e := gate_rule (o * b) (feature h wg t f)
  rw [gateGrad, if_pos (by rfl), hb, ho, ← EReal.coe_mul o b, ← e]
  simp only [EReal.coe_mul, mul_assoc, EReal.coe_one]

/-- The gradient of the input beside the sigmoid. -/
theorem ref_db (t : Fin 8192) (f : Fin 5632) :
    val_main_v12 (F := Ideal) h wg wd dy (ix2 t f) = gateGrad (gateOut wd dy t f) (feature h wg t f) (feature h wu t f) 1 := by
  pointwise [val_main_v12, val_main_v3_0]
  rw [ref_a, ref_sigmoid, ref_out, gateGrad, if_neg (by decide)]
  ac_rfl

/-- The two gradients as the reference leaves them, the features as rows and by shard. -/
theorem ref_grads (hh : ∃ x : S8192x2048.Idx → ℝ, h = fun i => (x i : EReal)) (hu : ∃ x : S2048x5632.Idx → ℝ, wu = fun i => (x i : EReal))
    (hd : ∃ x : S5632x2048.Idx → ℝ, wd = fun i => (x i : EReal)) (hy : ∃ x : S8192x2048.Idx → ℝ, dy = fun i => (x i : EReal))
    (n : Fin 8) (k : Fin 2) (r : Fin 704) (t : Fin 8192) :
    val_main_v22 (F := Ideal) h wg wu wd dy (ix4 n k r t)
      = gateGrad (gateOut wd dy t (col n r)) (feature h wg t (col n r)) (feature h wu t (col n r)) k := by
  pointwise [val_main_v22, val_main_v21, val_main_v20, val_main_v19, val_main_v18, val_main_v17, val_main_v16, val_main_v15]
  by_cases hk : k.val = 0
  · obtain rfl : k = 0 := Fin.ext hk
    rw [dif_pos (by decide)]
    exact ref_da h wg wu wd dy hh hu hd hy t (col n r)
  · obtain rfl : k = 1 := Fin.ext (by omega)
    rw [dif_neg (by decide)]
    exact ref_db h wg wu wd dy t (col n r)

end Reference

/-- What the three input windows hold at grid point `t`. -/
abbrev weightBlock (c : Dev nD) (t : Fin cfg0.N) : FVec Ideal S704x2048 .bf16 := iblk m c 0 t
@[inherit_doc weightBlock] abbrev gradBlock (c : Dev nD) (t : Fin cfg0.N) : FVec Ideal S2048x2048 .bf16 := iblk m c 1 t
@[inherit_doc weightBlock] abbrev pairBlock (c : Dev nD) (t : Fin cfg0.N) : FVec Ideal S1x2x704x2048 .bf16 := iblk m c 2 t

/-- The shard that a grid point handles, and the token that its column `r` is. -/
def shard (t : Fin cfg0.N) : Fin 8 := ⟨t.val % 8, by omega⟩
@[inherit_doc shard] def token (t : Fin cfg0.N) (r : Fin 2048) : Fin 8192 :=
  ⟨t.val / 8 * 2048 + r.val, by have := lt_of_lt_of_eq t.isLt N_0; omega⟩

/-- What a point's windows hold of the arguments. -/
theorem block_weight (c : Dev nD) (t : Fin cfg0.N) (r : Fin 704) (d : Fin 2048) :
    weightBlock m c t (ix2 r d) = m ((c : Thread nD τ).loc main_arg3) (ix2 (col (shard t) r) d) := by
  unfold col shard
  blk_simp [weightBlock, iblk]
  entry_read
  pointwise
  blk_point [idx t]
@[inherit_doc block_weight] theorem block_grad (c : Dev nD) (t : Fin cfg0.N) (r d : Fin 2048) :
    gradBlock m c t (ix2 r d) = m ((c : Thread nD τ).loc main_arg4) (ix2 (token t r) d) := by
  unfold token; blk_ext [gradBlock, iblk, V, idx t]
@[inherit_doc block_weight] theorem block_pair (c : Dev nD) (t : Fin cfg0.N) (k : Fin 2) (r : Fin 704) (s : Fin 2048) :
    pairBlock m c t (ix4 0 k r s) = feature (m ((c : Thread nD τ).loc main_arg0))
      (if k.val = 0 then m ((c : Thread nD τ).loc main_arg1) else m ((c : Thread nD τ).loc main_arg2)) (token t s) (col (shard t) r) := by
  unfold token col shard
  blk_simp [pairBlock, iblk]
  entry_read
  pointwise [feature]
  have hk : (((View.whole main_v11).slice (win0_2.rect t)).emb (ix4 0 k r s) 1).val = k.val := by blk_point [idx t]
  by_cases h0 : k.val = 0
  · rw [dif_pos (by omega), if_pos h0]
    blk_point [idx t]
  · rw [dif_neg (by omega), if_neg h0]
    blk_point [idx t]

/-- What grid point `t` leaves in the block of the gradients, over what its windows hold. -/
theorem left3 (c : Dev nD) (t : Fin cfg0.N) (k : Fin 2) (r : Fin 704) (s : Fin 2048) :
    out0_3 (F := Ideal) (weightBlock m c t) (gradBlock m c t) (pairBlock m c t) (ix4 0 k r s)
      = gateGrad (∑ d : Fin 2048, weightBlock m c t (ix2 r d) * gradBlock m c t (ix2 s d))
          (pairBlock m c t (ix4 0 0 r s)) (pairBlock m c t (ix4 0 1 r s)) k := by
  generalize weightBlock m c t = x0
  generalize gradBlock m c t = x1
  generalize pairBlock m c t = x2
  frame_out
  canon_tiles x h
  all_goals
    open_payloads
    pointwise [short_half, short_one, short_two, sigmoid]
    obtain rfl : r = x 2 := Fin.ext h2
    obtain rfl : s = x 3 := Fin.ext h3
    have hk : k.val = _ := h1
    rcases (show k.val = 0 ∨ k.val = 1 by omega) with e | e
    · first | (exfalso; omega) | (obtain rfl : k = 0 := Fin.ext e; rfl)
    · first | (exfalso; omega) | (obtain rfl : k = 1 := Fin.ext e; rfl)

/-- The gradients of the gate's two inputs: the kernel's array is the reference's. -/
theorem final3 (c : Dev nD)
    (hh : ∃ x : S8192x2048.Idx → ℝ, (m ((c : Thread nD τ).loc main_arg0) : FVec Ideal S8192x2048 .bf16) = fun i => (x i : EReal))
    (hu : ∃ x : S2048x5632.Idx → ℝ, (m ((c : Thread nD τ).loc main_arg2) : FVec Ideal S2048x5632 .f32) = fun i => (x i : EReal))
    (hd : ∃ x : S5632x2048.Idx → ℝ, (m ((c : Thread nD τ).loc main_arg3) : FVec Ideal S5632x2048 .f32) = fun i => (x i : EReal))
    (hy : ∃ x : S8192x2048.Idx → ℝ, (m ((c : Thread nD τ).loc main_arg4) : FVec Ideal S8192x2048 .bf16) = fun i => (x i : EReal)) :
    (dats m 0 c).arrAt 3 cfg0.N
      = val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]
  idx_vars y
  obtain rfl : y0 = 0 := Subsingleton.elim _ _
  refine (left3 m c t y1 y2 y3).trans ?_
  simp only [block_weight, block_grad, block_pair]
  refine Eq.trans ?_ ((ref_grads _ _ _ _ _ hh hu hd hy (shard t) y1 y2 (token t y3)).symm.trans (congrArg _ ?_))
  · rfl
  · unfold shard token
    blk_ext [idx t]

end Cert.Swiglu

end
-- ==== Proof.SguTiles.lean ====
/- The gradient of the spatial gating unit, tile by tile: what the kernel's products by heads and blocks of rows hold, laid together. -/
module

public import proofs.«01_k».proof.Proof.Reals
public import proofs.«01_k».proof.Proof.Gen.SguBwdIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Sgu

open Cert.SguBwdIdeal Cert.SguBwdIdeal.Gen Cert.Reals

/-! ## Arrays laid together, and a sum along the outer axes -/

/-- Eight square tiles side by side hold rows `p` of `f` when the tile of each head holds `f` at the head's columns. -/
theorem eight_columns {e : FTy} (x0 x1 x2 x3 x4 x5 x6 x7 : FVec Ideal S128x128 e)
    (hc : Shape.Concatenates [S128x128, S128x128, S128x128, S128x128, S128x128, S128x128, S128x128, S128x128] S128x1024 1)
    {n : ℕ} (f : Fin n → Fin 1024 → EReal) (p : Fin 128 → Fin n)
    (h0 : ∀ a c : Fin 128, x0 (ix2 a c) = f (p a) ⟨c.val, by omega⟩) (h1 : ∀ a c : Fin 128, x1 (ix2 a c) = f (p a) ⟨128 + c.val, by omega⟩)
    (h2 : ∀ a c : Fin 128, x2 (ix2 a c) = f (p a) ⟨256 + c.val, by omega⟩) (h3 : ∀ a c : Fin 128, x3 (ix2 a c) = f (p a) ⟨384 + c.val, by omega⟩)
    (h4 : ∀ a c : Fin 128, x4 (ix2 a c) = f (p a) ⟨512 + c.val, by omega⟩) (h5 : ∀ a c : Fin 128, x5 (ix2 a c) = f (p a) ⟨640 + c.val, by omega⟩)
    (h6 : ∀ a c : Fin 128, x6 (ix2 a c) = f (p a) ⟨768 + c.val, by omega⟩) (h7 : ∀ a c : Fin 128, x7 (ix2 a c) = f (p a) ⟨896 + c.val, by omega⟩)
    (a : Fin 128) (d : Fin 1024) :
    concatenate S128x1024 1 [⟨S128x128, x0⟩, ⟨S128x128, x1⟩, ⟨S128x128, x2⟩, ⟨S128x128, x3⟩, ⟨S128x128, x4⟩, ⟨S128x128, x5⟩,
      ⟨S128x128, x6⟩, ⟨S128x128, x7⟩] hc (ix2 a d) = f (p a) d := by
  refine (concatenate_ofFn_apply (t := S128x1024) (1 : Fin 2) ![x0, x1, x2, x3, x4, x5, x6, x7] hc rfl 128 rfl (ix2 a d) ⟨d.val / 128, by omega⟩ rfl
    (ix2 a ⟨d.val % 128, by omega⟩) rfl (by rintro ⟨_ | _ | b, hb⟩ h; exacts [rfl, absurd rfl h, absurd hb (by simp)])).trans ?_
  have key : ∀ (h : Fin 8) (c : Fin 128), ![x0, x1, x2, x3, x4, x5, x6, x7] h (ix2 a c) = f (p a) ⟨128 * h.val + c.val, by omega⟩ := by
    intro h c
    fin_cases h
    exacts [(h0 a c).trans (congrArg _ (Fin.ext (Nat.zero_add _).symm)), h1 a c, h2 a c, h3 a c, h4 a c, h5 a c, h6 a c, h7 a c]
  rw [key]
  exact congrArg (f (p a)) (Fin.ext (Nat.div_add_mod d.val 128))

/-- Four blocks of rows one under another hold `f` when each block holds `f` at its rows. -/
theorem four_rows (z0 z1 z2 z3 : FVec Ideal S128x1024 .f32)
    (hc : Shape.Concatenates [S128x1024, S128x1024, S128x1024, S128x1024] S512x1024 0) (f : Fin 512 → Fin 1024 → EReal)
    (h0 : ∀ (a : Fin 128) (d : Fin 1024), z0 (ix2 a d) = f ⟨a.val, by omega⟩ d)
    (h1 : ∀ (a : Fin 128) (d : Fin 1024), z1 (ix2 a d) = f ⟨128 + a.val, by omega⟩ d)
    (h2 : ∀ (a : Fin 128) (d : Fin 1024), z2 (ix2 a d) = f ⟨256 + a.val, by omega⟩ d)
    (h3 : ∀ (a : Fin 128) (d : Fin 1024), z3 (ix2 a d) = f ⟨384 + a.val, by omega⟩ d)
    (r : Fin 512) (d : Fin 1024) :
    concatenate S512x1024 0 [⟨S128x1024, z0⟩, ⟨S128x1024, z1⟩, ⟨S128x1024, z2⟩, ⟨S128x1024, z3⟩] hc (ix2 r d) = f r d := by
  refine (concatenate_ofFn_apply (t := S512x1024) (0 : Fin 2) ![z0, z1, z2, z3] hc rfl 128 rfl (ix2 r d) ⟨r.val / 128, by omega⟩ rfl
    (ix2 ⟨r.val % 128, by omega⟩ d) rfl (by rintro ⟨_ | _ | b, hb⟩ h; exacts [absurd rfl h, rfl, absurd hb (by simp)])).trans ?_
  have key : ∀ (n : Fin 4) (a : Fin 128), ![z0, z1, z2, z3] n (ix2 a d) = f ⟨128 * n.val + a.val, by omega⟩ d := by
    intro n a
    fin_cases n
    exacts [(h0 a d).trans (congrArg (f · d) (Fin.ext (Nat.zero_add _).symm)), h1 a d, h2 a d, h3 a d]
  rw [key]
  exact congrArg (f · d) (Fin.ext (Nat.div_add_mod r.val 128))

/-- Eight square tiles side by side. -/
def band (T : Fin 8 → FVec Ideal S128x128 .f32) : FVec Ideal S128x1024 .f32 :=
  concatenate S128x1024 1 [⟨S128x128, T 0⟩, ⟨S128x128, T 1⟩, ⟨S128x128, T 2⟩, ⟨S128x128, T 3⟩, ⟨S128x128, T 4⟩, ⟨S128x128, T 5⟩,
    ⟨S128x128, T 6⟩, ⟨S128x128, T 7⟩] concatenates_S128x128_S128x128_S128x128_S128x128_S128x128_S128x128_S128x128_S128x128_S128x1024_d1

/-- Four such bands one under another. -/
def bands (T : Fin 4 → Fin 8 → FVec Ideal S128x128 .f32) : FVec Ideal S512x1024 .f32 :=
  concatenate S512x1024 0 [⟨S128x1024, band (T 0)⟩, ⟨S128x1024, band (T 1)⟩, ⟨S128x1024, band (T 2)⟩, ⟨S128x1024, band (T 3)⟩]
    concatenates_S128x1024_S128x1024_S128x1024_S128x1024_S512x1024_d0

/-- They hold `f` when each tile holds `f` at its rows and columns. -/
theorem bands_apply (T : Fin 4 → Fin 8 → FVec Ideal S128x128 .f32) (f : Fin 512 → Fin 1024 → EReal)
    (hT : ∀ n h, ∀ a c : Fin 128, T n h (ix2 a c) = f ⟨128 * n.val + a.val, by omega⟩ ⟨128 * h.val + c.val, by omega⟩)
    (r : Fin 512) (d : Fin 1024) : bands T (ix2 r d) = f r d := by
  have row (n : Fin 4) (a : Fin 128) (d : Fin 1024) : band (T n) (ix2 a d) = f ⟨128 * n.val + a.val, by omega⟩ d :=
    eight_columns _ _ _ _ _ _ _ _ _ f (fun a => ⟨128 * n.val + a.val, by omega⟩)
      (fun a c => (hT n 0 a c).trans (congrArg _ (Fin.ext (Nat.zero_add _)))) (hT n 1) (hT n 2) (hT n 3) (hT n 4) (hT n 5) (hT n 6) (hT n 7) a d
  exact four_rows _ _ _ _ _ f (fun a d => (row 0 a d).trans (congrArg (f · d) (Fin.ext (Nat.zero_add _)))) (row 1) (row 2) (row 3) r d

/-- The square tile of block of rows `n` and head `h` lies within the array. -/
theorem within (n : Fin 4) (h : Fin 8) : S512x1024.Slices ![128 * n.val, 128 * h.val] S128x128 := by revert n h; decide +kernel

/-- The host's sum of a rank-4 array along its first and last axes. -/
theorem outer_sum {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : Fin n1) (k : Fin n2) :
    Ideal.hostReduceAdd h v init (ix2 j k) = init + ∑ a : Fin n0, ∑ d : Fin n3, v (ix4 a j k d) := by
  refine congrArg (init + ·) ((Finset.sum_filter_eq_sum_of_fiber _ (fun p : Fin n0 × Fin n3 => ix4 p.1 j k p.2)
    (fun _ _ e => Prod.ext (congrFun e 0) (congrFun e 3)) (fun i => ⟨fun e => ⟨(i 0, i 3), ?_⟩, ?_⟩) v).trans ?_)
  · funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext b; apply Fin.ext
    match b with
    | ⟨0, _⟩ => rfl
    | ⟨1, _⟩ => rfl
  · simp only [Fintype.sum_prod_type]

/-! ## Products of tiles -/

/-- A product by heads and blocks of rows: entry `(r, d)` is row `r % 128` of head `d / 128`'s square matrix times column `d` of
    the 128 rows that `r` is one of. -/
def dot (W : Fin 8 → Fin 128 → Fin 128 → EReal) (V : Fin 512 → Fin 1024 → EReal) (r : Fin 512) (d : Fin 1024) : EReal :=
  ∑ k : Fin 128, W ⟨d.val / 128, by omega⟩ ⟨r.val % 128, by omega⟩ k * V ⟨128 * (r.val / 128) + k.val, by omega⟩ d

/-- The same entry told by its tile: block of rows `n` and head `h`, row `a` and column `c` within the tile. -/
theorem dot_tile (W : Fin 8 → Fin 128 → Fin 128 → EReal) (V : Fin 512 → Fin 1024 → EReal) (n : Fin 4) (h : Fin 8) (a c : Fin 128)
    (r : Fin 512) (d : Fin 1024) (hr : r.val = 128 * n.val + a.val) (hd : d.val = 128 * h.val + c.val) (g : Fin 128 → Fin 512)
    (hg : ∀ k, (g k).val = 128 * n.val + k.val) : ∑ k, W h a k * V (g k) d = dot W V r d := by
  obtain rfl : g = fun k => ⟨128 * (r.val / 128) + k.val, by omega⟩ := funext fun k => Fin.ext (by rw [hg]; dsimp only; omega)
  have eh : h = ⟨d.val / 128, by omega⟩ := Fin.ext (by dsimp only; omega)
  have ea : a = ⟨r.val % 128, by omega⟩ := Fin.ext (by dsimp only; omega)
  simp only [dot, ← eh, ← ea]

/-- Head `h` of a stack of eight matrices, as the kernel loads it. -/
def piece {e : EltTy} (w : Vec Ideal S8x128x128 e) (h : Fin 8) : Vec Ideal S1x128x128 e :=
  View.ld w (Rect.unit ![h.val, 0, 0] ![1, 128, 128] (by revert h; decide +kernel))

/-- It holds the stack's entries at that head. -/
theorem piece_apply {e : EltTy} (w : Vec Ideal S8x128x128 e) (h : Fin 8) (a b : Fin 128) : piece w h (ix3 0 a b) = w (ix3 h a b) := by
  refine congrArg w (funext fun x => Fin.ext ?_)
  match x with
  | ⟨0, _⟩ => exact Nat.add_zero _
  | ⟨1, _⟩ => exact (Nat.zero_add _).trans (Nat.one_mul _)
  | ⟨2, _⟩ => exact (Nat.zero_add _).trans (Nat.one_mul _)

/-- The scaled values of a block. -/
abbrev scaled (g b : FVec Ideal S1x1024 .f32) (v : FVec Ideal S512x1024 .bf16) : FVec Ideal S512x1024 .bf16 :=
  k0_pay46 g b (k0_pay41 v) (k0_pay42 v) (Ideal.ofBits FTy.f32 0x44800000#32)

/-- The mixed values: every head's square matrix applied to the rows, and the mixing bias. -/
def mixAt (w : FVec Ideal S8x128x128 .bf16) (bias : FVec Ideal S8x128x128 .f32) (V : Fin 512 → Fin 1024 → EReal) (r : Fin 512) (d : Fin 1024) : EReal :=
  dot (fun h a k => w (ix3 h a k)) V r d + bias (ix3 ⟨d.val / 128, by omega⟩ ⟨r.val % 128, by omega⟩ ⟨d.val % 128, by omega⟩)

/-- A tile of the mixed values. -/
theorem mix_tile (w : FVec Ideal S8x128x128 .bf16) (bias : FVec Ideal S8x128x128 .f32) (V : Fin 512 → Fin 1024 → EReal) (n : Fin 4) (h : Fin 8) (a c : Fin 128)
    (r : Fin 512) (d : Fin 1024) (hr : r.val = 128 * n.val + a.val) (hd : d.val = 128 * h.val + c.val) (g : Fin 128 → Fin 512)
    (hg : ∀ k, (g k).val = 128 * n.val + k.val) :
    ∑ k, piece (e := .bf16) w h (ix3 0 a k) * V (g k) d + piece (e := .f32) bias h (ix3 0 a c) = mixAt w bias V r d := by
  rw [mixAt, ← dot_tile _ V n h a c r d hr hd g hg]
  have eh : h = ⟨d.val / 128, by omega⟩ := Fin.ext (by dsimp only; omega)
  have ea : a = ⟨r.val % 128, by omega⟩ := Fin.ext (by dsimp only; omega)
  have ec : c = ⟨d.val % 128, by omega⟩ := Fin.ext (by dsimp only; omega)
  simp only [piece_apply, ← eh, ← ea, ← ec]

/-- One tile of the mixed values as the kernel computes it: the matrix unit's product, and the bias. -/
theorem mix_read (w : FVec Ideal S8x128x128 .bf16) (bias : FVec Ideal S8x128x128 .f32) (V : FVec Ideal S512x1024 .bf16) (n : Fin 4) (h : Fin 8)
    (o0 o1 : ℕ) (e0 : o0 = 128 * n.val) (e1 : o1 = 128 * h.val) (hs : S512x1024.Slices ![o0, o1] S128x128) (a c : Fin 128)
    (r : Fin 512) (d : Fin 1024) (hr : r.val = o0 + a.val) (hd : d.val = o1 + c.val) :
    addf (matmul (F := Ideal) (φ₁ := .bf16) (φ₂ := .bf16) dot_S128x128_S128x128_S128x128_1_0_0_1_n_n none (shapeCast (α := Ideal .bf16) S128x128 (piece (e := .bf16) w h) shapeCasts_S1x128x128_S128x128)
        (extractStridedSlice S128x128 ![o0, o1] V hs) (constant S128x128 .f32 0x00000000#32))
      (shapeCast S128x128 (piece (e := .f32) bias h) shapeCasts_S1x128x128_S128x128) (ix2 a c)
      = mixAt w bias (fun r d => V (ix2 r d)) r d := by
  pointwise []
  refine Eq.trans ?_ (mix_tile w bias (fun r d => V (ix2 r d)) n h a c r d (by omega) (by omega) (fun k => ⟨o0 + k.val, by omega⟩) (fun k => by dsimp only; omega))
  have ed : d = ⟨o1 + c.val, by omega⟩ := Fin.ext hd
  simp only [ed]

/-- The tiles of the mixed values as the kernel computes them. -/
def mixTile (w : FVec Ideal S8x128x128 .bf16) (bias : FVec Ideal S8x128x128 .f32) (V : FVec Ideal S512x1024 .bf16) (n : Fin 4) (h : Fin 8) :
    FVec Ideal S128x128 .f32 :=
  addf (matmul (F := Ideal) (φ₁ := .bf16) (φ₂ := .bf16) dot_S128x128_S128x128_S128x128_1_0_0_1_n_n none
      (shapeCast (α := Ideal .bf16) S128x128 (piece (e := .bf16) w h) shapeCasts_S1x128x128_S128x128)
      (extractStridedSlice S128x128 ![128 * n.val, 128 * h.val] V (within n h)) (constant S128x128 .f32 0x00000000#32))
    (shapeCast S128x128 (piece (e := .f32) bias h) shapeCasts_S1x128x128_S128x128)

/-- Laid together they are the mixed values. -/
theorem mix_bands (w : FVec Ideal S8x128x128 .bf16) (bias : FVec Ideal S8x128x128 .f32) (V : FVec Ideal S512x1024 .bf16) (r : Fin 512) (d : Fin 1024) :
    bands (mixTile w bias V) (ix2 r d) = mixAt w bias (fun r d => V (ix2 r d)) r d :=
  bands_apply _ _ (fun n h a c => mix_read w bias V n h _ _ rfl rfl (within n h) a c _ _ rfl rfl) r d

/-- What the kernel computes of the gate's gradient: the cotangent times the mixed values. -/
theorem block_mixed (w : FVec Ideal S8x128x128 .bf16) (bias : FVec Ideal S8x128x128 .f32) (g b : FVec Ideal S1x1024 .f32)
    (v dy : FVec Ideal S512x1024 .bf16) (r : Fin 512) (d : Fin 1024) :
    k0_pay83 (F := Ideal) (scaled g b v) (k0_pay55 (scaled g b v) (k0_pay47 g b (k0_pay41 v) (k0_pay42 v) (Ideal.ofBits FTy.f32 0x44800000#32) (piece w 0) (piece bias 0)) (k0_pay48 g b (k0_pay41 v) (k0_pay42 v) (Ideal.ofBits FTy.f32 0x44800000#32) (piece w 1) (piece bias 1)) (k0_pay50 (k0_pay49 g b (k0_pay41 v) (k0_pay42 v) (Ideal.ofBits FTy.f32 0x44800000#32) (piece w 2)) (piece bias 2))
        (k0_pay51 (scaled g b v) (piece w 3) (piece bias 3)) (k0_pay52 (scaled g b v) (piece w 4) (piece bias 4)) (k0_pay53 (scaled g b v) (piece w 5) (piece bias 5)) (k0_pay54 (scaled g b v) (piece w 6) (piece bias 6)) (piece w 7) (piece bias 7))
      (k0_pay66 (k0_pay56 (scaled g b v) (piece w 0) (piece bias 0)) (k0_pay57 (scaled g b v) (piece w 1) (piece bias 1)) (k0_pay58 (scaled g b v) (piece w 2) (piece bias 2)) (k0_pay60 (k0_pay59 (scaled g b v)) (piece w 3) (piece bias 3))
        (k0_pay61 (scaled g b v) (piece w 4) (piece bias 4)) (k0_pay62 (scaled g b v) (piece w 5) (piece bias 5)) (k0_pay63 (scaled g b v) (piece w 6) (piece bias 6)) (k0_pay64 (scaled g b v)) (k0_pay65 (piece w 7)) (constant S128x128 .f32 0x00000000#32) (piece bias 7))
      (k0_pay76 (k0_pay67 (scaled g b v) (piece w 0) (piece bias 0)) (k0_pay68 (scaled g b v) (piece w 1) (piece bias 1)) (k0_pay69 (scaled g b v) (piece w 2) (piece bias 2)) (k0_pay71 (k0_pay70 (scaled g b v) (piece w 3)) (piece bias 3))
        (k0_pay72 (scaled g b v) (piece w 4) (piece bias 4)) (k0_pay73 (scaled g b v) (piece w 5) (piece bias 5)) (k0_pay74 (scaled g b v) (piece w 6) (piece bias 6)) (k0_pay75 (scaled g b v) (piece w 7) (piece bias 7)))
      (k0_pay77 (scaled g b v) (piece w 0) (piece bias 0)) (k0_pay78 (scaled g b v) (piece w 1) (piece bias 1)) (k0_pay79 (scaled g b v) (piece w 2) (piece bias 2)) (k0_pay80 (scaled g b v) (piece w 3) (piece bias 3)) (k0_pay81 (scaled g b v))
      (piece w 4) (piece bias 4) (piece w 5) (piece bias 5) (piece w 6) (piece bias 6) (piece w 7) (piece bias 7) dy (ix2 r d)
      = dy (ix2 r d) * mixAt w bias (fun r d => scaled g b v (ix2 r d)) r d :=
  congrArg (dy (ix2 r d) * ·) (mix_bands w bias (scaled g b v) r d)

/-- A tile of the product with the transposed matrices. -/
theorem back_tile (wt : FVec Ideal S8x128x128 .bf16) (V : Fin 512 → Fin 1024 → EReal) (n : Fin 4) (h : Fin 8) (a c : Fin 128)
    (r : Fin 512) (d : Fin 1024) (hr : r.val = 128 * n.val + a.val) (hd : d.val = 128 * h.val + c.val) (g : Fin 128 → Fin 512)
    (hg : ∀ k, (g k).val = 128 * n.val + k.val) :
    ∑ k, piece (e := .bf16) wt h (ix3 0 a k) * V (g k) d = dot (fun h a k => wt (ix3 h a k)) V r d := by
  simp only [piece_apply]
  exact dot_tile (fun h a k => wt (ix3 h a k)) V n h a c r d hr hd g hg

/-- One such tile as the kernel computes it. -/
theorem back_read (wt : FVec Ideal S8x128x128 .bf16) (V : FVec Ideal S512x1024 .bf16) (n : Fin 4) (h : Fin 8)
    (o0 o1 : ℕ) (e0 : o0 = 128 * n.val) (e1 : o1 = 128 * h.val) (hs : S512x1024.Slices ![o0, o1] S128x128) (a c : Fin 128)
    (r : Fin 512) (d : Fin 1024) (hr : r.val = o0 + a.val) (hd : d.val = o1 + c.val) :
    matmul (F := Ideal) (φ₁ := .bf16) (φ₂ := .bf16) dot_S128x128_S128x128_S128x128_1_0_0_1_n_n none (shapeCast (α := Ideal .bf16) S128x128 (piece (e := .bf16) wt h) shapeCasts_S1x128x128_S128x128)
        (extractStridedSlice S128x128 ![o0, o1] V hs) (constant S128x128 .f32 0x00000000#32) (ix2 a c)
      = dot (fun h a k => wt (ix3 h a k)) (fun r d => V (ix2 r d)) r d := by
  pointwise []
  refine Eq.trans ?_ (back_tile wt (fun r d => V (ix2 r d)) n h a c r d (by omega) (by omega) (fun k => ⟨o0 + k.val, by omega⟩) (fun k => by dsimp only; omega))
  have ed : d = ⟨o1 + c.val, by omega⟩ := Fin.ext hd
  simp only [ed]

/-- The tiles of that product as the kernel computes them. -/
def backTile (wt : FVec Ideal S8x128x128 .bf16) (V : FVec Ideal S512x1024 .bf16) (n : Fin 4) (h : Fin 8) : FVec Ideal S128x128 .f32 :=
  matmul (F := Ideal) (φ₁ := .bf16) (φ₂ := .bf16) dot_S128x128_S128x128_S128x128_1_0_0_1_n_n none
    (shapeCast (α := Ideal .bf16) S128x128 (piece (e := .bf16) wt h) shapeCasts_S1x128x128_S128x128)
    (extractStridedSlice S128x128 ![128 * n.val, 128 * h.val] V (within n h)) (constant S128x128 .f32 0x00000000#32)

/-- Laid together they are the whole product. -/
theorem back_bands (wt : FVec Ideal S8x128x128 .bf16) (V : FVec Ideal S512x1024 .bf16) (r : Fin 512) (d : Fin 1024) :
    bands (backTile wt V) (ix2 r d) = dot (fun h a k => wt (ix3 h a k)) (fun r d => V (ix2 r d)) r d :=
  bands_apply _ _ (fun n h a c => back_read wt V n h _ _ rfl rfl (within n h) a c _ _ rfl rfl) r d

/-- What the kernel computes of the gradient of the scaled values: every head's transposed matrix applied to the rows of the mixed
    values' gradient. -/
theorem block_back (wt : FVec Ideal S8x128x128 .bf16) (dm : FVec Ideal S512x1024 .bf16) (r : Fin 512) (d : Fin 1024) :
    k0_pay145 (F := Ideal) dm
      (k0_pay127 dm (k0_pay121 dm (piece wt 0)) (k0_pay122 dm (piece wt 1)) (k0_pay123 dm (piece wt 2)) (k0_pay124 dm (piece wt 3)) (k0_pay125 dm (piece wt 4)) (k0_pay126 dm (piece wt 5)) (piece wt 6) (piece wt 7))
      (k0_pay134 dm (k0_pay128 dm (piece wt 0)) (k0_pay129 dm (piece wt 1)) (k0_pay130 dm (piece wt 2)) (k0_pay131 dm (piece wt 3)) (k0_pay132 dm (piece wt 4)) (k0_pay133 (piece wt 5)) (piece wt 6) (piece wt 7))
      (k0_pay140 dm (k0_pay135 dm (piece wt 0)) (k0_pay136 dm (piece wt 1)) (k0_pay137 dm (piece wt 2)) (k0_pay138 dm (piece wt 3)) (k0_pay139 dm (piece wt 4)) (piece wt 5) (piece wt 6) (piece wt 7))
      (k0_pay141 dm (piece wt 0)) (k0_pay142 dm (piece wt 1)) (k0_pay143 dm (piece wt 2)) (k0_pay144 dm (piece wt 3)) (piece wt 4) (piece wt 5) (piece wt 6) (piece wt 7) (ix2 r d)
      = dot (fun h a k => wt (ix3 h a k)) (fun r d => dm (ix2 r d)) r d :=
  back_bands wt dm r d

end Cert.Sgu

end
-- ==== Proof.SguRows.lean ====
/- The gradient of the spatial gating unit: what the kernel leaves of the gradients of the branch's input, of the mixing
   weights and bias and of the norm's scale and shift is what the derivative of the reference's lines leaves of them. -/
module

public import proofs.«01_k».proof.Proof.Reals
public import proofs.«01_k».proof.Proof.SguTiles
public import proofs.«01_k».proof.Proof.Gen.SguBwdIdeal.Frame
public import proofs.«01_k».proof.Proof.Gen.SguBwdRefIdeal.Run
public import proofs.«01_k».proof.Proof.Gen.SguBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SguBwdRefIdeal.Read

namespace Cert.Sgu

open Cert.SguBwdIdeal Cert.SguBwdIdeal.Gen Cert.Reals

/-! ## The numbers of the two programs -/

/-- The named constants of the kernel: the cubic coefficient of the activation, and three times it. -/
theorem named_cubic : Named.named (F := Ideal) κ "cubic" (φ := .f32) 0x3D372713#32 = ((8943 / 200000 : ℝ) : EReal) := rfl
@[inherit_doc named_cubic] theorem named_cubic3 :
    Named.named (F := Ideal) κ "cubic3" (φ := .f32) 0x3E095D4F#32 = ((26829 / 200000 : ℝ) : EReal) := rfl

/-- The reference's coefficient is the quotient of two words, and equal to the kernel's. -/
theorem quotient_cubic : Ideal.div (Ideal.ofBits .f32 0x472EAB00#32) (Ideal.ofBits .f32 0x49742400#32) = ((8943 / 200000 : ℝ) : EReal) := by
  have e1 : Ideal.ofBits .f32 0x472EAB00#32 = ((44715 : ℝ) : EReal) := by
    simp [Ideal.ofBits, Ideal.ieee, -EReal.coe_mul]; norm_num
  have e2 : Ideal.ofBits .f32 0x49742400#32 = ((1000000 : ℝ) : EReal) := by
    simp [Ideal.ofBits, Ideal.ieee, -EReal.coe_mul]; norm_num
  rw [e1, e2, div_coe_coe _ (by norm_num)]
  norm_num

@[inherit_doc quotient_cubic] theorem ref_cubic : val_main_v9 (F := Ideal) ix0 = ((8943 / 200000 : ℝ) : EReal) := quotient_cubic

/-- The words of 1024 and of three. -/
theorem word_1024 : Ideal.ofBits .f32 0x44800000#32 = ((1024 : ℝ) : EReal) := by
  simp [Ideal.ofBits, Ideal.ieee, -EReal.coe_mul]; norm_num
@[inherit_doc word_1024] theorem word_three : Ideal.ofBits .f32 0x40400000#32 = ((3 : ℝ) : EReal) := by
  simp [Ideal.ofBits, Ideal.ieee, -EReal.coe_mul]; norm_num

/-- The word of the activation's outer coefficient is some real number's. -/
theorem word_root : ∃ c : ℝ, Ideal.ofBits .f32 0x3F4C422A#32 = (c : EReal) := by
  refine ⟨13386282 * 2 ^ (-24 : ℤ), ?_⟩
  simp [Ideal.ofBits, Ideal.ieee, -EReal.coe_mul]

/-! ## The activation -/

/-- The hyperbolic tangent inside the activation. -/
def inner (x : EReal) : EReal :=
  Ideal.tanh (Ideal.ofBits .f32 0x3F4C422A#32 * (x + ((8943 / 200000 : ℝ) : EReal) * x * x * x))

/-- The activation. -/
def act (x : EReal) : EReal := Ideal.ofBits .f32 0x3F000000#32 * x * (1 + inner x)

/-- The activation's derivative, as the kernel writes it out. -/
def slope (x : EReal) : EReal :=
  Ideal.ofBits .f32 0x3F000000#32 * (1 + inner x)
    + Ideal.ofBits .f32 0x3F000000#32 * x * (1 - inner x * inner x) * Ideal.ofBits .f32 0x3F4C422A#32
        * (1 + ((26829 / 200000 : ℝ) : EReal) * x * x)

/-- On a real number the activation's tangent is a real number. -/
theorem inner_real (x : ℝ) : ∃ y : ℝ, inner (x : EReal) = (y : EReal) := by
  obtain ⟨c, hc⟩ := word_root
  refine ⟨Real.tanh (c * (x + 8943 / 200000 * x * x * x)), ?_⟩
  simp only [inner, hc, ← EReal.coe_mul, ← EReal.coe_add, Ideal.tanh_coe]

/-- On a real number the activation is a real number. -/
theorem act_real (x : ℝ) : ∃ y : ℝ, act (x : EReal) = (y : EReal) := by
  obtain ⟨i, hi⟩ := inner_real x
  refine ⟨1 / 2 * x * (1 + i), ?_⟩
  rw [act, hi, word_half]; norm_cast

variable (x0 x1 : FVec Ideal S8192x1024 .bf16) (x2 : FVec Ideal S8192x3072 .bf16) (x3 x4 : FVec Ideal S1x1024 .f32)
  (x5 : FVec Ideal S8x128x128 .f32) (x6 : FVec Ideal S8x128 .f32)

/-- The reference's tangent at each of the branch's inputs. -/
theorem ref_inner (r : Fin 8192) (e : Fin 2048) :
    val_main_v15 (F := Ideal) x2 (ix2 r e) = inner (x2 (ix2 r ⟨1024 + e.val, by omega⟩)) := by
  pointwise [val_main_v15, val_main_v14, val_main_v13, val_main_v12, val_main_v11, val_main_v10, val_main_v5, val_main_v4,
     val_main_v2, val_main_v0, val_main_cst_2, inner]
  rw [ref_cubic]
  simp only [mul_assoc]

/-- The reference's activation of each of the branch's inputs. -/
theorem ref_act (r : Fin 8192) (e : Fin 2048) :
    val_main_v25 (F := Ideal) x2 (ix2 r e) = act (x2 (ix2 r ⟨1024 + e.val, by omega⟩)) := by
  pointwise [val_main_v25, val_main_v24, val_main_v23, val_main_v22, val_main_v21, val_main_v2, val_main_v0, val_main_cst_6, val_main_cst_5, act]
  rw [ref_inner]
  ac_rfl

/-- The kernel's activation of a block of gates, and of a block of values. -/
theorem block_act (u : FVec Ideal S512x1024 .bf16) (r : Fin 512) (d : Fin 1024) :
    k0_pay40 (F := Ideal) u (ix2 r d) = act (u (ix2 r d)) := by
  pointwise [k0_pay40, k0_pay38, act, inner]
  rw [named_cubic]
@[inherit_doc block_act] theorem block_act' (u : FVec Ideal S512x1024 .bf16) (r : Fin 512) (d : Fin 1024) :
    k0_pay41 (F := Ideal) u (ix2 r d) = act (u (ix2 r d)) := by
  pointwise [k0_pay41, k0_pay39, act, inner]
  rw [named_cubic]

/-- The number of a row of the array that grid point `t` stages in row `r` of a block. -/
def token (t : Fin cfg0.N) (r : Fin 512) : Fin 8192 :=
  ⟨512 * t.val + r.val, by have := lt_of_lt_of_eq t.isLt N_0; omega⟩

/-- What a grid point finds in its blocks: its rows of the branch's cotangent and of the two halves of the branch's input, the
    masked mixing weights, the same transposed, and the mixing bias along every lane. -/
structure Staged (t : Fin cfg0.N) (dy u v : FVec Ideal S512x1024 .bf16) (w wt : FVec Ideal S8x128x128 .bf16)
    (bias : FVec Ideal S8x128x128 .f32) : Prop where
  dy : ∀ r d, dy (ix2 r d) = x0 (ix2 (token t r) d)
  u : ∀ r d, u (ix2 r d) = x2 (ix2 (token t r) ⟨1024 + d.val, by omega⟩)
  v : ∀ r d, v (ix2 r d) = x2 (ix2 (token t r) ⟨2048 + d.val, by omega⟩)
  w : ∀ h s k, w (ix3 h s k) = val_main_v64_0 (F := Ideal) x5 (ix3 h s k)
  wt : ∀ h k s, wt (ix3 h k s) = val_main_v64_0 (F := Ideal) x5 (ix3 h s k)
  bias : ∀ h s c, bias (ix3 h s c) = x6 (ix2 h s)

variable {x0 x2 x5 x6} {t : Fin cfg0.N} {dy u v : FVec Ideal S512x1024 .bf16} {w wt : FVec Ideal S8x128x128 .bf16}
  {bias : FVec Ideal S8x128x128 .f32} (S : Staged x0 x2 x5 x6 t dy u v w wt bias)

section
include S

/-- The gates' activations. -/
theorem gate_eq (r : Fin 512) (d : Fin 1024) :
    k0_pay40 (F := Ideal) u (ix2 r d) = val_main_v26 (F := Ideal) x2 (ix2 (token t r) d) := by
  rw [block_act, S.u]
  pointwise [val_main_v26]
  refine Eq.trans ?_ (ref_act x2 (token t r) ⟨d.val, by omega⟩).symm
  rfl

/-- The values' activations. -/
theorem value_eq (r : Fin 512) (d : Fin 1024) :
    k0_pay41 (F := Ideal) v (ix2 r d) = val_main_v27 (F := Ideal) x2 (ix2 (token t r) d) := by
  rw [block_act', S.v]
  pointwise [val_main_v27]
  refine Eq.trans ?_ (ref_act x2 (token t r) ⟨1024 + d.val, by omega⟩).symm
  refine congrArg (fun i => act (x2 (ix2 _ i))) (Fin.ext ?_)
  show 2048 + d.val = 1024 + (1024 + d.val); omega

/-- The values' reciprocal standard deviation. -/
theorem rstd_eq (r : Fin 512) :
    k0_pay44 (F := Ideal) (k0_pay41 v) (k0_pay42 v) (Ideal.ofBits FTy.f32 0x44800000#32) (ix2 r 0)
      = val_main_v45 (F := Ideal) x2 (ix2 (token t r) 0) := by
  pointwise [k0_pay44, k0_pay43, k0_pay42, val_main_v45, val_main_v44, val_main_v43, val_main_v40, val_main_v39, val_main_v38, val_main_v37,
    val_main_v34, val_main_v33, val_main_v32, val_main_v31, val_main_v30, val_main_v29, val_main_v28,
    val_main_cst_7, val_main_cst_8, val_main_cst_10, val_main_cst_11, val_main_cst_12]
  simp only [value_eq S]

/-- The normalised values. -/
theorem normed_eq (r : Fin 512) (d : Fin 1024) :
    k0_pay45 (F := Ideal) (k0_pay41 v) (k0_pay42 v) (Ideal.ofBits FTy.f32 0x44800000#32) (ix2 r d)
      = val_main_v50 (F := Ideal) x2 (ix2 (token t r) d) := by
  pointwise [k0_pay45, k0_pay43, val_main_v50, val_main_v49, val_main_v42, val_main_v41, val_main_v31, val_main_v30, val_main_v29, val_main_v28,
    val_main_cst_7, val_main_cst_8]
  rw [rstd_eq S]
  pointwise [k0_pay42]
  simp only [value_eq S]

/-- The normalised values, scaled and shifted. -/
theorem scaled_eq (r : Fin 512) (d : Fin 1024) :
    k0_pay46 (F := Ideal) x3 x4 (k0_pay41 v) (k0_pay42 v) (Ideal.ofBits FTy.f32 0x44800000#32) (ix2 r d)
      = val_main_v54 (F := Ideal) x2 x3 x4 (ix2 (token t r) d) := by
  pointwise [k0_pay46, val_main_v54, val_main_v53, val_main_v52, val_main_v51]
  rw [normed_eq S]

/-- The gradient of the mixed values: the cotangent times the gate. -/
theorem dmix_eq (r : Fin 512) (d : Fin 1024) :
    k0_pay84 (F := Ideal) (k0_pay40 u) (k0_pay82 dy) (ix2 r d) = val_main_v76 (F := Ideal) x0 x2 (ix2 (token t r) d) := by
  pointwise [k0_pay84, k0_pay82, val_main_v76, val_main_v75]
  rw [gate_eq S, S.dy]
  ac_rfl

/-- A row of the array by its block of 128 rows. -/
theorem token_block (r : Fin 512) (k : Fin 128) (R : Fin 8192) (hR : R.val = (token t r).val / 128 * 128 + k.val) :
    R = token t ⟨128 * (r.val / 128) + k.val, by omega⟩ := by
  apply Fin.ext
  rw [hR]
  show (512 * t.val + r.val) / 128 * 128 + k.val = 512 * t.val + (128 * (r.val / 128) + k.val)
  omega

/-- The gradient of the gates' activations: the cotangent times the mixed values. -/
theorem mixed_eq (r : Fin 512) (d : Fin 1024) :
    dy (ix2 r d) * mixAt w bias (fun r d => scaled x3 x4 v (ix2 r d)) r d = val_main_v77 (F := Ideal) x0 x2 x3 x4 x5 x6 (ix2 (token t r) d) := by
  pointwise [val_main_v77, val_main_v75, val_main_v72, val_main_v71, val_main_v70, val_main_v69, val_main_v68, val_main_v67, val_main_v66,
    val_main_v65, val_main_v55]
  have em : (token t r).val % 128 = r.val % 128 := by
    show (512 * t.val + r.val) % 128 = r.val % 128; omega
  refine congrArg₂ (· * ·) (S.dy r d) (congrArg₂ (· + ·) (Finset.sum_congr rfl fun k _ => ?_) ?_)
  · refine (congrArg₂ (· * ·) (S.w _ _ _) (scaled_eq x3 x4 S _ _)).trans ((mul_comm _ _).trans ?_)
    exact congrArg₂ (· * ·) (congrArg (fun R => val_main_v54 (F := Ideal) x2 x3 x4 (ix2 R d)) (token_block S r k _ rfl).symm)
      (congrArg (fun s => val_main_v64_0 (F := Ideal) x5 (ix3 _ s k)) (Fin.ext em.symm))
  · exact (S.bias _ _ _).trans (congrArg (fun s => x6 (ix2 _ s)) (Fin.ext em.symm))

/-- The gradient of the scaled values. -/
theorem back_eq (r : Fin 512) (d : Fin 1024) :
    dot (fun h a k => wt (ix3 h a k)) (fun r d => k0_pay85 (F := Ideal) (k0_pay40 u) (k0_pay82 dy) (ix2 r d)) r d
      = val_main_v90 (F := Ideal) x0 x2 x5 (ix2 (token t r) d) := by
  pointwise [val_main_v90, val_main_v88, val_main_v87, val_main_v85, val_main_v78]
  have em : (token t r).val % 128 = r.val % 128 := by
    show (512 * t.val + r.val) % 128 = r.val % 128; omega
  refine Finset.sum_congr rfl fun k _ => (congrArg₂ (· * ·) (S.wt _ _ _) (dmix_eq S _ d)).trans ((mul_comm _ _).trans ?_)
  exact congrArg₂ (· * ·) (congrArg (fun R => val_main_v76 (F := Ideal) x0 x2 (ix2 R d)) (token_block S r k _ rfl).symm)
    (congrArg (fun s => val_main_v64_0 (F := Ideal) x5 (ix3 _ k s)) (Fin.ext em.symm))

end

section
variable (m : (ℓ : Loc nD τ sig) → Buf (Elt Ideal) ℓ) (c : Dev nD)

/-- Which block each window stages at grid point `t`. -/
theorem idx : ∀ t : Fin cfg0.N, win0_0.index t = ![t.val, 0] ∧ win0_2.index t = ![t.val, 1] ∧ win0_3.index t = ![t.val, 2]
    ∧ win0_4.index t = ![0, 0] ∧ win0_5.index t = ![0, 0] ∧ win0_6.index t = ![0, 0, 0] ∧ win0_7.index t = ![0, 0, 0] ∧ win0_8.index t = ![0, 0, 0]
    ∧ win0_9.index t = ![t.val, 0] ∧ win0_10.index t = ![0, 0, 0] ∧ win0_11.index t = ![0, 0, 0] ∧ win0_12.index t = ![0, 0] ∧ win0_13.index t = ![0, 0] :=
  (by decide +kernel : ∀ t : Fin grid0.N, _)

/-- The programs' arguments. -/
abbrev arg0 : FVec Ideal S8192x1024 .bf16 := m ((c : Thread nD τ).loc main_arg0)
@[inherit_doc arg0] abbrev arg2 : FVec Ideal S8192x3072 .bf16 := m ((c : Thread nD τ).loc main_arg2)
@[inherit_doc arg0] abbrev arg3 : FVec Ideal S1x1024 .f32 := m ((c : Thread nD τ).loc main_arg3)
@[inherit_doc arg0] abbrev arg4 : FVec Ideal S1x1024 .f32 := m ((c : Thread nD τ).loc main_arg4)
@[inherit_doc arg0] abbrev arg5 : FVec Ideal S8x128x128 .f32 := m ((c : Thread nD τ).loc main_arg5)
@[inherit_doc arg0] abbrev arg6 : FVec Ideal S8x128 .f32 := m ((c : Thread nD τ).loc main_arg6)

/-- The norm's scale and shift, staged whole at every grid point. -/
theorem block_scale (t : Fin cfg0.N) : (iblk m c 4 t : FVec Ideal S1x1024 .f32) = arg3 m c := by
  funext i
  idx_vars i
  blk_simp [iblk]
  entry_read
  blk_point [idx t]
@[inherit_doc block_scale] theorem block_shift (t : Fin cfg0.N) : (iblk m c 5 t : FVec Ideal S1x1024 .f32) = arg4 m c := by
  funext i
  idx_vars i
  blk_simp [iblk]
  entry_read
  blk_point [idx t]

/-- The masked weights as the host hands them over. -/
theorem host_w : (V m c main_v9 : Vec Ideal S8x128x128 .f32) = (val_main_v64_0 (F := Ideal) (arg5 m c) : Vec Ideal S8x128x128 .f32) := by
  simp only [V, V0, hostOps0, hostOps0_1, hostOps0_2, hostOps0_3, hostOps0_4, List.flatten_cons, List.flatten_nil, List.append_nil, List.cons_append, List.nil_append]
  after_results
  rfl
/-- The masked weights transposed, as the host hands them over. -/
theorem host_wt : (V m c main_v11 : Vec Ideal S8x128x128 .f32) = transpose (s := S8x128x128) S8x128x128 [0, 2, 1]
    (val_main_v64_0 (F := Ideal) (arg5 m c) : Vec Ideal S8x128x128 .f32) transposes_S8x128x128_S8x128x128_0_2_1 := by
  simp only [V, V0, hostOps0, hostOps0_1, hostOps0_2, hostOps0_3, hostOps0_4, List.flatten_cons, List.flatten_nil, List.append_nil, List.cons_append, List.nil_append]
  after_results
  rfl
/-- The bias, repeated over the lanes, as the host hands it over. -/
theorem host_bias : (V m c main_v13 : Vec Ideal S8x128x128 .f32) = broadcastInDim S8x128x128 ![0, 1, 2] bcast_S8x128x1_S8x128x128_0_1_2
    (broadcastInDim S8x128x1 ![0, 1] bcast_S8x128_S8x128x1_0_1 (arg6 m c)) := by
  simp only [V, V0, hostOps0, hostOps0_1, hostOps0_2, hostOps0_3, hostOps0_4, List.flatten_cons, List.flatten_nil, List.append_nil, List.cons_append, List.nil_append]
  after_results
/-- The masked weights are staged whole. -/
theorem block_w (t : Fin cfg0.N) : (iblk m c 6 t : Vec Ideal S8x128x128 .f32) = V m c main_v9 := by
  funext i
  idx_vars i
  blk_simp [iblk]
  blk_ext [idx t]
/-- The transposed weights are staged whole. -/
theorem block_wt (t : Fin cfg0.N) : (iblk m c 7 t : Vec Ideal S8x128x128 .f32) = V m c main_v11 := by
  funext i
  idx_vars i
  blk_simp [iblk]
  blk_ext [idx t]
/-- The repeated bias is staged whole. -/
theorem block_bias (t : Fin cfg0.N) : (iblk m c 8 t : Vec Ideal S8x128x128 .f32) = V m c main_v13 := by
  funext i
  idx_vars i
  blk_simp [iblk]
  blk_ext [idx t]

/-- Every grid point finds its rows, the masked weights and the bias in its blocks. -/
theorem staged (t : Fin cfg0.N) : Staged (arg0 m c) (arg2 m c) (arg5 m c) (arg6 m c) t (iblk m c 0 t) (iblk m c 2 t) (iblk m c 3 t)
    (iblk m c 6 t) (iblk m c 7 t) (iblk m c 8 t) where
  dy r d := by
    blk_simp [iblk]
    entry_read
    unfold token
    blk_point [idx t]
  u r d := by
    blk_simp [iblk]
    entry_read
    unfold token
    blk_point [idx t]
  v r d := by
    blk_simp [iblk]
    entry_read
    unfold token
    blk_point [idx t]
  w h s k := congrFun ((block_w m c t).trans (host_w m c)) _
  wt h k s := by
    refine (congrFun ((block_wt m c t).trans (host_wt m c)) _).trans ?_
    pointwise []
  bias h s l := by
    refine (congrFun ((block_bias m c t).trans (host_bias m c)) _).trans ?_
    pointwise []
end
end Cert.Sgu

end
-- ==== Proof.SguReal.lean ====
/- The gradient of the spatial gating unit: what the kernel leaves of the gradients of the branch's input, of the mixing
   weights and bias and of the norm's scale and shift is what the derivative of the reference's lines leaves of them. -/
module

public import proofs.«01_k».proof.Proof.Reals
public import proofs.«01_k».proof.Proof.SguRows
public import proofs.«01_k».proof.Proof.Gen.SguBwdIdeal.Frame
public import proofs.«01_k».proof.Proof.Gen.SguBwdRefIdeal.Run
public import proofs.«01_k».proof.Proof.Gen.SguBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SguBwdRefIdeal.Read

namespace Cert.Sgu

open Cert.SguBwdIdeal Cert.SguBwdIdeal.Gen Cert.Reals

/-! ## Real numbers -/

/-- A value that is a real number. -/
def IsReal (x : EReal) : Prop := ∃ y : ℝ, x = (y : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sum {ι : Type} (s : Finset ι) {f : ι → EReal} (h : ∀ i, IsReal (f i)) : IsReal (∑ i ∈ s, f i) := by
  choose g hg using h
  exact ⟨∑ i ∈ s, g i, by simp only [hg, sum_coe]⟩

/-- On real numbers the kernel's gradient through the activation is the derivative's. -/
theorem act_grad (q x : EReal) (hq : IsReal q) (hx : IsReal x) :
    q * slope x = q * (Ideal.ofBits .f32 0x3F000000#32 * (1 + inner x))
      + Ideal.ofBits .f32 0x3F4C422A#32 * (Ideal.ofBits .f32 0x3F000000#32 * (x * q) * ((1 + inner x) * (1 - inner x)))
      + ((8943 / 200000 : ℝ) : EReal) * (Ideal.ofBits .f32 0x3F4C422A#32 * (Ideal.ofBits .f32 0x3F000000#32 * (x * q) * ((1 + inner x) * (1 - inner x))))
          * (Ideal.ofBits .f32 0x40400000#32 * (x * x)) := by
  obtain ⟨q, rfl⟩ := hq
  obtain ⟨x, rfl⟩ := hx
  obtain ⟨i, hi⟩ := inner_real x
  obtain ⟨c, hc⟩ := word_root
  simp only [slope, hi, hc, word_half, word_three, ← EReal.coe_one, ← EReal.coe_mul, ← EReal.coe_add, ← EReal.coe_sub]
  congr 1
  ring

variable (x0 x1 : FVec Ideal S8192x1024 .bf16) (x2 : FVec Ideal S8192x3072 .bf16) (x3 x4 : FVec Ideal S1x1024 .f32)
  (x5 : FVec Ideal S8x128x128 .f32) (x6 : FVec Ideal S8x128 .f32)

/-- A row of the values: centred, with the reciprocal standard deviation and its slope, all real numbers. -/
theorem row_real (h2 : ∀ i, IsReal (x2 i)) (r : Fin 8192) : ∃ (a : Fin 1024 → ℝ) (s : ℝ), ∑ k, a k = 0
    ∧ (∀ k, val_main_v42 (F := Ideal) x2 (ix2 r k) = (a k : EReal)) ∧ (∀ k, val_main_v33 (F := Ideal) x2 (ix2 r k) = (a k : EReal))
    ∧ val_main_v45 (F := Ideal) x2 (ix2 r 0) = (s : EReal) ∧ val_main_v48 (F := Ideal) x2 (ix2 r 0) = ((-(1 / 2) * s ^ 3 : ℝ) : EReal) := by
  have hv : ∀ k : Fin 1024, IsReal (val_main_v27 (F := Ideal) x2 (ix2 r k)) := by
    intro k
    have e : val_main_v27 (F := Ideal) x2 (ix2 r k) = act (x2 (ix2 r ⟨1024 + (1024 + k.val), by omega⟩)) := by
      pointwise [val_main_v27]
      exact ref_act x2 r ⟨1024 + k.val, by omega⟩
    obtain ⟨y, hy⟩ := h2 (ix2 r ⟨1024 + (1024 + k.val), by omega⟩)
    rw [e, hy]
    exact act_real y
  choose v hv using hv
  obtain ⟨e, he, hw⟩ := word_eps
  have hm : val_main_v31 (F := Ideal) x2 (ix2 r 0) = (((∑ k, v k) / 1024 : ℝ) : EReal) := by
    pointwise [val_main_v31, val_main_v30, val_main_v29, val_main_v28, val_main_cst_7, val_main_cst_8]
    simp only [hv]
    rw [sum_coe, word_1024, div_coe_coe _ (by norm_num)]
  have h42 : ∀ k, val_main_v42 (F := Ideal) x2 (ix2 r k) = ((v k - (∑ k, v k) / 1024 : ℝ) : EReal) := by
    intro k
    pointwise [val_main_v42, val_main_v41]
    rw [hv, hm, ← EReal.coe_sub]
  have h33 : ∀ k, val_main_v33 (F := Ideal) x2 (ix2 r k) = ((v k - (∑ k, v k) / 1024 : ℝ) : EReal) := by
    intro k
    pointwise [val_main_v33, val_main_v32]
    rw [hv, hm, ← EReal.coe_sub]
  have hp : 0 < (∑ k, (v k - (∑ k, v k) / 1024) * (v k - (∑ k, v k) / 1024)) / 1024 + e := by
    have : 0 ≤ ∑ k, (v k - (∑ k, v k) / 1024) * (v k - (∑ k, v k) / 1024) := Finset.sum_nonneg fun k _ => mul_self_nonneg _
    positivity
  have h44 : val_main_v44 (F := Ideal) x2 (ix2 r 0)
      = (((∑ k, (v k - (∑ k, v k) / 1024) * (v k - (∑ k, v k) / 1024)) / 1024 + e : ℝ) : EReal) := by
    pointwise [val_main_v44, val_main_v43, val_main_v40, val_main_v39, val_main_v38, val_main_v37, val_main_v34, val_main_cst_10, val_main_cst_11,
      val_main_cst_12]
    simp only [h33, ← EReal.coe_mul]
    rw [sum_coe, word_1024, div_coe_coe _ (by norm_num), hw, ← EReal.coe_add]
  have h45 : val_main_v45 (F := Ideal) x2 (ix2 r 0)
      = (((Real.sqrt ((∑ k, (v k - (∑ k, v k) / 1024) * (v k - (∑ k, v k) / 1024)) / 1024 + e))⁻¹ : ℝ) : EReal) := by
    pointwise [val_main_v45]
    rw [h44, rsqrt_coe_pos hp]
  refine ⟨_, _, ?_, h42, h33, h45, ?_⟩
  · rw [Finset.sum_sub_distrib, Finset.sum_const, Finset.card_univ, Fintype.card_fin]
    simp
    ring
  · pointwise [val_main_v48, val_main_v47, val_main_v46, val_main_cst_13]
    rw [h44, h45, word_neg_half, div_coe_coe _ hp.ne', ← EReal.coe_mul]
    congr 1
    generalize (∑ k, (v k - (∑ k, v k) / 1024) * (v k - (∑ k, v k) / 1024)) / 1024 + e = y at hp
    have e1 : y = Real.sqrt y ^ 2 := (Real.sq_sqrt hp.le).symm
    have e2 : Real.sqrt y ≠ 0 := (Real.sqrt_pos.mpr hp).ne'
    congr 1
    conv_lhs => rw [div_eq_mul_inv]; arg 2; rw [e1]
    field_simp

/-- The masked weights are real numbers where the weights are. -/
theorem weights_real (h5 : ∀ i, IsReal (x5 i)) (i : S8x128x128.Idx) : IsReal (val_main_v64_0 (F := Ideal) x5 i) := by
  rw [val_main_v64_0_apply]
  unfold Scalar.select
  split
  · exact h5 i
  · exact ⟨0, by idx_vars i; pointwise [val_main_call1_v1, val_main_cst_14]; exact EReal.coe_zero.symm⟩

/-- The cotangent of the mixed values is a real number. -/
theorem dmix_real (h0 : ∀ i, IsReal (x0 i)) (h2 : ∀ i, IsReal (x2 i)) (r : Fin 8192) (d : Fin 1024) :
    IsReal (val_main_v76 (F := Ideal) x0 x2 (ix2 r d)) := by
  have e : val_main_v76 (F := Ideal) x0 x2 (ix2 r d) = act (x2 (ix2 r ⟨1024 + d.val, by omega⟩)) * x0 (ix2 r d) := by
    pointwise [val_main_v76, val_main_v75, val_main_v26]
    exact congrArg (· * x0 (ix2 r d)) (ref_act x2 r ⟨d.val, by omega⟩)
  obtain ⟨y, hy⟩ := h2 (ix2 r ⟨1024 + d.val, by omega⟩)
  rw [e, hy]
  exact IsReal.mul (act_real y) (h0 _)

/-- The gradient of the scaled values is a real number. -/
theorem back_real (h0 : ∀ i, IsReal (x0 i)) (h2 : ∀ i, IsReal (x2 i)) (h5 : ∀ i, IsReal (x5 i)) (r : Fin 8192) (d : Fin 1024) :
    IsReal (val_main_v90 (F := Ideal) x0 x2 x5 (ix2 r d)) := by
  pointwise [val_main_v90, val_main_v88, val_main_v87, val_main_v85, val_main_v78]
  exact IsReal.sum _ fun k => (dmix_real x0 x2 h0 h2 _ _).mul (weights_real x5 h5 _)

/-- The gradient of the gates' activations is a real number. -/
theorem gate_grad_real (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (r : Fin 8192) (d : Fin 1024) :
    IsReal (val_main_v77 (F := Ideal) x0 x2 x3 x4 x5 x6 (ix2 r d)) := by
  have h54 : ∀ r d, IsReal (val_main_v54 (F := Ideal) x2 x3 x4 (ix2 r d)) := by
    intro r d
    obtain ⟨a, s, -, ha, -, hs, -⟩ := row_real x2 h2 r
    pointwise [val_main_v54, val_main_v53, val_main_v52, val_main_v51, val_main_v50, val_main_v49]
    rw [ha, hs]
    exact (((IsReal.mul ⟨_, rfl⟩ ⟨_, rfl⟩).mul (h3 _))).add (h4 _)
  pointwise [val_main_v77, val_main_v75, val_main_v72, val_main_v71, val_main_v70, val_main_v69, val_main_v68, val_main_v67, val_main_v66,
    val_main_v65, val_main_v55]
  exact (h0 _).mul ((IsReal.sum _ fun k => (h54 _ _).mul (weights_real x5 h5 _)).add (h6 _))

/-- The gradient of a norm's row `a` (centred, with reciprocal standard deviation `s`) for the gradients `p` of its
    normalised values. -/
def normGrad (a p : Fin 1024 → ℝ) (s : ℝ) (d : Fin 1024) : ℝ :=
  s * (p d - (∑ k, p k) / 1024 - a d * s * ((∑ k, p k * (a k * s)) / 1024))

/-- The kernel's form of the norm's gradient. -/
theorem norm_kernel (a p : Fin 1024 → ℝ) (s : ℝ) (d : Fin 1024) :
    (s : EReal) * ((p d : EReal) - Ideal.div (∑ k, (p k : EReal)) (Ideal.ofBits .f32 0x44800000#32)
        - (a d : EReal) * (s : EReal) * Ideal.div (∑ k, (p k : EReal) * ((a k : EReal) * (s : EReal))) (Ideal.ofBits .f32 0x44800000#32))
      = (normGrad a p s d : EReal) := by
  simp only [← EReal.coe_mul, sum_coe]
  rw [word_1024, div_coe_coe _ (by norm_num), div_coe_coe _ (by norm_num)]
  simp only [← EReal.coe_mul, ← EReal.coe_sub]
  rfl

/-- The reference's gradient of the values' activations, on real numbers. -/
theorem ref_norm (r : Fin 8192) (d : Fin 1024) (a p : Fin 1024 → ℝ) (s : ℝ) (h0 : ∑ k, a k = 0)
    (ha : ∀ k, val_main_v42 (F := Ideal) x2 (ix2 r k) = (a k : EReal)) (hb : ∀ k, val_main_v33 (F := Ideal) x2 (ix2 r k) = (a k : EReal))
    (hs : val_main_v45 (F := Ideal) x2 (ix2 r 0) = (s : EReal)) (hd : val_main_v48 (F := Ideal) x2 (ix2 r 0) = ((-(1 / 2) * s ^ 3 : ℝ) : EReal))
    (hp : ∀ k, val_main_v97 (F := Ideal) x0 x2 x3 x5 (ix2 r k) = (p k : EReal)) :
    val_main_v121 (F := Ideal) x0 x2 x3 x5 (ix2 r d) = (normGrad a p s d : EReal) := by
  have e102 : ∀ k, val_main_v102 (F := Ideal) x0 x2 x3 x5 (ix2 r k) = ((p k * s : ℝ) : EReal) := by
    intro k
    pointwise [val_main_v102, val_main_v101]
    rw [hp, hs, ← EReal.coe_mul]
  have e109 : val_main_v109 (F := Ideal) x0 x2 x3 x5 (ix1 r) = (((∑ k, a k * p k) * (-(1 / 2) * s ^ 3) / 1024 : ℝ) : EReal) := by
    pointwise [val_main_v109, val_main_v108, val_main_v107, val_main_v103, val_main_v100, val_main_v99, val_main_v98, val_main_cst_20, val_main_cst_22,
      val_main_cst_23]
    rw [Fin.sum_univ_one]
    simp only [ha, hp, hd, ← EReal.coe_mul, sum_coe]
    rw [word_1024, div_coe_coe _ (by norm_num)]
  have e111 : ∀ k, val_main_v111 (F := Ideal) x0 x2 x3 x5 (ix2 r k) = (((∑ k, a k * p k) * (-(1 / 2) * s ^ 3) / 1024 * (2 * a k) : ℝ) : EReal) := by
    intro k
    pointwise [val_main_v111, val_main_v110, val_main_v36, val_main_v35, val_main_cst_9]
    rw [e109, hb, word_two, ← EReal.coe_mul, ← EReal.coe_mul]
  have e119 : val_main_v119 (F := Ideal) x0 x2 x3 x5 (ix1 r) = ((-(∑ k, p k) * s / 1024 : ℝ) : EReal) := by
    pointwise [val_main_v119, val_main_v118, val_main_v117, val_main_v116, val_main_v114, val_main_v113, val_main_v112, val_main_v106, val_main_v105,
      val_main_v104, val_main_cst_21, val_main_cst_24, val_main_cst_25, val_main_cst_26]
    rw [Fin.sum_univ_one]
    simp only [e102, e111, ← EReal.coe_neg, sum_coe, ← EReal.coe_add]
    rw [word_1024, div_coe_coe _ (by norm_num)]
    congr 2
    have e1 : ∑ k, -((∑ k, a k * p k) * (-(1 / 2) * s ^ 3) / 1024 * (2 * a k)) = -((∑ k, a k * p k) * (-(1 / 2) * s ^ 3) / 1024 * 2) * ∑ k, a k := by
      rw [Finset.mul_sum]; exact Finset.sum_congr rfl fun k _ => by ring
    have e2 : ∑ k, -(p k * s) = -(∑ k, p k) * s := by
      rw [neg_mul, Finset.sum_mul, Finset.sum_neg_distrib]
    rw [e1, e2, h0, mul_zero, add_zero]
  pointwise [val_main_v121, val_main_v120, val_main_v115]
  rw [e102, e111, e119, ← EReal.coe_add, ← EReal.coe_add]
  congr 1
  have e3 : ∑ k, p k * (a k * s) = (∑ k, a k * p k) * s := by
    rw [Finset.sum_mul]; exact Finset.sum_congr rfl fun k _ => by ring
  rw [normGrad, e3]
  ring

/-- The reference's gradient through the activation. -/
theorem ref_act_grad (r : Fin 8192) (e : Fin 2048) (q x : EReal) (hq : val_main_v122 (F := Ideal) x0 x2 x3 x4 x5 x6 (ix2 r e) = q)
    (hx : x2 (ix2 r ⟨1024 + e.val, by omega⟩) = x) (rq : IsReal q) (rx : IsReal x) :
    val_main_v134 (F := Ideal) x0 x2 x3 x4 x5 x6 (ix2 r e) = q * slope x := by
  rw [act_grad q x rq rx]
  pointwise [val_main_v134, val_main_v133, val_main_v132, val_main_v131, val_main_v130, val_main_v129, val_main_v128, val_main_v127, val_main_v126,
    val_main_v125, val_main_v124, val_main_v123, val_main_v24, val_main_v23, val_main_v22, val_main_v21, val_main_v20, val_main_v19, val_main_v18,
    val_main_v17, val_main_v16, val_main_v8, val_main_v7, val_main_v6, val_main_v2, val_main_v0, val_main_cst_27, val_main_cst_28, val_main_cst_1,
    val_main_cst_3, val_main_cst_4, val_main_cst_5, val_main_cst_6]
  rw [ref_cubic, hq, ref_inner, hx]

/-- The reference's result: the shortcut's columns, then the two halves of the branch. -/
theorem ref_left (r : Fin 8192) (e : Fin 3072) (h : e.val < 1024) :
    val_main_v138 (F := Ideal) x0 x1 x2 x3 x4 x5 x6 (ix2 r e) = x1 (ix2 r ⟨e.val, h⟩) := by
  pointwise [val_main_v138, val_main_v137, val_main_v136, val_main_v135, val_main_v74, val_main_cst_29, val_main_cst_30]
  rw [dif_neg (by omega), dif_pos h, zero_add]

@[inherit_doc ref_left] theorem ref_right (r : Fin 8192) (e : Fin 2048) :
    val_main_v138 (F := Ideal) x0 x1 x2 x3 x4 x5 x6 (ix2 r ⟨1024 + e.val, by omega⟩) = val_main_v134 (F := Ideal) x0 x2 x3 x4 x5 x6 (ix2 r e) := by
  pointwise [val_main_v138, val_main_v137, val_main_v136, val_main_v135, val_main_v74, val_main_cst_29, val_main_cst_30]
end Cert.Sgu

end
-- ==== Proof.Sgu.lean ====
/- The gradient of the spatial gating unit: what the kernel leaves of the gradients of the branch's input, of the mixing
   weights and bias and of the norm's scale and shift is what the derivative of the reference's lines leaves of them. -/
module

public import proofs.«01_k».proof.Proof.Reals
public import proofs.«01_k».proof.Proof.SguRows
public import proofs.«01_k».proof.Proof.Gen.SguBwdIdeal.Frame
public import proofs.«01_k».proof.Proof.Gen.SguBwdRefIdeal.Run
public import proofs.«01_k».proof.Proof.Gen.SguBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SguBwdRefIdeal.Read

namespace Cert.Sgu

open Cert.SguBwdIdeal Cert.SguBwdIdeal.Gen Cert.Reals

/-- The gradient of the mixing weights over one grid point's four blocks of 128 rows. -/
def weightPart (D V : Fin 512 → Fin 1024 → EReal) (h : Fin 8) (s k : Fin 128) : EReal :=
  ∑ n : Fin 4, ∑ l : Fin 128, D ⟨128 * n.val + s.val, by omega⟩ ⟨128 * h.val + l.val, by omega⟩ * V ⟨128 * n.val + k.val, by omega⟩ ⟨128 * h.val + l.val, by omega⟩
/-- A head's tile of the gradient of the mixing weights over one grid point, as the kernel computes it. -/
def weightTile (u dy : FVec Ideal S512x1024 .f32) (vn : FVec Ideal S512x1024 .bf16) : Fin 8 → FVec Ideal S128x128 .f32 :=
  ![k0_pay86 u vn dy, k0_pay91 vn (k0_pay85 u dy) (k0_pay89 u vn dy),
    k0_pay97 vn (k0_pay85 u dy) (k0_pay93 vn (k0_pay85 u dy)) (k0_pay95 (k0_pay85 u dy)) (k0_pay96 vn),
    k0_pay100 vn (k0_pay85 u dy), k0_pay103 vn (k0_pay85 u dy), k0_pay108 vn (k0_pay85 u dy) k0_pay105 (k0_pay107 vn (k0_pay85 u dy)),
    k0_pay113 vn (k0_pay85 u dy) (k0_pay111 vn (k0_pay85 u dy)),
    k0_pay119 (k0_pay115 vn (k0_pay85 u dy)) (k0_pay117 (k0_pay85 u dy)) (k0_pay118 vn)]
/-- A head's tile sums the four blocks of rows. -/
theorem weightTile_eq (u dy : FVec Ideal S512x1024 .f32) (vn : FVec Ideal S512x1024 .bf16) (h : Fin 8) (s k : Fin 128) :
    weightTile u dy vn h (ix2 s k) = weightPart (fun r d => k0_pay84 u dy (ix2 r d)) (fun r d => vn (ix2 r d)) h s k := by
  unfold weightPart
  rw [Fin.sum_univ_four]
  fin_cases h
  all_goals
    pointwise [weightTile, k0_pay85, k0_pay86, k0_pay91, k0_pay89, k0_pay93, k0_pay95, k0_pay96, k0_pay97, k0_pay100, k0_pay103, k0_pay105,
      k0_pay106, k0_pay107, k0_pay108, k0_pay111, k0_pay113, k0_pay115, k0_pay117, k0_pay118, k0_pay119]
  all_goals blk_point []

/-- The gradient of a mixing bias over one grid point's four blocks of 128 rows. -/
def biasPart (D : Fin 512 → Fin 1024 → EReal) (h : Fin 8) (s : Fin 128) : EReal :=
  ∑ n : Fin 4, ∑ l : Fin 128, D ⟨128 * n.val + s.val, by omega⟩ ⟨128 * h.val + l.val, by omega⟩
/-- A head's tile of the gradient of the mixing bias, repeated over the lanes, as the kernel computes it. -/
def biasTile (u dy : FVec Ideal S512x1024 .f32) : Fin 8 → FVec Ideal S128x128 .f32 :=
  ![k0_pay87 u dy, k0_pay92 (k0_pay84 u dy) k0_pay88 (k0_pay90 u dy), k0_pay98 (k0_pay84 u dy) (k0_pay94 (k0_pay84 u dy)),
    k0_pay102 (k0_pay99 (k0_pay84 u dy)) (k0_pay101 (k0_pay84 u dy)), k0_pay104 (k0_pay84 u dy), k0_pay109 (k0_pay84 u dy) k0_pay106,
    k0_pay114 (k0_pay84 u dy) (k0_pay110 (k0_pay84 u dy)) (k0_pay112 (k0_pay84 u dy)), k0_pay120 (k0_pay84 u dy) (k0_pay116 (k0_pay84 u dy))]
/-- A head's tile sums the lanes of the four blocks of rows. -/
theorem biasTile_eq (u dy : FVec Ideal S512x1024 .f32) (h : Fin 8) (s k : Fin 128) :
    biasTile u dy h (ix2 s k) = biasPart (fun r d => k0_pay84 u dy (ix2 r d)) h s := by
  unfold biasPart
  rw [Fin.sum_univ_four]
  fin_cases h
  all_goals
    pointwise [biasTile, k0_pay87, k0_pay88, k0_pay90, k0_pay92, k0_pay94, k0_pay98, k0_pay99, k0_pay101, k0_pay102, k0_pay104, k0_pay106, k0_pay109,
      k0_pay110, k0_pay112, k0_pay114, k0_pay116, k0_pay120]
  all_goals blk_point []
section
variable (m : (ℓ : Loc nD τ sig) → Buf (Elt Ideal) ℓ) (c : Dev nD)
theorem first (t : Fin cfg0.N) (h : ¬ 1 ≤ t.val) : t.val % 16 = 0 := by omega
theorem not_first (t : Fin cfg0.N) (h : 1 ≤ t.val) : ¬ t.val % 16 = 0 := by
  have := lt_of_lt_of_eq t.isLt N_0; omega

/-- The cotangent of the mixed values over one grid point's rows. -/
abbrev dmixed (t : Fin cfg0.N) (r : Fin 512) (d : Fin 1024) : EReal := k0_pay84 (F := Ideal) (k0_pay40 (iblk m c 2 t)) (k0_pay82 (iblk m c 0 t)) (ix2 r d)
/-- The scaled values over one grid point's rows. -/
abbrev values (t : Fin cfg0.N) (r : Fin 512) (d : Fin 1024) : EReal := scaled (iblk m c 4 t) (iblk m c 5 t) (iblk m c 3 t) (ix2 r d)

/-- The mixing weights' gradient after the first grid point holds nothing but that point's part. -/
theorem weights_first (t : Fin cfg0.N) (h1 : ¬ 1 ≤ t.val) (h : Fin 8) (s k : Fin 128) :
    (outsAt0 m c t.val t.isLt).2.1 (ix3 h s k) = 0 + weightPart (dmixed m c t) (values m c t) h s k := by
  rw [outsAt0_A m c t (first t h1) h1, zero_add]
  frame_out
  canon_tiles x h
  all_goals
    idx_vars x
    obtain rfl : x0 = 0 := Subsingleton.elim _ _
    obtain ⟨h, hh⟩ := h
    change h = _ at h0
    subst h0
    obtain rfl : s = x1 := Fin.ext h1
    obtain rfl : k = x2 := Fin.ext h2
    pointwise [k0_pay7, k0_pay9, k0_pay11, k0_pay13, k0_pay15, k0_pay17, k0_pay19, k0_pay21]
    refine Eq.trans ?_ (weightTile_eq (k0_pay40 (iblk m c 2 t)) (k0_pay82 (iblk m c 0 t)) (scaled (iblk m c 4 t) (iblk m c 5 t) (iblk m c 3 t)) _ s k)
    rfl
/-- The mixing weights' gradient grows by each later grid point's part. -/
theorem weights_later (t : Fin cfg0.N) (h1 : 1 ≤ t.val) (h : Fin 8) (s k : Fin 128) :
    (outsAt0 m c t.val t.isLt).2.1 (ix3 h s k)
      = (outsAt0 m c (t.val - 1) (Nat.lt_of_le_of_lt (Nat.sub_le _ _) t.isLt)).2.1 (ix3 h s k) + weightPart (dmixed m c t) (values m c t) h s k := by
  rw [outsAt0_B m c t (not_first t h1) h1]
  frame_out
  canon_tiles x h
  all_goals
    idx_vars x
    obtain rfl : x0 = 0 := Subsingleton.elim _ _
    obtain ⟨h, hh⟩ := h
    change h = _ at h0
    subst h0
    obtain rfl : s = x1 := Fin.ext h1
    obtain rfl : k = x2 := Fin.ext h2
    pointwise [k0_pay2, k0_pay3, k0_pay23, k0_pay25, k0_pay27, k0_pay28, k0_pay30, k0_pay32, k0_pay34, k0_pay36]
    refine congrArg₂ (· + ·) (by blk_ext []) (Eq.trans ?_ (weightTile_eq (k0_pay40 (iblk m c 2 t)) (k0_pay82 (iblk m c 0 t)) (scaled (iblk m c 4 t) (iblk m c 5 t) (iblk m c 3 t)) _ s k))
    rfl

/-- The mixing bias's gradient after the first grid point holds nothing but that point's part. -/
theorem biases_first (t : Fin cfg0.N) (h1 : ¬ 1 ≤ t.val) (h : Fin 8) (s k : Fin 128) :
    (outsAt0 m c t.val t.isLt).2.2.1 (ix3 h s k) = 0 + biasPart (dmixed m c t) h s := by
  rw [outsAt0_A m c t (first t h1) h1, zero_add]
  frame_out
  canon_tiles x h
  all_goals
    idx_vars x
    obtain rfl : x0 = 0 := Subsingleton.elim _ _
    obtain ⟨h, hh⟩ := h
    change h = _ at h0
    subst h0
    obtain rfl : s = x1 := Fin.ext h1
    obtain rfl : k = x2 := Fin.ext h2
    pointwise [k0_pay8, k0_pay10, k0_pay12, k0_pay14, k0_pay16, k0_pay18, k0_pay20, k0_pay22]
    refine Eq.trans ?_ (biasTile_eq (k0_pay40 (iblk m c 2 t)) (k0_pay82 (iblk m c 0 t)) _ s k)
    rfl
/-- The mixing bias's gradient grows by each later grid point's part. -/
theorem biases_later (t : Fin cfg0.N) (h1 : 1 ≤ t.val) (h : Fin 8) (s k : Fin 128) :
    (outsAt0 m c t.val t.isLt).2.2.1 (ix3 h s k)
      = (outsAt0 m c (t.val - 1) (Nat.lt_of_le_of_lt (Nat.sub_le _ _) t.isLt)).2.2.1 (ix3 h s k) + biasPart (dmixed m c t) h s := by
  rw [outsAt0_B m c t (not_first t h1) h1]
  frame_out
  canon_tiles x h
  all_goals
    idx_vars x
    obtain rfl : x0 = 0 := Subsingleton.elim _ _
    obtain ⟨h, hh⟩ := h
    change h = _ at h0
    subst h0
    obtain rfl : s = x1 := Fin.ext h1
    obtain rfl : k = x2 := Fin.ext h2
    pointwise [k0_pay2, k0_pay4, k0_pay24, k0_pay26, k0_pay29, k0_pay31, k0_pay33, k0_pay35, k0_pay37]
    refine congrArg₂ (· + ·) (by blk_ext []) (Eq.trans ?_ (biasTile_eq (k0_pay40 (iblk m c 2 t)) (k0_pay82 (iblk m c 0 t)) _ s k))
    rfl
end
section
variable (x0 : FVec Ideal S8192x1024 .bf16) (x2 : FVec Ideal S8192x3072 .bf16) (x3 x4 : FVec Ideal S1x1024 .f32) (x5 : FVec Ideal S8x128x128 .f32)

/-- The reference's gradient of the mixing weights before the mask. -/
theorem ref_weights (h : Fin 8) (s k : Fin 128) :
    val_main_v86 (F := Ideal) x0 x2 x3 x4 (ix3 h s k) = ∑ x : Fin 64, ∑ l : Fin 128,
      val_main_v76 (F := Ideal) x0 x2 (ix2 ⟨x.val * 128 + s.val, by omega⟩ ⟨h.val * 128 + l.val, by omega⟩)
        * val_main_v54 (F := Ideal) x2 x3 x4 (ix2 ⟨x.val * 128 + k.val, by omega⟩ ⟨h.val * 128 + l.val, by omega⟩) := by
  pointwise [val_main_v86, val_main_v85, val_main_v78, val_main_v55]
/-- The reference's gradient of the mixing bias. -/
theorem ref_bias (h : Fin 8) (s : Fin 128) :
    val_main_v84 (F := Ideal) x0 x2 (ix2 h s) = ∑ x : Fin 64, ∑ l : Fin 128,
      val_main_v76 (F := Ideal) x0 x2 (ix2 ⟨x.val * 128 + s.val, by omega⟩ ⟨h.val * 128 + l.val, by omega⟩) := by
  have e79 : ∀ (s : Fin 128) (h : Fin 8), val_main_v79 (F := Ideal) x0 x2 (ix2 s h) = ∑ x : Fin 64, ∑ l : Fin 128,
      val_main_v76 (F := Ideal) x0 x2 (ix2 ⟨x.val * 128 + s.val, by omega⟩ ⟨h.val * 128 + l.val, by omega⟩) := by
    intro s h
    refine (outer_sum _ _ _ _ _).trans ?_
    pointwise [val_main_cst_15, val_main_v78]
  have e81 : ∀ (s : Fin 128) (h : Fin 8), val_main_v81 (F := Ideal) x0 x2 (ix2 s h) = val_main_v79 (F := Ideal) x0 x2 (ix2 s h) := by
    intro s h
    refine (outer_sum _ _ _ _ _).trans ?_
    pointwise [val_main_cst_16, val_main_v80]
    exact (Fin.sum_univ_one _).trans (Fin.sum_univ_one _)
  pointwise [val_main_v84, val_main_v83, val_main_v82, val_main_cst_17]
  simp only [e81, e79]
  exact Fin.sum_univ_one _
/-- The reference's gradient of the norm's scale. -/
theorem ref_lng (d : Fin 1024) : val_main_v95 (F := Ideal) x0 x2 x5 (ix2 0 d)
    = ∑ r : Fin 8192, val_main_v90 (F := Ideal) x0 x2 x5 (ix2 r d) * val_main_v50 (F := Ideal) x2 (ix2 r d) := by
  pointwise [val_main_v95, val_main_v94, val_main_v93, val_main_cst_19]
  exact Finset.sum_congr rfl fun _ _ => mul_comm _ _
/-- The reference's gradient of the norm's shift. -/
theorem ref_lnb (d : Fin 1024) : val_main_v92 (F := Ideal) x0 x2 x5 (ix2 0 d)
    = ∑ r : Fin 8192, val_main_v90 (F := Ideal) x0 x2 x5 (ix2 r d) := by
  pointwise [val_main_v92, val_main_v91, val_main_cst_18]
end

section
variable (m : (ℓ : Loc nD τ sig) → Buf (Elt Ideal) ℓ) (c : Dev nD)

/-- One grid point's part of the gradient of the norm's scale. -/
def scalePart (t : Fin cfg0.N) (j : S1x1024.Idx) : EReal := ∑ r : Fin 512,
  val_main_v90 (F := Ideal) (arg0 m c) (arg2 m c) (arg5 m c) (ix2 (token t r) (j 1)) * val_main_v50 (F := Ideal) (arg2 m c) (ix2 (token t r) (j 1))
/-- One grid point's part of the gradient of the norm's shift. -/
def shiftPart (t : Fin cfg0.N) (j : S1x1024.Idx) : EReal := ∑ r : Fin 512,
  val_main_v90 (F := Ideal) (arg0 m c) (arg2 m c) (arg5 m c) (ix2 (token t r) (j 1))
theorem scale_first (t : Fin cfg0.N) (h1 : ¬ 1 ≤ t.val) (j : S1x1024.Idx) :
    (outsAt0 m c t.val t.isLt).2.2.2.1 j = 0 + scalePart m c t j := by
  idx_vars j
  obtain rfl : j0 = 0 := Subsingleton.elim _ _
  rw [outsAt0_A m c t (first t h1) h1, zero_add]
  frame_out
  pointwise [k0_pay146]
  exact Finset.sum_congr rfl fun r _ => congrArg₂ (· * ·) ((block_back _ _ r j1).trans (back_eq (staged m c t) r j1)) (normed_eq (staged m c t) r j1)
theorem scale_later (t : Fin cfg0.N) (h1 : 1 ≤ t.val) (j : S1x1024.Idx) :
    (outsAt0 m c t.val t.isLt).2.2.2.1 j
      = (outsAt0 m c (t.val - 1) (Nat.lt_of_le_of_lt (Nat.sub_le _ _) t.isLt)).2.2.2.1 j + scalePart m c t j := by
  idx_vars j
  obtain rfl : j0 = 0 := Subsingleton.elim _ _
  rw [outsAt0_B m c t (not_first t h1) h1]
  frame_out
  pointwise [k0_pay5, k0_pay146]
  exact congrArg₂ (· + ·) (by blk_ext [])
    (Finset.sum_congr rfl fun r _ => congrArg₂ (· * ·) ((block_back _ _ r j1).trans (back_eq (staged m c t) r j1)) (normed_eq (staged m c t) r j1))
theorem shift_first (t : Fin cfg0.N) (h1 : ¬ 1 ≤ t.val) (j : S1x1024.Idx) :
    (outsAt0 m c t.val t.isLt).2.2.2.2 j = 0 + shiftPart m c t j := by
  idx_vars j
  obtain rfl : j0 = 0 := Subsingleton.elim _ _
  rw [outsAt0_A m c t (first t h1) h1, zero_add]
  frame_out
  pointwise [k0_pay147]
  exact Finset.sum_congr rfl fun r _ => (block_back _ _ r j1).trans (back_eq (staged m c t) r j1)
theorem shift_later (t : Fin cfg0.N) (h1 : 1 ≤ t.val) (j : S1x1024.Idx) :
    (outsAt0 m c t.val t.isLt).2.2.2.2 j
      = (outsAt0 m c (t.val - 1) (Nat.lt_of_le_of_lt (Nat.sub_le _ _) t.isLt)).2.2.2.2 j + shiftPart m c t j := by
  idx_vars j
  obtain rfl : j0 = 0 := Subsingleton.elim _ _
  rw [outsAt0_B m c t (not_first t h1) h1]
  frame_out
  pointwise [k0_pay6, k0_pay147]
  exact congrArg₂ (· + ·) (by blk_ext []) (Finset.sum_congr rfl fun r _ => (block_back _ _ r j1).trans (back_eq (staged m c t) r j1))

/-- The norm's scale: the kernel's array is the reference's. -/
theorem final12 : (dats m 0 c).arrAt 12 cfg0.N = val_main_v95 (F := Ideal) (arg0 m c) (arg2 m c) (arg5 m c) := by
  refine (dats m 0 c).arrAt_eq_of_after_last 12 t0_15 (by decide +kernel) _ fun j => ?_
  blk_simp
  rw [after0_12, Pipeline.eq_sum_fin_of_reset_step_apply_last (fun n h => (outsAt0 m c n h).2.2.2.1) 16 (fun _ => 0) (scalePart m c)
    (fun t h j => scale_first m c t (by have := lt_of_lt_of_eq t.isLt N_0; omega) j)
    (fun t h j => scale_later m c t (by omega) j) (le_of_eq N_0) t0_15 rfl j, zero_add]
  idx_vars j
  obtain rfl : j0 = 0 := Subsingleton.elim _ _
  refine Eq.trans ?_ (ref_lng _ _ _ _).symm
  refine Fin.sum_mul_add_congr (n := 512) fun s k hl => ?_
  have e : token s k = ⟨s.val * 512 + k.val, hl⟩ := Fin.ext (congrArg (· + k.val) (Nat.mul_comm _ _))
  exact congrArg (fun R => val_main_v90 (F := Ideal) (arg0 m c) (arg2 m c) (arg5 m c) (ix2 R j1) * val_main_v50 (F := Ideal) (arg2 m c) (ix2 R j1)) e
/-- The norm's shift: the kernel's array is the reference's. -/
theorem final13 : (dats m 0 c).arrAt 13 cfg0.N = val_main_v92 (F := Ideal) (arg0 m c) (arg2 m c) (arg5 m c) := by
  refine (dats m 0 c).arrAt_eq_of_after_last 13 t0_15 (by decide +kernel) _ fun j => ?_
  blk_simp
  rw [after0_13, Pipeline.eq_sum_fin_of_reset_step_apply_last (fun n h => (outsAt0 m c n h).2.2.2.2) 16 (fun _ => 0) (shiftPart m c)
    (fun t h j => shift_first m c t (by have := lt_of_lt_of_eq t.isLt N_0; omega) j)
    (fun t h j => shift_later m c t (by omega) j) (le_of_eq N_0) t0_15 rfl j, zero_add]
  idx_vars j
  obtain rfl : j0 = 0 := Subsingleton.elim _ _
  refine Eq.trans ?_ (ref_lnb _ _ _ _).symm
  refine Fin.sum_mul_add_congr (n := 512) fun s k hl => ?_
  have e : token s k = ⟨s.val * 512 + k.val, hl⟩ := Fin.ext (congrArg (· + k.val) (Nat.mul_comm _ _))
  exact congrArg (fun R => val_main_v90 (F := Ideal) (arg0 m c) (arg2 m c) (arg5 m c) (ix2 R j1)) e

/-- A row of the array by its block of 128 rows and the grid point. -/
theorem token_of_chunk (t : Fin cfg0.N) (n : Fin 4) (s : Fin 128) (X : Fin 64) (hX : X.val = t.val * 4 + n.val) (h1 h2) :
    token t ⟨128 * n.val + s.val, h1⟩ = ⟨X.val * 128 + s.val, h2⟩ := by
  apply Fin.ext
  show 512 * t.val + (128 * n.val + s.val) = X.val * 128 + s.val
  omega
/-- A lane of a head. -/
theorem lane_of_head (h : Fin 8) (l : Fin 128) (h1 h2) : (⟨128 * h.val + l.val, h1⟩ : Fin 1024) = ⟨h.val * 128 + l.val, h2⟩ :=
  Fin.ext (congrArg (· + l.val) (Nat.mul_comm _ _))

/-- The scaled values over one grid point's rows are the reference's. -/
theorem values_eq (t : Fin cfg0.N) (r : Fin 512) (d : Fin 1024) :
    values m c t r d = val_main_v54 (F := Ideal) (arg2 m c) (arg3 m c) (arg4 m c) (ix2 (token t r) d) := by
  unfold values scaled
  rw [block_scale, block_shift]
  exact scaled_eq _ _ (staged m c t) r d
/-- The mixing weights before the mask: the kernel's array is the reference's. -/
theorem final10 : (dats m 0 c).arrAt 10 cfg0.N = val_main_v86 (F := Ideal) (arg0 m c) (arg2 m c) (arg3 m c) (arg4 m c) := by
  refine (dats m 0 c).arrAt_eq_of_after_last 10 t0_15 (by decide +kernel) _ fun j => ?_
  blk_simp
  rw [after0_10]
  idx_vars j
  refine (Pipeline.eq_sum_fin_of_reset_step_apply_last (M := EReal) (fun n h (q : Fin 8 × Fin 128 × Fin 128) => (outsAt0 m c n h).2.1 (ix3 q.1 q.2.1 q.2.2)) 16 (fun _ => 0)
    (fun t q => weightPart (dmixed m c t) (values m c t) q.1 q.2.1 q.2.2)
    (fun t h q => weights_first m c t (by have := lt_of_lt_of_eq t.isLt N_0; omega) q.1 q.2.1 q.2.2)
    (fun t h q => weights_later m c t (by omega) q.1 q.2.1 q.2.2) (le_of_eq N_0) t0_15 rfl (j0, j1, j2)).trans ((zero_add _).trans ?_)
  refine Eq.trans ?_ (ref_weights _ _ _ _ _ _ _).symm
  refine Fin.sum_mul_add_congr (n := 4) fun t n hl => Finset.sum_congr rfl fun l _ => ?_
  refine congrArg₂ (· * ·) ((dmix_eq (staged m c t) _ _).trans ?_) ?_
  · rw [token_of_chunk t n j1 ⟨_, hl⟩ rfl, lane_of_head]
  · refine (values_eq m c t _ _).trans ?_
    rw [token_of_chunk t n j2 ⟨_, hl⟩ rfl, lane_of_head]
/-- The mixing bias, repeated over the lanes: the kernel's array holds the reference's. -/
theorem final11 : (dats m 0 c).arrAt 11 cfg0.N = fun j => val_main_v84 (F := Ideal) (arg0 m c) (arg2 m c) (ix2 (j 0) (j 1)) := by
  refine (dats m 0 c).arrAt_eq_of_after_last 11 t0_15 (by decide +kernel) _ fun j => ?_
  blk_simp
  rw [after0_11]
  idx_vars j
  refine (Pipeline.eq_sum_fin_of_reset_step_apply_last (M := EReal) (fun n h (q : Fin 8 × Fin 128 × Fin 128) => (outsAt0 m c n h).2.2.1 (ix3 q.1 q.2.1 q.2.2)) 16 (fun _ => 0)
    (fun t q => biasPart (dmixed m c t) q.1 q.2.1)
    (fun t h q => biases_first m c t (by have := lt_of_lt_of_eq t.isLt N_0; omega) q.1 q.2.1 q.2.2)
    (fun t h q => biases_later m c t (by omega) q.1 q.2.1 q.2.2) (le_of_eq N_0) t0_15 rfl (j0, j1, j2)).trans ((zero_add _).trans ?_)
  refine Eq.trans ?_ (ref_bias _ _ _ _).symm
  refine Fin.sum_mul_add_congr (n := 4) fun t n hl => Finset.sum_congr rfl fun l _ => (dmix_eq (staged m c t) _ _).trans ?_
  rw [token_of_chunk t n j1 ⟨_, hl⟩ rfl, lane_of_head]
end
end Cert.Sgu

end
-- ==== Proof.SguProj.lean ====
/- The gradient of the spatial gating unit: what the kernel leaves of the gradients of the branch's input, of the mixing
   weights and bias and of the norm's scale and shift is what the derivative of the reference's lines leaves of them. -/
module

public import proofs.«01_k».proof.Proof.Reals
public import proofs.«01_k».proof.Proof.SguReal
public import proofs.«01_k».proof.Proof.Sgu
public import proofs.«01_k».proof.Proof.Gen.SguBwdIdeal.Frame
public import proofs.«01_k».proof.Proof.Gen.SguBwdRefIdeal.Run
public import proofs.«01_k».proof.Proof.Gen.SguBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SguBwdRefIdeal.Read

namespace Cert.Sgu

open Cert.SguBwdIdeal Cert.SguBwdIdeal.Gen Cert.Reals

section
/-- A block of gates' gradients through the activation. -/
theorem gate_block (u q : FVec Ideal S512x1024 .f32) (r : Fin 512) (d : Fin 1024) :
    k0_pay149 (F := Ideal) u q (ix2 r d) = q (ix2 r d) * slope (u (ix2 r d)) := by
  pointwise [k0_pay149, slope, inner]
  rw [named_cubic, named_cubic3]
/-- A block of values' gradients through the activation. -/
theorem value_block (v q half : FVec Ideal S512x1024 .f32) (h : ∀ i, half i = Ideal.ofBits .f32 0x3F000000#32) (r : Fin 512) (d : Fin 1024) :
    k0_pay1 (F := Ideal) v q (k0_pay150 v) (k0_pay151 v) half (ix2 r d) = q (ix2 r d) * slope (v (ix2 r d)) := by
  pointwise [k0_pay1, k0_pay151, k0_pay150, slope, inner]
  rw [named_cubic, named_cubic3, h]
/-- A row of the kernel's norm gradient: `b` are the gradients of the scaled values, `g` the scale, `h` the normalised values and
    `s` the reciprocal standard deviation. -/
theorem norm_block (g : FVec Ideal S1x1024 .f32) (rstd : FVec Ideal S512x1 .f32) (xhat : FVec Ideal S512x1024 .f32)
    (v288 : FVec Ideal S512x1024 .bf16) (v609 v642 v675 : FVec Ideal S128x1024 .f32) (v679 v683 v687 v691 : FVec Ideal S128x128 .f32)
    (v692 v696 v700 v704 : FVec Ideal S1x128x128 .bf16) (r : Fin 512) (d : Fin 1024) (b h : Fin 1024 → EReal) (s : EReal)
    (hb : ∀ k, k0_pay145 (F := Ideal) v288 v609 v642 v675 v679 v683 v687 v691 v692 v696 v700 v704 (ix2 r k) = b k)
    (hh : ∀ k, xhat (ix2 r k) = h k) (hs : rstd (ix2 r 0) = s) :
    k0_pay148 (F := Ideal) g rstd xhat v288 v609 v642 v675 v679 v683 v687 v691 v692 v696 v700 v704 (ix2 r d)
      = s * (b d * g (ix2 0 d) - Ideal.div (∑ k, b k * g (ix2 0 k)) (Ideal.ofBits .f32 0x44800000#32)
          - h d * Ideal.div (∑ k, b k * g (ix2 0 k) * h k) (Ideal.ofBits .f32 0x44800000#32)) := by
  pointwise [k0_pay148]
  simp only [hb, hh, hs]

variable {x0 : FVec Ideal S8192x1024 .bf16} {x1 : FVec Ideal S8192x1024 .bf16} {x2 : FVec Ideal S8192x3072 .bf16} {x3 x4 : FVec Ideal S1x1024 .f32}
  {x5 : FVec Ideal S8x128x128 .f32} {x6 : FVec Ideal S8x128 .f32}
  (h0 : ∀ i, IsReal (x0 i)) (h2 : ∀ i, IsReal (x2 i)) (h3 : ∀ i, IsReal (x3 i)) (h4 : ∀ i, IsReal (x4 i)) (h5 : ∀ i, IsReal (x5 i))
  (h6 : ∀ i, IsReal (x6 i)) (R : Fin 8192) (r : Fin 512) (d : Fin 1024)
include h0 h2 h3 h4 h5 h6

/-- The gates' columns of the result. -/
theorem gate_grad (u q : FVec Ideal S512x1024 .f32) (hu : u (ix2 r d) = x2 (ix2 R ⟨1024 + d.val, by omega⟩))
    (hq : q (ix2 r d) = val_main_v77 (F := Ideal) x0 x2 x3 x4 x5 x6 (ix2 R d)) :
    k0_pay149 (F := Ideal) u q (ix2 r d) = val_main_v138 (F := Ideal) x0 x1 x2 x3 x4 x5 x6 (ix2 R ⟨1024 + d.val, by omega⟩) := by
  rw [gate_block, hu, hq]
  have e122 : val_main_v122 (F := Ideal) x0 x2 x3 x4 x5 x6 (ix2 R ⟨d.val, by omega⟩) = val_main_v77 (F := Ideal) x0 x2 x3 x4 x5 x6 (ix2 R d) := by
    pointwise [val_main_v122]
  exact ((ref_right x0 x1 x2 x3 x4 x5 x6 R ⟨d.val, by omega⟩).trans (ref_act_grad x0 x2 x3 x4 x5 x6 R ⟨d.val, by omega⟩ _ _ e122 rfl
    (gate_grad_real x0 x2 x3 x4 x5 x6 h0 h2 h3 h4 h5 h6 R d) (h2 _))).symm

/-- The values' columns of the result. -/
theorem value_grad (v half : FVec Ideal S512x1024 .f32) (hv : v (ix2 r d) = x2 (ix2 R ⟨2048 + d.val, by omega⟩))
    (hh : ∀ i, half i = Ideal.ofBits .f32 0x3F000000#32) (rstd : FVec Ideal S512x1 .f32) (xhat : FVec Ideal S512x1024 .f32)
    (v288 : FVec Ideal S512x1024 .bf16) (v609 v642 v675 : FVec Ideal S128x1024 .f32) (v679 v683 v687 v691 : FVec Ideal S128x128 .f32)
    (v692 v696 v700 v704 : FVec Ideal S1x128x128 .bf16)
    (hb : ∀ k, k0_pay145 (F := Ideal) v288 v609 v642 v675 v679 v683 v687 v691 v692 v696 v700 v704 (ix2 r k)
      = val_main_v90 (F := Ideal) x0 x2 x5 (ix2 R k))
    (hx : ∀ k, xhat (ix2 r k) = val_main_v50 (F := Ideal) x2 (ix2 R k)) (hs : rstd (ix2 r 0) = val_main_v45 (F := Ideal) x2 (ix2 R 0)) :
    k0_pay1 (F := Ideal) v (k0_pay148 x3 rstd xhat v288 v609 v642 v675 v679 v683 v687 v691 v692 v696 v700 v704) (k0_pay150 v) (k0_pay151 v) half (ix2 r d)
      = val_main_v138 (F := Ideal) x0 x1 x2 x3 x4 x5 x6 (ix2 R ⟨2048 + d.val, by omega⟩) := by
  obtain ⟨a, s, za, ha, hb', hs', hd⟩ := row_real x2 h2 R
  have hp : ∀ k, IsReal (val_main_v97 (F := Ideal) x0 x2 x3 x5 (ix2 R k)) := by
    intro k
    pointwise [val_main_v97, val_main_v96]
    exact IsReal.mul (back_real x0 x2 x5 h0 h2 h5 R k) (h3 _)
  choose p hp using hp
  have e97 : ∀ k, val_main_v90 (F := Ideal) x0 x2 x5 (ix2 R k) * x3 (ix2 0 k) = (p k : EReal) := by
    intro k
    rw [← hp]
    pointwise [val_main_v97, val_main_v96]
  have e50 : ∀ k, val_main_v50 (F := Ideal) x2 (ix2 R k) = (a k : EReal) * (s : EReal) := by
    intro k
    pointwise [val_main_v50, val_main_v49]
    rw [ha, hs']
  have e121 := ref_norm x0 x2 x3 x5 R d a p s za ha hb' hs' hd hp
  have e122 : val_main_v122 (F := Ideal) x0 x2 x3 x4 x5 x6 (ix2 R ⟨1024 + d.val, by omega⟩) = val_main_v121 (F := Ideal) x0 x2 x3 x5 (ix2 R d) := by
    pointwise [val_main_v122]
  rw [value_block _ _ _ hh, norm_block x3 rstd xhat _ _ _ _ _ _ _ _ _ _ _ _ r d _ _ _ hb hx hs, hv]
  simp only [e97, e50, hs']
  rw [norm_kernel]
  have e := (ref_right x0 x1 x2 x3 x4 x5 x6 R ⟨1024 + d.val, by omega⟩).trans (ref_act_grad x0 x2 x3 x4 x5 x6 R ⟨1024 + d.val, by omega⟩ _ _
    (e122.trans e121) rfl ⟨_, rfl⟩ (h2 _))
  refine Eq.trans ?_ (e.symm.trans ?_)
  · exact congrArg (fun i => (normGrad a p s d : EReal) * slope (x2 (ix2 R i))) (Fin.ext (by dsimp only; omega))
  · exact congrArg (fun i => val_main_v138 (F := Ideal) x0 x1 x2 x3 x4 x5 x6 (ix2 R i)) (Fin.ext (by dsimp only; omega))
end
section
variable (m : (ℓ : Loc nD τ sig) → Buf (Elt Ideal) ℓ) (c : Dev nD)
/-- The shortcut's cotangent, an argument of the programs. -/
abbrev arg1 : FVec Ideal S8192x1024 .bf16 := m ((c : Thread nD τ).loc main_arg1)
theorem idx1 : ∀ t : Fin cfg0.N, win0_1.index t = ![t.val, 0] := (by decide +kernel : ∀ t : Fin grid0.N, _)
/-- A grid point finds its rows of the shortcut's cotangent in its block. -/
theorem block_left (t : Fin cfg0.N) (r : Fin 512) (d : Fin 1024) :
    (iblk m c 1 t : FVec Ideal S512x1024 .bf16) (ix2 r d) = arg1 m c (ix2 (token t r) d) := by
  blk_simp [iblk]
  entry_read
  unfold token
  blk_point [idx1 t]

/-- The reference's row of the result for row `r` of grid point `t`. -/
abbrev result (t : Fin cfg0.N) (r : Fin 512) (e : Fin 3072) : EReal :=
  val_main_v138 (F := Ideal) (arg0 m c) (arg1 m c) (arg2 m c) (iblk m c 4 t) (iblk m c 5 t) (arg5 m c) (arg6 m c) (ix2 (token t r) e)

variable (f0 : ∀ i, IsReal (arg0 m c i)) (f2 : ∀ i, IsReal (arg2 m c i)) (f3 : ∀ i, IsReal (arg3 m c i)) (f4 : ∀ i, IsReal (arg4 m c i))
  (f5 : ∀ i, IsReal (arg5 m c i)) (f6 : ∀ i, IsReal (arg6 m c i))
include f0 f2 f3 f4 f5 f6

/-- What every grid point leaves of the gradient of the branch's input. -/
theorem input_left (t : Fin cfg0.N) (r : Fin 512) (e : Fin 3072) :
    (outsAt0 m c t.val t.isLt).1 (ix2 r e)
      = val_main_v138 (F := Ideal) (arg0 m c) (arg1 m c) (arg2 m c) (arg3 m c) (arg4 m c) (arg5 m c) (arg6 m c) (ix2 (token t r) e) := by
  have S := staged m c t
  rw [← block_scale m c t] at f3 ⊢
  rw [← block_shift m c t] at f4 ⊢
  have left : ∀ i : S512x1024.Idx, r.val = (i 0).val → e.val = (i 1).val → (iblk m c 1 t : FVec Ideal S512x1024 .bf16) i
      = result m c t r e := by
    intro i a b
    idx_vars i
    obtain rfl : r = i0 := Fin.ext a
    refine (block_left m c t _ _).trans (Eq.trans ?_ (ref_left _ _ _ _ _ _ _ (token t r) e (lt_of_eq_of_lt b i1.isLt)).symm)
    exact congrArg (fun k => arg1 m c (ix2 _ k)) (Fin.ext b.symm)
  have gates : ∀ (i : S512x1024.Idx) (q : FVec Ideal S512x1024 .f32), r.val = (i 0).val → e.val = 1024 + (i 1).val →
      (∀ r d, q (ix2 r d) = val_main_v77 (F := Ideal) (arg0 m c) (arg2 m c) (iblk m c 4 t) (iblk m c 5 t) (arg5 m c) (arg6 m c) (ix2 (token t r) d)) →
      k0_pay149 (F := Ideal) (k0_pay38 (iblk m c 2 t)) q i
      = result m c t r e := by
    intro i q a b hq
    idx_vars i
    obtain rfl : r = i0 := Fin.ext a
    have ee : e = ⟨1024 + i1.val, by omega⟩ := Fin.ext b
    rw [ee]
    exact gate_grad f0 f2 f3 f4 f5 f6 (token t r) r i1 _ _ (by pointwise [k0_pay38]; exact S.u r i1) (hq _ _)
  have values : ∀ r d, k0_pay39 (F := Ideal) (iblk m c 3 t) (ix2 r d) = arg2 m c (ix2 (token t r) ⟨2048 + d.val, by omega⟩) := by
    intro r d
    pointwise [k0_pay39]
    exact S.v r d
  by_cases h1 : 1 ≤ t.val
  · rw [outsAt0_B m c t (not_first t h1) h1]
    frame_out
    canon_tiles e h
    · idx_vars e
      obtain rfl : r = e0 := Fin.ext h0
      exact (value_grad (x1 := arg1 m c) f0 f2 f3 f4 f5 f6 (token t r) r e1 _ _ (values r e1) (fun _ => rfl) _ _ _ _ _ _ _ _ _ _ _ _ _ _
        (fun k => (block_back _ _ r k).trans (back_eq S r k)) (fun k => normed_eq S r k) (rstd_eq S r)).trans
        (congrArg (result m c t r) (Fin.ext h1.symm))
    · exact gates _ _ h0 h1 fun r d => (block_mixed _ _ _ _ _ _ r d).trans (mixed_eq _ _ S r d)
    · exact left _ h0 h1
  · rw [outsAt0_A m c t (first t h1) h1]
    frame_out
    canon_tiles e h
    · idx_vars e
      obtain rfl : r = e0 := Fin.ext h0
      exact (value_grad (x1 := arg1 m c) f0 f2 f3 f4 f5 f6 (token t r) r e1 _ _ (values r e1) (fun _ => rfl) _ _ _ _ _ _ _ _ _ _ _ _ _ _
        (fun k => (block_back _ _ r k).trans (back_eq S r k)) (fun k => normed_eq S r k) (rstd_eq S r)).trans
        (congrArg (result m c t r) (Fin.ext h1.symm))
    · exact gates _ _ h0 h1 fun r d => (block_mixed _ _ _ _ _ _ r d).trans (mixed_eq _ _ S r d)
    · exact left _ h0 h1

/-- The gradient of the branch's input: the kernel's array is the reference's. -/
theorem final9 : (dats m 0 c).arrAt 9 cfg0.N
    = val_main_v138 (F := Ideal) (arg0 m c) (arg1 m c) (arg2 m c) (arg3 m c) (arg4 m c) (arg5 m c) (arg6 m c) := by
  refine (dats m 0 c).arrAt_eq_of_covers 9 _ (by decide +kernel) fun t _ y => ?_
  blk_simp
  rw [after0_9]
  idx_vars y
  rw [input_left m c f0 f2 f3 f4 f5 f6]
  refine congrArg _ ?_
  unfold token
  blk_ext [idx t]
end
end Cert.Sgu

end
-- ==== Proof.SguTail.lean ====
/- The gradient of the spatial gating unit: what the kernel leaves of the gradients of the branch's input, of the mixing
   weights and bias and of the norm's scale and shift is what the derivative of the reference's lines leaves of them. -/
module

public import proofs.«01_k».proof.Proof.Reals
public import proofs.«01_k».proof.Proof.SguProj
public import proofs.«01_k».proof.Proof.Sgu
public import proofs.«01_k».proof.Proof.Gen.SguBwdIdeal.Frame
public import proofs.«01_k».proof.Proof.Gen.SguBwdRefIdeal.Run
public import proofs.«01_k».proof.Proof.Gen.SguBwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SguBwdRefIdeal.Read

namespace Cert.Sgu

open Cert.SguBwdIdeal Cert.SguBwdIdeal.Gen Cert.Reals

section
variable (m : (ℓ : Loc nD τ sig) → Buf (Elt Ideal) ℓ) (c : Dev nD)

/-- What the host lines after the call leave in a buffer. -/
abbrev tailAt := Pipeline.afterTail₀ cfgs (dats m) 0 (V0 m) [hostOps1, hostOps1_1, hostOps1_2] c

/-- An array of the call, as the lines after the call find it. -/
theorem exit_array (w : Fin (cfgs 0).W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr_shared _ c _ _ ((dats m 0 c).arrAt_sharedIn (by decide) (V0 m c) (fun w => A_eq m c w) (cfgs 0).N) w
/-- The mask, as the lines after the call find it. -/
theorem exit_mask : Pipeline.withArrays (cfgs 0).spec c (V0 m c) (fun w => (dats m 0 c).arrAt w (cfgs 0).N) (Proc.devRef .tc main_v6)
    = V0 m c (Proc.devRef .tc main_v6) :=
  Pipeline.withArrays_of_ne _ c _ _ main_v6 (by decide)
/-- The mask is the reference's. -/
theorem host_mask : (broadcastInDim S8x128x128 ![0, 1, 2] bcast_S1x128x128_S8x128x128_0_1_2
    (broadcastInDim S1x128x128 ![1, 2] bcast_S128x128_S1x128x128_1_2 (V0 m c (Proc.devRef .tc main_v6) : Vec Ideal S128x128 .i1))
      : Vec Ideal S8x128x128 .i1) = val_main_v64_1 (F := Ideal) := by
  simp only [V0, hostOps0, hostOps0_1, hostOps0_2, hostOps0_3, hostOps0_4, List.flatten_cons, List.flatten_nil, List.append_nil, List.cons_append, List.nil_append]
  after_results
  rfl
/-- The masked gradient of the mixing weights is the reference's. -/
theorem tail_weights : (tailAt m c main_v16 : Vec Ideal S8x128x128 .f32)
    = val_main_v89 (F := Ideal) (arg0 m c) (arg2 m c) (arg3 m c) (arg4 m c) := by
  unfold tailAt Pipeline.afterTail₀
  simp only [hostOps1, hostOps1_1, hostOps1_2, List.flatten_cons, List.flatten_nil, List.append_nil, List.cons_append, List.nil_append]
  after_results
  rw [exit_mask]
  refine (congrArg₂ (fun (a : Vec Ideal S8x128x128 .i1) (b : Vec Ideal S8x128x128 .f32) => select a b (broadcastInDim S8x128x128 ![] bcast_S_S8x128x128 (constant (F := Ideal) S_ .f32 0x00000000#32 : Vec Ideal S_ .f32)))
    (host_mask m c) ((exit_array m c 10).trans (final10 m c))).trans ?_
  rfl
/-- The gradient of the mixing bias, one lane of the kernel's array, is the reference's. -/
theorem tail_bias : (tailAt m c main_v18 : Vec Ideal S8x128 .f32) = val_main_v84 (F := Ideal) (arg0 m c) (arg2 m c) := by
  unfold tailAt Pipeline.afterTail₀
  simp only [hostOps1, hostOps1_1, hostOps1_2, List.flatten_cons, List.flatten_nil, List.append_nil, List.cons_append, List.nil_append]
  after_results
  funext i
  idx_vars i
  refine (congrFun (congrArg (fun a : Vec Ideal S8x128x128 .f32 => shapeCast S8x128 (extractStridedSlice S8x128x1 ![0, 0, 0] a slices_S8x128x128_S8x128x1_0_0_0)
    shapeCasts_S8x128x1_S8x128) ((exit_array m c 11).trans (final11 m c))) _).trans ?_
  pointwise []
end

/-- A finite array holds real numbers only. -/
theorem isReal_of_reals {s : Shape} {f : s.Idx → EReal} (h : ∃ r : s.Idx → ℝ, f = fun i => (r i : EReal)) (i : s.Idx) : IsReal (f i) := by
  obtain ⟨r, rfl⟩ := h
  exact ⟨r i, rfl⟩
end Cert.Sgu

end
-- ==== Proof.RmsRows.lean ====
/- The root-mean-square norm of the rows: what the kernel leaves in its result array is what the reference's norm leaves. -/
module

public import proofs.«01_k».proof.Proof.Reals
public import proofs.«01_k».proof.Proof.Gen.RmsFwdIdeal.Frame
public import proofs.«01_k».proof.Proof.Gen.RmsFwdRefIdeal.Run
public import proofs.«01_k».proof.Proof.Gen.RmsFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.RmsFwdRefIdeal.Read

namespace Cert.RmsRows

open Cert.RmsFwdIdeal Cert.RmsFwdIdeal.Gen

variable (m : (ℓ : Loc nD τ sig) → Buf (Elt Ideal) ℓ)

/-- Which block each window stages at grid point `t`. -/
theorem idx : ∀ t : Fin cfg0.N, win0_0.index t = ![t.val, 0] ∧ win0_1.index t = ![0, 0] ∧ win0_2.index t = ![t.val, 0] :=
  (by decide +kernel : ∀ t : Fin grid0.N, _)

/-- Element `k` of a row `x` normalised, times its scale `g`. -/
def normed (x : Fin 2048 → EReal) (g : EReal) (k : Fin 2048) : EReal := x k * Cert.Reals.rstd x * g

/-- The reference's normalised rows. -/
theorem ref_rows (x : FVec Ideal S8192x2048 .f32) (g : FVec Ideal S1x2048 .f32) (r : Fin 8192) (d : Fin 2048) :
    val_main_v12 (F := Ideal) x g (ix2 r d) = normed (fun k => x (ix2 r k)) (g (ix2 0 d)) d := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  simp [normed, Cert.Reals.rstd]

/-- What the two input windows hold at grid point `t`. -/
abbrev rowBlock (c : Dev nD) (t : Fin cfg0.N) : FVec Ideal S512x2048 .f32 := iblk m c 0 t
@[inherit_doc rowBlock] abbrev scaleBlock (c : Dev nD) (t : Fin cfg0.N) : FVec Ideal S1x2048 .f32 := iblk m c 1 t

/-- The token that row `r` of grid point `t` is. -/
def token (t : Fin cfg0.N) (r : Fin 512) : Fin 8192 :=
  ⟨t.val * 512 + r.val, by have := lt_of_lt_of_eq t.isLt N_0; omega⟩

/-- What a point's windows hold of the arguments. -/
theorem block_row (c : Dev nD) (t : Fin cfg0.N) (r : Fin 512) (d : Fin 2048) :
    rowBlock m c t (ix2 r d) = m ((c : Thread nD τ).loc main_arg0) (ix2 (token t r) d) := by
  unfold token; blk_ext [rowBlock, iblk, V, idx t]
@[inherit_doc block_row] theorem block_scale (c : Dev nD) (t : Fin cfg0.N) (d : Fin 2048) :
    scaleBlock m c t (ix2 0 d) = m ((c : Thread nD τ).loc main_arg1) (ix2 0 d) := by
  blk_ext [scaleBlock, iblk, V, idx t]

/-- What a grid point leaves in its block of the normalised rows, over what its windows hold. -/
theorem left2 (X : FVec Ideal S512x2048 .f32) (G : FVec Ideal S1x2048 .f32) (r : Fin 512) (d : Fin 2048) :
    out0_2 (F := Ideal) X G (ix2 r d) = normed (fun k => X (ix2 r k)) (G (ix2 0 d)) d := by
  frame_out
  pointwise [k0_pay1, normed, Cert.Reals.rstd]

/-- The normalised rows: the kernel's array is the reference's. -/
theorem final2 (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  refine (left2 (rowBlock m c t) (scaleBlock m c t) y0 y1).trans ?_
  simp only [block_row, block_scale]
  refine (ref_rows _ _ (token t y0) y1).symm.trans (congrArg _ ?_)
  unfold token
  blk_ext [idx t]

end Cert.RmsRows
-- ==== Proof.MergeRows.lean ====
/- The gated merge of the two paths: what the kernel leaves in its result array is what the reference's merge leaves. -/
module

public import proofs.«01_k».proof.Proof.Arith
public import proofs.«01_k».proof.Proof.Gen.MergeFwdIdeal.Frame
public import proofs.«01_k».proof.Proof.Gen.MergeFwdRefIdeal.Run
public import proofs.«01_k».proof.Proof.Gen.MergeFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.MergeFwdRefIdeal.Read

namespace Cert.MergeRows

open Cert.MergeFwdIdeal Cert.MergeFwdIdeal.Gen

variable (m : (ℓ : Loc nD τ sig) → Buf (Elt Ideal) ℓ)

/-- Which block each window stages at grid point `t`. -/
theorem idx : ∀ t : Fin cfg0.N, win0_0.index t = ![t.val, 0] ∧ win0_1.index t = ![t.val, 0] ∧ win0_2.index t = ![0, t.val, 0]
    ∧ win0_3.index t = ![t.val, 0] :=
  (by decide +kernel : ∀ t : Fin grid0.N, _)

/-- Gate `k`'s pre-activation at token `r` and feature `d`. -/
def pre (z : FVec Ideal S8192x4096 .f32) (b : FVec Ideal S1x4096 .f32) (k : Fin 2) (r : Fin 8192) (d : Fin 2048) : EReal :=
  z (ix2 r ⟨k.val * 2048 + d.val, by omega⟩) + b (ix2 0 ⟨k.val * 2048 + d.val, by omega⟩)

/-- Two paths' elements `p` and `q`, each times the logistic function of its gate's pre-activation. -/
def merged (p q y z : EReal) : EReal := Ideal.logistic y * p + Ideal.logistic z * q

/-- The reference's gate is the logistic function of its pre-activation. -/
theorem ref_gate (z : FVec Ideal S8192x4096 .f32) (b : FVec Ideal S1x4096 .f32) (r : Fin 8192) (e : Fin 4096) :
    val_main_v9 (F := Ideal) z b (ix2 r e) = Ideal.logistic (z (ix2 r e) + b (ix2 0 e)) := by
  pointwise [val_main_v9, val_main_v8, val_main_v7, val_main_v6, val_main_v5, val_main_v4, val_main_v3, val_main_v2,
    val_main_cst, val_main_cst_0]
  rfl

/-- The reference's merged rows. -/
theorem ref_rows (pa pb : FVec Ideal S8192x2048 .bf16) (z : FVec Ideal S8192x4096 .f32) (b : FVec Ideal S1x4096 .f32)
    (r : Fin 8192) (d : Fin 2048) : val_main_v15 (F := Ideal) pa pb z b (ix2 r d)
      = merged (pa (ix2 r d)) (pb (ix2 r d)) (pre z b 0 r d) (pre z b 1 r d) := by
  pointwise [val_main_v15, val_main_v14, val_main_v13, val_main_v12, val_main_v11, val_main_v10, val_main_v1, val_main_v0]
  rw [ref_gate, ref_gate]
  simp [merged, pre]

/-- What the three input windows hold at grid point `t`. -/
abbrev rowBlock0 (c : Dev nD) (t : Fin cfg0.N) : FVec Ideal S512x2048 .bf16 := iblk m c 0 t
@[inherit_doc rowBlock0] abbrev rowBlock1 (c : Dev nD) (t : Fin cfg0.N) : FVec Ideal S512x2048 .bf16 := iblk m c 1 t
@[inherit_doc rowBlock0] abbrev gateBlock (c : Dev nD) (t : Fin cfg0.N) : FVec Ideal S2x512x2048 .bf16 := iblk m c 2 t

/-- The token that row `r` of grid point `t` is. -/
def token (t : Fin cfg0.N) (r : Fin 512) : Fin 8192 :=
  ⟨t.val * 512 + r.val, by have := lt_of_lt_of_eq t.isLt N_0; omega⟩

/-- What the gate window stages: the pre-activations of the point's tokens. -/
theorem block_gate (c : Dev nD) (t : Fin cfg0.N) (k : Fin 2) (r : Fin 512) (d : Fin 2048) :
    gateBlock m c t (ix3 k r d) = pre (m ((c : Thread nD τ).loc main_arg2)) (m ((c : Thread nD τ).loc main_arg3)) k (token t r) d := by
  blk_simp [gateBlock, iblk]
  entry_read
  unfold token
  pointwise [pre]
  blk_point [idx t]

/-- What a point's windows hold of the two paths. -/
theorem block_row0 (c : Dev nD) (t : Fin cfg0.N) (r : Fin 512) (d : Fin 2048) :
    rowBlock0 m c t (ix2 r d) = m ((c : Thread nD τ).loc main_arg0) (ix2 (token t r) d) := by
  unfold token; blk_ext [rowBlock0, iblk, V, idx t]
@[inherit_doc block_row0] theorem block_row1 (c : Dev nD) (t : Fin cfg0.N) (r : Fin 512) (d : Fin 2048) :
    rowBlock1 m c t (ix2 r d) = m ((c : Thread nD τ).loc main_arg1) (ix2 (token t r) d) := by
  unfold token; blk_ext [rowBlock1, iblk, V, idx t]

/-- What a grid point leaves in its block of the merged rows, over what its windows hold. -/
theorem left3 (P Q : FVec Ideal S512x2048 .bf16) (Y : FVec Ideal S2x512x2048 .bf16) (r : Fin 512) (d : Fin 2048) :
    out0_3 (F := Ideal) P Q Y (ix2 r d) = merged (P (ix2 r d)) (Q (ix2 r d)) (Y (ix3 0 r d)) (Y (ix3 1 r d)) := by
  frame_out
  pointwise [k0_pay1, merged, Cert.Arith.half_tanh_half]

/-- The merged rows: the kernel's array is the reference's. -/
theorem final3 (c : Dev nD) : (dats m 0 c).arrAt 3 cfg0.N
    = val_main_v15 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t _ y => ?_
  blk_simp
  rw [after0_3]
  idx_vars y
  refine (left3 (rowBlock0 m c t) (rowBlock1 m c t) (gateBlock m c t) y0 y1).trans ?_
  simp only [block_row0, block_row1, block_gate]
  refine (ref_rows _ _ _ _ (token t y0) y1).symm.trans (congrArg _ ?_)
  unfold token
  blk_ext [idx t]

end Cert.MergeRows
-- ==== Proof.PrepRows.lean ====
/- The discretisation of the state space: what the kernel leaves of the discrete transition and of the discrete input matrix
   is what the reference's lines leave. -/
module

public import proofs.«01_k».proof.Proof.Gen.PrepFwdIdeal.Frame
public import proofs.«01_k».proof.Proof.Gen.PrepFwdRefIdeal.Run
public import proofs.«01_k».proof.Proof.Gen.PrepFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.PrepFwdRefIdeal.Read

namespace Cert.PrepRows

open Cert.PrepFwdIdeal Cert.PrepFwdIdeal.Gen

variable (m : (ℓ : Loc nD τ sig) → Buf (Elt Ideal) ℓ)

/-- Which block each window stages at the one grid point. -/
theorem idx : win0_0.index t0_0 = ![0, 0] ∧ win0_1.index t0_0 = ![0, 0] ∧ win0_2.index t0_0 = ![0, 0]
    ∧ win0_3.index t0_0 = ![0, 0, 0] ∧ win0_4.index t0_0 = ![0, 0, 0] ∧ win0_5.index t0_0 = ![0, 0]
    ∧ win0_6.index t0_0 = ![0, 0] ∧ win0_9.index t0_0 = ![0, 0, 0] ∧ win0_10.index t0_0 = ![0, 0, 0] := by decide +kernel

/-- One number per group as a column. -/
def col (x : FVec Ideal S64 .f32) : FVec Ideal S64x1 .f32 := fun i => x (ix1 (i 0))

/-- An array by group, state and channel with its channels laid out first. -/
def lead (x : FVec Ideal S64x64x16 .f32) : FVec Ideal S16x64x64 .f32 := fun i => x (ix3 (i 1) (i 2) (i 0))

section Body

variable (re im : FVec Ideal S64x64 .f32) (dt : FVec Ideal S64 .f32) (br bi : FVec Ideal S64x64x16 .f32)

/-- The discrete transition: decay times the cosine and the sine of the turn. -/
theorem transRe : k0_pay12 (F := Ideal) re im (col dt) = val_main_v8 (F := Ideal) re im dt := by
  funext i; idx_vars i
  pointwise [k0_pay12, k0_pay11, k0_pay10, k0_pay7, val_main_v8, val_main_v7, val_main_v6, val_main_v5, val_main_v4, val_main_v3,
    val_main_v2, val_main_v1, val_main_v0]
  rfl
@[inherit_doc transRe] theorem transIm : k0_pay13 (F := Ideal) re im (col dt) = val_main_v12 (F := Ideal) re im dt := by
  funext i; idx_vars i
  pointwise [k0_pay13, k0_pay11, k0_pay10, k0_pay7, val_main_v12, val_main_v11, val_main_v10, val_main_v9, val_main_v4, val_main_v3,
    val_main_v2, val_main_v1, val_main_v0]
  rfl

/-- The squared length of the continuous pole. -/
theorem square : k0_pay14 (F := Ideal) re im = val_main_v15 (F := Ideal) re im := by
  funext i; idx_vars i; pointwise [k0_pay14, val_main_v15, val_main_v14, val_main_v13]

/-- The transition less one. -/
theorem lessOne : k0_pay15 (F := Ideal) re im (col dt) = val_main_v17 (F := Ideal) re im dt := by
  funext i; idx_vars i; pointwise [k0_pay15, val_main_v17, val_main_v16, val_main_cst]; rw [transRe]

/-- The factor of the input matrix, its real and its imaginary part. -/
theorem factorRe : k0_pay16 (F := Ideal) re im (col dt) = val_main_v21 (F := Ideal) re im dt := by
  funext i; idx_vars i; pointwise [k0_pay16, val_main_v21, val_main_v20, val_main_v19, val_main_v18]; rw [lessOne, transIm, square]
@[inherit_doc factorRe] theorem factorIm : k0_pay17 (F := Ideal) re im (col dt) = val_main_v25 (F := Ideal) re im dt := by
  funext i; idx_vars i; pointwise [k0_pay17, val_main_v25, val_main_v24, val_main_v23, val_main_v22]; rw [lessOne, transIm, square]

/-- What the kernel stores of each result. -/
theorem left5 (i : S64x64.Idx) : out0_5 (F := Ideal) re im (col dt) (lead br) (lead bi) i = val_main_v8 (F := Ideal) re im dt i := by
  rw [← transRe]; idx_vars i; frame_out
@[inherit_doc left5] theorem left6 (i : S64x64.Idx) :
    out0_6 (F := Ideal) re im (col dt) (lead br) (lead bi) i = val_main_v12 (F := Ideal) re im dt i := by
  rw [← transIm]; idx_vars i; frame_out
@[inherit_doc left5] theorem left9 (i : S16x64x64.Idx) :
    out0_9 (F := Ideal) re im (col dt) (lead br) (lead bi) i = val_main_v40 (F := Ideal) re im dt br bi i := by
  idx_vars i
  frame_out
  pointwise [k0_pay18, k0_pay8, k0_pay9, val_main_v40, val_main_v32, val_main_v31, val_main_v30, val_main_v29, val_main_v28,
    val_main_v27, val_main_v26]
  rw [factorRe, factorIm]
  rfl
@[inherit_doc left5] theorem left10 (i : S16x64x64.Idx) :
    out0_10 (F := Ideal) re im (col dt) (lead br) (lead bi) i = val_main_v41 (F := Ideal) re im dt br bi i := by
  idx_vars i
  frame_out
  pointwise [k0_pay19, k0_pay8, k0_pay9, val_main_v41, val_main_v39, val_main_v38, val_main_v37, val_main_v36, val_main_v35,
    val_main_v34, val_main_v33]
  rw [factorRe, factorIm]
  rfl

end Body

/-- The block of window 0 at the one grid point: the whole of argument 0, as the host lays it out. -/
theorem block0 (c : Dev nD) : (iblk m c 0 t0_0 : FVec Ideal S64x64 .f32) = (m ((c : Thread nD τ).loc main_arg0)) := by
  funext i
  idx_vars i
  blk_simp [iblk, V]
  entry_read
  blk_point [idx]

/-- The block of window 1 at the one grid point: the whole of argument 1, as the host lays it out. -/
theorem block1 (c : Dev nD) : (iblk m c 1 t0_0 : FVec Ideal S64x64 .f32) = (m ((c : Thread nD τ).loc main_arg1)) := by
  funext i
  idx_vars i
  blk_simp [iblk, V]
  entry_read
  blk_point [idx]

/-- The block of window 2 at the one grid point: the whole of argument 2, as the host lays it out. -/
theorem block2 (c : Dev nD) : (iblk m c 2 t0_0 : FVec Ideal S64x1 .f32) = col (m ((c : Thread nD τ).loc main_arg2)) := by
  funext i
  idx_vars i
  blk_simp [iblk, V]
  entry_read
  pointwise []
  unfold col
  blk_point [idx]

/-- The block of window 3 at the one grid point: the whole of argument 3, as the host lays it out. -/
theorem block3 (c : Dev nD) : (iblk m c 3 t0_0 : FVec Ideal S16x64x64 .f32) = lead (m ((c : Thread nD τ).loc main_arg3)) := by
  funext i
  idx_vars i
  blk_simp [iblk, V]
  entry_read
  pointwise []
  unfold lead
  blk_point [idx]

/-- The block of window 4 at the one grid point: the whole of argument 4, as the host lays it out. -/
theorem block4 (c : Dev nD) : (iblk m c 4 t0_0 : FVec Ideal S16x64x64 .f32) = lead (m ((c : Thread nD τ).loc main_arg4)) := by
  funext i
  idx_vars i
  blk_simp [iblk, V]
  entry_read
  pointwise []
  unfold lead
  blk_point [idx]

/-- Result 5: the kernel's array is the reference's. -/
theorem final5 (c : Dev nD) : (dats m 0 c).arrAt 5 cfg0.N
    = val_main_v8 (F := Ideal) (m ((c : Thread nD τ).loc main_arg0)) (m ((c : Thread nD τ).loc main_arg1)) (m ((c : Thread nD τ).loc main_arg2)) := by
  refine (dats m 0 c).arrAt_eq_of_after_last 5 t0_0 (by decide +kernel) _ fun j => ?_
  blk_simp
  rw [after0_5, block0, block1, block2, block3, block4]
  idx_vars j
  exact left5 _ _ _ _ _ _

/-- Result 6: the kernel's array is the reference's. -/
theorem final6 (c : Dev nD) : (dats m 0 c).arrAt 6 cfg0.N
    = val_main_v12 (F := Ideal) (m ((c : Thread nD τ).loc main_arg0)) (m ((c : Thread nD τ).loc main_arg1)) (m ((c : Thread nD τ).loc main_arg2)) := by
  refine (dats m 0 c).arrAt_eq_of_after_last 6 t0_0 (by decide +kernel) _ fun j => ?_
  blk_simp
  rw [after0_6, block0, block1, block2, block3, block4]
  idx_vars j
  exact left6 _ _ _ _ _ _

/-- Result 9: the kernel's array is the reference's. -/
theorem final9 (c : Dev nD) : (dats m 0 c).arrAt 9 cfg0.N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 t0_0 (by decide +kernel) _ fun j => ?_
  blk_simp
  rw [after0_9, block0, block1, block2, block3, block4]
  idx_vars j
  exact left9 _ _ _ _ _ _

/-- Result 10: the kernel's array is the reference's. -/
theorem final10 (c : Dev nD) : (dats m 0 c).arrAt 10 cfg0.N
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 10 t0_0 (by decide +kernel) _ fun j => ?_
  blk_simp
  rw [after0_10, block0, block1, block2, block3, block4]
  idx_vars j
  exact left10 _ _ _ _ _ _

end Cert.PrepRows
-- ==== Proof.Powers.lean ====
/- The powers of the discrete transition: the kernel takes the exponential and the turn over the whole number of steps, the
   reference multiplies the one-step transition step by step, and over the reals both are the same power. -/
module

public import proofs.«01_k».proof.Proof.Reals
public import proofs.«01_k».proof.Proof.Gen.PowersIdeal.Frame
public import proofs.«01_k».proof.Proof.Gen.PowersRefIdeal.Run
public import proofs.«01_k».proof.Proof.Gen.PowersRefIdeal.Step
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PowerRows

/-- The real and the imaginary part of `e ^ (n (x + i y))`. -/
def powRe (x y : ℝ) (n : ℕ) : ℝ := Real.exp (n * x) * Real.cos (n * y)
@[inherit_doc powRe] def powIm (x y : ℝ) (n : ℕ) : ℝ := Real.exp (n * x) * Real.sin (n * y)

/-- One step further multiplies by the number. -/
theorem powRe_succ (x y : ℝ) (n : ℕ) : powRe x y (n + 1) = powRe x y 1 * powRe x y n - powIm x y 1 * powIm x y n := by
  simp only [powRe, powIm, Nat.cast_add, Nat.cast_one, add_mul, one_mul, Real.exp_add, Real.cos_add]; ring
@[inherit_doc powRe_succ] theorem powIm_succ (x y : ℝ) (n : ℕ) : powIm x y (n + 1) = powRe x y 1 * powIm x y n + powIm x y 1 * powRe x y n := by
  simp only [powRe, powIm, Nat.cast_add, Nat.cast_one, add_mul, one_mul, Real.exp_add, Real.sin_add]; ring

/-- The shapes of the stacked powers, of one power, and of the step sizes. -/
abbrev Stack : Shape := ⟨3, ![32, 64, 64]⟩
@[inherit_doc Stack] abbrev Plane : Shape := ⟨2, ![64, 64]⟩
@[inherit_doc Stack] abbrev Line : Shape := ⟨1, ![64]⟩

section Numbers

variable (re im : Plane.Idx → ℝ) (dt : Line.Idx → ℝ)

/-- The exponent and the turn of one step, of one state of one group. -/
def rate (g p : Fin 64) : ℝ := re (ix2 g p) * Real.exp (dt (ix1 g))
@[inherit_doc rate] def turn (g p : Fin 64) : ℝ := im (ix2 g p) * Real.exp (dt (ix1 g))

/-- The powers of every group and state, the first power first. -/
def stackRe : FVec Ideal Stack .f32 := fun i => ((powRe (rate re dt (i 1) (i 2)) (turn im dt (i 1) (i 2)) ((i 0).val + 1) : ℝ) : EReal)
@[inherit_doc stackRe] def stackIm : FVec Ideal Stack .f32 :=
  fun i => ((powIm (rate re dt (i 1) (i 2)) (turn im dt (i 1) (i 2)) ((i 0).val + 1) : ℝ) : EReal)

end Numbers

section Reference

open Cert.PowersRefIdeal Cert.PowersRefIdeal.Step Cert.PowersRefIdeal.Gen Cert.PowersRefIdeal.Value
open Idealize.ShloMosaic.StableHlo

/-- One row of a stack replaced. -/
theorem put (x : FVec Ideal S32x64x64 .f32) (u : FVec Ideal S1x64x64 .f32) (start : Fin 3 → ℤ) (h) (k : ℕ) (hk : k < 32)
    (h0 : start 0 = k) (h1 : start 1 = 0) (h2 : start 2 = 0) (n : Fin 32) (g p : Fin 64) :
    Host.dynamicUpdateSlice x u start h (ix3 n g p) = if n.val = k then u (ix3 0 g p) else x (ix3 n g p) := by
  have c0 : Host.clampedStart S32x64x64 S1x64x64 h.1 start 0 = k := Host.clampedStart_of_le _ _ 0 k h0 (by show k + 1 ≤ 32; omega)
  have c1 : Host.clampedStart S32x64x64 S1x64x64 h.1 start 1 = 0 := Host.clampedStart_of_le _ _ 1 0 h1 (by show 0 + 64 ≤ 64; omega)
  have c2 : Host.clampedStart S32x64x64 S1x64x64 h.1 start 2 = 0 := Host.clampedStart_of_le _ _ 2 0 h2 (by show 0 + 64 ≤ 64; omega)
  rw [Host.dynamicUpdateSlice_apply]
  by_cases e : n.val = k
  · rw [if_pos e, dif_pos (fun a => by
      fin_cases a
      · exact ⟨by show _ ≤ n.val; erw [c0]; omega, by show n.val < _ + 1; erw [c0]; omega⟩
      · exact ⟨by show _ ≤ g.val; erw [c1]; omega, by show g.val < _ + 64; erw [c1]; omega⟩
      · exact ⟨by show _ ≤ p.val; erw [c2]; omega, by show p.val < _ + 64; erw [c2]; omega⟩)]
    refine congrArg u (funext fun a => Fin.ext ?_)
    fin_cases a
    · show n.val - _ = 0; erw [c0]; omega
    · show g.val - _ = g.val; erw [c1]; omega
    · show p.val - _ = p.val; erw [c2]; omega
  · rw [if_neg e, dif_neg (fun hin => e (by
      have a := (hin 0).1; have b := (hin 0).2
      replace a : Host.clampedStart S32x64x64 S1x64x64 h.1 start 0 ≤ n.val := a
      replace b : n.val < Host.clampedStart S32x64x64 S1x64x64 h.1 start 0 + 1 := b
      rw [c0] at a b; omega))]

/-- The number of a trip as the loop reads it. -/
theorem toInt_trip : ∀ k : Fin 32, (BitVec.ofNat 32 k.val : BitVec 32).toInt = k.val := by decide +kernel

variable (re im : Plane.Idx → ℝ) (dt : Line.Idx → ℝ)

/-- The reference's one-step transition. -/
theorem oneRe (g p : Fin 64) : A_main_v8 (F := Ideal) (fun i => (re i : EReal)) (fun i => (im i : EReal)) (fun i => (dt i : EReal)) (ix2 g p)
    = ((powRe (rate re dt g p) (turn im dt g p) 1 : ℝ) : EReal) := by
  pointwise [A_main_v8, A_main_v7, A_main_v6, A_main_v5, A_main_v4, A_main_v3, A_main_v2, A_main_v1, A_main_v0]
  simp only [powRe, rate, turn, Nat.cast_one, one_mul, EReal.coe_mul]
  rfl
@[inherit_doc oneRe] theorem oneIm (g p : Fin 64) : A_main_v12 (F := Ideal) (fun i => (re i : EReal)) (fun i => (im i : EReal)) (fun i => (dt i : EReal)) (ix2 g p)
    = ((powIm (rate re dt g p) (turn im dt g p) 1 : ℝ) : EReal) := by
  pointwise [A_main_v12, A_main_v11, A_main_v10, A_main_v9, A_main_v4, A_main_v3, A_main_v2, A_main_v1, A_main_v0]
  simp only [powIm, rate, turn, Nat.cast_one, one_mul, EReal.coe_mul]
  rfl

/-- What the loop holds before trip `k`: the transition, its `k`-th power, the powers so far, and the trip's number. -/
structure Upto (k : ℕ) (v : Valuation τ sig (Elt Ideal)) : Prop where
  re1 : ∀ g p, (v (Proc.devRef .tc main_v44_0) : FVec Ideal S64x64 .f32) (ix2 g p) = ((powRe (rate re dt g p) (turn im dt g p) 1 : ℝ) : EReal)
  im1 : ∀ g p, (v (Proc.devRef .tc main_v44_1) : FVec Ideal S64x64 .f32) (ix2 g p) = ((powIm (rate re dt g p) (turn im dt g p) 1 : ℝ) : EReal)
  curRe : ∀ g p, (v (Proc.devRef .tc main_v44_3) : FVec Ideal S64x64 .f32) (ix2 g p) = ((powRe (rate re dt g p) (turn im dt g p) k : ℝ) : EReal)
  curIm : ∀ g p, (v (Proc.devRef .tc main_v44_4) : FVec Ideal S64x64 .f32) (ix2 g p) = ((powIm (rate re dt g p) (turn im dt g p) k : ℝ) : EReal)
  rows : ∀ (n : Fin 32) g p, n.val < k → (v (Proc.devRef .tc main_v44_5) : FVec Ideal S32x64x64 .f32) (ix3 n g p)
    = ((powRe (rate re dt g p) (turn im dt g p) (n.val + 1) : ℝ) : EReal)
  rowsIm : ∀ (n : Fin 32) g p, n.val < k → (v (Proc.devRef .tc main_v44_6) : FVec Ideal S32x64x64 .f32) (ix3 n g p)
    = ((powIm (rate re dt g p) (turn im dt g p) (n.val + 1) : ℝ) : EReal)
  trip : v (Proc.devRef .tc main_v44_2) = (fun _ => BitVec.ofNat 32 k)

/-- One trip multiplies by the transition and stores the product. -/
theorem Upto.next {re im dt} {k : ℕ} (hk : k < 32) {v : Valuation τ sig (Elt Ideal)} (h : Upto re im dt k v) :
    Upto re im dt (k + 1) (STEP v) := by
  have e2 : ∀ g p, (res_main_while0b_v47 v : FVec Ideal S64x64 .f32) (ix2 g p)
      = ((powRe (rate re dt g p) (turn im dt g p) (k + 1) : ℝ) : EReal) := fun g p => by
    pointwise [res_main_while0b_v47]
    rw [h.re1, h.im1, h.curRe, h.curIm, powRe_succ _ _ k, EReal.coe_sub, EReal.coe_mul, EReal.coe_mul]
  have e5 : ∀ g p, (res_main_while0b_v50 v : FVec Ideal S64x64 .f32) (ix2 g p)
      = ((powIm (rate re dt g p) (turn im dt g p) (k + 1) : ℝ) : EReal) := fun g p => by
    pointwise [res_main_while0b_v50]
    rw [h.re1, h.im1, h.curRe, h.curIm, powIm_succ _ _ k, EReal.coe_add, EReal.coe_mul, EReal.coe_mul]
  have at0 : ((v (Proc.devRef .tc main_v44_2) : IVec S_ 32) (Shape.Idx.first h_S_)).toInt = k := by
    rw [h.trip]; exact toInt_trip ⟨k, hk⟩
  refine ⟨fun g p => ?_, fun g p => ?_, fun g p => ?_, fun g p => ?_, fun n g p hn => ?_, fun n g p hn => ?_, ?_⟩
  · rw [STEP_main_v44_0]; exact h.re1 g p
  · rw [STEP_main_v44_1]; exact h.im1 g p
  · rw [STEP_main_v44_3]; exact e2 g p
  · rw [STEP_main_v44_4]; exact e5 g p
  · rw [STEP_main_v44_5]
    refine (put _ _ _ updateFits_S32x64x64_S1x64x64 k hk at0 rfl rfl n g p).trans ?_
    by_cases e : n.val = k
    · rw [if_pos e, e]; pointwise []; exact e2 g p
    · rw [if_neg e]; exact h.rows n g p (by omega)
  · rw [STEP_main_v44_6]
    refine (put _ _ _ updateFits_S32x64x64_S1x64x64 k hk at0 rfl rfl n g p).trans ?_
    by_cases e : n.val = k
    · rw [if_pos e, e]; pointwise []; exact e5 g p
    · rw [if_neg e]; exact h.rowsIm n g p (by omega)
  · rw [STEP_main_v44_2]
    unfold step_main_v44_2
    rw [h.trip]
    funext i
    show BitVec.ofNat 32 k + 1#32 = BitVec.ofNat 32 (k + 1)
    simp only [BitVec.ofNat_add]

variable (m : (ℓ : Loc nD τ sig) → Buf (Elt Ideal) ℓ) (c : Dev nD)

set_option maxRecDepth 65536 in
/-- What the loop starts from. -/
theorem entry {re im dt} (hre : m ((c.tc : Thread nD τ).loc main_arg0) = fun i => (re i : EReal))
    (him : m ((c.tc : Thread nD τ).loc main_arg1) = fun i => (im i : EReal))
    (hdt : m ((c.tc : Thread nD τ).loc main_arg2) = fun i => (dt i : EReal)) : Upto re im dt 0 (entryContents preI m c) := by
  have a0 : entryContents preI m c (Proc.devRef .tc main_v44_0) = A_main_v8 (F := Ideal) (m ((c.tc : Thread nD τ).loc main_arg0))
      (m ((c.tc : Thread nD τ).loc main_arg1)) (m ((c.tc : Thread nD τ).loc main_arg2)) := by
    simp only [entryContents, afterL_cons, afterL_nil]; after_reads_simp; rfl
  have a1 : entryContents preI m c (Proc.devRef .tc main_v44_1) = A_main_v12 (F := Ideal) (m ((c.tc : Thread nD τ).loc main_arg0))
      (m ((c.tc : Thread nD τ).loc main_arg1)) (m ((c.tc : Thread nD τ).loc main_arg2)) := by
    simp only [entryContents, afterL_cons, afterL_nil]; after_reads_simp; rfl
  have a3 : entryContents preI m c (Proc.devRef .tc main_v44_3) = K_main_v40 (F := Ideal) := by
    simp only [entryContents, afterL_cons, afterL_nil]; after_reads_simp; rfl
  have a4 : entryContents preI m c (Proc.devRef .tc main_v44_4) = K_main_v41 (F := Ideal) := by
    simp only [entryContents, afterL_cons, afterL_nil]; after_reads_simp; rfl
  refine ⟨fun g p => ?_, fun g p => ?_, fun g p => ?_, fun g p => ?_, fun n _ _ hn => absurd hn (Nat.not_lt_zero _),
      fun n _ _ hn => absurd hn (Nat.not_lt_zero _), ctr_entry m c⟩
  · rw [a0, hre, him, hdt]; exact oneRe re im dt g p
  · rw [a1, hre, him, hdt]; exact oneIm re im dt g p
  · rw [a3]
    pointwise [K_main_v40, K_main_cst_0]
    simp [powRe]
  · rw [a4]
    pointwise [K_main_v41, K_main_cst_1]
    simp [powIm]

/-- Every state of the loop. -/
theorem upto {re im dt} (h : Upto re im dt 0 (entryContents preI m c)) : ∀ k, k ≤ 32 → Upto re im dt k (STEP^[k] (entryContents preI m c))
  | 0, _ => h
  | k + 1, hk => by
    rw [Function.iterate_succ_apply']
    exact (upto h k (by omega)).next (by omega)

/-- The loop's results: all the powers. -/
theorem after32 {re im dt} (hre : m ((c.tc : Thread nD τ).loc main_arg0) = fun i => (re i : EReal))
    (him : m ((c.tc : Thread nD τ).loc main_arg1) = fun i => (im i : EReal))
    (hdt : m ((c.tc : Thread nD τ).loc main_arg2) = fun i => (dt i : EReal)) :
    (STEP^[32] (entryContents preI m c)) (Proc.devRef .tc main_v44_5) = stackRe re im dt
      ∧ (STEP^[32] (entryContents preI m c)) (Proc.devRef .tc main_v44_6) = stackIm re im dt := by
  have h := upto m c (entry m c hre him hdt) 32 le_rfl
  constructor
  · funext i; idx_vars i; exact h.rows _ _ _ (Fin.isLt _)
  · funext i; idx_vars i; exact h.rowsIm _ _ _ (Fin.isLt _)

end Reference

section Kernel

open Cert.PowersIdeal Cert.PowersIdeal.Gen

/-- One number per group as a column. -/
def col (x : FVec Ideal S64 .f32) : FVec Ideal S64x1 .f32 := fun i => x (ix1 (i 0))

variable (re im : Plane.Idx → ℝ) (dt : Line.Idx → ℝ) (br bi : FVec Ideal S16x64x64 .f32)

/-- The number of steps of a row, as the kernel counts them. -/
theorem steps (n : Fin 32) : FloatOps.sitofp (F := Ideal) .f32 (BitVec.ofNat 32 n.val) + (1 : EReal) = (((n.val + 1 : ℕ) : ℝ) : EReal) := by
  have e : FloatOps.sitofp (F := Ideal) .f32 (BitVec.ofNat 32 n.val) = (((BitVec.ofNat 32 n.val : BitVec 32).toInt : ℝ) : EReal) := rfl
  rw [e, toInt_trip n]
  push_cast
  rfl

/-- What the kernel stores of each power. -/
theorem left7 (n : Fin 32) (g p : Fin 64) :
    out0_7 (F := Ideal) (fun i => (re i : EReal)) (fun i => (im i : EReal)) (col fun i => (dt i : EReal)) br bi (ix3 n g p)
      = ((powRe (rate re dt g p) (turn im dt g p) (n.val + 1) : ℝ) : EReal) := by
  frame_out [k0_pay20]
  pointwise [k0_pay5, k0_pay3, k0_pay4, k0_pay2, k0_pay1, k0_pay7]
  rw [steps, powRe, rate, turn, EReal.coe_mul, mul_comm (((n.val + 1 : ℕ) : ℝ)), mul_comm (((n.val + 1 : ℕ) : ℝ))]
  rfl
@[inherit_doc left7] theorem left8 (n : Fin 32) (g p : Fin 64) :
    out0_8 (F := Ideal) (fun i => (re i : EReal)) (fun i => (im i : EReal)) (col fun i => (dt i : EReal)) br bi (ix3 n g p)
      = ((powIm (rate re dt g p) (turn im dt g p) (n.val + 1) : ℝ) : EReal) := by
  frame_out [k0_pay20]
  pointwise [k0_pay6, k0_pay3, k0_pay4, k0_pay2, k0_pay1, k0_pay7]
  rw [steps, powIm, rate, turn, EReal.coe_mul, mul_comm (((n.val + 1 : ℕ) : ℝ)), mul_comm (((n.val + 1 : ℕ) : ℝ))]
  rfl

variable (m : (ℓ : Loc nD τ sig) → Buf (Elt Ideal) ℓ) (c : Dev nD)

/-- Which block each window stages at the one grid point. -/
theorem idx : win0_0.index t0_0 = ![0, 0] ∧ win0_1.index t0_0 = ![0, 0] ∧ win0_2.index t0_0 = ![0, 0]
    ∧ win0_7.index t0_0 = ![0, 0, 0] ∧ win0_8.index t0_0 = ![0, 0, 0] := by decide +kernel

/-- The blocks of the exponents and the turns: the arguments whole. -/
theorem block0 : (iblk m c 0 t0_0 : FVec Ideal S64x64 .f32) = m ((c : Thread nD τ).loc main_arg0) := by
  funext i; idx_vars i; blk_simp [iblk, V]; entry_read; blk_point [idx]
@[inherit_doc block0] theorem block1 : (iblk m c 1 t0_0 : FVec Ideal S64x64 .f32) = m ((c : Thread nD τ).loc main_arg1) := by
  funext i; idx_vars i; blk_simp [iblk, V]; entry_read; blk_point [idx]

/-- The block of the step sizes: the argument as a column. -/
theorem block2 : (iblk m c 2 t0_0 : FVec Ideal S64x1 .f32) = col (m ((c : Thread nD τ).loc main_arg2)) := by
  funext i; idx_vars i; blk_simp [iblk, V]; entry_read; pointwise []; unfold col; blk_point [idx]

variable (hre : m ((c.tc : Thread nD τ).loc main_arg0) = fun i => (re i : EReal))
  (him : m ((c.tc : Thread nD τ).loc main_arg1) = fun i => (im i : EReal))
  (hdt : m ((c.tc : Thread nD τ).loc main_arg2) = fun i => (dt i : EReal))

include hre him hdt

/-- Each result of the kernel: all the powers. -/
theorem final7 : (dats m 0 c).arrAt 7 cfg0.N = stackRe re im dt := by
  refine (dats m 0 c).arrAt_eq_of_after_last 7 t0_0 (by decide +kernel) _ fun j => ?_
  blk_simp
  rw [after0_7, block0, block1, block2]
  idx_vars j
  exact (congrFun (by rw [hre, him, hdt]) _).trans (left7 re im dt _ _ _ _ _)
@[inherit_doc final7] theorem final8 : (dats m 0 c).arrAt 8 cfg0.N = stackIm re im dt := by
  refine (dats m 0 c).arrAt_eq_of_after_last 8 t0_0 (by decide +kernel) _ fun j => ?_
  blk_simp
  rw [after0_8, block0, block1, block2]
  idx_vars j
  exact (congrFun (by rw [hre, him, hdt]) _).trans (left8 re im dt _ _ _ _ _)

end Kernel

end Cert.PowerRows
-- ==== Proof.SwigluRows.lean ====
/- A SwiGLU gate fused with the two products before it: what the kernel leaves of the products and of the gate is what the
   reference's lines leave. -/
module

public import proofs.«01_k».proof.Proof.Arith
public import proofs.«01_k».proof.Proof.Gen.SwigluFwdIdeal.Frame
public import proofs.«01_k».proof.Proof.Gen.SwigluFwdRefIdeal.Run
public import proofs.«01_k».proof.Proof.Gen.SwigluFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SwigluFwdRefIdeal.Read

namespace Cert.SwigluRows

open Cert.SwigluFwdIdeal Cert.SwigluFwdIdeal.Gen

variable (m : (ℓ : Loc nD τ sig) → Buf (Elt Ideal) ℓ)

/-- Which block each window stages at grid point `t`. -/
theorem idx : ∀ t : Fin cfg0.N, win0_0.index t = ![t.val / 8, 0, 0, 0] ∧ win0_1.index t = ![t.val % 8, 0]
    ∧ win0_2.index t = ![t.val / 8, 0, 0, t.val % 8] ∧ win0_3.index t = ![t.val / 8, 0, t.val % 8] :=
  (by decide +kernel : ∀ t : Fin grid0.N, _)

/-- One of the gate's inputs: token `t`'s row of the hidden features times column `f` of a weight. -/
def feature (h : FVec Ideal S8192x2048 .bf16) (w : FVec Ideal S2048x5632 .f32) (t : Fin 8192) (f : Fin 5632) : EReal :=
  ∑ d : Fin 2048, h (ix2 t d) * w (ix2 d f)

/-- The gate of its input `a` under the sigmoid and `b` beside it. -/
def gate (a b : EReal) : EReal := a * Ideal.logistic a * b

/-- Feature `r` of shard `n`. -/
def col (n : Fin 8) (r : Fin 704) : Fin 5632 := ⟨n.val * 704 + r.val, by omega⟩

section Reference

variable (h : FVec Ideal S8192x2048 .bf16) (wg wu : FVec Ideal S2048x5632 .f32)

/-- The reference's two inputs of the gate, and the gate. -/
theorem ref_a (t : Fin 8192) (f : Fin 5632) : val_main_v1 (F := Ideal) h wg (ix2 t f) = feature h wg t f := by
  pointwise [val_main_v1, val_main_v0, feature]
@[inherit_doc ref_a] theorem ref_b (t : Fin 8192) (f : Fin 5632) : val_main_v2 (F := Ideal) h wu (ix2 t f) = feature h wu t f := by
  pointwise [val_main_v2, val_main_v0, feature]
@[inherit_doc ref_a] theorem ref_gate (t : Fin 8192) (f : Fin 5632) :
    val_main_v12 (F := Ideal) h wg wu (ix2 t f) = gate (feature h wg t f) (feature h wu t f) := by
  pointwise [val_main_v12, val_main_v11, val_main_call0_v5, val_main_call0_v4, val_main_call0_cst_0, val_main_call0_v3,
    val_main_call0_v2, val_main_call0_cst, val_main_call0_v1, val_main_call0_v0]
  rw [ref_a, ref_b]
  rfl

/-- The two products as the reference leaves them, the features as rows and by shard. -/
theorem ref_pair (n : Fin 8) (k : Fin 2) (r : Fin 704) (t : Fin 8192) :
    val_main_v10 (F := Ideal) h wg wu (ix4 n k r t) = feature h (if k.val = 0 then wg else wu) t (col n r) := by
  pointwise [val_main_v10, val_main_v9, val_main_v8, val_main_v7, val_main_v6, val_main_v5, val_main_v4, val_main_v3]
  by_cases hk : k.val = 0
  · rw [dif_pos (by omega), if_pos hk]
    exact ref_a h wg t (col n r)
  · rw [dif_neg (by omega), if_neg hk]
    exact ref_b h wu t (col n r)

/-- The gate as the reference leaves it, the features as rows and by shard. -/
theorem ref_gates (n : Fin 8) (r : Fin 704) (t : Fin 8192) :
    val_main_v15 (F := Ideal) h wg wu (ix3 n r t) = gate (feature h wg t (col n r)) (feature h wu t (col n r)) := by
  pointwise [val_main_v15, val_main_v14, val_main_v13]
  exact ref_gate h wg wu t (col n r)

end Reference

/-- What the two input windows hold at grid point `t`. -/
abbrev weightBlock (c : Dev nD) (t : Fin cfg0.N) : FVec Ideal S1x2x704x2048 .bf16 := iblk m c 0 t
@[inherit_doc weightBlock] abbrev rowBlock (c : Dev nD) (t : Fin cfg0.N) : FVec Ideal S1024x2048 .bf16 := iblk m c 1 t

/-- The shard that a grid point handles, and the token that its row `r` is. -/
def shard (t : Fin cfg0.N) : Fin 8 := ⟨t.val / 8, by have := lt_of_lt_of_eq t.isLt N_0; omega⟩
@[inherit_doc shard] def token (t : Fin cfg0.N) (r : Fin 1024) : Fin 8192 := ⟨t.val % 8 * 1024 + r.val, by omega⟩

/-- What a point's windows hold of the arguments. -/
theorem block_row (c : Dev nD) (t : Fin cfg0.N) (r : Fin 1024) (d : Fin 2048) :
    rowBlock m c t (ix2 r d) = m ((c : Thread nD τ).loc main_arg0) (ix2 (token t r) d) := by
  unfold token; blk_ext [rowBlock, iblk, V, idx t]

/-- The packed weights as the region finds them: the two weights' columns as rows, by shard. -/
theorem packed (c : Dev nD) (n : Fin 8) (k : Fin 2) (r : Fin 704) (d : Fin 2048) :
    (V m c main_v8 : FVec Ideal S8x2x704x2048 .bf16) (ix4 n k r d)
      = (if k.val = 0 then m ((c : Thread nD τ).loc main_arg1) else m ((c : Thread nD τ).loc main_arg2)) (ix2 d (col n r)) := by
  rcases (show k = 0 ∨ k = 1 by omega) with rfl | rfl
  · rw [if_pos (show (0 : Fin 2).val = 0 from rfl)]
    entry_read
    pointwise

    rfl
  · rw [if_neg (by decide)]
    entry_read
    pointwise

    rfl

/-- What a point's weight window holds of them. -/
theorem block_weight (c : Dev nD) (t : Fin cfg0.N) (k : Fin 2) (r : Fin 704) (d : Fin 2048) :
    weightBlock m c t (ix4 0 k r d)
      = (if k.val = 0 then m ((c : Thread nD τ).loc main_arg1) else m ((c : Thread nD τ).loc main_arg2)) (ix2 d (col (shard t) r)) := by
  refine Eq.trans ?_ (packed m c (shard t) k r d)
  unfold shard; blk_ext [weightBlock, iblk, idx t]

/-- A product of a point's weight block with its rows. -/
def part (W : FVec Ideal S1x2x704x2048 .bf16) (H : FVec Ideal S1024x2048 .bf16) (k : Fin 2) (r : Fin 704) (s : Fin 1024) : EReal :=
  ∑ d : Fin 2048, W (ix4 0 k r d) * H (ix2 s d)

/-- A point's product is the reference's feature. -/
theorem part_eq (c : Dev nD) (t : Fin cfg0.N) (k : Fin 2) (r : Fin 704) (s : Fin 1024) :
    part (weightBlock m c t) (rowBlock m c t) k r s
      = feature (m ((c : Thread nD τ).loc main_arg0))
          (if k.val = 0 then m ((c : Thread nD τ).loc main_arg1) else m ((c : Thread nD τ).loc main_arg2)) (token t s) (col (shard t) r) := by
  refine Finset.sum_congr rfl fun d _ => ?_
  rw [block_weight, block_row, mul_comm]

/-- What grid point `t` leaves in the block of the two products, over what its windows hold. -/
theorem left2 (W : FVec Ideal S1x2x704x2048 .bf16) (H : FVec Ideal S1024x2048 .bf16) (k : Fin 2) (r : Fin 704) (s : Fin 1024) :
    out0_2 (F := Ideal) W H (ix4 0 k r s) = part W H k r s := by
  frame_out
  canon_tiles x h
  all_goals
    open_payloads
    pointwise
    obtain rfl : r = x 2 := Fin.ext h2
    obtain rfl : s = x 3 := Fin.ext h3
    have hk : k.val = _ := h1
    rcases (show k.val = 0 ∨ k.val = 1 by omega) with e | e
    · first | (exfalso; omega) | (obtain rfl : k = 0 := Fin.ext e; rfl)
    · first | (exfalso; omega) | (obtain rfl : k = 1 := Fin.ext e; rfl)

/-- What grid point `t` leaves in the block of the gate, over what its windows hold. -/
theorem left3 (W : FVec Ideal S1x2x704x2048 .bf16) (H : FVec Ideal S1024x2048 .bf16) (r : Fin 704) (s : Fin 1024) :
    out0_3 (F := Ideal) W H (ix3 0 r s) = gate (part W H 0 r s) (part W H 1 r s) := by
  frame_out
  pointwise [k0_pay1, k0_pay6, k0_pay2, k0_pay3, Cert.Arith.half_tanh_half, gate, part]

/-- The two products: the kernel's array is the reference's. -/
theorem final2 (c : Dev nD) : (dats m 0 c).arrAt 2 cfg0.N
    = val_main_v10 (F := Ideal) (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  idx_vars y
  obtain rfl : y0 = 0 := Subsingleton.elim _ _
  refine (left2 (weightBlock m c t) (rowBlock m c t) y1 y2 y3).trans ?_
  rw [part_eq]
  refine (ref_pair _ _ _ (shard t) y1 y2 (token t y3)).symm.trans (congrArg _ ?_)
  unfold shard token
  blk_ext [idx t]

/-- The gate: the kernel's array is the reference's. -/
theorem final3 (c : Dev nD) : (dats m 0 c).arrAt 3 cfg0.N
    = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  obtain rfl : y0 = 0 := Subsingleton.elim _ _
  refine (left3 (weightBlock m c t) (rowBlock m c t) y1 y2).trans ?_
  rw [part_eq, part_eq]
  refine (ref_gates _ _ _ (shard t) y1 (token t y2)).symm.trans (congrArg _ ?_)
  unfold shard token
  blk_ext [idx t]

end Cert.SwigluRows
-- ==== Proof.SguRowsFwd.lean ====
/- The spatial gating unit itself: what the kernel leaves of the gated rows is what the reference's lines leave. -/
module

public import proofs.«01_k».proof.Proof.SguTiles
public import proofs.«01_k».proof.Proof.SguRows
public import proofs.«01_k».proof.Proof.Gen.SguFwdIdeal.Frame
public import proofs.«01_k».proof.Proof.Gen.SguFwdRefIdeal.Run
public import proofs.«01_k».proof.Proof.Gen.SguFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.SguFwdRefIdeal.Read

namespace Cert.SguRowsFwd

open Cert.Reals
open Cert.Sgu (act mixAt mix_bands quotient_cubic)

open Cert.SguFwdIdeal Cert.SguFwdIdeal.Gen

variable (m : (ℓ : Loc nD τ sig) → Buf (Elt Ideal) ℓ)

/-- Which block each window stages at grid point `t`. -/
theorem idx : ∀ t : Fin cfg0.N, win0_0.index t = ![t.val, 1] ∧ win0_1.index t = ![t.val, 2] ∧ win0_2.index t = ![0, 0]
    ∧ win0_3.index t = ![0, 0] ∧ win0_4.index t = ![0, 0, 0] ∧ win0_5.index t = ![0, 0, 0] ∧ win0_6.index t = ![t.val, 0] :=
  (by decide +kernel : ∀ t : Fin grid0.N, _)

/-- The kernel's named coefficient of the activation. -/
theorem named_cubic : Named.named (F := Ideal) κ "cubic" (φ := .f32) 0x3D372713#32 = ((8943 / 200000 : ℝ) : EReal) := rfl

/-- The activation of a block of gates. -/
theorem block_act (u : FVec Ideal S512x1024 .bf16) (r : Fin 512) (d : Fin 1024) : k0_pay1 (F := Ideal) u (ix2 r d) = act (u (ix2 r d)) := by
  pointwise [k0_pay1, act, Sgu.inner]
  rw [named_cubic]

/-- A block of values less their row's mean, after the activation. -/
theorem block_centred (v : FVec Ideal S512x1024 .bf16) (r : Fin 512) (d : Fin 1024) :
    k0_pay2 (F := Ideal) v (ix2 r d)
      = act (v (ix2 r d)) - Ideal.div (∑ k : Fin 1024, act (v (ix2 r k))) (Ideal.ofBits FTy.f32 0x44800000#32) := by
  pointwise [k0_pay2, act, Sgu.inner]
  rw [named_cubic]

/-- The scaled values of a block. -/
abbrev scaled (g b : FVec Ideal S1x1024 .f32) (v : FVec Ideal S512x1024 .bf16) : FVec Ideal S512x1024 .bf16 :=
  k0_pay4 (F := Ideal) g b (k0_pay2 v) (k0_pay3 v)

/-- The stored block is a product of the gates with four bands of mixed values. -/
theorem stored (u : FVec Ideal S512x1024 .bf16) (x0 x1 x2 x3 : FVec Ideal S128x1024 .f32) (i : S512x1024.Idx) :
    (k0_pay40 (F := Ideal) (k0_pay1 u) x0 x1 x2 x3 i : EReal)
      = (k0_pay1 (F := Ideal) u i : EReal) * concatenate S512x1024 0 [⟨S128x1024, x0⟩, ⟨S128x1024, x1⟩, ⟨S128x1024, x2⟩, ⟨S128x1024, x3⟩]
          concatenates_S128x1024_S128x1024_S128x1024_S128x1024_S512x1024_d0 i := rfl

/-- What a grid point stores: the gate's activation times the mixed values. -/
theorem left6 (u v : FVec Ideal S512x1024 .bf16) (g b : FVec Ideal S1x1024 .f32) (w : FVec Ideal S8x128x128 .bf16)
    (bias : FVec Ideal S8x128x128 .f32) (r : Fin 512) (d : Fin 1024) :
    out0_6 (F := Ideal) u v g b w bias (ix2 r d) = act (u (ix2 r d)) * mixAt w bias (fun r d => scaled g b v (ix2 r d)) r d := by
  frame_out [k0_pay43, k0_pay41, k0_pay42]
  rw [stored, block_act]
  exact congrArg (act (u (ix2 r d)) * ·) (mix_bands w bias (scaled g b v) r d)

section Rows

variable (x0 : FVec Ideal S8192x3072 .bf16) (x1 x2 : FVec Ideal S1x1024 .f32) (x3 : FVec Ideal S8x128x128 .f32) (x4 : FVec Ideal S8x128 .f32)

/-- The reference's coefficient is the kernel's. -/
theorem ref_cubic : val_main_v5 (F := Ideal) ix0 = ((8943 / 200000 : ℝ) : EReal) := quotient_cubic

/-- The reference's activation of each of the branch's inputs. -/
theorem ref_act (r : Fin 8192) (e : Fin 2048) :
    val_main_v16 (F := Ideal) x0 (ix2 r e) = act (x0 (ix2 r ⟨1024 + e.val, by omega⟩)) := by
  pointwise [val_main_v16, val_main_v15, val_main_v14, val_main_v13, val_main_v12, val_main_v11, val_main_v10, val_main_v9, val_main_v8,
    val_main_v7, val_main_v6, val_main_v4, val_main_v3, val_main_v2, val_main_v1, val_main_v0, val_main_cst, val_main_cst_0, val_main_cst_1, val_main_cst_2, val_main_cst_3, act, Sgu.inner]
  rw [ref_cubic]
  ac_rfl

/-- The array's row that row `r` of grid point `t` is. -/
def token (t : Fin cfg0.N) (r : Fin 512) : Fin 8192 := ⟨512 * t.val + r.val, by have := lt_of_lt_of_eq t.isLt N_0; omega⟩

/-- What a grid point finds in its blocks: its rows of the two halves of the branch, the masked mixing weights, and the mixing bias
    along every lane. -/
structure Found (t : Fin cfg0.N) (u v : FVec Ideal S512x1024 .bf16) (w : FVec Ideal S8x128x128 .bf16) (bias : FVec Ideal S8x128x128 .f32) : Prop where
  u : ∀ r d, u (ix2 r d) = x0 (ix2 (token t r) ⟨1024 + d.val, by omega⟩)
  v : ∀ r d, v (ix2 r d) = x0 (ix2 (token t r) ⟨2048 + d.val, by omega⟩)
  w : ∀ h s k, w (ix3 h s k) = val_main_v50 (F := Ideal) x3 (ix3 h s k)
  bias : ∀ h s c, bias (ix3 h s c) = x4 (ix2 h s)

variable {x0 x3 x4} {t : Fin cfg0.N} {u v : FVec Ideal S512x1024 .bf16} {w : FVec Ideal S8x128x128 .bf16}
  {bias : FVec Ideal S8x128x128 .f32} (S : Found x0 x3 x4 t u v w bias)
include S

/-- The gates' activations. -/
theorem gate_eq (r : Fin 512) (d : Fin 1024) : act (u (ix2 r d)) = val_main_v17 (F := Ideal) x0 (ix2 (token t r) d) := by
  rw [S.u]
  pointwise [val_main_v17]
  refine Eq.trans ?_ (ref_act x0 (token t r) ⟨d.val, by omega⟩).symm
  rfl

/-- The values' activations. -/
theorem value_eq (r : Fin 512) (d : Fin 1024) : act (v (ix2 r d)) = val_main_v18 (F := Ideal) x0 (ix2 (token t r) d) := by
  rw [S.v]
  pointwise [val_main_v18]
  refine Eq.trans ?_ (ref_act x0 (token t r) ⟨1024 + d.val, by omega⟩).symm
  refine congrArg (fun i => act (x0 (ix2 _ i))) (Fin.ext ?_)
  show 2048 + d.val = 1024 + (1024 + d.val); omega

/-- The values less their row's mean. -/
theorem centred_eq (r : Fin 512) (d : Fin 1024) : k0_pay2 (F := Ideal) v (ix2 r d) = val_main_v31 (F := Ideal) x0 (ix2 (token t r) d) := by
  rw [block_centred]
  pointwise [val_main_v31, val_main_v30, val_main_v22, val_main_v21, val_main_v20, val_main_v19, val_main_cst_4, val_main_cst_5]
  simp only [value_eq S]
@[inherit_doc centred_eq] theorem centred_eq' (r : Fin 512) (d : Fin 1024) :
    k0_pay2 (F := Ideal) v (ix2 r d) = val_main_v24 (F := Ideal) x0 (ix2 (token t r) d) := by
  rw [block_centred]
  pointwise [val_main_v24, val_main_v23, val_main_v22, val_main_v21, val_main_v20, val_main_v19, val_main_cst_4, val_main_cst_5]
  simp only [value_eq S]

/-- The normalised values, scaled and shifted. -/
theorem scaled_eq (r : Fin 512) (d : Fin 1024) :
    scaled x1 x2 v (ix2 r d) = val_main_v40 (F := Ideal) x0 x1 x2 (ix2 (token t r) d) := by
  pointwise [scaled, k0_pay4, k0_pay3, val_main_v40, val_main_v39, val_main_v38, val_main_v37, val_main_v36, val_main_v35, val_main_v34,
    val_main_v33, val_main_v32, val_main_v29, val_main_v28, val_main_v27, val_main_v26, val_main_v25, val_main_cst_6, val_main_cst_7, val_main_cst_8]
  simp only [← centred_eq S, ← centred_eq' S]

/-- The gated rows. -/
theorem gated_eq (r : Fin 512) (d : Fin 1024) :
    act (u (ix2 r d)) * mixAt w bias (fun r d => scaled x1 x2 v (ix2 r d)) r d
      = val_main_v60 (F := Ideal) x0 x1 x2 x3 x4 (ix2 (token t r) d) := by
  pointwise [val_main_v60, val_main_v59, val_main_v58, val_main_v57, val_main_v56, val_main_v55, val_main_v54, val_main_v53, val_main_v52,
    val_main_v51, val_main_v41]
  have em : (token t r).val % 128 = r.val % 128 := by
    show (512 * t.val + r.val) % 128 = r.val % 128; omega
  refine congrArg₂ (· * ·) (gate_eq S r d) (congrArg₂ (· + ·) (Finset.sum_congr rfl fun k _ => ?_) ?_)
  · refine (congrArg₂ (· * ·) (S.w _ _ _) (scaled_eq x1 x2 S _ _)).trans ((mul_comm _ _).trans ?_)
    refine congrArg₂ (· * ·) (congrArg (fun R => val_main_v40 (F := Ideal) x0 x1 x2 (ix2 R d)) (Fin.ext ?_))
      (congrArg (fun s => val_main_v50 (F := Ideal) x3 (ix3 _ s k)) (Fin.ext em.symm))
    show 512 * t.val + (128 * (r.val / 128) + k.val) = (512 * t.val + r.val) / 128 * 128 + k.val
    omega
  · exact (S.bias _ _ _).trans (congrArg (fun s => x4 (ix2 _ s)) (Fin.ext em.symm))

end Rows

/-- The norm's scale and shift, staged whole at every grid point. -/
theorem block_scale (c : Dev nD) (t : Fin cfg0.N) : (iblk m c 2 t : FVec Ideal S1x1024 .f32) = m ((c : Thread nD τ).loc main_arg1) := by
  funext i; idx_vars i; blk_simp [iblk]; entry_read; blk_point [idx t]
@[inherit_doc block_scale] theorem block_shift (c : Dev nD) (t : Fin cfg0.N) : (iblk m c 3 t : FVec Ideal S1x1024 .f32) = m ((c : Thread nD τ).loc main_arg2) := by
  funext i; idx_vars i; blk_simp [iblk]; entry_read; blk_point [idx t]

/-- The masked weights, and the bias repeated over the lanes, as the host hands them over. -/
theorem host_w (c : Dev nD) : (V m c main_v9 : Vec Ideal S8x128x128 .f32) = (val_main_v50 (F := Ideal) (m ((c : Thread nD τ).loc main_arg3)) : Vec Ideal S8x128x128 .f32) := by
  simp only [V, hostOps0, hostOps0_1, hostOps0_2, hostOps0_3, hostOps0_4, List.flatten_cons, List.flatten_nil, List.append_nil, List.cons_append, List.nil_append]
  after_results
  rfl
@[inherit_doc host_w] theorem host_bias (c : Dev nD) : (V m c main_v11 : Vec Ideal S8x128x128 .f32) = broadcastInDim S8x128x128 ![0, 1, 2] bcast_S8x128x1_S8x128x128_0_1_2
    (broadcastInDim S8x128x1 ![0, 1] bcast_S8x128_S8x128x1_0_1 (m ((c : Thread nD τ).loc main_arg4))) := by
  simp only [V, hostOps0, hostOps0_1, hostOps0_2, hostOps0_3, hostOps0_4, List.flatten_cons, List.flatten_nil, List.append_nil, List.cons_append, List.nil_append]
  after_results
/-- Both are staged whole. -/
theorem block_w (c : Dev nD) (t : Fin cfg0.N) : (iblk m c 4 t : Vec Ideal S8x128x128 .f32) = V m c main_v9 := by
  funext i; idx_vars i; blk_simp [iblk]; blk_ext [idx t]
@[inherit_doc block_w] theorem block_bias (c : Dev nD) (t : Fin cfg0.N) : (iblk m c 5 t : Vec Ideal S8x128x128 .f32) = V m c main_v11 := by
  funext i; idx_vars i; blk_simp [iblk]; blk_ext [idx t]

/-- Every grid point finds its rows, the masked weights and the bias in its blocks. -/
theorem found (c : Dev nD) (t : Fin cfg0.N) : Found (m ((c : Thread nD τ).loc main_arg0)) (m ((c : Thread nD τ).loc main_arg3)) (m ((c : Thread nD τ).loc main_arg4)) t
    (iblk m c 0 t) (iblk m c 1 t) (iblk m c 4 t) (iblk m c 5 t) where
  u r d := by blk_simp [iblk]; entry_read; unfold token; blk_point [idx t]
  v r d := by blk_simp [iblk]; entry_read; unfold token; blk_point [idx t]
  w h s k := congrFun ((block_w m c t).trans (host_w m c)) _
  bias h s l := by
    refine (congrFun ((block_bias m c t).trans (host_bias m c)) _).trans ?_
    pointwise []

/-- The gated rows: the kernel's array is the reference's. -/
theorem final6 (c : Dev nD) : (dats m 0 c).arrAt 6 cfg0.N
    = val_main_v60 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  idx_vars y
  refine (left6 _ _ _ _ _ _ y0 y1).trans ?_
  rw [block_scale, block_shift]
  refine (gated_eq _ _ (found m c t) y0 y1).trans (congrArg _ ?_)
  unfold token
  blk_ext [idx t]

end Cert.SguRowsFwd
-- ==== Proof.OutBwdWTiles.lean ====
/- The output projection's weight gradient, summed over the blocks of tokens in a scratch: the kernel's tiles are the reference's. -/
module

public import proofs.«01_k».proof.Proof.Gen.OutBwdWIdeal.Frame
public import proofs.«01_k».proof.Proof.Gen.OutBwdWRefIdeal.Run
public import proofs.«01_k».proof.Proof.Gen.OutBwdWRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.OutBwdWRefIdeal.Read

namespace Cert.OutBwdWTiles

open Cert.OutBwdWIdeal Cert.OutBwdWIdeal.Gen

variable (m : (ℓ : Loc nD τ sig) → Buf (Elt Ideal) ℓ)

/-- Which block each window stages at grid point `t`. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The reference's gradient. -/
theorem ref_grad (a dy : FVec Ideal S8192x2048 .bf16) (i j : Fin 2048) :
    val_main_v6 (F := Ideal) a dy (ix2 i j) = ∑ r : Fin 8192, a (ix2 r i) * dy (ix2 r j) := by
  pointwise [val_main_v6, val_main_v5, val_main_v4, val_main_v3, val_main_v1]
  simp only [mul_comm]

/-- The row of the result that row `r` of grid point `t`'s tile is. -/
def row (t : Fin cfg0.N) (r : Fin 1024) : Fin 2048 :=
  ⟨(t.val / 8) * 1024 + r.val, by have := lt_of_lt_of_eq t.isLt N_0; omega⟩

/-- The column of the result that column `q` of grid point `t`'s tile is. -/
def col (t : Fin cfg0.N) (q : Fin 1024) : Fin 2048 :=
  ⟨(t.val / 4 % 2) * 1024 + q.val, by have := lt_of_lt_of_eq t.isLt N_0; omega⟩

/-- The token that row `k` of grid point `t`'s block of tokens is. -/
def token (t : Fin cfg0.N) (k : Fin 2048) : Fin 8192 := ⟨t.val % 4 * 2048 + k.val, by omega⟩

/-- What the two input windows hold at grid point `t`. -/
abbrev rowBlock (c : Dev nD) (t : Fin cfg0.N) : FVec Ideal S2048x1024 .bf16 := iblk m c 0 t
@[inherit_doc rowBlock] abbrev gradBlock (c : Dev nD) (t : Fin cfg0.N) : FVec Ideal S2048x1024 .bf16 := iblk m c 1 t

/-- What a point's windows hold of the arguments. -/
theorem block_row (c : Dev nD) (t : Fin cfg0.N) (k : Fin 2048) (i : Fin 1024) :
    rowBlock m c t (ix2 k i) = m ((c : Thread nD τ).loc main_arg0) (ix2 (token t k) (row t i)) := by
  unfold token row; blk_ext [rowBlock, iblk, V, idx t]
@[inherit_doc block_row] theorem block_grad (c : Dev nD) (t : Fin cfg0.N) (k : Fin 2048) (j : Fin 1024) :
    gradBlock m c t (ix2 k j) = m ((c : Thread nD τ).loc main_arg1) (ix2 (token t k) (col t j)) := by
  unfold token col; blk_ext [gradBlock, iblk, V, idx t]

/-- The part of a tile that grid point `t`'s tokens add. -/
def part (c : Dev nD) (t : Fin cfg0.N) (y : S1x1024x1024.Idx) : EReal :=
  ∑ k : Fin 2048, rowBlock m c t (ix2 k (y 1)) * gradBlock m c t (ix2 k (y 2))

/-- The first block of tokens leaves its part in the scratch. -/
theorem sum_first (c : Dev nD) (t : Fin cfg0.N) (h : t.val % 4 = 0) (y : S1x1024x1024.Idx) :
    (outsAt0 m c t.val t.isLt).2 y = 0 + part m c t y := by
  idx_vars y
  obtain rfl : y0 = 0 := Subsingleton.elim _ _
  rw [outsAt0_A m c t h (by omega)]
  frame_out
  pointwise [k0_pay2, k0_pay1, part]

/-- Every later block adds its part. -/
theorem sum_later (c : Dev nD) (t : Fin cfg0.N) (h : ¬t.val % 4 = 0) (y : S1x1024x1024.Idx) :
    (outsAt0 m c t.val t.isLt).2 y = (outsAt0 m c (t.val - 1) (Nat.lt_of_le_of_lt (Nat.sub_le _ _) t.isLt)).2 y + part m c t y := by
  idx_vars y
  obtain rfl : y0 = 0 := Subsingleton.elim _ _
  by_cases h3 : t.val % 4 = 3
  on_goal 1 => rw [outsAt0_C m c t h h3]
  on_goal 2 => rw [outsAt0_B m c t h h3]
  all_goals
    frame_out
    pointwise [k0_pay2, part]
    rw [read_unread_whole]

/-- The last block's point copies the scratch into the result's tile. -/
theorem left2 (c : Dev nD) (t : Fin cfg0.N) (h : t.val % 4 = 3) (i j : Fin 1024) :
    (outsAt0 m c t.val t.isLt).1 (ix2 i j) = (outsAt0 m c t.val t.isLt).2 (ix3 0 i j) := by
  rw [outsAt0_C m c t (by omega) h]
  frame_out
  pointwise [k0_pay3]

/-- The gradient: the kernel's array is the reference's. -/
theorem final2 (c : Dev nD) : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  idx_vars y
  rw [left2 m c t h3, Pipeline.eq_sum_fin_of_reset_step_apply_of_flush (fun n h => (outsAt0 m c n h).2) 4 (fun _ => 0) (part m c)
    (sum_first m c) (sum_later m c) t h3, zero_add]
  have hs (s : Fin 4) : (4 * (t.val / 4) + s.val) % 4 = s.val ∧ (4 * (t.val / 4) + s.val) / 8 = t.val / 8 ∧ (4 * (t.val / 4) + s.val) / 4 = t.val / 4 := by
    omega
  refine Eq.trans ?_ ((ref_grad _ _ (row t y0) (col t y1)).symm.trans (congrArg _ ?_))
  · refine Fin.sum_mul_add_congr (n := 2048) fun s k hl => ?_
    refine (congrArg₂ (· * ·) (block_row m c _ k y0) (block_grad m c _ k y1)).trans ?_
    simp only [token, row, col, hs s]
  · unfold row col
    blk_ext [idx t]

end Cert.OutBwdWTiles
-- ==== Proof.OutBwdARows.lean ====
/- The output projection's input gradient, a product with the transposed weight: the kernel's tiles are the reference's. -/
module

public import proofs.«01_k».proof.Proof.Gen.OutBwdAIdeal.Frame
public import proofs.«01_k».proof.Proof.Gen.OutBwdARefIdeal.Run
public import proofs.«01_k».proof.Proof.Gen.OutBwdARefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.OutBwdARefIdeal.Read

namespace Cert.OutBwdARows

open Cert.OutBwdAIdeal Cert.OutBwdAIdeal.Gen

variable (m : (ℓ : Loc nD τ sig) → Buf (Elt Ideal) ℓ)

/-- Which block each window stages at grid point `t`. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The reference's gradient. -/
theorem ref_grad (w : FVec Ideal S2048x2048 .f32) (dy : FVec Ideal S8192x2048 .bf16) (r : Fin 8192) (d : Fin 2048) :
    val_main_v4 (F := Ideal) w dy (ix2 r d) = ∑ k : Fin 2048, dy (ix2 r k) * w (ix2 d k) := by
  pointwise [val_main_v4, val_main_v3, val_main_v2]

/-- The row of the result that row `r` of grid point `t`'s tile is. -/
def row (t : Fin cfg0.N) (r : Fin 1024) : Fin 8192 :=
  ⟨(t.val / 2) * 1024 + r.val, by have := lt_of_lt_of_eq t.isLt N_0; omega⟩

/-- The column of the result that column `q` of grid point `t`'s tile is. -/
def col (t : Fin cfg0.N) (q : Fin 1024) : Fin 2048 :=
  ⟨(t.val % 2) * 1024 + q.val, by have := lt_of_lt_of_eq t.isLt N_0; omega⟩

/-- What the two input windows hold at grid point `t`. -/
abbrev gradBlock (c : Dev nD) (t : Fin cfg0.N) : FVec Ideal S1024x2048 .bf16 := iblk m c 0 t
@[inherit_doc gradBlock] abbrev weightBlock (c : Dev nD) (t : Fin cfg0.N) : FVec Ideal S1024x2048 .bf16 := iblk m c 1 t

/-- The cotangent's rows that a point stages. -/
theorem block_grad (c : Dev nD) (t : Fin cfg0.N) (r : Fin 1024) (k : Fin 2048) :
    gradBlock m c t (ix2 r k) = m ((c : Thread nD τ).loc main_arg1) (ix2 (row t r) k) := by
  unfold row; blk_ext [gradBlock, iblk, V, idx t]

/-- The weight's rows that a point stages. -/
theorem block_weight (c : Dev nD) (t : Fin cfg0.N) (q : Fin 1024) (k : Fin 2048) :
    weightBlock m c t (ix2 q k) = m ((c : Thread nD τ).loc main_arg0) (ix2 (col t q) k) := by
  blk_simp [weightBlock, iblk, V]
  entry_read
  pointwise []
  unfold col
  blk_point [idx t]

/-- What a grid point leaves in its tile. -/
theorem left2 (A B : FVec Ideal S1024x2048 .bf16) (r q : Fin 1024) :
    out0_2 (F := Ideal) A B (ix2 r q) = ∑ k : Fin 2048, A (ix2 r k) * B (ix2 q k) := by
  frame_out
  pointwise [k0_pay1]

/-- The gradient: the kernel's array is the reference's. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  refine (left2 (gradBlock m c t) (weightBlock m c t) y0 y1).trans ?_
  simp only [block_grad, block_weight]
  refine (ref_grad _ _ (row t y0) (col t y1)).symm.trans (congrArg _ ?_)
  unfold row col
  blk_ext [idx t]

end Cert.OutBwdARows
-- ==== Proof.OutRows.lean ====
/- The output projection and its shortcut: the kernel's tiles are the reference's. -/
module

public import proofs.«01_k».proof.Proof.Gen.OutFwdIdeal.Frame
public import proofs.«01_k».proof.Proof.Gen.OutFwdRefIdeal.Run
public import proofs.«01_k».proof.Proof.Gen.OutFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.OutFwdRefIdeal.Read

namespace Cert.OutRows

open Cert.OutFwdIdeal Cert.OutFwdIdeal.Gen

variable (m : (ℓ : Loc nD τ sig) → Buf (Elt Ideal) ℓ)

/-- Which block each window stages at grid point `t`. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The reference's rows after the projection. -/
theorem ref_rows (a : FVec Ideal S8192x2048 .bf16) (w : FVec Ideal S2048x2048 .f32) (x : FVec Ideal S8192x2048 .f32) (r : Fin 8192) (d : Fin 2048) :
    val_main_v2 (F := Ideal) a w x (ix2 r d) = x (ix2 r d) + ∑ k : Fin 2048, a (ix2 r k) * w (ix2 k d) := by
  pointwise [val_main_v2, val_main_v1, val_main_v0]

/-- The row of the result that row `r` of grid point `t`'s tile is. -/
def row (t : Fin cfg0.N) (r : Fin 1024) : Fin 8192 :=
  ⟨(t.val / 2) * 1024 + r.val, by have := lt_of_lt_of_eq t.isLt N_0; omega⟩

/-- The column of the result that column `q` of grid point `t`'s tile is. -/
def col (t : Fin cfg0.N) (q : Fin 1024) : Fin 2048 :=
  ⟨(t.val % 2) * 1024 + q.val, by have := lt_of_lt_of_eq t.isLt N_0; omega⟩

/-- What the three input windows hold at grid point `t`. -/
abbrev rowBlock (c : Dev nD) (t : Fin cfg0.N) : FVec Ideal S1024x2048 .bf16 := iblk m c 0 t
@[inherit_doc rowBlock] abbrev weightBlock (c : Dev nD) (t : Fin cfg0.N) : FVec Ideal S2048x1024 .bf16 := iblk m c 1 t
@[inherit_doc rowBlock] abbrev shortBlock (c : Dev nD) (t : Fin cfg0.N) : FVec Ideal S1024x1024 .f32 := iblk m c 2 t

/-- The merged rows that a point stages. -/
theorem block_row (c : Dev nD) (t : Fin cfg0.N) (r : Fin 1024) (k : Fin 2048) :
    rowBlock m c t (ix2 r k) = m ((c : Thread nD τ).loc main_arg0) (ix2 (row t r) k) := by
  unfold row; blk_ext [rowBlock, iblk, V, idx t]

/-- The shortcut's tile that a point stages. -/
theorem block_short (c : Dev nD) (t : Fin cfg0.N) (r q : Fin 1024) :
    shortBlock m c t (ix2 r q) = m ((c : Thread nD τ).loc main_arg2) (ix2 (row t r) (col t q)) := by
  unfold row col; blk_ext [shortBlock, iblk, V, idx t]

/-- The weight's columns that a point stages. -/
theorem block_weight (c : Dev nD) (t : Fin cfg0.N) (k : Fin 2048) (q : Fin 1024) :
    weightBlock m c t (ix2 k q) = m ((c : Thread nD τ).loc main_arg1) (ix2 k (col t q)) := by
  blk_simp [weightBlock, iblk, V]
  entry_read
  pointwise []
  unfold col
  blk_point [idx t]

/-- What a grid point leaves in its tile. -/
theorem left3 (A : FVec Ideal S1024x2048 .bf16) (B : FVec Ideal S2048x1024 .bf16) (X : FVec Ideal S1024x1024 .f32) (r q : Fin 1024) :
    out0_3 (F := Ideal) A B X (ix2 r q) = X (ix2 r q) + ∑ k : Fin 2048, A (ix2 r k) * B (ix2 k q) := by
  frame_out
  pointwise [k0_pay1]

/-- The rows after the projection: the kernel's array is the reference's. -/
theorem final3 (c : Dev nD) : (dats m 0 c).arrAt 3 cfg0.N
    = val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (left3 (rowBlock m c t) (weightBlock m c t) (shortBlock m c t) y0 y1).trans ?_
  simp only [block_row, block_weight, block_short]
  refine (ref_rows _ _ _ (row t y0) (col t y1)).symm.trans (congrArg _ ?_)
  unfold row col
  blk_ext [idx t]

end Cert.OutRows
-- ==== Proof.InRows.lean ====
/- The combined input projection, its weight kept by columns: the kernel's tiles are the reference's. -/
module

public import proofs.«01_k».proof.Proof.Gen.InFwdIdeal.Frame
public import proofs.«01_k».proof.Proof.Gen.InFwdRefIdeal.Run
public import proofs.«01_k».proof.Proof.Gen.InFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.InFwdRefIdeal.Read

namespace Cert.InRows

open Cert.InFwdIdeal Cert.InFwdIdeal.Gen

variable (m : (ℓ : Loc nD τ sig) → Buf (Elt Ideal) ℓ)

/-- Which block each window stages at grid point `t`. -/
theorem idx : ∀ t : Fin cfg0.N, win0_0.index t = ![t.val % 8, 0] ∧ win0_1.index t = ![t.val / 8, 0] ∧ win0_2.index t = ![t.val % 8, t.val / 8] :=
  (by decide +kernel : ∀ t : Fin grid0.N, _)

/-- The reference's projection. -/
theorem ref_rows (h : FVec Ideal S8192x2048 .bf16) (w : FVec Ideal S2048x3072 .f32) (r : Fin 8192) (d : Fin 3072) :
    val_main_v2 (F := Ideal) h w (ix2 r d) = ∑ k : Fin 2048, h (ix2 r k) * w (ix2 k d) := by
  pointwise [val_main_v2, val_main_v1, val_main_v0]

/-- The row of the result that row `r` of grid point `t`'s tile is. -/
def row (t : Fin cfg0.N) (r : Fin 1024) : Fin 8192 :=
  ⟨(t.val % 8) * 1024 + r.val, by have := lt_of_lt_of_eq t.isLt N_0; omega⟩

/-- The column of the result that column `q` of grid point `t`'s tile is. -/
def col (t : Fin cfg0.N) (q : Fin 1536) : Fin 3072 :=
  ⟨(t.val / 8) * 1536 + q.val, by have := lt_of_lt_of_eq t.isLt N_0; omega⟩

/-- What the two input windows hold at grid point `t`. -/
abbrev rowBlock (c : Dev nD) (t : Fin cfg0.N) : FVec Ideal S1024x2048 .bf16 := iblk m c 0 t
@[inherit_doc rowBlock] abbrev weightBlock (c : Dev nD) (t : Fin cfg0.N) : FVec Ideal S1536x2048 .bf16 := iblk m c 1 t

/-- The rows that a point stages. -/
theorem block_row (c : Dev nD) (t : Fin cfg0.N) (r : Fin 1024) (k : Fin 2048) :
    rowBlock m c t (ix2 r k) = m ((c : Thread nD τ).loc main_arg0) (ix2 (row t r) k) := by
  unfold row; blk_ext [rowBlock, iblk, V, idx t]

/-- The weight's columns that a point stages, as rows. -/
theorem block_weight (c : Dev nD) (t : Fin cfg0.N) (q : Fin 1536) (k : Fin 2048) :
    weightBlock m c t (ix2 q k) = m ((c : Thread nD τ).loc main_arg1) (ix2 k (col t q)) := by
  blk_simp [weightBlock, iblk, V]
  entry_read
  pointwise []
  unfold col
  blk_point [idx t]

/-- What a grid point leaves in its tile. -/
theorem left2 (A : FVec Ideal S1024x2048 .bf16) (B : FVec Ideal S1536x2048 .bf16) (r : Fin 1024) (q : Fin 1536) :
    out0_2 (F := Ideal) A B (ix2 r q) = ∑ k : Fin 2048, A (ix2 r k) * B (ix2 q k) := by
  frame_out
  pointwise [k0_pay1]

/-- The projection: the kernel's array is the reference's. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  refine (left2 (rowBlock m c t) (weightBlock m c t) y0 y1).trans ?_
  simp only [block_row, block_weight]
  refine (ref_rows _ _ (row t y0) (col t y1)).symm.trans (congrArg _ ?_)
  unfold row col
  blk_ext [idx t]

end Cert.InRows
-- ==== Proof.InBwdARows.lean ====
/- The combined input projection's input gradient added to the gates': the kernel's tiles are the reference's. -/
module

public import proofs.«01_k».proof.Proof.Gen.InBwdAIdeal.Frame
public import proofs.«01_k».proof.Proof.Gen.InBwdARefIdeal.Run
public import proofs.«01_k».proof.Proof.Gen.InBwdARefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.InBwdARefIdeal.Read

namespace Cert.InBwdARows

open Cert.InBwdAIdeal Cert.InBwdAIdeal.Gen

variable (m : (ℓ : Loc nD τ sig) → Buf (Elt Ideal) ℓ)

/-- Which block each window stages at grid point `t`. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- The reference's sum of the two gradients. -/
theorem ref_grad (w : FVec Ideal S2048x3072 .f32) (dp : FVec Ideal S8192x3072 .bf16) (dh : FVec Ideal S8192x2048 .bf16) (r : Fin 8192) (d : Fin 2048) :
    val_main_v6 (F := Ideal) w dp dh (ix2 r d) = dh (ix2 r d) + ∑ k : Fin 3072, dp (ix2 r k) * w (ix2 d k) := by
  pointwise [val_main_v6, val_main_v5, val_main_v4, val_main_v3, val_main_v2]

/-- The row of the result that row `r` of grid point `t`'s tile is. -/
def row (t : Fin cfg0.N) (r : Fin 1024) : Fin 8192 :=
  ⟨(t.val / 2) * 1024 + r.val, by have := lt_of_lt_of_eq t.isLt N_0; omega⟩

/-- The column of the result that column `q` of grid point `t`'s tile is. -/
def col (t : Fin cfg0.N) (q : Fin 1024) : Fin 2048 :=
  ⟨(t.val % 2) * 1024 + q.val, by have := lt_of_lt_of_eq t.isLt N_0; omega⟩

/-- What the three input windows hold at grid point `t`. -/
abbrev gradBlock (c : Dev nD) (t : Fin cfg0.N) : FVec Ideal S1024x3072 .bf16 := iblk m c 0 t
@[inherit_doc gradBlock] abbrev weightBlock (c : Dev nD) (t : Fin cfg0.N) : FVec Ideal S3072x1024 .bf16 := iblk m c 1 t
@[inherit_doc gradBlock] abbrev gateBlock (c : Dev nD) (t : Fin cfg0.N) : FVec Ideal S1024x1024 .bf16 := iblk m c 2 t

/-- The cotangent's rows that a point stages. -/
theorem block_grad (c : Dev nD) (t : Fin cfg0.N) (r : Fin 1024) (k : Fin 3072) :
    gradBlock m c t (ix2 r k) = m ((c : Thread nD τ).loc main_arg1) (ix2 (row t r) k) := by
  unfold row; blk_ext [gradBlock, iblk, V, idx t]

/-- The tile of the gates' gradient that a point stages. -/
theorem block_gate (c : Dev nD) (t : Fin cfg0.N) (r q : Fin 1024) :
    gateBlock m c t (ix2 r q) = m ((c : Thread nD τ).loc main_arg2) (ix2 (row t r) (col t q)) := by
  unfold row col; blk_ext [gateBlock, iblk, V, idx t]

/-- The weight's rows that a point stages, as columns. -/
theorem block_weight (c : Dev nD) (t : Fin cfg0.N) (k : Fin 3072) (q : Fin 1024) :
    weightBlock m c t (ix2 k q) = m ((c : Thread nD τ).loc main_arg0) (ix2 (col t q) k) := by
  blk_simp [weightBlock, iblk, V]
  entry_read
  pointwise []
  unfold col
  blk_point [idx t]

/-- What a grid point leaves in its tile. -/
theorem left3 (A : FVec Ideal S1024x3072 .bf16) (B : FVec Ideal S3072x1024 .bf16) (X : FVec Ideal S1024x1024 .bf16) (r q : Fin 1024) :
    out0_3 (F := Ideal) A B X (ix2 r q) = X (ix2 r q) + ∑ k : Fin 3072, A (ix2 r k) * B (ix2 k q) := by
  rw [add_comm]
  frame_out
  pointwise [k0_pay1]

/-- The sum of the two gradients: the kernel's array is the reference's. -/
theorem final3 (c : Dev nD) : (dats m 0 c).arrAt 3 cfg0.N
    = val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  refine (left3 (gradBlock m c t) (weightBlock m c t) (gateBlock m c t) y0 y1).trans ?_
  simp only [block_grad, block_weight, block_gate]
  refine (ref_grad _ _ _ (row t y0) (col t y1)).symm.trans (congrArg _ ?_)
  unfold row col
  blk_ext [idx t]

end Cert.InBwdARows
-- ==== Proof.DownRows.lean ====
/- The down projection, half of it added to the shortcut, summed over the blocks of hidden features in a scratch: the kernel's tiles are the reference's. -/
module

public import proofs.«01_k».proof.Proof.Gen.DownFwdIdeal.Frame
public import proofs.«01_k».proof.Proof.Gen.DownFwdRefIdeal.Run
public import proofs.«01_k».proof.Proof.Gen.DownFwdRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.DownFwdRefIdeal.Read

namespace Cert.DownRows

open Cert.DownFwdIdeal Cert.DownFwdIdeal.Gen

variable (m : (ℓ : Loc nD τ sig) → Buf (Elt Ideal) ℓ)

/-- Which block each window stages at grid point `t`. -/
theorem idx : ∀ t : Fin cfg0.N, win0_0.index t = ![t.val % 2, t.val / 4] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

/-- A shortcut's element and half of a product's. -/
def after (x z : EReal) : EReal := x + Ideal.ofBits FTy.f32 0x3F000000#32 * z

/-- The reference's rows after the layer. -/
theorem ref_rows (f : FVec Ideal S8192x5632 .bf16) (w : FVec Ideal S5632x2048 .f32) (x : FVec Ideal S8192x2048 .f32) (r : Fin 8192) (d : Fin 2048) :
    val_main_v4 (F := Ideal) f w x (ix2 r d) = after (x (ix2 r d)) (∑ k : Fin 5632, f (ix2 r k) * w (ix2 k d)) := by
  pointwise [val_main_v4, val_main_v3, val_main_v2, val_main_v1, val_main_v0, val_main_cst, after]

/-- The row of the result that row `r` of grid point `t`'s tile is. -/
def row (t : Fin cfg0.N) (r : Fin 1024) : Fin 8192 :=
  ⟨(t.val / 4) * 1024 + r.val, by have := lt_of_lt_of_eq t.isLt N_0; omega⟩

/-- The column of the result that column `q` of grid point `t`'s tile is. -/
def col (t : Fin cfg0.N) (q : Fin 1024) : Fin 2048 :=
  ⟨(t.val / 2 % 2) * 1024 + q.val, by have := lt_of_lt_of_eq t.isLt N_0; omega⟩

/-- The hidden feature that row `k` of grid point `t`'s block of hidden features is. -/
def feature (t : Fin cfg0.N) (k : Fin 2816) : Fin 5632 := ⟨t.val % 2 * 2816 + k.val, by omega⟩

/-- What the three input windows hold at grid point `t`. -/
abbrev hiddenBlock (c : Dev nD) (t : Fin cfg0.N) : FVec Ideal S2816x1024 .bf16 := iblk m c 0 t
@[inherit_doc hiddenBlock] abbrev weightBlock (c : Dev nD) (t : Fin cfg0.N) : FVec Ideal S2816x1024 .bf16 := iblk m c 1 t
@[inherit_doc hiddenBlock] abbrev shortBlock (c : Dev nD) (t : Fin cfg0.N) : FVec Ideal S1024x1024 .f32 := iblk m c 2 t

/-- The hidden features that a point stages. -/
theorem block_hidden (c : Dev nD) (t : Fin cfg0.N) (k : Fin 2816) (r : Fin 1024) :
    hiddenBlock m c t (ix2 k r) = m ((c : Thread nD τ).loc main_arg0) (ix2 (row t r) (feature t k)) := by
  blk_simp [hiddenBlock, iblk, V]
  entry_read
  pointwise []
  unfold feature row
  blk_point [idx t]

/-- The weight's tile that a point stages. -/
theorem block_weight (c : Dev nD) (t : Fin cfg0.N) (k : Fin 2816) (q : Fin 1024) :
    weightBlock m c t (ix2 k q) = m ((c : Thread nD τ).loc main_arg1) (ix2 (feature t k) (col t q)) := by
  blk_simp [weightBlock, iblk, V]
  entry_read
  pointwise []
  unfold feature col
  blk_point [idx t]

/-- The shortcut's tile that a point stages. -/
theorem block_short (c : Dev nD) (t : Fin cfg0.N) (r q : Fin 1024) :
    shortBlock m c t (ix2 r q) = m ((c : Thread nD τ).loc main_arg2) (ix2 (row t r) (col t q)) := by
  unfold row col; blk_ext [shortBlock, iblk, V, idx t]

/-- The part of a tile's product that grid point `t`'s hidden features add. -/
def part (c : Dev nD) (t : Fin cfg0.N) (y : S1x1024x1024.Idx) : EReal :=
  ∑ k : Fin 2816, hiddenBlock m c t (ix2 k (y 1)) * weightBlock m c t (ix2 k (y 2))

/-- The first half of the hidden features leaves its part in the scratch. -/
theorem sum_first (c : Dev nD) (t : Fin cfg0.N) (h : t.val % 2 = 0) (y : S1x1024x1024.Idx) :
    (outsAt0 m c t.val t.isLt).2 y = 0 + part m c t y := by
  idx_vars y
  obtain rfl : y0 = 0 := Subsingleton.elim _ _
  rw [outsAt0_A m c t h (by omega)]
  frame_out
  pointwise [k0_pay2, k0_pay1, part]

/-- The second half adds its part. -/
theorem sum_later (c : Dev nD) (t : Fin cfg0.N) (h : ¬t.val % 2 = 0) (y : S1x1024x1024.Idx) :
    (outsAt0 m c t.val t.isLt).2 y = (outsAt0 m c (t.val - 1) (Nat.lt_of_le_of_lt (Nat.sub_le _ _) t.isLt)).2 y + part m c t y := by
  idx_vars y
  obtain rfl : y0 = 0 := Subsingleton.elim _ _
  rw [outsAt0_B m c t h (by omega)]
  frame_out
  pointwise [k0_pay2, part]
  rw [read_unread_whole]

/-- The second half's point adds half of the scratch to the shortcut's tile. -/
theorem left3 (c : Dev nD) (t : Fin cfg0.N) (h : t.val % 2 = 1) (r q : Fin 1024) :
    (outsAt0 m c t.val t.isLt).1 (ix2 r q)
      = after (shortBlock m c t (ix2 r q)) ((outsAt0 m c t.val t.isLt).2 (ix3 0 r q)) := by
  rw [outsAt0_B m c t (by omega) h]
  frame_out
  pointwise [k0_pay3, after]

/-- The rows after the layer: the kernel's array is the reference's. -/
theorem final3 (c : Dev nD) : (dats m 0 c).arrAt 3 cfg0.N
    = val_main_v4 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 := (flush0_3 t).mp hf
  blk_simp
  rw [after0_3]
  idx_vars y
  rw [left3 m c t h1, block_short, Pipeline.eq_sum_fin_of_reset_step_apply_of_flush (fun n h => (outsAt0 m c n h).2) 2 (fun _ => 0) (part m c)
    (sum_first m c) (sum_later m c) t h1, zero_add]
  have hs (s : Fin 2) : (2 * (t.val / 2) + s.val) % 2 = s.val ∧ (2 * (t.val / 2) + s.val) / 4 = t.val / 4 ∧ (2 * (t.val / 2) + s.val) / 2 = t.val / 2 := by
    omega
  refine Eq.trans (congrArg (after _) ?_) ((ref_rows _ _ _ (row t y0) (col t y1)).symm.trans (congrArg _ ?_))
  · refine Fin.sum_mul_add_congr (n := 2816) fun s k hl => ?_
    refine (congrArg₂ (· * ·) (block_hidden m c _ k y0) (block_weight m c _ k y1)).trans ?_
    simp only [feature, row, col, hs s]
  · unfold row col
    blk_ext [idx t]

end Cert.DownRows
-- ==== Proof.InBwdWTiles.lean ====
/- The combined input projection's weight gradient, left by the devices that keep its columns: the kernel's tiles are the reference's. -/
module

public import proofs.«01_k».proof.Proof.Gen.InBwdWIdeal.Frame
public import proofs.«01_k».proof.Proof.Gen.InBwdWRefIdeal.Run
public import proofs.«01_k».proof.Proof.Gen.InBwdWRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.InBwdWRefIdeal.Read

namespace Cert.InBwdWTiles

open Cert.InBwdWIdeal Cert.InBwdWIdeal.Gen

variable (m : (ℓ : Loc nD τ sig) → Buf (Elt Ideal) ℓ)

/-- Which block each window stages at grid point `t`. -/
theorem idx : ∀ t : Fin cfg0.N, win0_0.index t = ![t.val % 4, t.val / 4 % 2] ∧ win0_1.index t = ![t.val % 4, t.val / 8]
    ∧ win0_2.index t = ![t.val / 8, t.val / 4 % 2, 0] :=
  (by decide +kernel : ∀ t : Fin grid0.N, _)

/-- Column `e` of device `s`, among the weight's columns. -/
def column (s : Fin 8) (e : Fin 384) : Fin 3072 := ⟨s.val * 384 + e.val, by omega⟩

/-- The reference's gradient. -/
theorem ref_grad (h : FVec Ideal S8192x2048 .bf16) (dp : FVec Ideal S8192x3072 .bf16) (s : Fin 8) (i : Fin 2048) (e : Fin 384) :
    val_main_v8 (F := Ideal) h dp (ix3 s i e) = ∑ r : Fin 8192, h (ix2 r i) * dp (ix2 r (column s e)) := by
  unfold column
  pointwise [val_main_v8, val_main_v7, val_main_v6, val_main_v5, val_main_v4, val_main_v3, val_main_v1]
  simp only [mul_comm]

/-- The token that row `k` of grid point `t`'s block of tokens is. -/
def token (t : Fin cfg0.N) (k : Fin 2048) : Fin 8192 := ⟨t.val % 4 * 2048 + k.val, by omega⟩

/-- The weight's row that row `i` of grid point `t`'s tile is. -/
def row (t : Fin cfg0.N) (i : Fin 1024) : Fin 2048 := ⟨t.val / 4 % 2 * 1024 + i.val, by omega⟩

/-- The weight's column that column `q` of grid point `t`'s tile is. -/
def col (t : Fin cfg0.N) (q : Fin 1536) : Fin 3072 := ⟨t.val / 8 * 1536 + q.val, by have := lt_of_lt_of_eq t.isLt N_0; omega⟩

/-- The device that keeps the tile's `s`-th run of columns. -/
def device (t : Fin cfg0.N) (s : Fin 4) : Fin 8 := ⟨t.val / 8 * 4 + s.val, by have := lt_of_lt_of_eq t.isLt N_0; omega⟩

/-- What the two input windows hold at grid point `t`. -/
abbrev rowBlock (c : Dev nD) (t : Fin cfg0.N) : FVec Ideal S2048x1024 .bf16 := iblk m c 0 t
@[inherit_doc rowBlock] abbrev gradBlock (c : Dev nD) (t : Fin cfg0.N) : FVec Ideal S2048x1536 .bf16 := iblk m c 1 t

/-- What a point's windows hold of the arguments. -/
theorem block_row (c : Dev nD) (t : Fin cfg0.N) (k : Fin 2048) (i : Fin 1024) :
    rowBlock m c t (ix2 k i) = m ((c : Thread nD τ).loc main_arg0) (ix2 (token t k) (row t i)) := by
  unfold token row; blk_ext [rowBlock, iblk, V, idx t]
@[inherit_doc block_row] theorem block_grad (c : Dev nD) (t : Fin cfg0.N) (k : Fin 2048) (q : Fin 1536) :
    gradBlock m c t (ix2 k q) = m ((c : Thread nD τ).loc main_arg1) (ix2 (token t k) (col t q)) := by
  unfold token col; blk_ext [gradBlock, iblk, V, idx t]

/-- The part of a tile that grid point `t`'s tokens add. -/
def part (c : Dev nD) (t : Fin cfg0.N) (y : S1x1024x1536.Idx) : EReal :=
  ∑ k : Fin 2048, rowBlock m c t (ix2 k (y 1)) * gradBlock m c t (ix2 k (y 2))

/-- The first block of tokens leaves its part in the scratch. -/
theorem sum_first (c : Dev nD) (t : Fin cfg0.N) (h : t.val % 4 = 0) (y : S1x1024x1536.Idx) :
    (outsAt0 m c t.val t.isLt).2 y = 0 + part m c t y := by
  idx_vars y
  obtain rfl : y0 = 0 := Subsingleton.elim _ _
  rw [outsAt0_A m c t h (by omega)]
  frame_out
  pointwise [k0_pay2, k0_pay1, part]

/-- Every later block adds its part. -/
theorem sum_later (c : Dev nD) (t : Fin cfg0.N) (h : ¬t.val % 4 = 0) (y : S1x1024x1536.Idx) :
    (outsAt0 m c t.val t.isLt).2 y = (outsAt0 m c (t.val - 1) (Nat.lt_of_le_of_lt (Nat.sub_le _ _) t.isLt)).2 y + part m c t y := by
  idx_vars y
  obtain rfl : y0 = 0 := Subsingleton.elim _ _
  by_cases h3 : t.val % 4 = 3
  on_goal 1 => rw [outsAt0_C m c t h h3]
  on_goal 2 => rw [outsAt0_B m c t h h3]
  all_goals
    frame_out
    pointwise [k0_pay2, part]
    rw [read_unread_whole]

/-- The last block's point deals the scratch's columns out to the devices. -/
theorem left2 (c : Dev nD) (t : Fin cfg0.N) (h : t.val % 4 = 3) (s : Fin 4) (i : Fin 1024) (e : Fin 384) :
    (outsAt0 m c t.val t.isLt).1 (ix3 s i e) = (outsAt0 m c t.val t.isLt).2 (ix3 0 i ⟨s.val * 384 + e.val, by omega⟩) := by
  rw [outsAt0_C m c t (by omega) h]
  frame_out
  canon_tiles x h
  all_goals
    idx_vars x
    obtain rfl : x0 = 0 := Subsingleton.elim _ _
    obtain ⟨s, hs⟩ := s
    change s = _ at h0
    subst h0
    obtain rfl : i = x1 := Fin.ext h1
    obtain rfl : e = x2 := Fin.ext h2
    pointwise [k0_pay7, k0_pay6, k0_pay5, k0_pay4, k0_pay3]

/-- The gradient: the kernel's array is the reference's. -/
theorem final2 (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  idx_vars y
  rw [left2 m c t h3, Pipeline.eq_sum_fin_of_reset_step_apply_of_flush (fun n h => (outsAt0 m c n h).2) 4 (fun _ => 0) (part m c)
    (sum_first m c) (sum_later m c) t h3, zero_add]
  have hs (s : Fin 4) : (4 * (t.val / 4) + s.val) % 4 = s.val ∧ (4 * (t.val / 4) + s.val) / 8 = t.val / 8 ∧ (4 * (t.val / 4) + s.val) / 4 = t.val / 4 := by
    omega
  have hc : column (device t y0) y2 = col t ⟨y0.val * 384 + y2.val, by omega⟩ := Fin.ext (by simp only [column, device, col]; omega)
  refine Eq.trans ?_ ((ref_grad _ _ (device t y0) (row t y1) y2).symm.trans (congrArg _ ?_))
  · rw [hc]
    refine Fin.sum_mul_add_congr (n := 2048) fun s k hl => ?_
    refine (congrArg₂ (· * ·) (block_row m c _ k y1) (block_grad m c _ k ⟨y0.val * 384 + y2.val, by omega⟩)).trans ?_
    simp only [token, row, col, hs s]
  · unfold device row
    blk_ext [idx t]

end Cert.InBwdWTiles
-- ==== Proof.GateRows.lean ====
/- The mixers' gates, a product of two devices' columns at a time with a bias: the kernel's tiles are the reference's. -/
module

public import proofs.«01_k».proof.Proof.Gen.GateFwdIdeal.Frame
public import proofs.«01_k».proof.Proof.Gen.GateFwdRefIdeal.Run
public import proofs.«01_k».proof.Proof.Gen.GateFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.GateFwdRefIdeal.Read

namespace Cert.GateRows

open Cert.GateFwdIdeal Cert.GateFwdIdeal.Gen

variable (m : (ℓ : Loc nD τ sig) → Buf (Elt Ideal) ℓ)

/-- Which block each window stages at grid point `t`. -/
theorem idx : ∀ t : Fin cfg0.N, win0_0.index t = ![t.val % 8, 0] ∧ win0_1.index t = ![t.val / 8, 0, 0]
    ∧ win0_2.index t = ![t.val / 16, 0, t.val / 8 % 2] ∧ win0_3.index t = ![t.val / 16, t.val % 8, t.val / 8 % 2] :=
  (by decide +kernel : ∀ t : Fin grid0.N, _)

/-- Column `e` of gate `g`, among the two gates' columns. -/
def column (g : Fin 2) (e : Fin 2048) : Fin 4096 := ⟨g.val * 2048 + e.val, by omega⟩

/-- The reference's gates. -/
theorem ref_rows (h : FVec Ideal S8192x2048 .bf16) (w : FVec Ideal S2048x4096 .f32) (b : FVec Ideal S1x4096 .f32) (g : Fin 2) (r : Fin 8192)
    (e : Fin 2048) : val_main_v9 (F := Ideal) h w b (ix3 g r e)
      = (∑ k : Fin 2048, h (ix2 r k) * w (ix2 k (column g e))) + b (ix2 0 (column g e)) := by
  unfold column
  fin_cases g <;>
  pointwise [val_main_v9, val_main_v8, val_main_v7, val_main_v6, val_main_v5, val_main_v4, val_main_v3, val_main_v2, val_main_v1, val_main_v0]

/-- The row of the result that row `r` of grid point `t`'s tile is. -/
def row (t : Fin cfg0.N) (r : Fin 1024) : Fin 8192 :=
  ⟨(t.val % 8) * 1024 + r.val, by have := lt_of_lt_of_eq t.isLt N_0; omega⟩

/-- The column of the result that column `q` of grid point `t`'s tile is. -/
def col (t : Fin cfg0.N) (q : Fin 1024) : Fin 2048 :=
  ⟨(t.val / 8 % 2) * 1024 + q.val, by have := lt_of_lt_of_eq t.isLt N_0; omega⟩

/-- The gate that grid point `t` computes. -/
def gate (t : Fin cfg0.N) : Fin 2 := ⟨t.val / 16, by have := lt_of_lt_of_eq t.isLt N_0; omega⟩

/-- What the three input windows hold at grid point `t`. -/
abbrev rowBlock (c : Dev nD) (t : Fin cfg0.N) : FVec Ideal S1024x2048 .bf16 := iblk m c 0 t
@[inherit_doc rowBlock] abbrev weightBlock (c : Dev nD) (t : Fin cfg0.N) : FVec Ideal S2x2048x512 .bf16 := iblk m c 1 t
@[inherit_doc rowBlock] abbrev biasBlock (c : Dev nD) (t : Fin cfg0.N) : FVec Ideal S1x1x1024 .f32 := iblk m c 2 t

/-- The rows that a point stages. -/
theorem block_row (c : Dev nD) (t : Fin cfg0.N) (r : Fin 1024) (k : Fin 2048) :
    rowBlock m c t (ix2 r k) = m ((c : Thread nD τ).loc main_arg0) (ix2 (row t r) k) := by
  unfold row; blk_ext [rowBlock, iblk, V, idx t]

/-- The two devices' columns that a point stages. -/
theorem block_weight (c : Dev nD) (t : Fin cfg0.N) (s : Fin 2) (k : Fin 2048) (e : Fin 512) : weightBlock m c t (ix3 s k e)
    = m ((c : Thread nD τ).loc main_arg1) (ix2 k (column (gate t) (col t ⟨s.val * 512 + e.val, by omega⟩))) := by
  blk_simp [weightBlock, iblk, V]
  entry_read
  pointwise []
  unfold column gate col
  blk_point [idx t]

/-- The part of the bias that a point stages. -/
theorem block_bias (c : Dev nD) (t : Fin cfg0.N) (q : Fin 1024) :
    biasBlock m c t (ix3 0 0 q) = m ((c : Thread nD τ).loc main_arg2) (ix2 0 (column (gate t) (col t q))) := by
  blk_simp [biasBlock, iblk, V]
  entry_read
  pointwise []
  unfold column gate col
  blk_point [idx t]

/-- What a grid point leaves in its tile. -/
theorem left3 (A : FVec Ideal S1024x2048 .bf16) (B : FVec Ideal S2x2048x512 .bf16) (Z : FVec Ideal S1x1x1024 .f32) (r q : Fin 1024) :
    out0_3 (F := Ideal) A B Z (ix3 0 r q)
      = (∑ k : Fin 2048, A (ix2 r k) * B (ix3 ⟨q.val / 512, by omega⟩ k ⟨q.val % 512, by omega⟩)) + Z (ix3 0 0 q) := by
  frame_out
  pointwise [k0_pay1]
  refine congrArg (· + _) (Finset.sum_congr rfl fun k _ => congrArg _ ?_)
  split_ifs with hq
  · exact congrArg₂ (fun s e => B (ix3 s k e)) (Fin.ext (by show 0 = q.val / 512; omega)) (Fin.ext (by show q.val = q.val % 512; omega))
  · exact congrArg₂ (fun s e => B (ix3 s k e)) (Fin.ext (by show 1 = q.val / 512; omega)) (Fin.ext (by show q.val - 512 = q.val % 512; omega))
  · exact absurd rfl ‹¬_›

/-- The gates: the kernel's array is the reference's. -/
theorem final3 (c : Dev nD) : (dats m 0 c).arrAt 3 cfg0.N
    = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  obtain rfl : y0 = 0 := Subsingleton.elim _ _
  refine (left3 (rowBlock m c t) (weightBlock m c t) (biasBlock m c t) y1 y2).trans ?_
  have hq : (⟨y2.val / 512 * 512 + y2.val % 512, by omega⟩ : Fin 1024) = y2 := Fin.ext (Nat.div_add_mod' _ _)
  simp only [block_row, block_weight, block_bias, hq]
  refine (ref_rows _ _ _ (gate t) (row t y1) (col t y2)).symm.trans (congrArg _ ?_)
  unfold gate row col
  blk_ext [idx t]

end Cert.GateRows
-- ==== Proof.AdamRows.lean ====
/- The optimiser's step on one device's shard of a weight: the gradient is the sum of the devices' parts, and every entry of the weight moves by its own two moments. -/
module

public import proofs.«01_k».proof.Proof.Gen.AdamShardIdeal.Frame
public import proofs.«01_k».proof.Proof.Gen.AdamShardRefIdeal.Run
public import proofs.«01_k».proof.Proof.Gen.AdamShardRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.AdamShardRefIdeal.Read

namespace Cert.AdamRows

open Cert.AdamShardIdeal Cert.AdamShardIdeal.Gen

variable (m : (ℓ : Loc nD τ sig) → Buf (Elt Ideal) ℓ)

/-- Which block each window stages at grid point `t`. -/
theorem idx : ∀ t : Fin cfg0.N, (win0_0.index t = ![0, t.val, 0] ∧ win0_1.index t = ![1, t.val, 0] ∧ win0_2.index t = ![2, t.val, 0]
    ∧ win0_3.index t = ![3, t.val, 0] ∧ win0_4.index t = ![4, t.val, 0] ∧ win0_5.index t = ![5, t.val, 0] ∧ win0_6.index t = ![6, t.val, 0]
    ∧ win0_7.index t = ![7, t.val, 0]) ∧ (win0_8.index t = ![t.val, 0] ∧ win0_9.index t = ![t.val, 0] ∧ win0_10.index t = ![t.val, 0])
    ∧ win0_11.index t = ![t.val, 0] ∧ win0_12.index t = ![t.val, 0] ∧ win0_13.index t = ![t.val, 0] ∧ win0_14.index t = ![t.val, 0] :=
  (by decide +kernel : ∀ t : Fin grid0.N, _)

/-- A single-precision literal. -/
abbrev lit (b : BitVec 32) : EReal := Ideal.ofBits FTy.f32 b

/-- The new first moment of an entry with gradient `g`. -/
def first (g a : EReal) : EReal := lit 0x3F666666#32 * a + lit 0x3DCCCCCD#32 * g

/-- The new second moment of an entry with gradient `g`. -/
def second (g v : EReal) : EReal := lit 0x3F7FBE77#32 * v + lit 0x3A83126F#32 * (g * g)

/-- The change of a weight `w` whose new moments are `a` and `v`. -/
def change (w a v : EReal) : EReal :=
  lit 0xBA83126F#32 * (Ideal.div (Ideal.div a (lit 0x3F26BD02#32)) (Ideal.sqrt (Ideal.div v (lit 0x3C231ACC#32)) + lit 0x322BCC77#32) + lit 0x3C23D70A#32 * w)

/-- The reference's gradient. -/
theorem ref_grad (p : FVec Ideal S8x256x2048 .bf16) (r : Fin 256) (d : Fin 2048) :
    val_main_v1 (F := Ideal) p (ix2 r d) = ∑ s : Fin 8, p (ix3 s r d) := by
  pointwise [val_main_v1, val_main_v0, val_main_cst]

/-- The reference's new first moment. -/
theorem ref_first (p : FVec Ideal S8x256x2048 .bf16) (a : FVec Ideal S256x2048 .f32) (r : Fin 256) (d : Fin 2048) :
    val_main_v6 (F := Ideal) p a (ix2 r d) = first (val_main_v1 (F := Ideal) p (ix2 r d)) (a (ix2 r d)) := by
  pointwise [val_main_v6, val_main_v5, val_main_v4, val_main_v3, val_main_v2, val_main_cst_0, val_main_cst_1, first]

/-- The reference's new second moment. -/
theorem ref_second (p : FVec Ideal S8x256x2048 .bf16) (v : FVec Ideal S256x2048 .f32) (r : Fin 256) (d : Fin 2048) :
    val_main_v12 (F := Ideal) p v (ix2 r d) = second (val_main_v1 (F := Ideal) p (ix2 r d)) (v (ix2 r d)) := by
  pointwise [val_main_v12, val_main_v11, val_main_v10, val_main_v9, val_main_v8, val_main_v7, val_main_cst_2, val_main_cst_3, second]

/-- The reference's change of the weight. -/
theorem ref_change (p : FVec Ideal S8x256x2048 .bf16) (w a v : FVec Ideal S256x2048 .f32) (r : Fin 256) (d : Fin 2048) :
    val_main_v25 (F := Ideal) p w a v (ix2 r d)
      = change (w (ix2 r d)) (val_main_v6 (F := Ideal) p a (ix2 r d)) (val_main_v12 (F := Ideal) p v (ix2 r d)) := by
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8, change]

/-- The row that row `r` of grid point `t`'s tile is. -/
def row (t : Fin cfg0.N) (r : Fin 128) : Fin 256 := ⟨t.val * 128 + r.val, by have := lt_of_lt_of_eq t.isLt N_0; omega⟩

/-- The devices' parts that grid point `t` stages. -/
def parts (c : Dev nD) (t : Fin cfg0.N) : Fin 8 → FVec Ideal S1x128x2048 .bf16 :=
  ![iblk m c 0 t, iblk m c 1 t, iblk m c 2 t, iblk m c 3 t, iblk m c 4 t, iblk m c 5 t, iblk m c 6 t, iblk m c 7 t]

/-- The tiles of the weight and of its two moments that grid point `t` stages. -/
abbrev weights (c : Dev nD) (t : Fin cfg0.N) : FVec Ideal S128x2048 .f32 := iblk m c 8 t
@[inherit_doc weights] abbrev firsts (c : Dev nD) (t : Fin cfg0.N) : FVec Ideal S128x2048 .f32 := iblk m c 9 t
@[inherit_doc weights] abbrev seconds (c : Dev nD) (t : Fin cfg0.N) : FVec Ideal S128x2048 .f32 := iblk m c 10 t

/-- What the windows hold of the arguments. -/
theorem block_part (c : Dev nD) (t : Fin cfg0.N) (s : Fin 8) (r : Fin 128) (d : Fin 2048) :
    parts m c t s (ix3 0 r d) = m ((c : Thread nD τ).loc main_arg0) (ix3 s (row t r) d) := by
  unfold row
  fin_cases s <;> blk_ext [parts, iblk, V, idx t]
@[inherit_doc block_part] theorem block_weight (c : Dev nD) (t : Fin cfg0.N) (r : Fin 128) (d : Fin 2048) :
    weights m c t (ix2 r d) = m ((c : Thread nD τ).loc main_arg1) (ix2 (row t r) d) := by
  unfold row; blk_ext [weights, iblk, V, idx t]
@[inherit_doc block_part] theorem block_first (c : Dev nD) (t : Fin cfg0.N) (r : Fin 128) (d : Fin 2048) :
    firsts m c t (ix2 r d) = m ((c : Thread nD τ).loc main_arg2) (ix2 (row t r) d) := by
  unfold row; blk_ext [firsts, iblk, V, idx t]
@[inherit_doc block_part] theorem block_second (c : Dev nD) (t : Fin cfg0.N) (r : Fin 128) (d : Fin 2048) :
    seconds m c t (ix2 r d) = m ((c : Thread nD τ).loc main_arg3) (ix2 (row t r) d) := by
  unfold row; blk_ext [seconds, iblk, V, idx t]

section
variable (p : Fin 8 → FVec Ideal S1x128x2048 .bf16) (w a v : FVec Ideal S128x2048 .f32) (r : Fin 128) (d : Fin 2048)

/-- A point sums the devices' parts. -/
theorem left_grad : out0_11 (F := Ideal) (p 0) (p 1) (p 2) (p 3) (p 4) (p 5) (p 6) (p 7) w a v (ix2 r d) = ∑ s : Fin 8, p s (ix3 0 r d) := by
  rw [Fin.sum_univ_eight]
  frame_out
  pointwise [k0_pay5, k0_pay4]

/-- What a point leaves of the first moment. -/
theorem left_first : out0_13 (F := Ideal) (p 0) (p 1) (p 2) (p 3) (p 4) (p 5) (p 6) (p 7) w a v (ix2 r d) = first (∑ s : Fin 8, p s (ix3 0 r d)) (a (ix2 r d)) := by
  rw [Fin.sum_univ_eight]
  frame_out
  pointwise [k0_pay5, k0_pay4, k0_pay1, first]

/-- What a point leaves of the second moment. -/
theorem left_second : out0_14 (F := Ideal) (p 0) (p 1) (p 2) (p 3) (p 4) (p 5) (p 6) (p 7) w a v (ix2 r d) = second (∑ s : Fin 8, p s (ix3 0 r d)) (v (ix2 r d)) := by
  rw [Fin.sum_univ_eight]
  frame_out
  pointwise [k0_pay5, k0_pay4, k0_pay2, second]

/-- What a point leaves of the weight's change. -/
theorem left_change : out0_12 (F := Ideal) (p 0) (p 1) (p 2) (p 3) (p 4) (p 5) (p 6) (p 7) w a v (ix2 r d)
    = change (w (ix2 r d)) (first (∑ s : Fin 8, p s (ix3 0 r d)) (a (ix2 r d))) (second (∑ s : Fin 8, p s (ix3 0 r d)) (v (ix2 r d))) := by
  rw [Fin.sum_univ_eight]
  frame_out
  pointwise [k0_pay5, k0_pay4, k0_pay3, k0_pay2, k0_pay1, change, first, second]

end

/-- The gradient: the kernel's array is the reference's. -/
theorem final11 (c : Dev nD) : (dats m 0 c).arrAt 11 cfg0.N
    = val_main_v1 (F := Ideal) (m ((c : Thread nD τ).loc main_arg0)) := by
  refine (dats m 0 c).arrAt_eq_of_covers 11 _ (by decide +kernel) fun t _ y => ?_
  blk_simp
  rw [after0_11]
  idx_vars y
  refine (left_grad (parts m c t) (weights m c t) (firsts m c t) (seconds m c t) y0 y1).trans ?_
  simp only [block_part]
  refine (ref_grad _ (row t y0) y1).symm.trans (congrArg _ ?_)
  unfold row
  blk_ext [idx t]

/-- The weight's change: the kernel's array is the reference's. -/
theorem final12 (c : Dev nD) : (dats m 0 c).arrAt 12 cfg0.N
    = val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12]
  idx_vars y
  refine (left_change (parts m c t) (weights m c t) (firsts m c t) (seconds m c t) y0 y1).trans ?_
  simp only [block_part, block_weight, block_first, block_second, ← ref_grad, ← ref_first, ← ref_second]
  refine (ref_change _ _ _ _ (row t y0) y1).symm.trans (congrArg _ ?_)
  unfold row
  blk_ext [idx t]

/-- The first moment: the kernel's array is the reference's. -/
theorem final13 (c : Dev nD) : (dats m 0 c).arrAt 13 cfg0.N
    = val_main_v6 (F := Ideal) (m ((c : Thread nD τ).loc main_arg0)) (m ((c : Thread nD τ).loc main_arg2)) := by
  refine (dats m 0 c).arrAt_eq_of_covers 13 _ (by decide +kernel) fun t _ y => ?_
  blk_simp
  rw [after0_13]
  idx_vars y
  refine (left_first (parts m c t) (weights m c t) (firsts m c t) (seconds m c t) y0 y1).trans ?_
  simp only [block_part, block_first, ← ref_grad]
  refine (ref_first _ _ (row t y0) y1).symm.trans (congrArg _ ?_)
  unfold row
  blk_ext [idx t]

/-- The second moment: the kernel's array is the reference's. -/
theorem final14 (c : Dev nD) : (dats m 0 c).arrAt 14 cfg0.N
    = val_main_v12 (F := Ideal) (m ((c : Thread nD τ).loc main_arg0)) (m ((c : Thread nD τ).loc main_arg3)) := by
  refine (dats m 0 c).arrAt_eq_of_covers 14 _ (by decide +kernel) fun t _ y => ?_
  blk_simp
  rw [after0_14]
  idx_vars y
  refine (left_second (parts m c t) (weights m c t) (firsts m c t) (seconds m c t) y0 y1).trans ?_
  simp only [block_part, block_second, ← ref_grad]
  refine (ref_second _ _ (row t y0) y1).symm.trans (congrArg _ ?_)
  unfold row
  blk_ext [idx t]

end Cert.AdamRows
-- ==== Proof.GateBwdARows.lean ====
/- The gradient of the gates' projection in its input: eight products, one for each device's run of the weight's columns, added up. -/
module

public import proofs.«01_k».proof.Proof.Gen.GateBwdAIdeal.Frame
public import proofs.«01_k».proof.Proof.Gen.GateBwdARefIdeal.Run
public import proofs.«01_k».proof.Proof.Gen.GateBwdARefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.GateBwdARefIdeal.Read

namespace Cert.GateBwdARows

open Cert.GateBwdAIdeal Cert.GateBwdAIdeal.Gen

variable (m : (ℓ : Loc nD τ sig) → Buf (Elt Ideal) ℓ)

/-- Which block each window stages at grid point `t`. -/
theorem idx : ∀ t : Fin cfg0.N, win0_0.index t = ![0, t.val / 2, 0] ∧ win0_1.index t = ![0, t.val % 2, 0]
    ∧ win0_2.index t = ![t.val / 2, t.val % 2] :=
  (by decide +kernel : ∀ t : Fin grid0.N, _)

/-- The reference's gradient. -/
theorem ref_grad (w : FVec Ideal S2048x4096 .f32) (dg : FVec Ideal S8192x4096 .bf16) (r : Fin 8192) (d : Fin 2048) :
    val_main_v4 (F := Ideal) w dg (ix2 r d) = ∑ k : Fin 4096, dg (ix2 r k) * w (ix2 d k) := by
  pointwise [val_main_v4, val_main_v3, val_main_v2, val_main_v1, val_main_v0]

/-- The row of the result that row `r` of grid point `t`'s tile is. -/
def row (t : Fin cfg0.N) (r : Fin 1024) : Fin 8192 :=
  ⟨t.val / 2 * 1024 + r.val, by have := lt_of_lt_of_eq t.isLt N_0; omega⟩

/-- The column of the result that column `q` of grid point `t`'s tile is. -/
def col (t : Fin cfg0.N) (q : Fin 1024) : Fin 2048 := ⟨t.val % 2 * 1024 + q.val, by omega⟩

/-- What the two input windows hold at grid point `t`. -/
abbrev gradBlock (c : Dev nD) (t : Fin cfg0.N) : FVec Ideal S2x1024x2048 .bf16 := iblk m c 0 t
@[inherit_doc gradBlock] abbrev weightBlock (c : Dev nD) (t : Fin cfg0.N) : FVec Ideal S8x1024x512 .bf16 := iblk m c 1 t

/-- The cotangent's rows that a point stages, gate by gate. -/
theorem block_grad (c : Dev nD) (t : Fin cfg0.N) (g : Fin 2) (r : Fin 1024) (k : Fin 2048) :
    gradBlock m c t (ix3 g r k) = m ((c : Thread nD τ).loc main_arg1) (ix2 (row t r) ⟨g.val * 2048 + k.val, by omega⟩) := by
  have hx : ((View.whole main_v4).slice (win0_0.rect t)).emb (ix3 g r k) = ix3 g (row t r) k := by
    unfold row; blk_ext [idx t]
  blk_simp [gradBlock, iblk, V]
  entry_read
  rw [hx]
  fin_cases g
  all_goals
    pointwise []

/-- The devices' columns of the weight's rows that a point stages. -/
theorem block_weight (c : Dev nD) (t : Fin cfg0.N) (s : Fin 8) (d : Fin 1024) (k : Fin 512) :
    weightBlock m c t (ix3 s d k) = m ((c : Thread nD τ).loc main_arg0) (ix2 (col t d) ⟨s.val * 512 + k.val, by omega⟩) := by
  blk_simp [weightBlock, iblk, V]
  entry_read
  pointwise []
  unfold col
  blk_point [idx t]

/-- What a grid point leaves in its tile: one product for each device's run of columns. -/
theorem left2 (A : FVec Ideal S2x1024x2048 .bf16) (B : FVec Ideal S8x1024x512 .bf16) (r d : Fin 1024) :
    out0_2 (F := Ideal) A B (ix2 r d)
      = ∑ s : Fin 8, ∑ k : Fin 512, A (ix3 ⟨s.val / 4, by omega⟩ r ⟨s.val % 4 * 512 + k.val, by omega⟩) * B (ix3 s d k) := by
  rw [Fin.sum_univ_eight]
  frame_out
  pointwise [k0_pay1, k0_pay2, k0_pay3]

/-- The gradient: the kernel's array is the reference's. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  refine (left2 (gradBlock m c t) (weightBlock m c t) y0 y1).trans ?_
  simp only [block_grad, block_weight]
  refine Eq.trans ?_ ((ref_grad _ _ (row t y0) (col t y1)).symm.trans (congrArg _ ?_))
  · refine Fin.sum_mul_add_congr (n := 512) fun s k hl => ?_
    refine congrArg (· * _) (congrArg (fun q => m ((c : Thread nD τ).loc main_arg1) (ix2 (row t y0) q)) (Fin.ext ?_))
    simp only []
    omega
  · unfold row col
    blk_ext [idx t]

end Cert.GateBwdARows
-- ==== Proof.BranchRows.lean ====
/- A branch's projection, whose weight lies in eight devices' runs of columns: each tile of rows is one product with the runs side by side. -/
module

public import proofs.«01_k».proof.Proof.Gen.BranchFwdIdeal.Frame
public import proofs.«01_k».proof.Proof.Gen.BranchFwdRefIdeal.Run
public import proofs.«01_k».proof.Proof.Gen.BranchFwdRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.BranchFwdRefIdeal.Read

namespace Cert.BranchRows

open Cert.BranchFwdIdeal Cert.BranchFwdIdeal.Gen

variable (m : (ℓ : Loc nD τ sig) → Buf (Elt Ideal) ℓ)

/-- Which block each window stages at grid point `t`. -/
theorem idx : ∀ t : Fin cfg0.N, win0_0.index t = ![t.val, 0] ∧ win0_1.index t = ![0, 0, 0] ∧ win0_2.index t = ![t.val, 0] :=
  (by decide +kernel : ∀ t : Fin grid0.N, _)

/-- The reference's product. -/
theorem ref_rows (y : FVec Ideal S8192x1024 .bf16) (w : FVec Ideal S1024x2048 .f32) (r : Fin 8192) (e : Fin 2048) :
    val_main_v2 (F := Ideal) y w (ix2 r e) = ∑ k : Fin 1024, y (ix2 r k) * w (ix2 k e) := by
  pointwise [val_main_v2, val_main_v1, val_main_v0]

/-- The row of the result that row `r` of grid point `t`'s tile is. -/
def row (t : Fin cfg0.N) (r : Fin 1024) : Fin 8192 :=
  ⟨t.val * 1024 + r.val, by have := lt_of_lt_of_eq t.isLt N_0; omega⟩

/-- What the two input windows hold at grid point `t`. -/
abbrev rowBlock (c : Dev nD) (t : Fin cfg0.N) : FVec Ideal S1024x1024 .bf16 := iblk m c 0 t
@[inherit_doc rowBlock] abbrev weightBlock (c : Dev nD) (t : Fin cfg0.N) : FVec Ideal S8x1024x256 .bf16 := iblk m c 1 t

/-- The rows that a point stages. -/
theorem block_row (c : Dev nD) (t : Fin cfg0.N) (r k : Fin 1024) :
    rowBlock m c t (ix2 r k) = m ((c : Thread nD τ).loc main_arg0) (ix2 (row t r) k) := by
  unfold row; blk_ext [rowBlock, iblk, V, idx t]

/-- The devices' columns of the weight, which every point stages. -/
theorem block_weight (c : Dev nD) (t : Fin cfg0.N) (s : Fin 8) (k : Fin 1024) (e : Fin 256) :
    weightBlock m c t (ix3 s k e) = m ((c : Thread nD τ).loc main_arg1) (ix2 k ⟨s.val * 256 + e.val, by omega⟩) := by
  blk_simp [weightBlock, iblk, V]
  entry_read
  pointwise []
  blk_point [idx t]

/-- Where column `q` lies among the devices' runs. -/
theorem at_column (B : FVec Ideal S8x1024x256 .bf16) (k : Fin 1024) (q : Fin 2048) (s : Fin 8) (e : Fin 256) (h : s.val * 256 + e.val = q.val) :
    B (ix3 s k e) = B (ix3 ⟨q.val / 256, by omega⟩ k ⟨q.val % 256, by omega⟩) :=
  congrArg₂ (fun s e => B (ix3 s k e)) (Fin.ext (by simp only []; omega)) (Fin.ext (by simp only []; omega))

/-- What a grid point leaves in its tile. -/
theorem left2 (A : FVec Ideal S1024x1024 .bf16) (B : FVec Ideal S8x1024x256 .bf16) (r : Fin 1024) (q : Fin 2048) :
    out0_2 (F := Ideal) A B (ix2 r q)
      = ∑ k : Fin 1024, A (ix2 r k) * B (ix3 ⟨q.val / 256, by omega⟩ k ⟨q.val % 256, by omega⟩) := by
  frame_out
  pointwise [k0_pay1]
  refine Finset.sum_congr rfl fun k _ => congrArg _ ?_
  split_ifs
  all_goals first
    | exact absurd rfl ‹¬_›
    | exact at_column B k q _ _ (by simp <;> omega)

/-- The projection: the kernel's array is the reference's. -/
theorem final2 (c : Dev nD) : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  refine (left2 (rowBlock m c t) (weightBlock m c t) y0 y1).trans ?_
  have hq : (⟨y1.val / 256 * 256 + y1.val % 256, by omega⟩ : Fin 2048) = y1 := Fin.ext (Nat.div_add_mod' _ _)
  simp only [block_row, block_weight, hq]
  refine (ref_rows _ _ (row t y0) y1).symm.trans (congrArg _ ?_)
  unfold row
  blk_ext [idx t]

end Cert.BranchRows
-- ==== Proof.BranchBwdARows.lean ====
/- The gradient of a branch's projection in its input: eight products, one for each device's run of the weight's columns, added up. -/
module

public import proofs.«01_k».proof.Proof.Gen.BranchBwdAIdeal.Frame
public import proofs.«01_k».proof.Proof.Gen.BranchBwdARefIdeal.Run
public import proofs.«01_k».proof.Proof.Gen.BranchBwdARefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.BranchBwdARefIdeal.Read

namespace Cert.BranchBwdARows

open Cert.BranchBwdAIdeal Cert.BranchBwdAIdeal.Gen

variable (m : (ℓ : Loc nD τ sig) → Buf (Elt Ideal) ℓ)

/-- Which block each window stages at grid point `t`. -/
theorem idx : ∀ t : Fin cfg0.N, win0_0.index t = ![t.val, 0] ∧ win0_1.index t = ![0, 0, 0] ∧ win0_2.index t = ![t.val, 0] :=
  (by decide +kernel : ∀ t : Fin grid0.N, _)

/-- The reference's gradient. -/
theorem ref_grad (w : FVec Ideal S1024x2048 .f32) (dp : FVec Ideal S8192x2048 .bf16) (r : Fin 8192) (d : Fin 1024) :
    val_main_v4 (F := Ideal) w dp (ix2 r d) = ∑ k : Fin 2048, dp (ix2 r k) * w (ix2 d k) := by
  pointwise [val_main_v4, val_main_v3, val_main_v2, val_main_v1, val_main_v0]

/-- The row of the result that row `r` of grid point `t`'s tile is. -/
def row (t : Fin cfg0.N) (r : Fin 1024) : Fin 8192 :=
  ⟨t.val * 1024 + r.val, by have := lt_of_lt_of_eq t.isLt N_0; omega⟩

/-- What the two input windows hold at grid point `t`. -/
abbrev gradBlock (c : Dev nD) (t : Fin cfg0.N) : FVec Ideal S1024x2048 .bf16 := iblk m c 0 t
@[inherit_doc gradBlock] abbrev weightBlock (c : Dev nD) (t : Fin cfg0.N) : FVec Ideal S8x1024x256 .bf16 := iblk m c 1 t

/-- The cotangent's rows that a point stages. -/
theorem block_grad (c : Dev nD) (t : Fin cfg0.N) (r : Fin 1024) (k : Fin 2048) :
    gradBlock m c t (ix2 r k) = m ((c : Thread nD τ).loc main_arg1) (ix2 (row t r) k) := by
  unfold row; blk_ext [gradBlock, iblk, V, idx t]

/-- The devices' columns of the weight, which every point stages. -/
theorem block_weight (c : Dev nD) (t : Fin cfg0.N) (s : Fin 8) (d : Fin 1024) (k : Fin 256) :
    weightBlock m c t (ix3 s d k) = m ((c : Thread nD τ).loc main_arg0) (ix2 d ⟨s.val * 256 + k.val, by omega⟩) := by
  blk_simp [weightBlock, iblk, V]
  entry_read
  pointwise []
  blk_point [idx t]

/-- What a grid point leaves in its tile: one product for each device's run of columns. -/
theorem left2 (A : FVec Ideal S1024x2048 .bf16) (B : FVec Ideal S8x1024x256 .bf16) (r d : Fin 1024) :
    out0_2 (F := Ideal) A B (ix2 r d)
      = ∑ s : Fin 8, ∑ k : Fin 256, A (ix2 r ⟨s.val * 256 + k.val, by omega⟩) * B (ix3 s d k) := by
  rw [Fin.sum_univ_eight]
  frame_out
  pointwise [k0_pay1, k0_pay2]

/-- The gradient: the kernel's array is the reference's. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  idx_vars y
  refine (left2 (gradBlock m c t) (weightBlock m c t) y0 y1).trans ?_
  simp only [block_grad, block_weight]
  refine Eq.trans ?_ ((ref_grad _ _ (row t y0) y1).symm.trans (congrArg _ ?_))
  · exact Fin.sum_mul_add_congr (n := 256) fun s k hl => rfl
  · unfold row
    blk_ext [idx t]

end Cert.BranchBwdARows
-- ==== Proof.GateBwdWTiles.lean ====
/- The gradient of the gates' weight: each tile adds up its tokens' products in a scratch buffer and deals its columns out to two devices. -/
module

public import proofs.«01_k».proof.Proof.Gen.GateBwdWIdeal.Frame
public import proofs.«01_k».proof.Proof.Gen.GateBwdWRefIdeal.Run
public import proofs.«01_k».proof.Proof.Gen.GateBwdWRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.GateBwdWRefIdeal.Read

namespace Cert.GateBwdWTiles

open Cert.GateBwdWIdeal Cert.GateBwdWIdeal.Gen

variable (m : (ℓ : Loc nD τ sig) → Buf (Elt Ideal) ℓ)

/-- Which block each window stages at grid point `t`. -/
theorem idx : ∀ t : Fin cfg0.N, win0_0.index t = ![t.val % 4, t.val / 4 % 2] ∧ win0_1.index t = ![t.val / 16, t.val % 4, t.val / 8 % 2]
    ∧ win0_2.index t = ![t.val / 8, t.val / 4 % 2, 0] :=
  (by decide +kernel : ∀ t : Fin grid0.N, _)

/-- Column `e` of device `s`, among the columns of both gates. -/
def column (s : Fin 8) (e : Fin 512) : Fin 4096 := ⟨s.val * 512 + e.val, by omega⟩

/-- The reference's gradient. -/
theorem ref_grad (h : FVec Ideal S8192x2048 .bf16) (dg : FVec Ideal S8192x4096 .bf16) (s : Fin 8) (i : Fin 2048) (e : Fin 512) :
    val_main_v8 (F := Ideal) h dg (ix3 s i e) = ∑ r : Fin 8192, h (ix2 r i) * dg (ix2 r (column s e)) := by
  unfold column
  pointwise [val_main_v8, val_main_v7, val_main_v6, val_main_v5, val_main_v4, val_main_v3, val_main_v1]
  simp only [mul_comm]

/-- The token that row `k` of grid point `t`'s block of tokens is. -/
def token (t : Fin cfg0.N) (k : Fin 2048) : Fin 8192 := ⟨t.val % 4 * 2048 + k.val, by omega⟩

/-- The weight's row that row `i` of grid point `t`'s tile is. -/
def row (t : Fin cfg0.N) (i : Fin 1024) : Fin 2048 := ⟨t.val / 4 % 2 * 1024 + i.val, by omega⟩

/-- The column of both gates that column `q` of grid point `t`'s tile is. -/
def col (t : Fin cfg0.N) (q : Fin 1024) : Fin 4096 := ⟨t.val / 8 * 1024 + q.val, by have := lt_of_lt_of_eq t.isLt N_0; omega⟩

/-- The gate whose columns grid point `t` takes, and a column's place among them. -/
def gate (t : Fin cfg0.N) : Fin 2 := ⟨t.val / 16, by have := lt_of_lt_of_eq t.isLt N_0; omega⟩
@[inherit_doc gate] def lane (t : Fin cfg0.N) (q : Fin 1024) : Fin 2048 := ⟨t.val / 8 % 2 * 1024 + q.val, by omega⟩

/-- The device that keeps the tile's `s`-th run of columns. -/
def device (t : Fin cfg0.N) (s : Fin 2) : Fin 8 := ⟨t.val / 8 * 2 + s.val, by have := lt_of_lt_of_eq t.isLt N_0; omega⟩

/-- What the two input windows hold at grid point `t`. -/
abbrev rowBlock (c : Dev nD) (t : Fin cfg0.N) : FVec Ideal S2048x1024 .bf16 := iblk m c 0 t
@[inherit_doc rowBlock] abbrev gradBlock (c : Dev nD) (t : Fin cfg0.N) : FVec Ideal S1x2048x1024 .bf16 := iblk m c 1 t

/-- The rows that a point stages. -/
theorem block_row (c : Dev nD) (t : Fin cfg0.N) (k : Fin 2048) (i : Fin 1024) :
    rowBlock m c t (ix2 k i) = m ((c : Thread nD τ).loc main_arg0) (ix2 (token t k) (row t i)) := by
  unfold token row; blk_ext [rowBlock, iblk, V, idx t]

/-- The cotangent's rows that a point stages, of one gate. -/
theorem block_grad (c : Dev nD) (t : Fin cfg0.N) (k : Fin 2048) (q : Fin 1024) :
    gradBlock m c t (ix3 0 k q) = m ((c : Thread nD τ).loc main_arg1) (ix2 (token t k) (col t q)) := by
  have hx : ((View.whole main_v4).slice (win0_1.rect t)).emb (ix3 0 k q) = ix3 (gate t) (token t k) (lane t q) := by
    unfold gate token lane; blk_ext [idx t]
  have ht := lt_of_lt_of_eq t.isLt N_0
  blk_simp [gradBlock, iblk, V]
  entry_read
  rw [hx]
  pointwise []
  split_ifs with hg
  all_goals
    refine congrArg (fun e => m ((c : Thread nD τ).loc main_arg1) (ix2 (token t k) e)) (Fin.ext ?_)
    unfold gate at hg
    simp only [lane, col] at hg ⊢
    omega

/-- The part of a tile that grid point `t`'s tokens add. -/
def part (c : Dev nD) (t : Fin cfg0.N) (y : S1x1024x1024.Idx) : EReal :=
  ∑ k : Fin 2048, rowBlock m c t (ix2 k (y 1)) * gradBlock m c t (ix3 0 k (y 2))

/-- The first block of tokens leaves its part in the scratch. -/
theorem sum_first (c : Dev nD) (t : Fin cfg0.N) (h : t.val % 4 = 0) (y : S1x1024x1024.Idx) :
    (outsAt0 m c t.val t.isLt).2 y = 0 + part m c t y := by
  idx_vars y
  obtain rfl : y0 = 0 := Subsingleton.elim _ _
  rw [outsAt0_A m c t h (by omega)]
  frame_out
  pointwise [k0_pay2, k0_pay1, part]

/-- Every later block adds its part. -/
theorem sum_later (c : Dev nD) (t : Fin cfg0.N) (h : ¬t.val % 4 = 0) (y : S1x1024x1024.Idx) :
    (outsAt0 m c t.val t.isLt).2 y = (outsAt0 m c (t.val - 1) (Nat.lt_of_le_of_lt (Nat.sub_le _ _) t.isLt)).2 y + part m c t y := by
  idx_vars y
  obtain rfl : y0 = 0 := Subsingleton.elim _ _
  by_cases h3 : t.val % 4 = 3
  on_goal 1 => rw [outsAt0_C m c t h h3]
  on_goal 2 => rw [outsAt0_B m c t h h3]
  all_goals
    frame_out
    pointwise [k0_pay2, part]
    rw [read_unread_whole]

/-- The last block's point deals the scratch's columns out to two devices. -/
theorem left2 (c : Dev nD) (t : Fin cfg0.N) (h : t.val % 4 = 3) (s : Fin 2) (i : Fin 1024) (e : Fin 512) :
    (outsAt0 m c t.val t.isLt).1 (ix3 s i e) = (outsAt0 m c t.val t.isLt).2 (ix3 0 i ⟨s.val * 512 + e.val, by omega⟩) := by
  rw [outsAt0_C m c t (by omega) h]
  frame_out
  canon_tiles x h
  all_goals
    idx_vars x
    obtain rfl : x0 = 0 := Subsingleton.elim _ _
    obtain ⟨s, hs⟩ := s
    change s = _ at h0
    subst h0
    obtain rfl : i = x1 := Fin.ext h1
    obtain rfl : e = x2 := Fin.ext h2
    pointwise [k0_pay5, k0_pay4, k0_pay3]

/-- The gradient: the kernel's array is the reference's. -/
theorem final2 (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  idx_vars y
  rw [left2 m c t h3, Pipeline.eq_sum_fin_of_reset_step_apply_of_flush (fun n h => (outsAt0 m c n h).2) 4 (fun _ => 0) (part m c)
    (sum_first m c) (sum_later m c) t h3, zero_add]
  have hs (s : Fin 4) : (4 * (t.val / 4) + s.val) % 4 = s.val ∧ (4 * (t.val / 4) + s.val) / 8 = t.val / 8 ∧ (4 * (t.val / 4) + s.val) / 4 = t.val / 4 := by
    omega
  have hc : column (device t y0) y2 = col t ⟨y0.val * 512 + y2.val, by omega⟩ := Fin.ext (by simp only [column, device, col]; omega)
  refine Eq.trans ?_ ((ref_grad _ _ (device t y0) (row t y1) y2).symm.trans (congrArg _ ?_))
  · rw [hc]
    refine Fin.sum_mul_add_congr (n := 2048) fun s k hl => ?_
    refine (congrArg₂ (· * ·) (block_row m c _ k y1) (block_grad m c _ k ⟨y0.val * 512 + y2.val, by omega⟩)).trans ?_
    simp only [token, row, col, hs s]
  · unfold device row
    blk_ext [idx t]

end Cert.GateBwdWTiles
-- ==== Proof.UpBwdWTiles.lean ====
/- The gradients of the feed-forward layer's two up projections' weights: each tile adds up two blocks of tokens' products in a scratch buffer. -/
module

public import proofs.«01_k».proof.Proof.Gen.UpBwdWIdeal.Frame
public import proofs.«01_k».proof.Proof.Gen.UpBwdWRefIdeal.Run
public import proofs.«01_k».proof.Proof.Gen.UpBwdWRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.UpBwdWRefIdeal.Read

namespace Cert.UpBwdWTiles

open Cert.UpBwdWIdeal Cert.UpBwdWIdeal.Gen

variable (m : (ℓ : Loc nD τ sig) → Buf (Elt Ideal) ℓ)

/-- Which block each window stages at grid point `t`. -/
theorem idx : ∀ t : Fin cfg0.N, win0_0.index t = ![t.val / 4, 0, 0, t.val % 2] ∧ win0_1.index t = ![t.val % 2, t.val / 2 % 2]
    ∧ win0_2.index t = ![t.val / 4, 0, 0, t.val / 2 % 2] :=
  (by decide +kernel : ∀ t : Fin grid0.N, _)

/-- Feature `f` of device `s`, among the hidden features. -/
def feature (s : Fin 8) (f : Fin 704) : Fin 5632 := ⟨s.val * 704 + f.val, by omega⟩

/-- The cotangent of the gate's product or of the other one. -/
def cot (da db : FVec Ideal S8192x5632 .bf16) (g : Fin 2) : FVec Ideal S8192x5632 .bf16 := if g = 0 then da else db

/-- The reference's gradients. -/
theorem ref_grad (h : FVec Ideal S8192x2048 .bf16) (da db : FVec Ideal S8192x5632 .bf16) (s : Fin 8) (g : Fin 2) (f : Fin 704) (d : Fin 2048) :
    val_main_v18 (F := Ideal) h da db (ix4 s g f d) = ∑ r : Fin 8192, cot da db g (ix2 r (feature s f)) * h (ix2 r d) := by
  unfold feature cot
  fin_cases g
  all_goals
    pointwise [val_main_v18, val_main_v17, val_main_v16, val_main_v15, val_main_v14, val_main_v13, val_main_v12, val_main_v11, val_main_v10, val_main_v9, val_main_v8, val_main_v7, val_main_v6, val_main_v5, val_main_v3, val_main_v1]

/-- The token that lane `k` of grid point `t`'s block of tokens is. -/
def token (t : Fin cfg0.N) (k : Fin 4096) : Fin 8192 := ⟨t.val % 2 * 4096 + k.val, by omega⟩

/-- The device that keeps grid point `t`'s features. -/
def device (t : Fin cfg0.N) : Fin 8 := ⟨t.val / 4, by have := lt_of_lt_of_eq t.isLt N_0; omega⟩

/-- The weights' row that lane `d` of grid point `t`'s tile is. -/
def lane (t : Fin cfg0.N) (d : Fin 1024) : Fin 2048 := ⟨t.val / 2 % 2 * 1024 + d.val, by omega⟩

/-- What the two input windows hold at grid point `t`. -/
abbrev gradBlock (c : Dev nD) (t : Fin cfg0.N) : FVec Ideal S1x2x704x4096 .bf16 := iblk m c 0 t
@[inherit_doc gradBlock] abbrev rowBlock (c : Dev nD) (t : Fin cfg0.N) : FVec Ideal S4096x1024 .bf16 := iblk m c 1 t

/-- The features of the two cotangents that a point stages, tokens along the lanes. -/
theorem block_grad (c : Dev nD) (t : Fin cfg0.N) (g : Fin 2) (f : Fin 704) (k : Fin 4096) :
    gradBlock m c t (ix4 0 g f k) = cot (m ((c : Thread nD τ).loc main_arg1)) (m ((c : Thread nD τ).loc main_arg2)) g (ix2 (token t k) (feature (device t) f)) := by
  have hx : ((View.whole main_v6).slice (win0_0.rect t)).emb (ix4 0 g f k) = ix4 (device t) g f (token t k) := by
    unfold device token; blk_ext [idx t]
  blk_simp [gradBlock, iblk, V]
  entry_read
  rw [hx]
  unfold cot
  fin_cases g
  all_goals
    pointwise []
    rfl

/-- The rows that a point stages. -/
theorem block_row (c : Dev nD) (t : Fin cfg0.N) (k : Fin 4096) (d : Fin 1024) :
    rowBlock m c t (ix2 k d) = m ((c : Thread nD τ).loc main_arg0) (ix2 (token t k) (lane t d)) := by
  unfold token lane; blk_ext [rowBlock, iblk, V, idx t]

/-- The part of a tile that grid point `t`'s tokens add. -/
def part (c : Dev nD) (t : Fin cfg0.N) (y : S2x704x1024.Idx) : EReal :=
  ∑ k : Fin 4096, gradBlock m c t (ix4 0 (y 0) (y 1) k) * rowBlock m c t (ix2 k (y 2))

/-- The first block of tokens leaves its part in the scratch. -/
theorem sum_first (c : Dev nD) (t : Fin cfg0.N) (h : t.val % 2 = 0) (y : S2x704x1024.Idx) :
    (outsAt0 m c t.val t.isLt).2 y = 0 + part m c t y := by
  idx_vars y
  rw [outsAt0_A m c t h (by omega)]
  frame_open
  simp (disch := decide) only [↓ View.readCov_skip, ↓ View.readCov_cons_toLoadRect, ↓ View.readCov_fill]
  frame_out
  refine View.canon_append_of_piecesOf (Val := Elt Ideal) (s := S2x704x1024) (e := .f32)
    (fun z => (0 + part m c t z : EReal)) [_] [_, _] ⟨fun x => ?_, fun x => ?_, trivial⟩ _ ?_
  iterate 2
    · idx_vars x
      obtain rfl : x0 = 0 := Subsingleton.elim _ _
      pointwise [k0_pay4, k0_pay5, k0_pay3, part]
      exact Finset.sum_congr rfl fun k _ => congrArg₂ (· * ·)
        (congrArg₂ (fun a b => iblk m c 0 t (ix4 0 a b k)) (Fin.ext rfl) (Fin.ext (show x1.val = 0 + 1 * x1.val by omega)))
        (congrArg (fun a => iblk m c 1 t (ix2 k a)) (Fin.ext (show x2.val = 0 + 1 * x2.val by omega)))
  · fin_cases y0
    on_goal 1 => refine ⟨_, List.mem_cons_of_mem _ List.mem_cons_self, (LoadRect.mem_set _).mpr fun a => ?_⟩
    on_goal 2 => refine ⟨_, List.mem_cons_self, (LoadRect.mem_set _).mpr fun a => ?_⟩
    all_goals
      refine ⟨((ix3 0 y1 y2 : S1x704x1024.Idx) a).val, ((ix3 0 y1 y2 : S1x704x1024.Idx) a).isLt, ?_⟩
      fin_cases a
      · rfl
      · exact (show y1.val = 0 + 1 * y1.val by omega)
      · exact (show y2.val = 0 + 1 * y2.val by omega)

/-- The second block adds its part. -/
theorem sum_later (c : Dev nD) (t : Fin cfg0.N) (h : ¬t.val % 2 = 0) (y : S2x704x1024.Idx) :
    (outsAt0 m c t.val t.isLt).2 y = (outsAt0 m c (t.val - 1) (Nat.lt_of_le_of_lt (Nat.sub_le _ _) t.isLt)).2 y + part m c t y := by
  idx_vars y
  rw [outsAt0_B m c t h (by omega)]
  frame_out
  canon_tiles x h
  all_goals
    idx_vars x
    obtain rfl : x0 = 0 := Subsingleton.elim _ _
    obtain ⟨s, hs⟩ := y0
    change s = _ at h0
    subst h0
    obtain rfl : y1 = x1 := Fin.ext h1
    obtain rfl : y2 = x2 := Fin.ext h2
    pointwise [k0_pay4, k0_pay5, part]
    rw [read_unread_whole]

/-- The second block's point leaves the scratch in its tile. -/
theorem left2 (c : Dev nD) (t : Fin cfg0.N) (h : t.val % 2 = 1) (g : Fin 2) (f : Fin 704) (d : Fin 1024) :
    (outsAt0 m c t.val t.isLt).1 (ix4 0 g f d) = (outsAt0 m c t.val t.isLt).2 (ix3 g f d) := by
  rw [sum_later m c t (by omega), outsAt0_B m c t (by omega) h]
  frame_open
  simp (disch := decide) only [↓ View.readCov_skip, ↓ View.readCov_cons_toLoadRect, ↓ View.readCov_fill]
  frame_out
  canon_tiles x h
  all_goals
    idx_vars x
    obtain rfl : x0 = 0 := Subsingleton.elim _ _
    obtain rfl : x1 = 0 := Subsingleton.elim _ _
    obtain ⟨s, hs⟩ := g
    change s = _ at h1
    subst h1
    obtain rfl : f = x2 := Fin.ext h2
    obtain rfl : d = x3 := Fin.ext h3
    pointwise [k0_pay1, k0_pay2, k0_pay4, k0_pay5, part]
    rw [read_unread_whole]

/-- The gradients: the kernel's array is the reference's. -/
theorem final2 (c : Dev nD) : (dats m 0 c).arrAt 2 cfg0.N
    = val_main_v18 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  have h3 := (flush0_2 t).mp hf
  blk_simp
  rw [after0_2]
  idx_vars y
  obtain rfl : y0 = 0 := Subsingleton.elim _ _
  rw [left2 m c t h3, Pipeline.eq_sum_fin_of_reset_step_apply_of_flush (fun n h => (outsAt0 m c n h).2) 2 (fun _ => 0) (part m c)
    (sum_first m c) (sum_later m c) t h3, zero_add]
  have hs (s : Fin 2) : (2 * (t.val / 2) + s.val) % 2 = s.val ∧ (2 * (t.val / 2) + s.val) / 4 = t.val / 4 ∧ (2 * (t.val / 2) + s.val) / 2 = t.val / 2 := by
    omega
  refine Eq.trans ?_ ((ref_grad _ _ _ (device t) y1 y2 (lane t y3)).symm.trans (congrArg _ ?_))
  · refine Fin.sum_mul_add_congr (n := 4096) fun s k hl => ?_
    refine (congrArg₂ (· * ·) (block_grad m c _ y1 y2 k) (block_row m c _ k y3)).trans ?_
    simp only [token, device, lane, hs s]
  · unfold device lane
    blk_ext [idx t]

end Cert.UpBwdWTiles
-- ==== Proof.UpBwdHTiles.lean ====
/- The gradient of the feed-forward layer's two up projections in their input: the kernel interleaves the two products' features by device and adds up four blocks of them in a scratch buffer. -/
module

public import proofs.«01_k».proof.Proof.Gen.UpBwdHIdeal.Frame
public import proofs.«01_k».proof.Proof.Gen.UpBwdHRefIdeal.Run
public import proofs.«01_k».proof.Proof.Gen.UpBwdHRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.UpBwdHRefIdeal.Read

namespace Cert.UpBwdHTiles

open Cert.UpBwdHIdeal Cert.UpBwdHIdeal.Gen

variable (m : (ℓ : Loc nD τ sig) → Buf (Elt Ideal) ℓ)

/-- Which block each window stages at grid point `t`. -/
theorem idx : ∀ t : Fin cfg0.N, win0_0.index t = ![t.val % 4, t.val / 4] ∧ win0_1.index t = ![t.val % 4, 0]
    ∧ win0_3.index t = ![t.val / 4, 0] :=
  (by decide +kernel : ∀ t : Fin grid0.N, _)

/-- The kernel's rows interleave the two products' features, device by device: row `z` belongs to product `gate z` and to its feature `feature z`. -/
def gate (z : Fin 11264) : Fin 2 := ⟨z.val / 704 % 2, by omega⟩
@[inherit_doc gate] def feature (z : Fin 11264) : Fin 5632 := ⟨z.val / 1408 * 704 + z.val % 704, by omega⟩

/-- The gate's product has the even runs of rows. -/
theorem gate_eq (z : Fin 11264) : gate z = 0 ↔ z.val / 704 % 2 < 1 := by
  rw [Fin.ext_iff]
  show z.val / 704 % 2 = 0 ↔ _
  omega

/-- A sum over the interleaved rows is the sum over both products' features. -/
theorem sum_rows (p : Fin 2 → Fin 5632 → EReal) : ∑ z : Fin 11264, p (gate z) (feature z) = (∑ q, p 0 q) + ∑ q, p 1 q := by
  have hz : ∑ s : Fin 8, ∑ k : Fin 1408, p ⟨k.val / 704, by omega⟩ ⟨s.val * 704 + k.val % 704, by omega⟩
      = ∑ z : Fin 11264, p (gate z) (feature z) := Fin.sum_mul_add_congr fun s k hl =>
    congrArg₂ p (Fin.ext (by simp only [gate]; omega)) (Fin.ext (by simp only [feature]; omega))
  have hk (s : Fin 8) : ∑ g : Fin 2, ∑ f : Fin 704, p g ⟨s.val * 704 + f.val, by omega⟩
      = ∑ k : Fin 1408, p ⟨k.val / 704, by omega⟩ ⟨s.val * 704 + k.val % 704, by omega⟩ := Fin.sum_mul_add_congr fun g f hl =>
    congrArg₂ p (Fin.ext (by simp only []; omega)) (Fin.ext (by simp only []; omega))
  have hq (g : Fin 2) : ∑ s : Fin 8, ∑ f : Fin 704, p g ⟨s.val * 704 + f.val, by omega⟩ = ∑ q : Fin 5632, p g q :=
    Fin.sum_mul_add_congr fun s f hl => rfl
  rw [← hz, ← hq 0, ← hq 1, ← Finset.sum_add_distrib]
  exact Finset.sum_congr rfl fun s _ => (hk s).symm.trans (Fin.sum_univ_two _)

/-- One of a pair of arrays: the gate's product has the first. -/
def pick (a b : FVec Ideal S8192x5632 .bf16) (g : Fin 2) : FVec Ideal S8192x5632 .bf16 := if g = 0 then a else b
@[inherit_doc pick] def pickW (a b : FVec Ideal S2048x5632 .f32) (g : Fin 2) : FVec Ideal S2048x5632 .f32 := if g = 0 then a else b

/-- The reference's gradient. -/
theorem ref_grad (wg wu : FVec Ideal S2048x5632 .f32) (da db : FVec Ideal S8192x5632 .bf16) (r : Fin 8192) (d : Fin 2048) :
    val_main_v8 (F := Ideal) wg wu da db (ix2 r d)
      = (∑ q : Fin 5632, pick da db 0 (ix2 r q) * pickW wg wu 0 (ix2 d q)) + ∑ q : Fin 5632, pick da db 1 (ix2 r q) * pickW wg wu 1 (ix2 d q) := by
  rw [add_comm]
  unfold pick pickW
  pointwise [val_main_v8, val_main_v7, val_main_v6, val_main_v5, val_main_v4, val_main_v3, val_main_v2, val_main_v1]

/-- The token that column `r` of grid point `t`'s tile is. -/
def row (t : Fin cfg0.N) (r : Fin 1024) : Fin 8192 := ⟨t.val / 4 * 1024 + r.val, by have := lt_of_lt_of_eq t.isLt N_0; omega⟩

/-- The kernel's row that row `k` of grid point `t`'s blocks is. -/
def hidden (t : Fin cfg0.N) (k : Fin 2816) : Fin 11264 := ⟨t.val % 4 * 2816 + k.val, by omega⟩

/-- What the two input windows hold at grid point `t`. -/
abbrev gradBlock (c : Dev nD) (t : Fin cfg0.N) : FVec Ideal S2816x1024 .bf16 := iblk m c 0 t
@[inherit_doc gradBlock] abbrev weightBlock (c : Dev nD) (t : Fin cfg0.N) : FVec Ideal S2816x2048 .bf16 := iblk m c 1 t

/-- The cotangents' features that a point stages, tokens along the lanes. -/
theorem block_grad (c : Dev nD) (t : Fin cfg0.N) (k : Fin 2816) (r : Fin 1024) :
    gradBlock m c t (ix2 k r) = pick (m ((c : Thread nD τ).loc main_arg2)) (m ((c : Thread nD τ).loc main_arg3)) (gate (hidden t k)) (ix2 (row t r) (feature (hidden t k))) := by
  have hx : ((View.whole main_v16).slice (win0_0.rect t)).emb (ix2 k r) = ix2 (hidden t k) (row t r) := by
    unfold hidden row; blk_ext [idx t]
  blk_simp [gradBlock, iblk, V]
  entry_read
  rw [hx]
  pointwise []
  unfold pick
  simp only [gate_eq]
  split_ifs <;> rfl

/-- The weights' columns that a point stages, as rows. -/
theorem block_weight (c : Dev nD) (t : Fin cfg0.N) (k : Fin 2816) (d : Fin 2048) :
    weightBlock m c t (ix2 k d) = pickW (m ((c : Thread nD τ).loc main_arg0)) (m ((c : Thread nD τ).loc main_arg1)) (gate (hidden t k)) (ix2 d (feature (hidden t k))) := by
  have hx : ((View.whole main_v17).slice (win0_1.rect t)).emb (ix2 k d) = ix2 (hidden t k) d := by
    unfold hidden; blk_ext [idx t]
  blk_simp [weightBlock, iblk, V]
  entry_read
  rw [hx]
  pointwise []
  unfold pickW
  simp only [gate_eq]
  split_ifs <;> rfl

/-- The part of a tile that grid point `t`'s features add. -/
def part (c : Dev nD) (t : Fin cfg0.N) (y : S1x1024x2048.Idx) : EReal :=
  ∑ k : Fin 2816, gradBlock m c t (ix2 k (y 1)) * weightBlock m c t (ix2 k (y 2))

/-- The first block of features leaves its part in the scratch. -/
theorem sum_first (c : Dev nD) (t : Fin cfg0.N) (h : t.val % 4 = 0) (y : S1x1024x2048.Idx) :
    (outsAt0 m c t.val t.isLt).2 y = 0 + part m c t y := by
  idx_vars y
  obtain rfl : y0 = 0 := Subsingleton.elim _ _
  rw [outsAt0_A m c t h (by omega)]
  frame_out
  pointwise [k0_pay2, k0_pay1, part]

/-- Every later block adds its part. -/
theorem sum_later (c : Dev nD) (t : Fin cfg0.N) (h : ¬t.val % 4 = 0) (y : S1x1024x2048.Idx) :
    (outsAt0 m c t.val t.isLt).2 y = (outsAt0 m c (t.val - 1) (Nat.lt_of_le_of_lt (Nat.sub_le _ _) t.isLt)).2 y + part m c t y := by
  idx_vars y
  obtain rfl : y0 = 0 := Subsingleton.elim _ _
  by_cases h3 : t.val % 4 = 3
  on_goal 1 => rw [outsAt0_C m c t h h3]
  on_goal 2 => rw [outsAt0_B m c t h h3]
  all_goals
    frame_out
    pointwise [k0_pay2, part]
    rw [read_unread_whole]

/-- The last block's point leaves the scratch in its tile. -/
theorem left3 (c : Dev nD) (t : Fin cfg0.N) (h : t.val % 4 = 3) (r : Fin 1024) (d : Fin 2048) :
    (outsAt0 m c t.val t.isLt).1 (ix2 r d) = (outsAt0 m c t.val t.isLt).2 (ix3 0 r d) := by
  rw [outsAt0_C m c t (by omega) h]
  frame_out
  pointwise [k0_pay3]

/-- The gradient: the kernel's array is the reference's. -/
theorem final3 (c : Dev nD) : (dats m 0 c).arrAt 3 cfg0.N
    = val_main_v8 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t hf y => ?_
  have h3 := (flush0_3 t).mp hf
  blk_simp
  rw [after0_3]
  idx_vars y
  rw [left3 m c t h3, Pipeline.eq_sum_fin_of_reset_step_apply_of_flush (fun n h => (outsAt0 m c n h).2) 4 (fun _ => 0) (part m c)
    (sum_first m c) (sum_later m c) t h3, zero_add]
  have hs (s : Fin 4) : (4 * (t.val / 4) + s.val) % 4 = s.val ∧ (4 * (t.val / 4) + s.val) / 4 = t.val / 4 := by
    omega
  refine Eq.trans ?_ ((sum_rows fun g q => pick (m ((c : Thread nD τ).loc main_arg2)) (m ((c : Thread nD τ).loc main_arg3)) g (ix2 (row t y0) q)
    * pickW (m ((c : Thread nD τ).loc main_arg0)) (m ((c : Thread nD τ).loc main_arg1)) g (ix2 y1 q)).trans ((ref_grad _ _ _ _ (row t y0) y1).symm.trans (congrArg _ ?_)))
  · refine Fin.sum_mul_add_congr (n := 2816) fun s k hl => ?_
    refine (congrArg₂ (· * ·) (block_grad m c _ k y0) (block_weight m c _ k y1)).trans ?_
    simp only [hidden, row, hs s]
  · unfold row
    blk_ext [idx t]

end Cert.UpBwdHTiles
-- ==== Proof.DownBwdWTiles.lean ====
/- The gradient of the feed-forward layer's down projection's weight: each tile adds up four blocks of tokens' products in a scratch buffer and leaves one half of the sum. -/
module

public import proofs.«01_k».proof.Proof.Arith
public import proofs.«01_k».proof.Proof.Gen.DownBwdWIdeal.Frame
public import proofs.«01_k».proof.Proof.Gen.DownBwdWRefIdeal.Run
public import proofs.«01_k».proof.Proof.Gen.DownBwdWRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.DownBwdWRefIdeal.Read

namespace Cert.DownBwdWTiles

open Cert.DownBwdWIdeal Cert.DownBwdWIdeal.Gen

variable (m : (ℓ : Loc nD τ sig) → Buf (Elt Ideal) ℓ)

/-- Which block each window stages at grid point `t`. -/
theorem idx : ∀ t : Fin cfg0.N, win0_0.index t = ![t.val / 8, t.val % 4] ∧ win0_1.index t = ![t.val % 4, t.val / 4 % 2]
    ∧ win0_2.index t = ![t.val / 8, t.val / 4 % 2] :=
  (by decide +kernel : ∀ t : Fin grid0.N, _)

/-- One half, as the programs spell it. -/
abbrev half : EReal := Ideal.ofBits FTy.f32 0x3F000000#32

/-- One half of a sum is the sum of the halves, infinite summands included. -/
theorem half_mul_sum {n : Nat} (p : Fin n → EReal) : half * ∑ k, p k = ∑ k, half * p k := by
  have h0 : (0 : EReal) ≤ half := by
    rw [half, Cert.Arith.half_word]; exact EReal.coe_nonneg.mpr (by norm_num)
  have h1 : half ≠ ⊤ := by rw [half, Cert.Arith.half_word]; exact EReal.coe_ne_top _
  refine Finset.induction_on Finset.univ (by rw [Finset.sum_empty, Finset.sum_empty, mul_zero]) fun k s hk ih => ?_
  rw [Finset.sum_insert hk, Finset.sum_insert hk, EReal.left_distrib_of_nonneg_of_ne_top h0 h1, ih]

/-- The reference's gradient. -/
theorem ref_grad (f : FVec Ideal S8192x5632 .bf16) (dy : FVec Ideal S8192x2048 .bf16) (q : Fin 5632) (d : Fin 2048) :
    val_main_v10 (F := Ideal) f dy (ix2 q d) = half * ∑ r : Fin 8192, f (ix2 r q) * dy (ix2 r d) := by
  rw [half_mul_sum]
  pointwise [val_main_v10, val_main_v9, val_main_v8, val_main_v7, val_main_v6, val_main_v5, val_main_cst_1, val_main_v1]
  exact Finset.sum_congr rfl fun r _ => by rw [mul_assoc, mul_comm (dy _)]

/-- The token that lane `k` of grid point `t`'s block of tokens is. -/
def token (t : Fin cfg0.N) (k : Fin 2048) : Fin 8192 := ⟨t.val % 4 * 2048 + k.val, by omega⟩

/-- The hidden feature that row `i` of grid point `t`'s tile is. -/
def row (t : Fin cfg0.N) (i : Fin 1408) : Fin 5632 := ⟨t.val / 8 * 1408 + i.val, by have := lt_of_lt_of_eq t.isLt N_0; omega⟩

/-- The weight's column that column `q` of grid point `t`'s tile is. -/
def col (t : Fin cfg0.N) (q : Fin 1024) : Fin 2048 := ⟨t.val / 4 % 2 * 1024 + q.val, by omega⟩

/-- What the two input windows hold at grid point `t`. -/
abbrev featureBlock (c : Dev nD) (t : Fin cfg0.N) : FVec Ideal S1408x2048 .bf16 := iblk m c 0 t
@[inherit_doc featureBlock] abbrev gradBlock (c : Dev nD) (t : Fin cfg0.N) : FVec Ideal S2048x1024 .bf16 := iblk m c 1 t

/-- The hidden features that a point stages, tokens along the lanes. -/
theorem block_feature (c : Dev nD) (t : Fin cfg0.N) (i : Fin 1408) (k : Fin 2048) :
    featureBlock m c t (ix2 i k) = m ((c : Thread nD τ).loc main_arg0) (ix2 (token t k) (row t i)) := by
  have hx : ((View.whole main_v2).slice (win0_0.rect t)).emb (ix2 i k) = ix2 (row t i) (token t k) := by
    unfold row token; blk_ext [idx t]
  blk_simp [featureBlock, iblk, V]
  entry_read
  rw [hx]
  pointwise []

/-- The cotangent's rows that a point stages. -/
theorem block_grad (c : Dev nD) (t : Fin cfg0.N) (k : Fin 2048) (q : Fin 1024) :
    gradBlock m c t (ix2 k q) = m ((c : Thread nD τ).loc main_arg1) (ix2 (token t k) (col t q)) := by
  unfold token col; blk_ext [gradBlock, iblk, V, idx t]

/-- The part of a tile that grid point `t`'s tokens add. -/
def part (c : Dev nD) (t : Fin cfg0.N) (y : S1x1408x1024.Idx) : EReal :=
  ∑ k : Fin 2048, featureBlock m c t (ix2 (y 1) k) * gradBlock m c t (ix2 k (y 2))

/-- The first block of tokens leaves its part in the scratch. -/
theorem sum_first (c : Dev nD) (t : Fin cfg0.N) (h : t.val % 4 = 0) (y : S1x1408x1024.Idx) :
    (outsAt0 m c t.val t.isLt).2 y = 0 + part m c t y := by
  idx_vars y
  obtain rfl : y0 = 0 := Subsingleton.elim _ _
  rw [outsAt0_A m c t h (by omega)]
  frame_out
  pointwise [k0_pay2, k0_pay1, part]

/-- Every later block adds its part. -/
theorem sum_later (c : Dev nD) (t : Fin cfg0.N) (h : ¬t.val % 4 = 0) (y : S1x1408x1024.Idx) :
    (outsAt0 m c t.val t.isLt).2 y = (outsAt0 m c (t.val - 1) (Nat.lt_of_le_of_lt (Nat.sub_le _ _) t.isLt)).2 y + part m c t y := by
  idx_vars y
  obtain rfl : y0 = 0 := Subsingleton.elim _ _
  by_cases h3 : t.val % 4 = 3
  on_goal 1 => rw [outsAt0_C m c t h h3]
  on_goal 2 => rw [outsAt0_B m c t h h3]
  all_goals
    frame_out
    pointwise [k0_pay2, part]
    rw [read_unread_whole]

/-- The last block's point leaves one half of the scratch in its tile. -/
theorem left2 (c : Dev nD) (t : Fin cfg0.N) (h : t.val % 4 = 3) (i : Fin 1408) (q : Fin 1024) :
    (outsAt0 m c t.val t.isLt).1 (ix2 i q) = half * (outsAt0 m c t.val t.isLt).2 (ix3 0 i q) := by
  rw [outsAt0_C m c t (by omega) h]
  frame_out
  pointwise [k0_pay3]

/-- The gradient: the kernel's array is the reference's. -/
theorem final2 (c : Dev nD) : (dats m 0 c).arrAt 2 cfg0.N
    = val_main_v10 (F := Ideal) (m ((c : Thread nD τ).loc main_arg0)) (m ((c : Thread nD τ).loc main_arg1)) := by
  refine (dats m 0 c).arrAt_eq_of_covers 2 _ (by decide +kernel) fun t hf y => ?_
  have h3 := (flush0_2 t).mp hf
  blk_simp
  rw [after0_2]
  idx_vars y
  rw [left2 m c t h3, Pipeline.eq_sum_fin_of_reset_step_apply_of_flush (fun n h => (outsAt0 m c n h).2) 4 (fun _ => 0) (part m c)
    (sum_first m c) (sum_later m c) t h3, zero_add]
  have hs (s : Fin 4) : (4 * (t.val / 4) + s.val) % 4 = s.val ∧ (4 * (t.val / 4) + s.val) / 8 = t.val / 8 ∧ (4 * (t.val / 4) + s.val) / 4 = t.val / 4 := by
    omega
  refine Eq.trans ?_ ((ref_grad _ _ (row t y0) (col t y1)).symm.trans (congrArg _ ?_))
  · refine congrArg (half * ·) (Fin.sum_mul_add_congr (n := 2048) fun s k hl => ?_)
    refine (congrArg₂ (· * ·) (block_feature m c _ y0 k) (block_grad m c _ k y1)).trans ?_
    simp only [token, row, col, hs s]
  · unfold row col
    blk_ext [idx t]

end Cert.DownBwdWTiles
-- ==== Proof.AdamPacked.lean ====
/- The optimiser's step on the small weights packed into one array: the gradient is the sum of the devices' parts, and every entry of the weights moves by its own two moments. -/
module

public import proofs.«01_k».proof.Proof.AdamRows
public import proofs.«01_k».proof.Proof.Gen.AdamSmallIdeal.Frame
public import proofs.«01_k».proof.Proof.Gen.AdamSmallRefIdeal.Run
public import proofs.«01_k».proof.Proof.Gen.AdamSmallRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.AdamSmallRefIdeal.Read

namespace Cert.AdamPacked

open Cert.AdamSmallIdeal Cert.AdamSmallIdeal.Gen
open Cert.AdamRows (first second change)

variable (m : (ℓ : Loc nD τ sig) → Buf (Elt Ideal) ℓ)

/-- The one grid point's windows are the whole arrays. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The reference's gradient. -/
theorem ref_grad (p : FVec Ideal S8x192x128 .f32) (r : Fin 192) (d : Fin 128) :
    val_main_v0 (F := Ideal) p (ix2 r d) = ∑ s : Fin 8, p (ix3 s r d) := by
  pointwise [val_main_v0, val_main_cst]

/-- The reference's new first moment. -/
theorem ref_first (p : FVec Ideal S8x192x128 .f32) (a : FVec Ideal S192x128 .f32) (r : Fin 192) (d : Fin 128) :
    val_main_v5 (F := Ideal) p a (ix2 r d) = first (val_main_v0 (F := Ideal) p (ix2 r d)) (a (ix2 r d)) := by
  pointwise [val_main_v5, val_main_v4, val_main_v3, val_main_v2, val_main_v1, val_main_cst_0, val_main_cst_1, first]

/-- The reference's new second moment. -/
theorem ref_second (p : FVec Ideal S8x192x128 .f32) (v : FVec Ideal S192x128 .f32) (r : Fin 192) (d : Fin 128) :
    val_main_v11 (F := Ideal) p v (ix2 r d) = second (val_main_v0 (F := Ideal) p (ix2 r d)) (v (ix2 r d)) := by
  pointwise [val_main_v11, val_main_v10, val_main_v9, val_main_v8, val_main_v7, val_main_v6, val_main_cst_2, val_main_cst_3, second]

/-- The reference's change of the weights. -/
theorem ref_change (p : FVec Ideal S8x192x128 .f32) (w a v : FVec Ideal S192x128 .f32) (r : Fin 192) (d : Fin 128) :
    val_main_v24 (F := Ideal) p w a v (ix2 r d)
      = change (w (ix2 r d)) (val_main_v5 (F := Ideal) p a (ix2 r d)) (val_main_v11 (F := Ideal) p v (ix2 r d)) := by
  pointwise [val_main_v24, val_main_v23, val_main_v22, val_main_v21, val_main_v20, val_main_v19, val_main_v18, val_main_v17,
    val_main_v16, val_main_v15, val_main_v14, val_main_v13, val_main_v12, val_main_cst_4, val_main_cst_5, val_main_cst_6, val_main_cst_7, val_main_cst_8, change]

/-- What the input windows hold: the devices' parts, the weights, their two moments. -/
abbrev parts (c : Dev nD) (t : Fin cfg0.N) : FVec Ideal S8x192x128 .f32 := iblk m c 0 t
@[inherit_doc parts] abbrev weights (c : Dev nD) (t : Fin cfg0.N) : FVec Ideal S192x128 .f32 := iblk m c 1 t
@[inherit_doc parts] abbrev firsts (c : Dev nD) (t : Fin cfg0.N) : FVec Ideal S192x128 .f32 := iblk m c 2 t
@[inherit_doc parts] abbrev seconds (c : Dev nD) (t : Fin cfg0.N) : FVec Ideal S192x128 .f32 := iblk m c 3 t

/-- What the windows hold of the arguments. -/
theorem block_part (c : Dev nD) (t : Fin cfg0.N) (s : Fin 8) (r : Fin 192) (d : Fin 128) :
    parts m c t (ix3 s r d) = m ((c : Thread nD τ).loc main_arg0) (ix3 s r d) := by
  blk_ext [parts, iblk, V, idx t]
@[inherit_doc block_part] theorem block_weight (c : Dev nD) (t : Fin cfg0.N) (r : Fin 192) (d : Fin 128) :
    weights m c t (ix2 r d) = m ((c : Thread nD τ).loc main_arg1) (ix2 r d) := by
  blk_ext [weights, iblk, V, idx t]
@[inherit_doc block_part] theorem block_first (c : Dev nD) (t : Fin cfg0.N) (r : Fin 192) (d : Fin 128) :
    firsts m c t (ix2 r d) = m ((c : Thread nD τ).loc main_arg2) (ix2 r d) := by
  blk_ext [firsts, iblk, V, idx t]
@[inherit_doc block_part] theorem block_second (c : Dev nD) (t : Fin cfg0.N) (r : Fin 192) (d : Fin 128) :
    seconds m c t (ix2 r d) = m ((c : Thread nD τ).loc main_arg3) (ix2 r d) := by
  blk_ext [seconds, iblk, V, idx t]

section
variable (p : FVec Ideal S8x192x128 .f32) (w a v : FVec Ideal S192x128 .f32) (r : Fin 192) (d : Fin 128)

/-- The kernel sums the devices' parts. -/
theorem left_grad : out0_4 (F := Ideal) p w a v (ix2 r d) = ∑ s : Fin 8, p (ix3 s r d) := by
  rw [Fin.sum_univ_eight]
  frame_out
  pointwise [k0_pay6, k0_pay4]

/-- What it leaves of the first moment. -/
theorem left_first : out0_6 (F := Ideal) p w a v (ix2 r d) = first (∑ s : Fin 8, p (ix3 s r d)) (a (ix2 r d)) := by
  rw [Fin.sum_univ_eight]
  frame_out
  pointwise [k0_pay7, k0_pay6, k0_pay5, k0_pay4, k0_pay1, first]

/-- What it leaves of the second moment. -/
theorem left_second : out0_7 (F := Ideal) p w a v (ix2 r d) = second (∑ s : Fin 8, p (ix3 s r d)) (v (ix2 r d)) := by
  rw [Fin.sum_univ_eight]
  frame_out
  pointwise [k0_pay7, k0_pay6, k0_pay5, k0_pay4, k0_pay2, second]

/-- What it leaves of the weights' change. -/
theorem left_change : out0_5 (F := Ideal) p w a v (ix2 r d)
    = change (w (ix2 r d)) (first (∑ s : Fin 8, p (ix3 s r d)) (a (ix2 r d))) (second (∑ s : Fin 8, p (ix3 s r d)) (v (ix2 r d))) := by
  rw [Fin.sum_univ_eight]
  frame_out
  pointwise [k0_pay7, k0_pay6, k0_pay5, k0_pay4, k0_pay3, k0_pay2, k0_pay1, change, first, second]

end

/-- The gradient: the kernel's array is the reference's. -/
theorem final4 (c : Dev nD) : (dats m 0 c).arrAt 4 cfg0.N
    = val_main_v0 (F := Ideal) (m ((c : Thread nD τ).loc main_arg0)) := by
  refine (dats m 0 c).arrAt_eq_of_covers 4 _ (by decide +kernel) fun t _ y => ?_
  blk_simp
  rw [after0_4]
  idx_vars y
  refine (left_grad (parts m c t) (weights m c t) (firsts m c t) (seconds m c t) y0 y1).trans ?_
  simp only [block_part]
  refine (ref_grad _ y0 y1).symm.trans (congrArg _ ?_)
  blk_ext [idx t]

/-- The weights' change: the kernel's array is the reference's. -/
theorem final5 (c : Dev nD) : (dats m 0 c).arrAt 5 cfg0.N
    = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  refine (left_change (parts m c t) (weights m c t) (firsts m c t) (seconds m c t) y0 y1).trans ?_
  simp only [block_part, block_weight, block_first, block_second, ← ref_grad, ← ref_first, ← ref_second]
  refine (ref_change _ _ _ _ y0 y1).symm.trans (congrArg _ ?_)
  blk_ext [idx t]

/-- The first moment: the kernel's array is the reference's. -/
theorem final6 (c : Dev nD) : (dats m 0 c).arrAt 6 cfg0.N
    = val_main_v5 (F := Ideal) (m ((c : Thread nD τ).loc main_arg0)) (m ((c : Thread nD τ).loc main_arg2)) := by
  refine (dats m 0 c).arrAt_eq_of_covers 6 _ (by decide +kernel) fun t _ y => ?_
  blk_simp
  rw [after0_6]
  idx_vars y
  refine (left_first (parts m c t) (weights m c t) (firsts m c t) (seconds m c t) y0 y1).trans ?_
  simp only [block_part, block_first, ← ref_grad]
  refine (ref_first _ _ y0 y1).symm.trans (congrArg _ ?_)
  blk_ext [idx t]

/-- The second moment: the kernel's array is the reference's. -/
theorem final7 (c : Dev nD) : (dats m 0 c).arrAt 7 cfg0.N
    = val_main_v11 (F := Ideal) (m ((c : Thread nD τ).loc main_arg0)) (m ((c : Thread nD τ).loc main_arg3)) := by
  refine (dats m 0 c).arrAt_eq_of_covers 7 _ (by decide +kernel) fun t _ y => ?_
  blk_simp
  rw [after0_7]
  idx_vars y
  refine (left_second (parts m c t) (weights m c t) (firsts m c t) (seconds m c t) y0 y1).trans ?_
  simp only [block_part, block_second, ← ref_grad]
  refine (ref_second _ _ y0 y1).symm.trans (congrArg _ ?_)
  blk_ext [idx t]

end Cert.AdamPacked
-- ==== Proof.lean ====
/- The certificate: for every kernel of the step that is claimed, its run, the run of its ideal program and the run of
   the reference, and that the last two leave the same arrays. The values are in the modules imported here. -/
module

public import proofs.«01_k».proof.Defs
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.PrepBwd
public import proofs.«01_k».proof.Proof.Gen.PrepBwd.Skeleton
public import proofs.«01_k».proof.Proof.Gen.PrepBwd.Launch
public import proofs.«01_k».proof.Proof.Gen.PrepBwd.Points
public import proofs.«01_k».proof.Proof.Gen.PrepBwd.Frame
public import proofs.«01_k».proof.Proof.Gen.PrepBwdIdeal
public import proofs.«01_k».proof.Proof.Gen.PrepBwdIdeal.Skeleton
public import proofs.«01_k».proof.Proof.Gen.PrepBwdIdeal.Launch
public import proofs.«01_k».proof.Proof.Gen.PrepBwdIdeal.Points
public import proofs.«01_k».proof.Proof.Gen.PrepBwdIdeal.Frame
public import proofs.«01_k».proof.Proof.Gen.PrepBwdRefIdeal
public import proofs.«01_k».proof.Proof.Gen.PrepBwdRefIdeal.Run
public import proofs.«01_k».proof.Proof.Gen.PrepBwdRefIdeal.Read
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdRefIdeal
public import proofs.«01_k».proof.Proof.Gen.SwigluBwdRefIdeal.Run
public import proofs.«01_k».proof.Proof.Gen.SwigluBwdRefIdeal.Read
public import proofs.«01_k».proof.Proof.Gen.SguBwd
public import proofs.«01_k».proof.Proof.Gen.SguBwd.Skeleton
public import proofs.«01_k».proof.Proof.Gen.SguBwd.Launch
public import proofs.«01_k».proof.Proof.Gen.SguBwd.Points
public import proofs.«01_k».proof.Proof.Gen.SguBwd.Frame
public import proofs.«01_k».proof.Proof.Gen.SguBwdIdeal
public import proofs.«01_k».proof.Proof.Gen.SguBwdIdeal.Skeleton
public import proofs.«01_k».proof.Proof.Gen.SguBwdIdeal.Launch
public import proofs.«01_k».proof.Proof.Gen.SguBwdIdeal.Points
public import proofs.«01_k».proof.Proof.Gen.SguBwdIdeal.Frame
public import proofs.«01_k».proof.Proof.Gen.SguBwdRefIdeal
public import proofs.«01_k».proof.Proof.Gen.SguBwdRefIdeal.Run
public import proofs.«01_k».proof.Proof.Gen.SguBwdRefIdeal.Read
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.MergeFwd
public import proofs.«01_k».proof.Proof.Gen.MergeFwd.Skeleton
public import proofs.«01_k».proof.Proof.Gen.MergeFwd.Launch
public import proofs.«01_k».proof.Proof.Gen.MergeFwd.Points
public import proofs.«01_k».proof.Proof.Gen.MergeFwd.Frame
public import proofs.«01_k».proof.Proof.Gen.MergeFwdIdeal
public import proofs.«01_k».proof.Proof.Gen.MergeFwdIdeal.Skeleton
public import proofs.«01_k».proof.Proof.Gen.MergeFwdIdeal.Launch
public import proofs.«01_k».proof.Proof.Gen.MergeFwdIdeal.Points
public import proofs.«01_k».proof.Proof.Gen.MergeFwdIdeal.Frame
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.Gen.PrepFwd
public import proofs.«01_k».proof.Proof.Gen.PrepFwd.Skeleton
public import proofs.«01_k».proof.Proof.Gen.PrepFwd.Launch
public import proofs.«01_k».proof.Proof.Gen.PrepFwd.Points
public import proofs.«01_k».proof.Proof.Gen.PrepFwd.Frame
public import proofs.«01_k».proof.Proof.Gen.PrepFwdIdeal
public import proofs.«01_k».proof.Proof.Gen.PrepFwdIdeal.Skeleton
public import proofs.«01_k».proof.Proof.Gen.PrepFwdIdeal.Launch
public import proofs.«01_k».proof.Proof.Gen.PrepFwdIdeal.Points
public import proofs.«01_k».proof.Proof.Gen.PrepFwdIdeal.Frame
public import proofs.«01_k».proof.Proof.Gen.PrepFwdRefIdeal
public import proofs.«01_k».proof.Proof.Gen.PrepFwdRefIdeal.Run
public import proofs.«01_k».proof.Proof.Gen.PrepFwdRefIdeal.Read
public import proofs.«01_k».proof.Proof.Gen.Powers
public import proofs.«01_k».proof.Proof.Gen.Powers.Skeleton
public import proofs.«01_k».proof.Proof.Gen.Powers.Launch
public import proofs.«01_k».proof.Proof.Gen.Powers.Points
public import proofs.«01_k».proof.Proof.Gen.Powers.Frame
public import proofs.«01_k».proof.Proof.Gen.PowersIdeal
public import proofs.«01_k».proof.Proof.Gen.PowersIdeal.Skeleton
public import proofs.«01_k».proof.Proof.Gen.PowersIdeal.Launch
public import proofs.«01_k».proof.Proof.Gen.PowersIdeal.Points
public import proofs.«01_k».proof.Proof.Gen.PowersIdeal.Frame
public import proofs.«01_k».proof.Proof.Gen.PowersRefIdeal
public import proofs.«01_k».proof.Proof.Gen.PowersRefIdeal.Run
public import proofs.«01_k».proof.Proof.Gen.PowersRefIdeal.Step
public import proofs.«01_k».proof.Proof.Gen.SwigluFwd
public import proofs.«01_k».proof.Proof.Gen.SwigluFwd.Skeleton
public import proofs.«01_k».proof.Proof.Gen.SwigluFwd.Launch
public import proofs.«01_k».proof.Proof.Gen.SwigluFwd.Points
public import proofs.«01_k».proof.Proof.Gen.SwigluFwd.Frame
public import proofs.«01_k».proof.Proof.Gen.SwigluFwdIdeal
public import proofs.«01_k».proof.Proof.Gen.SwigluFwdIdeal.Skeleton
public import proofs.«01_k».proof.Proof.Gen.SwigluFwdIdeal.Launch
public import proofs.«01_k».proof.Proof.Gen.SwigluFwdIdeal.Points
public import proofs.«01_k».proof.Proof.Gen.SwigluFwdIdeal.Frame
public import proofs.«01_k».proof.Proof.Gen.SwigluFwdRefIdeal
public import proofs.«01_k».proof.Proof.Gen.SwigluFwdRefIdeal.Run
public import proofs.«01_k».proof.Proof.Gen.SwigluFwdRefIdeal.Read
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdRefIdeal
public import proofs.«01_k».proof.Proof.Gen.SguFwdRefIdeal.Run
public import proofs.«01_k».proof.Proof.Gen.SguFwdRefIdeal.Read
public import proofs.«01_k».proof.Proof.Gen.OutBwdW
public import proofs.«01_k».proof.Proof.Gen.OutBwdW.Skeleton
public import proofs.«01_k».proof.Proof.Gen.OutBwdW.Launch
public import proofs.«01_k».proof.Proof.Gen.OutBwdW.Points
public import proofs.«01_k».proof.Proof.Gen.OutBwdW.Frame
public import proofs.«01_k».proof.Proof.Gen.OutBwdWIdeal
public import proofs.«01_k».proof.Proof.Gen.OutBwdWIdeal.Skeleton
public import proofs.«01_k».proof.Proof.Gen.OutBwdWIdeal.Launch
public import proofs.«01_k».proof.Proof.Gen.OutBwdWIdeal.Points
public import proofs.«01_k».proof.Proof.Gen.OutBwdWIdeal.Frame
public import proofs.«01_k».proof.Proof.Gen.OutBwdWRefIdeal
public import proofs.«01_k».proof.Proof.Gen.OutBwdWRefIdeal.Run
public import proofs.«01_k».proof.Proof.Gen.OutBwdWRefIdeal.Read
public import proofs.«01_k».proof.Proof.Gen.OutBwdA
public import proofs.«01_k».proof.Proof.Gen.OutBwdA.Skeleton
public import proofs.«01_k».proof.Proof.Gen.OutBwdA.Launch
public import proofs.«01_k».proof.Proof.Gen.OutBwdA.Points
public import proofs.«01_k».proof.Proof.Gen.OutBwdA.Frame
public import proofs.«01_k».proof.Proof.Gen.OutBwdAIdeal
public import proofs.«01_k».proof.Proof.Gen.OutBwdAIdeal.Skeleton
public import proofs.«01_k».proof.Proof.Gen.OutBwdAIdeal.Launch
public import proofs.«01_k».proof.Proof.Gen.OutBwdAIdeal.Points
public import proofs.«01_k».proof.Proof.Gen.OutBwdAIdeal.Frame
public import proofs.«01_k».proof.Proof.Gen.OutBwdARefIdeal
public import proofs.«01_k».proof.Proof.Gen.OutBwdARefIdeal.Run
public import proofs.«01_k».proof.Proof.Gen.OutBwdARefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.InBwdA
public import proofs.«01_k».proof.Proof.Gen.InBwdA.Skeleton
public import proofs.«01_k».proof.Proof.Gen.InBwdA.Launch
public import proofs.«01_k».proof.Proof.Gen.InBwdA.Points
public import proofs.«01_k».proof.Proof.Gen.InBwdA.Frame
public import proofs.«01_k».proof.Proof.Gen.InBwdAIdeal
public import proofs.«01_k».proof.Proof.Gen.InBwdAIdeal.Skeleton
public import proofs.«01_k».proof.Proof.Gen.InBwdAIdeal.Launch
public import proofs.«01_k».proof.Proof.Gen.InBwdAIdeal.Points
public import proofs.«01_k».proof.Proof.Gen.InBwdAIdeal.Frame
public import proofs.«01_k».proof.Proof.Gen.InBwdARefIdeal
public import proofs.«01_k».proof.Proof.Gen.InBwdARefIdeal.Run
public import proofs.«01_k».proof.Proof.Gen.InBwdARefIdeal.Read
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.InBwdW
public import proofs.«01_k».proof.Proof.Gen.InBwdW.Skeleton
public import proofs.«01_k».proof.Proof.Gen.InBwdW.Launch
public import proofs.«01_k».proof.Proof.Gen.InBwdW.Points
public import proofs.«01_k».proof.Proof.Gen.InBwdW.Frame
public import proofs.«01_k».proof.Proof.Gen.InBwdWIdeal
public import proofs.«01_k».proof.Proof.Gen.InBwdWIdeal.Skeleton
public import proofs.«01_k».proof.Proof.Gen.InBwdWIdeal.Launch
public import proofs.«01_k».proof.Proof.Gen.InBwdWIdeal.Points
public import proofs.«01_k».proof.Proof.Gen.InBwdWIdeal.Frame
public import proofs.«01_k».proof.Proof.Gen.InBwdWRefIdeal
public import proofs.«01_k».proof.Proof.Gen.InBwdWRefIdeal.Run
public import proofs.«01_k».proof.Proof.Gen.InBwdWRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.AdamShard
public import proofs.«01_k».proof.Proof.Gen.AdamShard.Skeleton
public import proofs.«01_k».proof.Proof.Gen.AdamShard.Launch
public import proofs.«01_k».proof.Proof.Gen.AdamShard.Points
public import proofs.«01_k».proof.Proof.Gen.AdamShard.Frame
public import proofs.«01_k».proof.Proof.Gen.AdamShardIdeal
public import proofs.«01_k».proof.Proof.Gen.AdamShardIdeal.Skeleton
public import proofs.«01_k».proof.Proof.Gen.AdamShardIdeal.Launch
public import proofs.«01_k».proof.Proof.Gen.AdamShardIdeal.Points
public import proofs.«01_k».proof.Proof.Gen.AdamShardIdeal.Frame
public import proofs.«01_k».proof.Proof.Gen.AdamShardRefIdeal
public import proofs.«01_k».proof.Proof.Gen.AdamShardRefIdeal.Run
public import proofs.«01_k».proof.Proof.Gen.AdamShardRefIdeal.Read
public import proofs.«01_k».proof.Proof.Gen.GateBwdA
public import proofs.«01_k».proof.Proof.Gen.GateBwdA.Skeleton
public import proofs.«01_k».proof.Proof.Gen.GateBwdA.Launch
public import proofs.«01_k».proof.Proof.Gen.GateBwdA.Points
public import proofs.«01_k».proof.Proof.Gen.GateBwdA.Frame
public import proofs.«01_k».proof.Proof.Gen.GateBwdAIdeal
public import proofs.«01_k».proof.Proof.Gen.GateBwdAIdeal.Skeleton
public import proofs.«01_k».proof.Proof.Gen.GateBwdAIdeal.Launch
public import proofs.«01_k».proof.Proof.Gen.GateBwdAIdeal.Points
public import proofs.«01_k».proof.Proof.Gen.GateBwdAIdeal.Frame
public import proofs.«01_k».proof.Proof.Gen.GateBwdARefIdeal
public import proofs.«01_k».proof.Proof.Gen.GateBwdARefIdeal.Run
public import proofs.«01_k».proof.Proof.Gen.GateBwdARefIdeal.Read
public import proofs.«01_k».proof.Proof.Gen.BranchFwd
public import proofs.«01_k».proof.Proof.Gen.BranchFwd.Skeleton
public import proofs.«01_k».proof.Proof.Gen.BranchFwd.Launch
public import proofs.«01_k».proof.Proof.Gen.BranchFwd.Points
public import proofs.«01_k».proof.Proof.Gen.BranchFwd.Frame
public import proofs.«01_k».proof.Proof.Gen.BranchFwdIdeal
public import proofs.«01_k».proof.Proof.Gen.BranchFwdIdeal.Skeleton
public import proofs.«01_k».proof.Proof.Gen.BranchFwdIdeal.Launch
public import proofs.«01_k».proof.Proof.Gen.BranchFwdIdeal.Points
public import proofs.«01_k».proof.Proof.Gen.BranchFwdIdeal.Frame
public import proofs.«01_k».proof.Proof.Gen.BranchFwdRefIdeal
public import proofs.«01_k».proof.Proof.Gen.BranchFwdRefIdeal.Run
public import proofs.«01_k».proof.Proof.Gen.BranchFwdRefIdeal.Read
public import proofs.«01_k».proof.Proof.Gen.BranchBwdA
public import proofs.«01_k».proof.Proof.Gen.BranchBwdA.Skeleton
public import proofs.«01_k».proof.Proof.Gen.BranchBwdA.Launch
public import proofs.«01_k».proof.Proof.Gen.BranchBwdA.Points
public import proofs.«01_k».proof.Proof.Gen.BranchBwdA.Frame
public import proofs.«01_k».proof.Proof.Gen.BranchBwdAIdeal
public import proofs.«01_k».proof.Proof.Gen.BranchBwdAIdeal.Skeleton
public import proofs.«01_k».proof.Proof.Gen.BranchBwdAIdeal.Launch
public import proofs.«01_k».proof.Proof.Gen.BranchBwdAIdeal.Points
public import proofs.«01_k».proof.Proof.Gen.BranchBwdAIdeal.Frame
public import proofs.«01_k».proof.Proof.Gen.BranchBwdARefIdeal
public import proofs.«01_k».proof.Proof.Gen.BranchBwdARefIdeal.Run
public import proofs.«01_k».proof.Proof.Gen.BranchBwdARefIdeal.Read
public import proofs.«01_k».proof.Proof.Gen.GateBwdW
public import proofs.«01_k».proof.Proof.Gen.GateBwdW.Skeleton
public import proofs.«01_k».proof.Proof.Gen.GateBwdW.Launch
public import proofs.«01_k».proof.Proof.Gen.GateBwdW.Points
public import proofs.«01_k».proof.Proof.Gen.GateBwdW.Frame
public import proofs.«01_k».proof.Proof.Gen.GateBwdWIdeal
public import proofs.«01_k».proof.Proof.Gen.GateBwdWIdeal.Skeleton
public import proofs.«01_k».proof.Proof.Gen.GateBwdWIdeal.Launch
public import proofs.«01_k».proof.Proof.Gen.GateBwdWIdeal.Points
public import proofs.«01_k».proof.Proof.Gen.GateBwdWIdeal.Frame
public import proofs.«01_k».proof.Proof.Gen.GateBwdWRefIdeal
public import proofs.«01_k».proof.Proof.Gen.GateBwdWRefIdeal.Run
public import proofs.«01_k».proof.Proof.Gen.GateBwdWRefIdeal.Read
public import proofs.«01_k».proof.Proof.Gen.UpBwdW
public import proofs.«01_k».proof.Proof.Gen.UpBwdW.Skeleton
public import proofs.«01_k».proof.Proof.Gen.UpBwdW.Launch
public import proofs.«01_k».proof.Proof.Gen.UpBwdW.Points
public import proofs.«01_k».proof.Proof.Gen.UpBwdW.Frame
public import proofs.«01_k».proof.Proof.Gen.UpBwdWIdeal
public import proofs.«01_k».proof.Proof.Gen.UpBwdWIdeal.Skeleton
public import proofs.«01_k».proof.Proof.Gen.UpBwdWIdeal.Launch
public import proofs.«01_k».proof.Proof.Gen.UpBwdWIdeal.Points
public import proofs.«01_k».proof.Proof.Gen.UpBwdWIdeal.Frame
public import proofs.«01_k».proof.Proof.Gen.UpBwdWRefIdeal
public import proofs.«01_k».proof.Proof.Gen.UpBwdWRefIdeal.Run
public import proofs.«01_k».proof.Proof.Gen.UpBwdWRefIdeal.Read
public import proofs.«01_k».proof.Proof.Gen.UpBwdH
public import proofs.«01_k».proof.Proof.Gen.UpBwdH.Skeleton
public import proofs.«01_k».proof.Proof.Gen.UpBwdH.Launch
public import proofs.«01_k».proof.Proof.Gen.UpBwdH.Points
public import proofs.«01_k».proof.Proof.Gen.UpBwdH.Frame
public import proofs.«01_k».proof.Proof.Gen.UpBwdHIdeal
public import proofs.«01_k».proof.Proof.Gen.UpBwdHIdeal.Skeleton
public import proofs.«01_k».proof.Proof.Gen.UpBwdHIdeal.Launch
public import proofs.«01_k».proof.Proof.Gen.UpBwdHIdeal.Points
public import proofs.«01_k».proof.Proof.Gen.UpBwdHIdeal.Frame
public import proofs.«01_k».proof.Proof.Gen.UpBwdHRefIdeal
public import proofs.«01_k».proof.Proof.Gen.UpBwdHRefIdeal.Run
public import proofs.«01_k».proof.Proof.Gen.UpBwdHRefIdeal.Read
public import proofs.«01_k».proof.Proof.Gen.DownBwdW
public import proofs.«01_k».proof.Proof.Gen.DownBwdW.Skeleton
public import proofs.«01_k».proof.Proof.Gen.DownBwdW.Launch
public import proofs.«01_k».proof.Proof.Gen.DownBwdW.Points
public import proofs.«01_k».proof.Proof.Gen.DownBwdW.Frame
public import proofs.«01_k».proof.Proof.Gen.DownBwdWIdeal
public import proofs.«01_k».proof.Proof.Gen.DownBwdWIdeal.Skeleton
public import proofs.«01_k».proof.Proof.Gen.DownBwdWIdeal.Launch
public import proofs.«01_k».proof.Proof.Gen.DownBwdWIdeal.Points
public import proofs.«01_k».proof.Proof.Gen.DownBwdWIdeal.Frame
public import proofs.«01_k».proof.Proof.Gen.DownBwdWRefIdeal
public import proofs.«01_k».proof.Proof.Gen.DownBwdWRefIdeal.Run
public import proofs.«01_k».proof.Proof.Gen.DownBwdWRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Rms
public import proofs.«01_k».proof.Proof.Loss
public import proofs.«01_k».proof.Proof.Merge
public import proofs.«01_k».proof.Proof.Prep
public import proofs.«01_k».proof.Proof.Swiglu
public import proofs.«01_k».proof.Proof.SguTail
public import proofs.«01_k».proof.Proof.RmsRows
public import proofs.«01_k».proof.Proof.MergeRows
public import proofs.«01_k».proof.Proof.PrepRows
public import proofs.«01_k».proof.Proof.Powers
public import proofs.«01_k».proof.Proof.SwigluRows
public import proofs.«01_k».proof.Proof.SguRowsFwd
public import proofs.«01_k».proof.Proof.OutBwdWTiles
public import proofs.«01_k».proof.Proof.OutBwdARows
public import proofs.«01_k».proof.Proof.OutRows
public import proofs.«01_k».proof.Proof.InRows
public import proofs.«01_k».proof.Proof.InBwdARows
public import proofs.«01_k».proof.Proof.DownRows
public import proofs.«01_k».proof.Proof.InBwdWTiles
public import proofs.«01_k».proof.Proof.GateRows
public import proofs.«01_k».proof.Proof.AdamRows
public import proofs.«01_k».proof.Proof.GateBwdARows
public import proofs.«01_k».proof.Proof.BranchRows
public import proofs.«01_k».proof.Proof.BranchBwdARows
public import proofs.«01_k».proof.Proof.GateBwdWTiles
public import proofs.«01_k».proof.Proof.UpBwdWTiles
public import proofs.«01_k».proof.Proof.UpBwdHTiles
public import proofs.«01_k».proof.Proof.DownBwdWTiles
public import proofs.«01_k».proof.Proof.AdamPacked
public import Idealize.ShloMosaic.Adequacy
public import Idealize.ShloMosaic.Init

@[expose] public section

set_option maxRecDepth 16384

noncomputable section

namespace Cert.Proof

open Idealize.ShloMosaic Idealize.SL.Sem

/-- The shape facts that the precondition states. -/
instance Pre_rms_finite_facts : Cert.Pre_rms_finite.Facts where
  bitsLt_bf16_f32 := by decide
  bcast_S_S8192x2048 := by decide
  bcast_S_S1x2048 := by decide

/-- The shape facts that the precondition states. -/
instance Pre_loss_finite_facts : Cert.Pre_loss_finite.Facts where
  bcast_S_S8192x2048 := by decide
  bcast_S_S2048 := by decide

/-- The shape facts that the precondition states. -/
instance Pre_swiglu_finite_facts : Cert.Pre_swiglu_finite.Facts where
  bitsLt_bf16_f32 := by decide
  bcast_S_S8192x2048 := by decide
  bcast_S_S2048x5632 := by decide
  bcast_S_S5632x2048 := by decide

/-- The shape facts that the precondition states. -/
instance Pre_sgu_finite_facts : Cert.Pre_sgu_finite.Facts where
  bitsLt_bf16_f32 := by decide
  bcast_S_S8192x1024 := by decide
  bcast_S_S8192x3072 := by decide
  bcast_S_S1x1024 := by decide
  bcast_S_S8x128x128 := by decide
  bcast_S_S8x128 := by decide

/-- The shape facts that the precondition states. -/
instance Pre_powers_finite_facts : Cert.Pre_powers_finite.Facts where
  bcast_S_S64x64 := by decide
  bcast_S_S64 := by decide

open Cert.RmsBwdRefIdeal Cert.RmsBwdRefIdeal.Read in
/-- The reference ends with its results at their values over the arguments and the arguments unchanged. -/
theorem run_rmsBwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v36) = val_main_v36 (F := Ideal) (m (c.tc.loc main_arg0)) (m (c.tc.loc main_arg1)) (m (c.tc.loc main_arg2)) (m (c.tc.loc main_arg3))
      ∧ r.2.mem (c.tc.loc main_v19) = val_main_v19 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (val_main_v36_eq _ _ _ _),
    (h c).2.1.trans (val_main_v19_eq _ _),
    (h c).2.2⟩) (Value.run (F := Ideal) m ρ)

/-- The reference ends with its arguments unchanged and, having no semaphore, every counter at zero. -/
theorem frame_rmsBwdRefIdeal : Cert.quiescent_RmsBwdRefIdeal := fun m ρ _ =>
  (θ_run Cert.RmsBwdRefIdeal.defs _ _).mono (fun r h => ⟨fun c => (h c).2.2, sem_eq_zero_of_no_sems (by decide) r.2⟩)
    (run_rmsBwdRefIdeal m ρ)

open Cert.LossHeadRefIdeal Cert.LossHeadRefIdeal.Read in
/-- The reference ends with its results at their values over the arguments and the arguments unchanged. -/
theorem run_lossHeadRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v51) = val_main_v51 (F := Ideal) (m (c.tc.loc main_arg0)) (m (c.tc.loc main_arg1)) (m (c.tc.loc main_arg2))
      ∧ r.2.mem (c.tc.loc main_v52) = val_main_v52 (F := Ideal) (m (c.tc.loc main_arg0)) (m (c.tc.loc main_arg1)) (m (c.tc.loc main_arg2))
      ∧ r.2.mem (c.tc.loc main_v53) = val_main_v53 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (val_main_v51_eq _ _ _),
    (h c).2.1.trans (val_main_v52_eq m c),
    (h c).2.2.1.trans (val_main_v53_eq _ _ _),
    (h c).2.2.2⟩) (Value.run (F := Ideal) m ρ)

/-- The reference ends with its arguments unchanged and, having no semaphore, every counter at zero. -/
theorem frame_lossHeadRefIdeal : Cert.quiescent_LossHeadRefIdeal := fun m ρ _ =>
  (θ_run Cert.LossHeadRefIdeal.defs _ _).mono (fun r h => ⟨fun c => (h c).2.2.2, sem_eq_zero_of_no_sems (by decide) r.2⟩)
    (run_lossHeadRefIdeal m ρ)

open Cert.MergeBwdRefIdeal Cert.MergeBwdRefIdeal.Read in
/-- The reference ends with its results at their values over the arguments and the arguments unchanged. -/
theorem run_mergeBwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v27) = val_main_v27 (F := Ideal) (m (c.tc.loc main_arg0)) (m (c.tc.loc main_arg3)) (m (c.tc.loc main_arg4))
      ∧ r.2.mem (c.tc.loc main_v28) = val_main_v28 (F := Ideal) (m (c.tc.loc main_arg0)) (m (c.tc.loc main_arg3)) (m (c.tc.loc main_arg4))
      ∧ r.2.mem (c.tc.loc main_v31) = val_main_v31 (F := Ideal) (m (c.tc.loc main_arg0)) (m (c.tc.loc main_arg1)) (m (c.tc.loc main_arg2)) (m (c.tc.loc main_arg3)) (m (c.tc.loc main_arg4))
      ∧ r.2.mem (c.tc.loc main_v33) = val_main_v33 (F := Ideal) (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c => ⟨(h c).1.trans (val_main_v27_eq _ _ _),
    (h c).2.1.trans (val_main_v28_eq _ _ _),
    (h c).2.2.1.trans (val_main_v31_eq _ _ _ _ _),
    (h c).2.2.2.1.trans (val_main_v33_eq _ _ _ _ _),
    (h c).2.2.2.2⟩) (Value.run (F := Ideal) m ρ)

/-- The reference ends with its arguments unchanged and, having no semaphore, every counter at zero. -/
theorem frame_mergeBwdRefIdeal : Cert.quiescent_MergeBwdRefIdeal := fun m ρ _ =>
  (θ_run Cert.MergeBwdRefIdeal.defs _ _).mono (fun r h => ⟨fun c => (h c).2.2.2.2, sem_eq_zero_of_no_sems (by decide) r.2⟩)
    (run_mergeBwdRefIdeal m ρ)

open Cert.PrepBwdRefIdeal Cert.PrepBwdRefIdeal.Read in
/-- The reference ends with its results at their values over the arguments and the arguments unchanged. -/
theorem run_prepBwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v140) = val_main_v140 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
      ∧ r.2.mem (c.tc.loc main_v132) = val_main_v132 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
      ∧ r.2.mem (c.tc.loc main_v143) = val_main_v143 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8))
      ∧ r.2.mem (c.tc.loc main_v144) = val_main_v144 (F := Ideal) (m (c.tc.loc main_arg0)) (m (c.tc.loc main_arg1)) (m (c.tc.loc main_arg2)) (m (c.tc.loc main_arg7)) (m (c.tc.loc main_arg8))
      ∧ r.2.mem (c.tc.loc main_v145) = val_main_v145 (F := Ideal) (m (c.tc.loc main_arg0)) (m (c.tc.loc main_arg1)) (m (c.tc.loc main_arg2)) (m (c.tc.loc main_arg7)) (m (c.tc.loc main_arg8))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)) :=
  (θ_run defs _ _).mono (fun r h c => ⟨(h c).1.trans (val_main_v140_eq m c),
    (h c).2.1.trans (val_main_v132_eq m c),
    (h c).2.2.1.trans (val_main_v143_eq m c),
    (h c).2.2.2.1.trans (val_main_v144_eq _ _ _ _ _),
    (h c).2.2.2.2.1.trans (val_main_v145_eq _ _ _ _ _),
    (h c).2.2.2.2.2⟩) (Value.run (F := Ideal) m ρ)

/-- The reference ends with its arguments unchanged and, having no semaphore, every counter at zero. -/
theorem frame_prepBwdRefIdeal : Cert.quiescent_PrepBwdRefIdeal := fun m ρ _ =>
  (θ_run Cert.PrepBwdRefIdeal.defs _ _).mono (fun r h => ⟨fun c => (h c).2.2.2.2.2, sem_eq_zero_of_no_sems (by decide) r.2⟩)
    (run_prepBwdRefIdeal m ρ)

open Cert.SwigluBwdRefIdeal Cert.SwigluBwdRefIdeal.Read in
/-- The reference ends with its results at their values over the arguments and the arguments unchanged. -/
theorem run_swigluBwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v22) = val_main_v22 (F := Ideal) (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c => ⟨(h c).1.trans (val_main_v22_eq _ _ _ _ _),
    (h c).2⟩) (Value.run (F := Ideal) m ρ)

/-- The reference ends with its arguments unchanged and, having no semaphore, every counter at zero. -/
theorem frame_swigluBwdRefIdeal : Cert.quiescent_SwigluBwdRefIdeal := fun m ρ _ =>
  (θ_run Cert.SwigluBwdRefIdeal.defs _ _).mono (fun r h => ⟨fun c => (h c).2, sem_eq_zero_of_no_sems (by decide) r.2⟩)
    (run_swigluBwdRefIdeal m ρ)

open Cert.SguBwdRefIdeal Cert.SguBwdRefIdeal.Read in
/-- The reference ends with its results at their values over the arguments and the arguments unchanged. -/
theorem run_sguBwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v138) = val_main_v138 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem (c.tc.loc main_v89) = val_main_v89 (F := Ideal) (m (c.tc.loc main_arg0)) (m (c.tc.loc main_arg2)) (m (c.tc.loc main_arg3)) (m (c.tc.loc main_arg4))
      ∧ r.2.mem (c.tc.loc main_v84) = val_main_v84 (F := Ideal) (m (c.tc.loc main_arg0)) (m (c.tc.loc main_arg2))
      ∧ r.2.mem (c.tc.loc main_v95) = val_main_v95 (F := Ideal) (m (c.tc.loc main_arg0)) (m (c.tc.loc main_arg2)) (m (c.tc.loc main_arg5))
      ∧ r.2.mem (c.tc.loc main_v92) = val_main_v92 (F := Ideal) (m (c.tc.loc main_arg0)) (m (c.tc.loc main_arg2)) (m (c.tc.loc main_arg5))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) :=
  (θ_run defs _ _).mono (fun r h c => ⟨(h c).1.trans (val_main_v138_eq _),
    (h c).2.1.trans (val_main_v89_eq _),
    (h c).2.2.1.trans (val_main_v84_eq _),
    (h c).2.2.2.1.trans (val_main_v95_eq _),
    (h c).2.2.2.2.1.trans (val_main_v92_eq _),
    (h c).2.2.2.2.2⟩) (Value.run (F := Ideal) m ρ)

/-- The reference ends with its arguments unchanged and, having no semaphore, every counter at zero. -/
theorem frame_sguBwdRefIdeal : Cert.quiescent_SguBwdRefIdeal := fun m ρ _ =>
  (θ_run Cert.SguBwdRefIdeal.defs _ _).mono (fun r h => ⟨fun c => (h c).2.2.2.2.2, sem_eq_zero_of_no_sems (by decide) r.2⟩)
    (run_sguBwdRefIdeal m ρ)

open Cert.RmsFwdRefIdeal Cert.RmsFwdRefIdeal.Read in
/-- The reference ends with its results at their values over the arguments and the arguments unchanged. -/
theorem run_rmsFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v12) = val_main_v12 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v12_eq _ _),
    (h c).2⟩) (Value.run (F := Ideal) m ρ)

/-- The reference ends with its arguments unchanged and, having no semaphore, every counter at zero. -/
theorem frame_rmsFwdRefIdeal : Cert.quiescent_RmsFwdRefIdeal := fun m ρ _ =>
  (θ_run Cert.RmsFwdRefIdeal.defs _ _).mono (fun r h => ⟨fun c => (h c).2, sem_eq_zero_of_no_sems (by decide) r.2⟩)
    (run_rmsFwdRefIdeal m ρ)

open Cert.MergeFwdRefIdeal Cert.MergeFwdRefIdeal.Read in
/-- The reference ends with its results at their values over the arguments and the arguments unchanged. -/
theorem run_mergeFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v15) = val_main_v15 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (val_main_v15_eq _ _ _ _),
    (h c).2⟩) (Value.run (F := Ideal) m ρ)

/-- The reference ends with its arguments unchanged and, having no semaphore, every counter at zero. -/
theorem frame_mergeFwdRefIdeal : Cert.quiescent_MergeFwdRefIdeal := fun m ρ _ =>
  (θ_run Cert.MergeFwdRefIdeal.defs _ _).mono (fun r h => ⟨fun c => (h c).2, sem_eq_zero_of_no_sems (by decide) r.2⟩)
    (run_mergeFwdRefIdeal m ρ)

open Cert.PrepFwdRefIdeal Cert.PrepFwdRefIdeal.Read in
/-- The reference ends with its results at their values over the arguments and the arguments unchanged. -/
theorem run_prepFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v8) = val_main_v8 (F := Ideal) (m (c.tc.loc main_arg0)) (m (c.tc.loc main_arg1)) (m (c.tc.loc main_arg2))
      ∧ r.2.mem (c.tc.loc main_v12) = val_main_v12 (F := Ideal) (m (c.tc.loc main_arg0)) (m (c.tc.loc main_arg1)) (m (c.tc.loc main_arg2))
      ∧ r.2.mem (c.tc.loc main_v40) = val_main_v40 (F := Ideal) (m (c.tc.loc main_arg0)) (m (c.tc.loc main_arg1)) (m (c.tc.loc main_arg2)) (m (c.tc.loc main_arg3)) (m (c.tc.loc main_arg4))
      ∧ r.2.mem (c.tc.loc main_v41) = val_main_v41 (F := Ideal) (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c => ⟨(h c).1.trans (val_main_v8_eq _ _ _),
    (h c).2.1.trans (val_main_v12_eq _ _ _),
    (h c).2.2.1.trans (val_main_v40_eq _ _ _ _ _),
    (h c).2.2.2.1.trans (val_main_v41_eq _ _ _ _ _),
    (h c).2.2.2.2⟩) (Value.run (F := Ideal) m ρ)

/-- The reference ends with its arguments unchanged and, having no semaphore, every counter at zero. -/
theorem frame_prepFwdRefIdeal : Cert.quiescent_PrepFwdRefIdeal := fun m ρ _ =>
  (θ_run Cert.PrepFwdRefIdeal.defs _ _).mono (fun r h => ⟨fun c => (h c).2.2.2.2, sem_eq_zero_of_no_sems (by decide) r.2⟩)
    (run_prepFwdRefIdeal m ρ)

/-- The reference ends with its arguments unchanged and, having no semaphore, every counter at zero. -/
theorem frame_powersRefIdeal : Cert.quiescent_PowersRefIdeal := fun m ρ _ =>
  (θ_run Cert.PowersRefIdeal.defs _ _).mono (fun r h => ⟨fun c => (h c).2.2, sem_eq_zero_of_no_sems (by decide) r.2⟩)
    (Cert.PowersRefIdeal.Value.run (F := Ideal) m ρ)

open Cert.SwigluFwdRefIdeal Cert.SwigluFwdRefIdeal.Read in
/-- The reference ends with its results at their values over the arguments and the arguments unchanged. -/
theorem run_swigluFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v10) = val_main_v10 (F := Ideal) (m (c.tc.loc main_arg0)) (m (c.tc.loc main_arg1)) (m (c.tc.loc main_arg2))
      ∧ r.2.mem (c.tc.loc main_v15) = val_main_v15 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (val_main_v10_eq _ _ _),
    (h c).2.1.trans (val_main_v15_eq _ _ _),
    (h c).2.2⟩) (Value.run (F := Ideal) m ρ)

/-- The reference ends with its arguments unchanged and, having no semaphore, every counter at zero. -/
theorem frame_swigluFwdRefIdeal : Cert.quiescent_SwigluFwdRefIdeal := fun m ρ _ =>
  (θ_run Cert.SwigluFwdRefIdeal.defs _ _).mono (fun r h => ⟨fun c => (h c).2.2, sem_eq_zero_of_no_sems (by decide) r.2⟩)
    (run_swigluFwdRefIdeal m ρ)

open Cert.SguFwdRefIdeal Cert.SguFwdRefIdeal.Read in
/-- The reference ends with its results at their values over the arguments and the arguments unchanged. -/
theorem run_sguFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v60) = val_main_v60 (F := Ideal) (m (c.tc.loc main_arg0)) (m (c.tc.loc main_arg1)) (m (c.tc.loc main_arg2)) (m (c.tc.loc main_arg3)) (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) :=
  (θ_run defs _ _).mono (fun r h c => ⟨(h c).1.trans (val_main_v60_eq m c),
    (h c).2⟩) (Value.run (F := Ideal) m ρ)

/-- The reference ends with its arguments unchanged and, having no semaphore, every counter at zero. -/
theorem frame_sguFwdRefIdeal : Cert.quiescent_SguFwdRefIdeal := fun m ρ _ =>
  (θ_run Cert.SguFwdRefIdeal.defs _ _).mono (fun r h => ⟨fun c => (h c).2, sem_eq_zero_of_no_sems (by decide) r.2⟩)
    (run_sguFwdRefIdeal m ρ)

open Cert.OutBwdWRefIdeal Cert.OutBwdWRefIdeal.Read in
/-- The reference ends with its results at their values over the arguments and the arguments unchanged. -/
theorem run_outBwdWRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v6) = val_main_v6 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v6_eq _ _),
    (h c).2⟩) (Value.run (F := Ideal) m ρ)

/-- The reference ends with its arguments unchanged and, having no semaphore, every counter at zero. -/
theorem frame_outBwdWRefIdeal : Cert.quiescent_OutBwdWRefIdeal := fun m ρ _ =>
  (θ_run Cert.OutBwdWRefIdeal.defs _ _).mono (fun r h => ⟨fun c => (h c).2, sem_eq_zero_of_no_sems (by decide) r.2⟩)
    (run_outBwdWRefIdeal m ρ)

open Cert.OutBwdARefIdeal Cert.OutBwdARefIdeal.Read in
/-- The reference ends with its results at their values over the arguments and the arguments unchanged. -/
theorem run_outBwdARefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v4) = val_main_v4 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v4_eq _ _),
    (h c).2⟩) (Value.run (F := Ideal) m ρ)

/-- The reference ends with its arguments unchanged and, having no semaphore, every counter at zero. -/
theorem frame_outBwdARefIdeal : Cert.quiescent_OutBwdARefIdeal := fun m ρ _ =>
  (θ_run Cert.OutBwdARefIdeal.defs _ _).mono (fun r h => ⟨fun c => (h c).2, sem_eq_zero_of_no_sems (by decide) r.2⟩)
    (run_outBwdARefIdeal m ρ)

open Cert.OutFwdRefIdeal Cert.OutFwdRefIdeal.Read in
/-- The reference ends with its results at their values over the arguments and the arguments unchanged. -/
theorem run_outFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v2) = val_main_v2 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (val_main_v2_eq _ _ _),
    (h c).2⟩) (Value.run (F := Ideal) m ρ)

/-- The reference ends with its arguments unchanged and, having no semaphore, every counter at zero. -/
theorem frame_outFwdRefIdeal : Cert.quiescent_OutFwdRefIdeal := fun m ρ _ =>
  (θ_run Cert.OutFwdRefIdeal.defs _ _).mono (fun r h => ⟨fun c => (h c).2, sem_eq_zero_of_no_sems (by decide) r.2⟩)
    (run_outFwdRefIdeal m ρ)

open Cert.InFwdRefIdeal Cert.InFwdRefIdeal.Read in
/-- The reference ends with its results at their values over the arguments and the arguments unchanged. -/
theorem run_inFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v2) = val_main_v2 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v2_eq _ _),
    (h c).2⟩) (Value.run (F := Ideal) m ρ)

/-- The reference ends with its arguments unchanged and, having no semaphore, every counter at zero. -/
theorem frame_inFwdRefIdeal : Cert.quiescent_InFwdRefIdeal := fun m ρ _ =>
  (θ_run Cert.InFwdRefIdeal.defs _ _).mono (fun r h => ⟨fun c => (h c).2, sem_eq_zero_of_no_sems (by decide) r.2⟩)
    (run_inFwdRefIdeal m ρ)

open Cert.InBwdARefIdeal Cert.InBwdARefIdeal.Read in
/-- The reference ends with its results at their values over the arguments and the arguments unchanged. -/
theorem run_inBwdARefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v6) = val_main_v6 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (val_main_v6_eq _ _ _),
    (h c).2⟩) (Value.run (F := Ideal) m ρ)

/-- The reference ends with its arguments unchanged and, having no semaphore, every counter at zero. -/
theorem frame_inBwdARefIdeal : Cert.quiescent_InBwdARefIdeal := fun m ρ _ =>
  (θ_run Cert.InBwdARefIdeal.defs _ _).mono (fun r h => ⟨fun c => (h c).2, sem_eq_zero_of_no_sems (by decide) r.2⟩)
    (run_inBwdARefIdeal m ρ)

open Cert.DownFwdRefIdeal Cert.DownFwdRefIdeal.Read in
/-- The reference ends with its results at their values over the arguments and the arguments unchanged. -/
theorem run_downFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v4) = val_main_v4 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (val_main_v4_eq _ _ _),
    (h c).2⟩) (Value.run (F := Ideal) m ρ)

/-- The reference ends with its arguments unchanged and, having no semaphore, every counter at zero. -/
theorem frame_downFwdRefIdeal : Cert.quiescent_DownFwdRefIdeal := fun m ρ _ =>
  (θ_run Cert.DownFwdRefIdeal.defs _ _).mono (fun r h => ⟨fun c => (h c).2, sem_eq_zero_of_no_sems (by decide) r.2⟩)
    (run_downFwdRefIdeal m ρ)

open Cert.InBwdWRefIdeal Cert.InBwdWRefIdeal.Read in
/-- The reference ends with its results at their values over the arguments and the arguments unchanged. -/
theorem run_inBwdWRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v8) = val_main_v8 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v8_eq _ _),
    (h c).2⟩) (Value.run (F := Ideal) m ρ)

/-- The reference ends with its arguments unchanged and, having no semaphore, every counter at zero. -/
theorem frame_inBwdWRefIdeal : Cert.quiescent_InBwdWRefIdeal := fun m ρ _ =>
  (θ_run Cert.InBwdWRefIdeal.defs _ _).mono (fun r h => ⟨fun c => (h c).2, sem_eq_zero_of_no_sems (by decide) r.2⟩)
    (run_inBwdWRefIdeal m ρ)

open Cert.GateFwdRefIdeal Cert.GateFwdRefIdeal.Read in
/-- The reference ends with its results at their values over the arguments and the arguments unchanged. -/
theorem run_gateFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v9) = val_main_v9 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (val_main_v9_eq _ _ _),
    (h c).2⟩) (Value.run (F := Ideal) m ρ)

/-- The reference ends with its arguments unchanged and, having no semaphore, every counter at zero. -/
theorem frame_gateFwdRefIdeal : Cert.quiescent_GateFwdRefIdeal := fun m ρ _ =>
  (θ_run Cert.GateFwdRefIdeal.defs _ _).mono (fun r h => ⟨fun c => (h c).2, sem_eq_zero_of_no_sems (by decide) r.2⟩)
    (run_gateFwdRefIdeal m ρ)

open Cert.AdamShardRefIdeal Cert.AdamShardRefIdeal.Read in
/-- The reference ends with its results at their values over the arguments and the arguments unchanged. -/
theorem run_adamShardRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v1) = val_main_v1 (F := Ideal) (m (c.tc.loc main_arg0))
      ∧ r.2.mem (c.tc.loc main_v25) = val_main_v25 (F := Ideal) (m (c.tc.loc main_arg0)) (m (c.tc.loc main_arg1)) (m (c.tc.loc main_arg2)) (m (c.tc.loc main_arg3))
      ∧ r.2.mem (c.tc.loc main_v6) = val_main_v6 (F := Ideal) (m (c.tc.loc main_arg0)) (m (c.tc.loc main_arg2))
      ∧ r.2.mem (c.tc.loc main_v12) = val_main_v12 (F := Ideal) (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (val_main_v1_eq _),
    (h c).2.1.trans (val_main_v25_eq _ _ _ _),
    (h c).2.2.1.trans (val_main_v6_eq _ _),
    (h c).2.2.2.1.trans (val_main_v12_eq _ _),
    (h c).2.2.2.2⟩) (Value.run (F := Ideal) m ρ)

/-- The reference ends with its arguments unchanged and, having no semaphore, every counter at zero. -/
theorem frame_adamShardRefIdeal : Cert.quiescent_AdamShardRefIdeal := fun m ρ _ =>
  (θ_run Cert.AdamShardRefIdeal.defs _ _).mono (fun r h => ⟨fun c => (h c).2.2.2.2, sem_eq_zero_of_no_sems (by decide) r.2⟩)
    (run_adamShardRefIdeal m ρ)

open Cert.GateBwdARefIdeal Cert.GateBwdARefIdeal.Read in
/-- The reference ends with its results at their values over the arguments and the arguments unchanged. -/
theorem run_gateBwdARefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v4) = val_main_v4 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v4_eq _ _),
    (h c).2⟩) (Value.run (F := Ideal) m ρ)

/-- The reference ends with its arguments unchanged and, having no semaphore, every counter at zero. -/
theorem frame_gateBwdARefIdeal : Cert.quiescent_GateBwdARefIdeal := fun m ρ _ =>
  (θ_run Cert.GateBwdARefIdeal.defs _ _).mono (fun r h => ⟨fun c => (h c).2, sem_eq_zero_of_no_sems (by decide) r.2⟩)
    (run_gateBwdARefIdeal m ρ)

open Cert.BranchFwdRefIdeal Cert.BranchFwdRefIdeal.Read in
/-- The reference ends with its results at their values over the arguments and the arguments unchanged. -/
theorem run_branchFwdRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v2) = val_main_v2 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v2_eq _ _),
    (h c).2⟩) (Value.run (F := Ideal) m ρ)

/-- The reference ends with its arguments unchanged and, having no semaphore, every counter at zero. -/
theorem frame_branchFwdRefIdeal : Cert.quiescent_BranchFwdRefIdeal := fun m ρ _ =>
  (θ_run Cert.BranchFwdRefIdeal.defs _ _).mono (fun r h => ⟨fun c => (h c).2, sem_eq_zero_of_no_sems (by decide) r.2⟩)
    (run_branchFwdRefIdeal m ρ)

open Cert.BranchBwdARefIdeal Cert.BranchBwdARefIdeal.Read in
/-- The reference ends with its results at their values over the arguments and the arguments unchanged. -/
theorem run_branchBwdARefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v4) = val_main_v4 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v4_eq _ _),
    (h c).2⟩) (Value.run (F := Ideal) m ρ)

/-- The reference ends with its arguments unchanged and, having no semaphore, every counter at zero. -/
theorem frame_branchBwdARefIdeal : Cert.quiescent_BranchBwdARefIdeal := fun m ρ _ =>
  (θ_run Cert.BranchBwdARefIdeal.defs _ _).mono (fun r h => ⟨fun c => (h c).2, sem_eq_zero_of_no_sems (by decide) r.2⟩)
    (run_branchBwdARefIdeal m ρ)

open Cert.GateBwdWRefIdeal Cert.GateBwdWRefIdeal.Read in
/-- The reference ends with its results at their values over the arguments and the arguments unchanged. -/
theorem run_gateBwdWRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v8) = val_main_v8 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v8_eq _ _),
    (h c).2⟩) (Value.run (F := Ideal) m ρ)

/-- The reference ends with its arguments unchanged and, having no semaphore, every counter at zero. -/
theorem frame_gateBwdWRefIdeal : Cert.quiescent_GateBwdWRefIdeal := fun m ρ _ =>
  (θ_run Cert.GateBwdWRefIdeal.defs _ _).mono (fun r h => ⟨fun c => (h c).2, sem_eq_zero_of_no_sems (by decide) r.2⟩)
    (run_gateBwdWRefIdeal m ρ)

open Cert.UpBwdWRefIdeal Cert.UpBwdWRefIdeal.Read in
/-- The reference ends with its results at their values over the arguments and the arguments unchanged. -/
theorem run_upBwdWRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v18) = val_main_v18 (F := Ideal) (m (c.tc.loc main_arg0)) (m (c.tc.loc main_arg1)) (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) :=
  (θ_run defs _ _).mono (fun r h c => ⟨(h c).1.trans (val_main_v18_eq _ _ _),
    (h c).2⟩) (Value.run (F := Ideal) m ρ)

/-- The reference ends with its arguments unchanged and, having no semaphore, every counter at zero. -/
theorem frame_upBwdWRefIdeal : Cert.quiescent_UpBwdWRefIdeal := fun m ρ _ =>
  (θ_run Cert.UpBwdWRefIdeal.defs _ _).mono (fun r h => ⟨fun c => (h c).2, sem_eq_zero_of_no_sems (by decide) r.2⟩)
    (run_upBwdWRefIdeal m ρ)

open Cert.UpBwdHRefIdeal Cert.UpBwdHRefIdeal.Read in
/-- The reference ends with its results at their values over the arguments and the arguments unchanged. -/
theorem run_upBwdHRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v8) = val_main_v8 (F := Ideal) (m (c.tc.loc main_arg0)) (m (c.tc.loc main_arg1)) (m (c.tc.loc main_arg2)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (val_main_v8_eq _ _ _ _),
    (h c).2⟩) (Value.run (F := Ideal) m ρ)

/-- The reference ends with its arguments unchanged and, having no semaphore, every counter at zero. -/
theorem frame_upBwdHRefIdeal : Cert.quiescent_UpBwdHRefIdeal := fun m ρ _ =>
  (θ_run Cert.UpBwdHRefIdeal.defs _ _).mono (fun r h => ⟨fun c => (h c).2, sem_eq_zero_of_no_sems (by decide) r.2⟩)
    (run_upBwdHRefIdeal m ρ)

open Cert.DownBwdWRefIdeal Cert.DownBwdWRefIdeal.Read in
/-- The reference ends with its results at their values over the arguments and the arguments unchanged. -/
theorem run_downBwdWRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v10) = val_main_v10 (F := Ideal) (m (c.tc.loc main_arg0)) (m (c.tc.loc main_arg1))
      ∧ r.2.mem (c.tc.loc main_arg0) = m (c.tc.loc main_arg0)
      ∧ r.2.mem (c.tc.loc main_arg1) = m (c.tc.loc main_arg1)) :=
  (θ_run defs _ _).mono (fun r h c => ⟨(h c).1.trans (val_main_v10_eq _ _),
    (h c).2⟩) (Value.run (F := Ideal) m ρ)

/-- The reference ends with its arguments unchanged and, having no semaphore, every counter at zero. -/
theorem frame_downBwdWRefIdeal : Cert.quiescent_DownBwdWRefIdeal := fun m ρ _ =>
  (θ_run Cert.DownBwdWRefIdeal.defs _ _).mono (fun r h => ⟨fun c => (h c).2, sem_eq_zero_of_no_sems (by decide) r.2⟩)
    (run_downBwdWRefIdeal m ρ)

open Cert.AdamSmallRefIdeal Cert.AdamSmallRefIdeal.Read in
/-- The reference ends with its results at their values over the arguments and the arguments unchanged. -/
theorem run_adamSmallRefIdeal (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem (c.tc.loc main_v0) = val_main_v0 (F := Ideal) (m (c.tc.loc main_arg0))
      ∧ r.2.mem (c.tc.loc main_v24) = val_main_v24 (F := Ideal) (m (c.tc.loc main_arg0)) (m (c.tc.loc main_arg1)) (m (c.tc.loc main_arg2)) (m (c.tc.loc main_arg3))
      ∧ r.2.mem (c.tc.loc main_v5) = val_main_v5 (F := Ideal) (m (c.tc.loc main_arg0)) (m (c.tc.loc main_arg2))
      ∧ r.2.mem (c.tc.loc main_v11) = val_main_v11 (F := Ideal) (m (c.tc.loc main_arg0)) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) :=
  (θ_run defs _ _).mono (fun r h c => ⟨(h c).1.trans (val_main_v0_eq _),
    (h c).2.1.trans (val_main_v24_eq _ _ _ _),
    (h c).2.2.1.trans (val_main_v5_eq _ _),
    (h c).2.2.2.1.trans (val_main_v11_eq _ _),
    (h c).2.2.2.2⟩) (Value.run (F := Ideal) m ρ)

/-- The reference ends with its arguments unchanged and, having no semaphore, every counter at zero. -/
theorem frame_adamSmallRefIdeal : Cert.quiescent_AdamSmallRefIdeal := fun m ρ _ =>
  (θ_run Cert.AdamSmallRefIdeal.defs _ _).mono (fun r h => ⟨fun c => (h c).2.2.2.2, sem_eq_zero_of_no_sems (by decide) r.2⟩)
    (run_adamSmallRefIdeal m ρ)

/-- The gradient of the root-mean-square norm is the derivative of the reference's norm, at finite arguments. -/
theorem algebraic_rms : Cert.algebraic_RmsBwdIdeal_RmsBwdRefIdeal_pre_rms_finite := by
  pair_intro
  · run_from Cert.RmsBwdIdeal.Gen.run_main m g
  · refine θ_run_mono (run_rmsBwdRefIdeal m' g') fun r hr c => ?_
    have hc := hr c
    refine ⟨hc.1.trans ?_, hc.2.1.trans ?_, hc.2.2⟩
    all_goals simp only [hagree c]
    · exact (Cert.Rms.final4 m c (Cert.Reals.reals_of_test (hpre c).1) (Cert.Reals.reals_of_test (hpre c).2.1) (Cert.Reals.reals_of_test (hpre c).2.2)).symm
    · exact (Cert.Rms.final5 m c).symm

/-- The loss and its gradient are the reference's loss and its derivative, at finite arguments. -/
theorem algebraic_loss : Cert.algebraic_LossHeadIdeal_LossHeadRefIdeal_pre_loss_finite := by
  pair_intro
  · run_from Cert.LossHeadIdeal.Gen.run_main m g
  · refine θ_run_mono (run_lossHeadRefIdeal m' g') fun r hr c => ?_
    have hc := hr c
    refine ⟨hc.1.trans ?_, hc.2.1.trans ?_, hc.2.2.1.trans ?_, hc.2.2.2⟩
    all_goals simp only [hagree c]
    · exact (Cert.Loss.final3 m c).symm
    · exact (Cert.Loss.final4 m c (Cert.Reals.reals_of_test (hpre c).1) (Cert.Reals.reals_of_test (hpre c).2.1) (Cert.Reals.reals_of_test (hpre c).2.2)).symm
    · exact (Cert.Loss.final5 m c).symm

/-- The gradient of the gated merge is the derivative of the reference's merge. -/
theorem algebraic_merge : Cert.algebraic_MergeBwdIdeal_MergeBwdRefIdeal := by
  pair_intro
  · run_from Cert.MergeBwdIdeal.Gen.run_main m g
  · refine θ_run_mono (run_mergeBwdRefIdeal m' g') fun r hr c => ?_
    have hc := hr c
    refine ⟨hc.1.trans ?_, hc.2.1.trans ?_, hc.2.2.1.trans ?_, hc.2.2.2.1.trans ?_, hc.2.2.2.2⟩
    all_goals simp only [hagree c]
    · exact (Cert.Merge.final4 m c).symm
    · exact (Cert.Merge.final5 m c).symm
    · exact (Cert.Merge.final6 m c).symm
    · exact (Cert.Merge.final7 m c).symm

set_option maxHeartbeats 2000000 in
/-- The gradient of the state space's discretisation is the derivative of the reference's lines. -/
theorem algebraic_prep : Cert.algebraic_PrepBwdIdeal_PrepBwdRefIdeal := by
  pair_intro
  · run_from Cert.PrepBwdIdeal.Gen.run_main m g
  · refine θ_run_mono (run_prepBwdRefIdeal m' g') fun r hr c => ?_
    have hc := hr c
    refine ⟨hc.1.trans ?_, hc.2.1.trans ?_, hc.2.2.1.trans ?_, hc.2.2.2.1.trans ?_, hc.2.2.2.2.1.trans ?_, hc.2.2.2.2.2⟩
    all_goals simp only [hagree c]
    · exact (Cert.Prep.final9 m c).symm
    · exact (Cert.Prep.final10 m c).symm
    · exact (Cert.Prep.final11 m c).symm
    · exact (Cert.Prep.final12 m c).symm
    · exact (Cert.Prep.final13 m c).symm

/-- The gradient of the gated feed-forward layer's hidden features is the derivative of the reference's lines, at finite arguments. -/
theorem algebraic_swiglu : Cert.algebraic_SwigluBwdIdeal_SwigluBwdRefIdeal_pre_swiglu_finite := by
  pair_intro
  · run_from Cert.SwigluBwdIdeal.Gen.run_main m g
  · refine θ_run_mono (run_swigluBwdRefIdeal m' g') fun r hr c => ?_
    have hc := hr c
    refine ⟨hc.1.trans ?_, hc.2⟩
    all_goals simp only [hagree c]
    · exact (Cert.Swiglu.final3 m c (Cert.Reals.reals_of_test (hpre c).1) (Cert.Reals.reals_of_test (hpre c).2.1) (Cert.Reals.reals_of_test (hpre c).2.2.1) (Cert.Reals.reals_of_test (hpre c).2.2.2)).symm

set_option maxHeartbeats 2000000 in
/-- The gradient of the spatial gating unit is the derivative of the reference's lines, at finite arguments. -/
theorem algebraic_sgu : Cert.algebraic_SguBwdIdeal_SguBwdRefIdeal_pre_sgu_finite := by
  pair_intro
  · run_from Cert.SguBwdIdeal.Gen.run_main m g & Cert.SguBwdIdeal.Gen.unchanged m g
  · refine θ_run_mono (run_sguBwdRefIdeal m' g') fun r hr c => ?_
    have hc := hr c
    refine ⟨hc.1.trans ?_, hc.2.1.trans ?_, hc.2.2.1.trans ?_, hc.2.2.2.1.trans ?_, hc.2.2.2.2.1.trans ?_, hc.2.2.2.2.2⟩
    all_goals simp only [hagree c]
    · exact (Cert.Sgu.final9 m c (Cert.Sgu.isReal_of_reals <| Cert.Reals.reals_of_test (hpre c).1) (Cert.Sgu.isReal_of_reals <| Cert.Reals.reals_of_test (hpre c).2.1) (Cert.Sgu.isReal_of_reals <| Cert.Reals.reals_of_test (hpre c).2.2.1)
        (Cert.Sgu.isReal_of_reals <| Cert.Reals.reals_of_test (hpre c).2.2.2.1) (Cert.Sgu.isReal_of_reals <| Cert.Reals.reals_of_test (hpre c).2.2.2.2.1) (Cert.Sgu.isReal_of_reals <| Cert.Reals.reals_of_test (hpre c).2.2.2.2.2)).symm
    · exact (Cert.Sgu.tail_weights m c).symm
    · exact (Cert.Sgu.tail_bias m c).symm
    · exact (Cert.Sgu.final12 m c).symm
    · exact (Cert.Sgu.final13 m c).symm

/-- The root-mean-square norm is the reference's. -/
theorem algebraic_rms_rows : Cert.algebraic_RmsFwdIdeal_RmsFwdRefIdeal := by
  pair_intro
  · run_from Cert.RmsFwdIdeal.Gen.run_main m g
  · refine θ_run_mono (run_rmsFwdRefIdeal m' g') fun r hr c => ?_
    have hc := hr c
    refine ⟨hc.1.trans ?_, hc.2⟩
    all_goals simp only [hagree c]
    · exact (Cert.RmsRows.final2 m c).symm

/-- The gated merge is the reference's. -/
theorem algebraic_merge_rows : Cert.algebraic_MergeFwdIdeal_MergeFwdRefIdeal := by
  pair_intro
  · run_from Cert.MergeFwdIdeal.Gen.run_main m g
  · refine θ_run_mono (run_mergeFwdRefIdeal m' g') fun r hr c => ?_
    have hc := hr c
    refine ⟨hc.1.trans ?_, hc.2⟩
    all_goals simp only [hagree c]
    · exact (Cert.MergeRows.final3 m c).symm

/-- The state space's discretisation is the reference's. -/
theorem algebraic_prep_rows : Cert.algebraic_PrepFwdIdeal_PrepFwdRefIdeal := by
  pair_intro
  · run_from Cert.PrepFwdIdeal.Gen.run_main m g
  · refine θ_run_mono (run_prepFwdRefIdeal m' g') fun r hr c => ?_
    have hc := hr c
    refine ⟨hc.1.trans ?_, hc.2.1.trans ?_, hc.2.2.1.trans ?_, hc.2.2.2.1.trans ?_, hc.2.2.2.2⟩
    all_goals simp only [hagree c]
    · exact (Cert.PrepRows.final5 m c).symm
    · exact (Cert.PrepRows.final6 m c).symm
    · exact (Cert.PrepRows.final9 m c).symm
    · exact (Cert.PrepRows.final10 m c).symm

/-- The powers of the discrete transition are the reference's products, at finite arguments. -/
theorem algebraic_powers : Cert.algebraic_PowersIdeal_PowersRefIdeal_pre_powers_finite := by
  pair_intro
  · run_from Cert.PowersIdeal.Gen.run_main m g
  · refine θ_run_mono (Cert.PowersRefIdeal.Value.run (F := Ideal) m' g') fun r hr c => ?_
    have hc := hr c
    obtain ⟨re, hre⟩ := Cert.Reals.reals_of_test (hpre c).1
    obtain ⟨im, him⟩ := Cert.Reals.reals_of_test (hpre c).2.1
    obtain ⟨dt, hdt⟩ := Cert.Reals.reals_of_test (hpre c).2.2
    have e := Cert.PowerRows.after32 m' c (re := re) (im := im) (dt := dt) (by simp only [hagree c]; exact hre)
      (by simp only [hagree c]; exact him) (by simp only [hagree c]; exact hdt)
    refine ⟨hc.1.trans (e.1.trans ?_), hc.2.1.trans (e.2.trans ?_), hc.2.2⟩
    · exact (Cert.PowerRows.final7 re im dt m c hre him hdt).symm
    · exact (Cert.PowerRows.final8 re im dt m c hre him hdt).symm

/-- The gated feed-forward layer's products and its gate are the reference's. -/
theorem algebraic_swiglu_rows : Cert.algebraic_SwigluFwdIdeal_SwigluFwdRefIdeal := by
  pair_intro
  · run_from Cert.SwigluFwdIdeal.Gen.run_main m g
  · refine θ_run_mono (run_swigluFwdRefIdeal m' g') fun r hr c => ?_
    have hc := hr c
    refine ⟨hc.1.trans ?_, hc.2.1.trans ?_, hc.2.2⟩
    all_goals simp only [hagree c]
    · exact (Cert.SwigluRows.final2 m c).symm
    · exact (Cert.SwigluRows.final3 m c).symm

/-- The spatial gating unit is the reference's. -/
theorem algebraic_sgu_rows : Cert.algebraic_SguFwdIdeal_SguFwdRefIdeal := by
  pair_intro
  · run_from Cert.SguFwdIdeal.Gen.run_main m g & Cert.SguFwdIdeal.Gen.unchanged m g
  · refine θ_run_mono (run_sguFwdRefIdeal m' g') fun r hr c => ?_
    have hc := hr c
    refine ⟨hc.1.trans ?_, hc.2⟩
    all_goals simp only [hagree c]
    · exact (Cert.SguRowsFwd.final6 m c).symm

/-- The output projection's weight gradient is the derivative of the reference's line. -/
theorem algebraic_out_weight : Cert.algebraic_OutBwdWIdeal_OutBwdWRefIdeal := by
  pair_intro
  · run_from Cert.OutBwdWIdeal.Gen.run_main m g
  · refine θ_run_mono (run_outBwdWRefIdeal m' g') fun r hr c => ?_
    have hc := hr c
    refine ⟨hc.1.trans ?_, hc.2⟩
    all_goals simp only [hagree c]
    · exact (Cert.OutBwdWTiles.final2 m c).symm

/-- The output projection's input gradient is the derivative of the reference's line. -/
theorem algebraic_out_input : Cert.algebraic_OutBwdAIdeal_OutBwdARefIdeal := by
  pair_intro
  · run_from Cert.OutBwdAIdeal.Gen.run_main m g
  · refine θ_run_mono (run_outBwdARefIdeal m' g') fun r hr c => ?_
    have hc := hr c
    refine ⟨hc.1.trans ?_, hc.2⟩
    all_goals simp only [hagree c]
    · exact (Cert.OutBwdARows.final2 m c).symm

/-- The output projection and its shortcut are the reference's. -/
theorem algebraic_out_rows : Cert.algebraic_OutFwdIdeal_OutFwdRefIdeal := by
  pair_intro
  · run_from Cert.OutFwdIdeal.Gen.run_main m g
  · refine θ_run_mono (run_outFwdRefIdeal m' g') fun r hr c => ?_
    have hc := hr c
    refine ⟨hc.1.trans ?_, hc.2⟩
    all_goals simp only [hagree c]
    · exact (Cert.OutRows.final3 m c).symm

/-- The combined input projection is the reference's. -/
theorem algebraic_in_rows : Cert.algebraic_InFwdIdeal_InFwdRefIdeal := by
  pair_intro
  · run_from Cert.InFwdIdeal.Gen.run_main m g
  · refine θ_run_mono (run_inFwdRefIdeal m' g') fun r hr c => ?_
    have hc := hr c
    refine ⟨hc.1.trans ?_, hc.2⟩
    all_goals simp only [hagree c]
    · exact (Cert.InRows.final2 m c).symm

/-- The combined input projection's input gradient is the derivative of the reference's line. -/
theorem algebraic_in_input : Cert.algebraic_InBwdAIdeal_InBwdARefIdeal := by
  pair_intro
  · run_from Cert.InBwdAIdeal.Gen.run_main m g
  · refine θ_run_mono (run_inBwdARefIdeal m' g') fun r hr c => ?_
    have hc := hr c
    refine ⟨hc.1.trans ?_, hc.2⟩
    all_goals simp only [hagree c]
    · exact (Cert.InBwdARows.final3 m c).symm

/-- The feed-forward layer's down projection and its shortcut are the reference's. -/
theorem algebraic_down_rows : Cert.algebraic_DownFwdIdeal_DownFwdRefIdeal := by
  pair_intro
  · run_from Cert.DownFwdIdeal.Gen.run_main m g
  · refine θ_run_mono (run_downFwdRefIdeal m' g') fun r hr c => ?_
    have hc := hr c
    refine ⟨hc.1.trans ?_, hc.2⟩
    all_goals simp only [hagree c]
    · exact (Cert.DownRows.final3 m c).symm

/-- The combined input projection's weight gradient is the derivative of the reference's line. -/
theorem algebraic_in_weight : Cert.algebraic_InBwdWIdeal_InBwdWRefIdeal := by
  pair_intro
  · run_from Cert.InBwdWIdeal.Gen.run_main m g
  · refine θ_run_mono (run_inBwdWRefIdeal m' g') fun r hr c => ?_
    have hc := hr c
    refine ⟨hc.1.trans ?_, hc.2⟩
    all_goals simp only [hagree c]
    · exact (Cert.InBwdWTiles.final2 m c).symm

/-- The mixers' gates are the reference's. -/
theorem algebraic_gate_rows : Cert.algebraic_GateFwdIdeal_GateFwdRefIdeal := by
  pair_intro
  · run_from Cert.GateFwdIdeal.Gen.run_main m g
  · refine θ_run_mono (run_gateFwdRefIdeal m' g') fun r hr c => ?_
    have hc := hr c
    refine ⟨hc.1.trans ?_, hc.2⟩
    all_goals simp only [hagree c]
    · exact (Cert.GateRows.final3 m c).symm

/-- The optimiser's step on a device's shard is the reference's. -/
theorem algebraic_adam_rows : Cert.algebraic_AdamShardIdeal_AdamShardRefIdeal := by
  pair_intro
  · run_from Cert.AdamShardIdeal.Gen.run_main m g
  · refine θ_run_mono (run_adamShardRefIdeal m' g') fun r hr c => ?_
    have hc := hr c
    refine ⟨hc.1.trans ?_, hc.2.1.trans ?_, hc.2.2.1.trans ?_, hc.2.2.2.1.trans ?_, hc.2.2.2.2⟩
    all_goals simp only [hagree c]
    · exact (Cert.AdamRows.final11 m c).symm
    · exact (Cert.AdamRows.final12 m c).symm
    · exact (Cert.AdamRows.final13 m c).symm
    · exact (Cert.AdamRows.final14 m c).symm

/-- The gates' input gradient is the derivative of the reference's line. -/
theorem algebraic_gate_input : Cert.algebraic_GateBwdAIdeal_GateBwdARefIdeal := by
  pair_intro
  · run_from Cert.GateBwdAIdeal.Gen.run_main m g
  · refine θ_run_mono (run_gateBwdARefIdeal m' g') fun r hr c => ?_
    have hc := hr c
    refine ⟨hc.1.trans ?_, hc.2⟩
    all_goals simp only [hagree c]
    · exact (Cert.GateBwdARows.final2 m c).symm

/-- A branch's projection is the reference's. -/
theorem algebraic_branch_rows : Cert.algebraic_BranchFwdIdeal_BranchFwdRefIdeal := by
  pair_intro
  · run_from Cert.BranchFwdIdeal.Gen.run_main m g
  · refine θ_run_mono (run_branchFwdRefIdeal m' g') fun r hr c => ?_
    have hc := hr c
    refine ⟨hc.1.trans ?_, hc.2⟩
    all_goals simp only [hagree c]
    · exact (Cert.BranchRows.final2 m c).symm

/-- A branch's input gradient is the derivative of the reference's line. -/
theorem algebraic_branch_input : Cert.algebraic_BranchBwdAIdeal_BranchBwdARefIdeal := by
  pair_intro
  · run_from Cert.BranchBwdAIdeal.Gen.run_main m g
  · refine θ_run_mono (run_branchBwdARefIdeal m' g') fun r hr c => ?_
    have hc := hr c
    refine ⟨hc.1.trans ?_, hc.2⟩
    all_goals simp only [hagree c]
    · exact (Cert.BranchBwdARows.final2 m c).symm

/-- The gates' weight gradient is the derivative of the reference's line. -/
theorem algebraic_gate_weight : Cert.algebraic_GateBwdWIdeal_GateBwdWRefIdeal := by
  pair_intro
  · run_from Cert.GateBwdWIdeal.Gen.run_main m g
  · refine θ_run_mono (run_gateBwdWRefIdeal m' g') fun r hr c => ?_
    have hc := hr c
    refine ⟨hc.1.trans ?_, hc.2⟩
    all_goals simp only [hagree c]
    · exact (Cert.GateBwdWTiles.final2 m c).symm

/-- The up projections' weight gradients are the derivative of the reference's lines. -/
theorem algebraic_up_weight : Cert.algebraic_UpBwdWIdeal_UpBwdWRefIdeal := by
  pair_intro
  · run_from Cert.UpBwdWIdeal.Gen.run_main m g
  · refine θ_run_mono (run_upBwdWRefIdeal m' g') fun r hr c => ?_
    have hc := hr c
    refine ⟨hc.1.trans ?_, hc.2⟩
    all_goals simp only [hagree c]
    · exact (Cert.UpBwdWTiles.final2 m c).symm

/-- The up projections' input gradient is the derivative of the reference's lines. -/
theorem algebraic_up_input : Cert.algebraic_UpBwdHIdeal_UpBwdHRefIdeal := by
  pair_intro
  · run_from Cert.UpBwdHIdeal.Gen.run_main m g
  · refine θ_run_mono (run_upBwdHRefIdeal m' g') fun r hr c => ?_
    have hc := hr c
    refine ⟨hc.1.trans ?_, hc.2⟩
    all_goals simp only [hagree c]
    · exact (Cert.UpBwdHTiles.final3 m c).symm

/-- The down projection's weight gradient is the derivative of the reference's line. -/
theorem algebraic_down_weight : Cert.algebraic_DownBwdWIdeal_DownBwdWRefIdeal := by
  pair_intro
  · run_from Cert.DownBwdWIdeal.Gen.run_main m g
  · refine θ_run_mono (run_downBwdWRefIdeal m' g') fun r hr c => ?_
    have hc := hr c
    refine ⟨hc.1.trans ?_, hc.2⟩
    all_goals simp only [hagree c]
    · exact (Cert.DownBwdWTiles.final2 m c).symm

/-- The optimiser's step on the packed small weights is the reference's. -/
theorem algebraic_adam_packed : Cert.algebraic_AdamSmallIdeal_AdamSmallRefIdeal := by
  pair_intro
  · run_from Cert.AdamSmallIdeal.Gen.run_main m g
  · refine θ_run_mono (run_adamSmallRefIdeal m' g') fun r hr c => ?_
    have hc := hr c
    refine ⟨hc.1.trans ?_, hc.2.1.trans ?_, hc.2.2.1.trans ?_, hc.2.2.2.1.trans ?_, hc.2.2.2.2⟩
    all_goals simp only [hagree c]
    · exact (Cert.AdamPacked.final4 m c).symm
    · exact (Cert.AdamPacked.final5 m c).symm
    · exact (Cert.AdamPacked.final6 m c).symm
    · exact (Cert.AdamPacked.final7 m c).symm

theorem claim : Cert.Claim := ⟨Cert.RmsBwd.Gen.facts, Cert.RmsBwdIdeal.Gen.facts, Cert.RmsBwdRefIdeal.Gen.facts, Cert.LossHead.Gen.facts, Cert.LossHeadIdeal.Gen.facts, Cert.LossHeadRefIdeal.Gen.facts, Cert.MergeBwd.Gen.facts, Cert.MergeBwdIdeal.Gen.facts, Cert.MergeBwdRefIdeal.Gen.facts, Cert.PrepBwd.Gen.facts, Cert.PrepBwdIdeal.Gen.facts, Cert.PrepBwdRefIdeal.Gen.facts, Cert.SwigluBwd.Gen.facts, Cert.SwigluBwdIdeal.Gen.facts, Cert.SwigluBwdRefIdeal.Gen.facts, Cert.SguBwd.Gen.facts, Cert.SguBwdIdeal.Gen.facts, Cert.SguBwdRefIdeal.Gen.facts, Cert.RmsFwd.Gen.facts, Cert.RmsFwdIdeal.Gen.facts, Cert.RmsFwdRefIdeal.Gen.facts, Cert.MergeFwd.Gen.facts, Cert.MergeFwdIdeal.Gen.facts, Cert.MergeFwdRefIdeal.Gen.facts, Cert.PrepFwd.Gen.facts, Cert.PrepFwdIdeal.Gen.facts, Cert.PrepFwdRefIdeal.Gen.facts, Cert.Powers.Gen.facts, Cert.PowersIdeal.Gen.facts, Cert.PowersRefIdeal.Gen.facts, Cert.SwigluFwd.Gen.facts, Cert.SwigluFwdIdeal.Gen.facts, Cert.SwigluFwdRefIdeal.Gen.facts, Cert.SguFwd.Gen.facts, Cert.SguFwdIdeal.Gen.facts, Cert.SguFwdRefIdeal.Gen.facts, Cert.OutBwdW.Gen.facts, Cert.OutBwdWIdeal.Gen.facts, Cert.OutBwdWRefIdeal.Gen.facts, Cert.OutBwdA.Gen.facts, Cert.OutBwdAIdeal.Gen.facts, Cert.OutBwdARefIdeal.Gen.facts, Cert.OutFwd.Gen.facts, Cert.OutFwdIdeal.Gen.facts, Cert.OutFwdRefIdeal.Gen.facts, Cert.InFwd.Gen.facts, Cert.InFwdIdeal.Gen.facts, Cert.InFwdRefIdeal.Gen.facts, Cert.InBwdA.Gen.facts, Cert.InBwdAIdeal.Gen.facts, Cert.InBwdARefIdeal.Gen.facts, Cert.DownFwd.Gen.facts, Cert.DownFwdIdeal.Gen.facts, Cert.DownFwdRefIdeal.Gen.facts, Cert.InBwdW.Gen.facts, Cert.InBwdWIdeal.Gen.facts, Cert.InBwdWRefIdeal.Gen.facts, Cert.GateFwd.Gen.facts, Cert.GateFwdIdeal.Gen.facts, Cert.GateFwdRefIdeal.Gen.facts, Cert.AdamShard.Gen.facts, Cert.AdamShardIdeal.Gen.facts, Cert.AdamShardRefIdeal.Gen.facts, Cert.GateBwdA.Gen.facts, Cert.GateBwdAIdeal.Gen.facts, Cert.GateBwdARefIdeal.Gen.facts, Cert.BranchFwd.Gen.facts, Cert.BranchFwdIdeal.Gen.facts, Cert.BranchFwdRefIdeal.Gen.facts, Cert.BranchBwdA.Gen.facts, Cert.BranchBwdAIdeal.Gen.facts, Cert.BranchBwdARefIdeal.Gen.facts, Cert.GateBwdW.Gen.facts, Cert.GateBwdWIdeal.Gen.facts, Cert.GateBwdWRefIdeal.Gen.facts, Cert.UpBwdW.Gen.facts, Cert.UpBwdWIdeal.Gen.facts, Cert.UpBwdWRefIdeal.Gen.facts, Cert.UpBwdH.Gen.facts, Cert.UpBwdHIdeal.Gen.facts, Cert.UpBwdHRefIdeal.Gen.facts, Cert.DownBwdW.Gen.facts, Cert.DownBwdWIdeal.Gen.facts, Cert.DownBwdWRefIdeal.Gen.facts, Cert.AdamSmall.Gen.facts, Cert.AdamSmallIdeal.Gen.facts, Cert.AdamSmallRefIdeal.Gen.facts, Cert.Proof.Pre_rms_finite_facts, Cert.Proof.Pre_loss_finite_facts, Cert.Proof.Pre_swiglu_finite_facts, Cert.Proof.Pre_sgu_finite_facts, Cert.Proof.Pre_powers_finite_facts,
  fun m ρ _ => Cert.RmsBwd.Gen.frame m ρ,
  fun m ρ _ => Cert.RmsBwdIdeal.Gen.frame m ρ,
  fun m ρ _ => Cert.RmsBwdIdeal.Gen.frame m ρ,
  frame_rmsBwdRefIdeal,
  fun m ρ _ => frame_rmsBwdRefIdeal m ρ trivial,
  fun m ρ _ => Cert.LossHead.Gen.frame m ρ,
  fun m ρ _ => Cert.LossHeadIdeal.Gen.frame m ρ,
  fun m ρ _ => Cert.LossHeadIdeal.Gen.frame m ρ,
  frame_lossHeadRefIdeal,
  fun m ρ _ => frame_lossHeadRefIdeal m ρ trivial,
  fun m ρ _ => Cert.MergeBwd.Gen.frame m ρ,
  fun m ρ _ => Cert.MergeBwdIdeal.Gen.frame m ρ,
  frame_mergeBwdRefIdeal,
  fun m ρ _ => Cert.PrepBwd.Gen.frame m ρ,
  fun m ρ _ => Cert.PrepBwdIdeal.Gen.frame m ρ,
  frame_prepBwdRefIdeal,
  fun m ρ _ => Cert.SwigluBwd.Gen.frame m ρ,
  fun m ρ _ => Cert.SwigluBwdIdeal.Gen.frame m ρ,
  fun m ρ _ => Cert.SwigluBwdIdeal.Gen.frame m ρ,
  frame_swigluBwdRefIdeal,
  fun m ρ _ => frame_swigluBwdRefIdeal m ρ trivial,
  fun m ρ _ => Cert.SguBwd.Gen.frame m ρ,
  fun m ρ _ => Cert.SguBwdIdeal.Gen.frame m ρ,
  fun m ρ _ => Cert.SguBwdIdeal.Gen.frame m ρ,
  frame_sguBwdRefIdeal,
  fun m ρ _ => frame_sguBwdRefIdeal m ρ trivial,
  fun m ρ _ => Cert.RmsFwd.Gen.frame m ρ,
  fun m ρ _ => Cert.RmsFwdIdeal.Gen.frame m ρ,
  frame_rmsFwdRefIdeal,
  fun m ρ _ => Cert.MergeFwd.Gen.frame m ρ,
  fun m ρ _ => Cert.MergeFwdIdeal.Gen.frame m ρ,
  frame_mergeFwdRefIdeal,
  fun m ρ _ => Cert.PrepFwd.Gen.frame m ρ,
  fun m ρ _ => Cert.PrepFwdIdeal.Gen.frame m ρ,
  frame_prepFwdRefIdeal,
  fun m ρ _ => Cert.Powers.Gen.frame m ρ,
  fun m ρ _ => Cert.PowersIdeal.Gen.frame m ρ,
  fun m ρ _ => Cert.PowersIdeal.Gen.frame m ρ,
  frame_powersRefIdeal,
  fun m ρ _ => frame_powersRefIdeal m ρ trivial,
  fun m ρ _ => Cert.SwigluFwd.Gen.frame m ρ,
  fun m ρ _ => Cert.SwigluFwdIdeal.Gen.frame m ρ,
  frame_swigluFwdRefIdeal,
  fun m ρ _ => Cert.SguFwd.Gen.frame m ρ,
  fun m ρ _ => Cert.SguFwdIdeal.Gen.frame m ρ,
  frame_sguFwdRefIdeal,
  fun m ρ _ => Cert.OutBwdW.Gen.frame m ρ,
  fun m ρ _ => Cert.OutBwdWIdeal.Gen.frame m ρ,
  frame_outBwdWRefIdeal,
  fun m ρ _ => Cert.OutBwdA.Gen.frame m ρ,
  fun m ρ _ => Cert.OutBwdAIdeal.Gen.frame m ρ,
  frame_outBwdARefIdeal,
  fun m ρ _ => Cert.OutFwd.Gen.frame m ρ,
  fun m ρ _ => Cert.OutFwdIdeal.Gen.frame m ρ,
  frame_outFwdRefIdeal,
  fun m ρ _ => Cert.InFwd.Gen.frame m ρ,
  fun m ρ _ => Cert.InFwdIdeal.Gen.frame m ρ,
  frame_inFwdRefIdeal,
  fun m ρ _ => Cert.InBwdA.Gen.frame m ρ,
  fun m ρ _ => Cert.InBwdAIdeal.Gen.frame m ρ,
  frame_inBwdARefIdeal,
  fun m ρ _ => Cert.DownFwd.Gen.frame m ρ,
  fun m ρ _ => Cert.DownFwdIdeal.Gen.frame m ρ,
  frame_downFwdRefIdeal,
  fun m ρ _ => Cert.InBwdW.Gen.frame m ρ,
  fun m ρ _ => Cert.InBwdWIdeal.Gen.frame m ρ,
  frame_inBwdWRefIdeal,
  fun m ρ _ => Cert.GateFwd.Gen.frame m ρ,
  fun m ρ _ => Cert.GateFwdIdeal.Gen.frame m ρ,
  frame_gateFwdRefIdeal,
  fun m ρ _ => Cert.AdamShard.Gen.frame m ρ,
  fun m ρ _ => Cert.AdamShardIdeal.Gen.frame m ρ,
  frame_adamShardRefIdeal,
  fun m ρ _ => Cert.GateBwdA.Gen.frame m ρ,
  fun m ρ _ => Cert.GateBwdAIdeal.Gen.frame m ρ,
  frame_gateBwdARefIdeal,
  fun m ρ _ => Cert.BranchFwd.Gen.frame m ρ,
  fun m ρ _ => Cert.BranchFwdIdeal.Gen.frame m ρ,
  frame_branchFwdRefIdeal,
  fun m ρ _ => Cert.BranchBwdA.Gen.frame m ρ,
  fun m ρ _ => Cert.BranchBwdAIdeal.Gen.frame m ρ,
  frame_branchBwdARefIdeal,
  fun m ρ _ => Cert.GateBwdW.Gen.frame m ρ,
  fun m ρ _ => Cert.GateBwdWIdeal.Gen.frame m ρ,
  frame_gateBwdWRefIdeal,
  fun m ρ _ => Cert.UpBwdW.Gen.frame m ρ,
  fun m ρ _ => Cert.UpBwdWIdeal.Gen.frame m ρ,
  frame_upBwdWRefIdeal,
  fun m ρ _ => Cert.UpBwdH.Gen.frame m ρ,
  fun m ρ _ => Cert.UpBwdHIdeal.Gen.frame m ρ,
  frame_upBwdHRefIdeal,
  fun m ρ _ => Cert.DownBwdW.Gen.frame m ρ,
  fun m ρ _ => Cert.DownBwdWIdeal.Gen.frame m ρ,
  frame_downBwdWRefIdeal,
  fun m ρ _ => Cert.AdamSmall.Gen.frame m ρ,
  fun m ρ _ => Cert.AdamSmallIdeal.Gen.frame m ρ,
  frame_adamSmallRefIdeal,
  trivial,
  algebraic_rms,
  trivial,
  algebraic_loss,
  trivial,
  algebraic_merge,
  trivial,
  algebraic_prep,
  trivial,
  algebraic_swiglu,
  ⟨IdealRules.named_const.statement _ _ _ _ _ rfl, IdealRules.named_const.statement _ _ _ _ _ rfl⟩,
  algebraic_sgu,
  trivial,
  algebraic_rms_rows,
  trivial,
  algebraic_merge_rows,
  trivial,
  algebraic_prep_rows,
  trivial,
  algebraic_powers,
  trivial,
  algebraic_swiglu_rows,
  IdealRules.named_const.statement _ _ _ _ _ rfl,
  algebraic_sgu_rows,
  trivial,
  algebraic_out_weight,
  trivial,
  algebraic_out_input,
  trivial,
  algebraic_out_rows,
  trivial,
  algebraic_in_rows,
  trivial,
  algebraic_in_input,
  trivial,
  algebraic_down_rows,
  trivial,
  algebraic_in_weight,
  trivial,
  algebraic_gate_rows,
  trivial,
  algebraic_adam_rows,
  trivial,
  algebraic_gate_input,
  trivial,
  algebraic_branch_rows,
  trivial,
  algebraic_branch_input,
  trivial,
  algebraic_gate_weight,
  trivial,
  algebraic_up_weight,
  trivial,
  algebraic_up_input,
  trivial,
  algebraic_down_weight,
  trivial,
  algebraic_adam_packed⟩

end Cert.Proof

end
